-- ==== Defs.lean ====
def Pre_KAtt (m : (ℓ : Loc Cert.KAtt.nD Cert.KAtt.τ Cert.KAtt.sig) → Buf (Elt Bits) ℓ) : Prop :=
  True

def Pre_KAttIdeal (m : (ℓ : Loc Cert.KAttIdeal.nD Cert.KAttIdeal.τ Cert.KAttIdeal.sig) → Buf (Elt Ideal) ℓ) : Prop :=
  True

def Pre_KAttIdeal_att_finite [hPre_att_finite : Cert.Pre_att_finite.Facts] (m : (ℓ : Loc Cert.KAttIdeal.nD Cert.KAttIdeal.τ Cert.KAttIdeal.sig) → Buf (Elt Ideal) ℓ) : Prop :=
  ∀ c : Dev Cert.KAttIdeal.nD,
    (Cert.Pre_att_finite.fn (F := Ideal) (m ((c.tc : Thread Cert.KAttIdeal.nD Cert.KAttIdeal.τ).loc Cert.KAttIdeal.main_arg0)) (m ((c.tc : Thread Cert.KAttIdeal.nD Cert.KAttIdeal.τ).loc Cert.KAttIdeal.main_arg1)) (m ((c.tc : Thread Cert.KAttIdeal.nD Cert.KAttIdeal.τ).loc Cert.KAttIdeal.main_arg2)) (m ((c.tc : Thread Cert.KAttIdeal.nD Cert.KAttIdeal.τ).loc Cert.KAttIdeal.main_arg3)) (m ((c.tc : Thread Cert.KAttIdeal.nD Cert.KAttIdeal.τ).loc Cert.KAttIdeal.main_arg4)) (m ((c.tc : Thread Cert.KAttIdeal.nD Cert.KAttIdeal.τ).loc Cert.KAttIdeal.main_arg5))) = (fun _ => 1#1)

def Pre_RAttIdeal (m : (ℓ : Loc Cert.RAttIdeal.nD Cert.RAttIdeal.τ Cert.RAttIdeal.sig) → Buf (Elt Ideal) ℓ) : Prop :=
  True

def Pre_RAttIdeal_att_finite [hPre_att_finite : Cert.Pre_att_finite.Facts] (m : (ℓ : Loc Cert.RAttIdeal.nD Cert.RAttIdeal.τ Cert.RAttIdeal.sig) → Buf (Elt Ideal) ℓ) : Prop :=
  ∀ c : Dev Cert.RAttIdeal.nD,
    (Cert.Pre_att_finite.fn (F := Ideal) (m ((c.tc : Thread Cert.RAttIdeal.nD Cert.RAttIdeal.τ).loc Cert.RAttIdeal.main_arg0)) (m ((c.tc : Thread Cert.RAttIdeal.nD Cert.RAttIdeal.τ).loc Cert.RAttIdeal.main_arg1)) (m ((c.tc : Thread Cert.RAttIdeal.nD Cert.RAttIdeal.τ).loc Cert.RAttIdeal.main_arg2)) (m ((c.tc : Thread Cert.RAttIdeal.nD Cert.RAttIdeal.τ).loc Cert.RAttIdeal.main_arg3)) (m ((c.tc : Thread Cert.RAttIdeal.nD Cert.RAttIdeal.τ).loc Cert.RAttIdeal.main_arg4)) (m ((c.tc : Thread Cert.RAttIdeal.nD Cert.RAttIdeal.τ).loc Cert.RAttIdeal.main_arg5))) = (fun _ => 1#1)

def Pre_KGla (m : (ℓ : Loc Cert.KGla.nD Cert.KGla.τ Cert.KGla.sig) → Buf (Elt Bits) ℓ) : Prop :=
  True

def Pre_KGlaIdeal (m : (ℓ : Loc Cert.KGlaIdeal.nD Cert.KGlaIdeal.τ Cert.KGlaIdeal.sig) → Buf (Elt Ideal) ℓ) : Prop :=
  True

def Pre_KGlaIdeal_gla_finite [hPre_gla_finite : Cert.Pre_gla_finite.Facts] (m : (ℓ : Loc Cert.KGlaIdeal.nD Cert.KGlaIdeal.τ Cert.KGlaIdeal.sig) → Buf (Elt Ideal) ℓ) : Prop :=
  ∀ c : Dev Cert.KGlaIdeal.nD,
    (Cert.Pre_gla_finite.fn (F := Ideal) (m ((c.tc : Thread Cert.KGlaIdeal.nD Cert.KGlaIdeal.τ).loc Cert.KGlaIdeal.main_arg0)) (m ((c.tc : Thread Cert.KGlaIdeal.nD Cert.KGlaIdeal.τ).loc Cert.KGlaIdeal.main_arg1)) (m ((c.tc : Thread Cert.KGlaIdeal.nD Cert.KGlaIdeal.τ).loc Cert.KGlaIdeal.main_arg2)) (m ((c.tc : Thread Cert.KGlaIdeal.nD Cert.KGlaIdeal.τ).loc Cert.KGlaIdeal.main_arg3)) (m ((c.tc : Thread Cert.KGlaIdeal.nD Cert.KGlaIdeal.τ).loc Cert.KGlaIdeal.main_arg4)) (m ((c.tc : Thread Cert.KGlaIdeal.nD Cert.KGlaIdeal.τ).loc Cert.KGlaIdeal.main_arg5)) (m ((c.tc : Thread Cert.KGlaIdeal.nD Cert.KGlaIdeal.τ).loc Cert.KGlaIdeal.main_arg6))) = (fun _ => 1#1)

def Pre_RGlaIdeal (m : (ℓ : Loc Cert.RGlaIdeal.nD Cert.RGlaIdeal.τ Cert.RGlaIdeal.sig) → Buf (Elt Ideal) ℓ) : Prop :=
  True

def Pre_RGlaIdeal_gla_finite [hPre_gla_finite : Cert.Pre_gla_finite.Facts] (m : (ℓ : Loc Cert.RGlaIdeal.nD Cert.RGlaIdeal.τ Cert.RGlaIdeal.sig) → Buf (Elt Ideal) ℓ) : Prop :=
  ∀ c : Dev Cert.RGlaIdeal.nD,
    (Cert.Pre_gla_finite.fn (F := Ideal) (m ((c.tc : Thread Cert.RGlaIdeal.nD Cert.RGlaIdeal.τ).loc Cert.RGlaIdeal.main_arg0)) (m ((c.tc : Thread Cert.RGlaIdeal.nD Cert.RGlaIdeal.τ).loc Cert.RGlaIdeal.main_arg1)) (m ((c.tc : Thread Cert.RGlaIdeal.nD Cert.RGlaIdeal.τ).loc Cert.RGlaIdeal.main_arg2)) (m ((c.tc : Thread Cert.RGlaIdeal.nD Cert.RGlaIdeal.τ).loc Cert.RGlaIdeal.main_arg3)) (m ((c.tc : Thread Cert.RGlaIdeal.nD Cert.RGlaIdeal.τ).loc Cert.RGlaIdeal.main_arg4)) (m ((c.tc : Thread Cert.RGlaIdeal.nD Cert.RGlaIdeal.τ).loc Cert.RGlaIdeal.main_arg5)) (m ((c.tc : Thread Cert.RGlaIdeal.nD Cert.RGlaIdeal.τ).loc Cert.RGlaIdeal.main_arg6))) = (fun _ => 1#1)

def Pre_KOddIn (m : (ℓ : Loc Cert.KOddIn.nD Cert.KOddIn.τ Cert.KOddIn.sig) → Buf (Elt Bits) ℓ) : Prop :=
  True

def Pre_KOddInIdeal (m : (ℓ : Loc Cert.KOddInIdeal.nD Cert.KOddInIdeal.τ Cert.KOddInIdeal.sig) → Buf (Elt Ideal) ℓ) : Prop :=
  True

def Pre_ROddInIdeal (m : (ℓ : Loc Cert.ROddInIdeal.nD Cert.ROddInIdeal.τ Cert.ROddInIdeal.sig) → Buf (Elt Ideal) ℓ) : Prop :=
  True

def Pre_KEvenIn (m : (ℓ : Loc Cert.KEvenIn.nD Cert.KEvenIn.τ Cert.KEvenIn.sig) → Buf (Elt Bits) ℓ) : Prop :=
  True

def Pre_KEvenInIdeal (m : (ℓ : Loc Cert.KEvenInIdeal.nD Cert.KEvenInIdeal.τ Cert.KEvenInIdeal.sig) → Buf (Elt Ideal) ℓ) : Prop :=
  True

def Pre_REvenInIdeal (m : (ℓ : Loc Cert.REvenInIdeal.nD Cert.REvenInIdeal.τ Cert.REvenInIdeal.sig) → Buf (Elt Ideal) ℓ) : Prop :=
  True

def Pre_KEvenOut (m : (ℓ : Loc Cert.KEvenOut.nD Cert.KEvenOut.τ Cert.KEvenOut.sig) → Buf (Elt Bits) ℓ) : Prop :=
  True

def Pre_KEvenOutIdeal (m : (ℓ : Loc Cert.KEvenOutIdeal.nD Cert.KEvenOutIdeal.τ Cert.KEvenOutIdeal.sig) → Buf (Elt Ideal) ℓ) : Prop :=
  True

def Pre_REvenOutIdeal (m : (ℓ : Loc Cert.REvenOutIdeal.nD Cert.REvenOutIdeal.τ Cert.REvenOutIdeal.sig) → Buf (Elt Ideal) ℓ) : Prop :=
  True

def Pre_KOddOut (m : (ℓ : Loc Cert.KOddOut.nD Cert.KOddOut.τ Cert.KOddOut.sig) → Buf (Elt Bits) ℓ) : Prop :=
  True

def Pre_KOddOutIdeal (m : (ℓ : Loc Cert.KOddOutIdeal.nD Cert.KOddOutIdeal.τ Cert.KOddOutIdeal.sig) → Buf (Elt Ideal) ℓ) : Prop :=
  True

def Pre_ROddOutIdeal (m : (ℓ : Loc Cert.ROddOutIdeal.nD Cert.ROddOutIdeal.τ Cert.ROddOutIdeal.sig) → Buf (Elt Ideal) ℓ) : Prop :=
  True

def quiescent_KAtt [hKAtt : Cert.KAtt.Facts] : Prop :=
  ∀ (m : (ℓ : Loc Cert.KAtt.nD Cert.KAtt.τ Cert.KAtt.sig) → Buf (Elt Bits) ℓ) (g : Dev Cert.KAtt.nD → PrngReg), Pre_KAtt m →
    θ_run (Cert.KAtt.defs (F := Bits)) (onTc (τ := Cert.KAtt.τ) (Cert.KAtt.main (F := Bits))) ⟨m, fun _ => 0, g⟩ (fun r => (∀ c : Dev Cert.KAtt.nD,
      r.2.mem ((c.tc : Thread Cert.KAtt.nD Cert.KAtt.τ).loc Cert.KAtt.main_arg0) = m ((c.tc : Thread Cert.KAtt.nD Cert.KAtt.τ).loc Cert.KAtt.main_arg0)
      ∧ r.2.mem ((c.tc : Thread Cert.KAtt.nD Cert.KAtt.τ).loc Cert.KAtt.main_arg1) = m ((c.tc : Thread Cert.KAtt.nD Cert.KAtt.τ).loc Cert.KAtt.main_arg1)
      ∧ r.2.mem ((c.tc : Thread Cert.KAtt.nD Cert.KAtt.τ).loc Cert.KAtt.main_arg2) = m ((c.tc : Thread Cert.KAtt.nD Cert.KAtt.τ).loc Cert.KAtt.main_arg2)
      ∧ r.2.mem ((c.tc : Thread Cert.KAtt.nD Cert.KAtt.τ).loc Cert.KAtt.main_arg3) = m ((c.tc : Thread Cert.KAtt.nD Cert.KAtt.τ).loc Cert.KAtt.main_arg3)
      ∧ r.2.mem ((c.tc : Thread Cert.KAtt.nD Cert.KAtt.τ).loc Cert.KAtt.main_arg4) = m ((c.tc : Thread Cert.KAtt.nD Cert.KAtt.τ).loc Cert.KAtt.main_arg4)
      ∧ r.2.mem ((c.tc : Thread Cert.KAtt.nD Cert.KAtt.τ).loc Cert.KAtt.main_arg5) = m ((c.tc : Thread Cert.KAtt.nD Cert.KAtt.τ).loc Cert.KAtt.main_arg5))
      ∧ r.2.sem = fun _ => 0)

def quiescent_KAttIdeal [hKAttIdeal : Cert.KAttIdeal.Facts] : Prop :=
  ∀ (m : (ℓ : Loc Cert.KAttIdeal.nD Cert.KAttIdeal.τ Cert.KAttIdeal.sig) → Buf (Elt Ideal) ℓ) (g : Dev Cert.KAttIdeal.nD → PrngReg), Pre_KAttIdeal m →
    θ_run (Cert.KAttIdeal.defs (F := Ideal)) (onTc (τ := Cert.KAttIdeal.τ) (Cert.KAttIdeal.main (F := Ideal))) ⟨m, fun _ => 0, g⟩ (fun r => (∀ c : Dev Cert.KAttIdeal.nD,
      r.2.mem ((c.tc : Thread Cert.KAttIdeal.nD Cert.KAttIdeal.τ).loc Cert.KAttIdeal.main_arg0) = m ((c.tc : Thread Cert.KAttIdeal.nD Cert.KAttIdeal.τ).loc Cert.KAttIdeal.main_arg0)
      ∧ r.2.mem ((c.tc : Thread Cert.KAttIdeal.nD Cert.KAttIdeal.τ).loc Cert.KAttIdeal.main_arg1) = m ((c.tc : Thread Cert.KAttIdeal.nD Cert.KAttIdeal.τ).loc Cert.KAttIdeal.main_arg1)
      ∧ r.2.mem ((c.tc : Thread Cert.KAttIdeal.nD Cert.KAttIdeal.τ).loc Cert.KAttIdeal.main_arg2) = m ((c.tc : Thread Cert.KAttIdeal.nD Cert.KAttIdeal.τ).loc Cert.KAttIdeal.main_arg2)
      ∧ r.2.mem ((c.tc : Thread Cert.KAttIdeal.nD Cert.KAttIdeal.τ).loc Cert.KAttIdeal.main_arg3) = m ((c.tc : Thread Cert.KAttIdeal.nD Cert.KAttIdeal.τ).loc Cert.KAttIdeal.main_arg3)
      ∧ r.2.mem ((c.tc : Thread Cert.KAttIdeal.nD Cert.KAttIdeal.τ).loc Cert.KAttIdeal.main_arg4) = m ((c.tc : Thread Cert.KAttIdeal.nD Cert.KAttIdeal.τ).loc Cert.KAttIdeal.main_arg4)
      ∧ r.2.mem ((c.tc : Thread Cert.KAttIdeal.nD Cert.KAttIdeal.τ).loc Cert.KAttIdeal.main_arg5) = m ((c.tc : Thread Cert.KAttIdeal.nD Cert.KAttIdeal.τ).loc Cert.KAttIdeal.main_arg5))
      ∧ r.2.sem = fun _ => 0)

def quiescent_KAttIdeal_pre_att_finite [hKAttIdeal : Cert.KAttIdeal.Facts] [hPre_att_finite : Cert.Pre_att_finite.Facts] : Prop :=
  ∀ (m : (ℓ : Loc Cert.KAttIdeal.nD Cert.KAttIdeal.τ Cert.KAttIdeal.sig) → Buf (Elt Ideal) ℓ) (g : Dev Cert.KAttIdeal.nD → PrngReg), Pre_KAttIdeal_att_finite m →
    θ_run (Cert.KAttIdeal.defs (F := Ideal)) (onTc (τ := Cert.KAttIdeal.τ) (Cert.KAttIdeal.main (F := Ideal))) ⟨m, fun _ => 0, g⟩ (fun r => (∀ c : Dev Cert.KAttIdeal.nD,
      r.2.mem ((c.tc : Thread Cert.KAttIdeal.nD Cert.KAttIdeal.τ).loc Cert.KAttIdeal.main_arg0) = m ((c.tc : Thread Cert.KAttIdeal.nD Cert.KAttIdeal.τ).loc Cert.KAttIdeal.main_arg0)
      ∧ r.2.mem ((c.tc : Thread Cert.KAttIdeal.nD Cert.KAttIdeal.τ).loc Cert.KAttIdeal.main_arg1) = m ((c.tc : Thread Cert.KAttIdeal.nD Cert.KAttIdeal.τ).loc Cert.KAttIdeal.main_arg1)
      ∧ r.2.mem ((c.tc : Thread Cert.KAttIdeal.nD Cert.KAttIdeal.τ).loc Cert.KAttIdeal.main_arg2) = m ((c.tc : Thread Cert.KAttIdeal.nD Cert.KAttIdeal.τ).loc Cert.KAttIdeal.main_arg2)
      ∧ r.2.mem ((c.tc : Thread Cert.KAttIdeal.nD Cert.KAttIdeal.τ).loc Cert.KAttIdeal.main_arg3) = m ((c.tc : Thread Cert.KAttIdeal.nD Cert.KAttIdeal.τ).loc Cert.KAttIdeal.main_arg3)
      ∧ r.2.mem ((c.tc : Thread Cert.KAttIdeal.nD Cert.KAttIdeal.τ).loc Cert.KAttIdeal.main_arg4) = m ((c.tc : Thread Cert.KAttIdeal.nD Cert.KAttIdeal.τ).loc Cert.KAttIdeal.main_arg4)
      ∧ r.2.mem ((c.tc : Thread Cert.KAttIdeal.nD Cert.KAttIdeal.τ).loc Cert.KAttIdeal.main_arg5) = m ((c.tc : Thread Cert.KAttIdeal.nD Cert.KAttIdeal.τ).loc Cert.KAttIdeal.main_arg5))
      ∧ r.2.sem = fun _ => 0)

def quiescent_RAttIdeal [hRAttIdeal : Cert.RAttIdeal.Facts] : Prop :=
  ∀ (m : (ℓ : Loc Cert.RAttIdeal.nD Cert.RAttIdeal.τ Cert.RAttIdeal.sig) → Buf (Elt Ideal) ℓ) (g : Dev Cert.RAttIdeal.nD → PrngReg), Pre_RAttIdeal m →
    θ_run (Cert.RAttIdeal.defs (F := Ideal)) (onTc (τ := Cert.RAttIdeal.τ) (Cert.RAttIdeal.main (F := Ideal))) ⟨m, fun _ => 0, g⟩ (fun r => (∀ c : Dev Cert.RAttIdeal.nD,
      r.2.mem ((c.tc : Thread Cert.RAttIdeal.nD Cert.RAttIdeal.τ).loc Cert.RAttIdeal.main_arg0) = m ((c.tc : Thread Cert.RAttIdeal.nD Cert.RAttIdeal.τ).loc Cert.RAttIdeal.main_arg0)
      ∧ r.2.mem ((c.tc : Thread Cert.RAttIdeal.nD Cert.RAttIdeal.τ).loc Cert.RAttIdeal.main_arg1) = m ((c.tc : Thread Cert.RAttIdeal.nD Cert.RAttIdeal.τ).loc Cert.RAttIdeal.main_arg1)
      ∧ r.2.mem ((c.tc : Thread Cert.RAttIdeal.nD Cert.RAttIdeal.τ).loc Cert.RAttIdeal.main_arg2) = m ((c.tc : Thread Cert.RAttIdeal.nD Cert.RAttIdeal.τ).loc Cert.RAttIdeal.main_arg2)
      ∧ r.2.mem ((c.tc : Thread Cert.RAttIdeal.nD Cert.RAttIdeal.τ).loc Cert.RAttIdeal.main_arg3) = m ((c.tc : Thread Cert.RAttIdeal.nD Cert.RAttIdeal.τ).loc Cert.RAttIdeal.main_arg3)
      ∧ r.2.mem ((c.tc : Thread Cert.RAttIdeal.nD Cert.RAttIdeal.τ).loc Cert.RAttIdeal.main_arg4) = m ((c.tc : Thread Cert.RAttIdeal.nD Cert.RAttIdeal.τ).loc Cert.RAttIdeal.main_arg4)
      ∧ r.2.mem ((c.tc : Thread Cert.RAttIdeal.nD Cert.RAttIdeal.τ).loc Cert.RAttIdeal.main_arg5) = m ((c.tc : Thread Cert.RAttIdeal.nD Cert.RAttIdeal.τ).loc Cert.RAttIdeal.main_arg5))
      ∧ r.2.sem = fun _ => 0)

def quiescent_RAttIdeal_pre_att_finite [hRAttIdeal : Cert.RAttIdeal.Facts] [hPre_att_finite : Cert.Pre_att_finite.Facts] : Prop :=
  ∀ (m : (ℓ : Loc Cert.RAttIdeal.nD Cert.RAttIdeal.τ Cert.RAttIdeal.sig) → Buf (Elt Ideal) ℓ) (g : Dev Cert.RAttIdeal.nD → PrngReg), Pre_RAttIdeal_att_finite m →
    θ_run (Cert.RAttIdeal.defs (F := Ideal)) (onTc (τ := Cert.RAttIdeal.τ) (Cert.RAttIdeal.main (F := Ideal))) ⟨m, fun _ => 0, g⟩ (fun r => (∀ c : Dev Cert.RAttIdeal.nD,
      r.2.mem ((c.tc : Thread Cert.RAttIdeal.nD Cert.RAttIdeal.τ).loc Cert.RAttIdeal.main_arg0) = m ((c.tc : Thread Cert.RAttIdeal.nD Cert.RAttIdeal.τ).loc Cert.RAttIdeal.main_arg0)
      ∧ r.2.mem ((c.tc : Thread Cert.RAttIdeal.nD Cert.RAttIdeal.τ).loc Cert.RAttIdeal.main_arg1) = m ((c.tc : Thread Cert.RAttIdeal.nD Cert.RAttIdeal.τ).loc Cert.RAttIdeal.main_arg1)
      ∧ r.2.mem ((c.tc : Thread Cert.RAttIdeal.nD Cert.RAttIdeal.τ).loc Cert.RAttIdeal.main_arg2) = m ((c.tc : Thread Cert.RAttIdeal.nD Cert.RAttIdeal.τ).loc Cert.RAttIdeal.main_arg2)
      ∧ r.2.mem ((c.tc : Thread Cert.RAttIdeal.nD Cert.RAttIdeal.τ).loc Cert.RAttIdeal.main_arg3) = m ((c.tc : Thread Cert.RAttIdeal.nD Cert.RAttIdeal.τ).loc Cert.RAttIdeal.main_arg3)
      ∧ r.2.mem ((c.tc : Thread Cert.RAttIdeal.nD Cert.RAttIdeal.τ).loc Cert.RAttIdeal.main_arg4) = m ((c.tc : Thread Cert.RAttIdeal.nD Cert.RAttIdeal.τ).loc Cert.RAttIdeal.main_arg4)
      ∧ r.2.mem ((c.tc : Thread Cert.RAttIdeal.nD Cert.RAttIdeal.τ).loc Cert.RAttIdeal.main_arg5) = m ((c.tc : Thread Cert.RAttIdeal.nD Cert.RAttIdeal.τ).loc Cert.RAttIdeal.main_arg5))
      ∧ r.2.sem = fun _ => 0)

def quiescent_KGla [hKGla : Cert.KGla.Facts] : Prop :=
  ∀ (m : (ℓ : Loc Cert.KGla.nD Cert.KGla.τ Cert.KGla.sig) → Buf (Elt Bits) ℓ) (g : Dev Cert.KGla.nD → PrngReg), Pre_KGla m →
    θ_run (Cert.KGla.defs (F := Bits)) (onTc (τ := Cert.KGla.τ) (Cert.KGla.main (F := Bits))) ⟨m, fun _ => 0, g⟩ (fun r => (∀ c : Dev Cert.KGla.nD,
      r.2.mem ((c.tc : Thread Cert.KGla.nD Cert.KGla.τ).loc Cert.KGla.main_arg0) = m ((c.tc : Thread Cert.KGla.nD Cert.KGla.τ).loc Cert.KGla.main_arg0)
      ∧ r.2.mem ((c.tc : Thread Cert.KGla.nD Cert.KGla.τ).loc Cert.KGla.main_arg1) = m ((c.tc : Thread Cert.KGla.nD Cert.KGla.τ).loc Cert.KGla.main_arg1)
      ∧ r.2.mem ((c.tc : Thread Cert.KGla.nD Cert.KGla.τ).loc Cert.KGla.main_arg2) = m ((c.tc : Thread Cert.KGla.nD Cert.KGla.τ).loc Cert.KGla.main_arg2)
      ∧ r.2.mem ((c.tc : Thread Cert.KGla.nD Cert.KGla.τ).loc Cert.KGla.main_arg3) = m ((c.tc : Thread Cert.KGla.nD Cert.KGla.τ).loc Cert.KGla.main_arg3)
      ∧ r.2.mem ((c.tc : Thread Cert.KGla.nD Cert.KGla.τ).loc Cert.KGla.main_arg4) = m ((c.tc : Thread Cert.KGla.nD Cert.KGla.τ).loc Cert.KGla.main_arg4)
      ∧ r.2.mem ((c.tc : Thread Cert.KGla.nD Cert.KGla.τ).loc Cert.KGla.main_arg5) = m ((c.tc : Thread Cert.KGla.nD Cert.KGla.τ).loc Cert.KGla.main_arg5)
      ∧ r.2.mem ((c.tc : Thread Cert.KGla.nD Cert.KGla.τ).loc Cert.KGla.main_arg6) = m ((c.tc : Thread Cert.KGla.nD Cert.KGla.τ).loc Cert.KGla.main_arg6))
      ∧ r.2.sem = fun _ => 0)

def quiescent_KGlaIdeal [hKGlaIdeal : Cert.KGlaIdeal.Facts] : Prop :=
  ∀ (m : (ℓ : Loc Cert.KGlaIdeal.nD Cert.KGlaIdeal.τ Cert.KGlaIdeal.sig) → Buf (Elt Ideal) ℓ) (g : Dev Cert.KGlaIdeal.nD → PrngReg), Pre_KGlaIdeal m →
    θ_run (Cert.KGlaIdeal.defs (F := Ideal)) (onTc (τ := Cert.KGlaIdeal.τ) (Cert.KGlaIdeal.main (F := Ideal))) ⟨m, fun _ => 0, g⟩ (fun r => (∀ c : Dev Cert.KGlaIdeal.nD,
      r.2.mem ((c.tc : Thread Cert.KGlaIdeal.nD Cert.KGlaIdeal.τ).loc Cert.KGlaIdeal.main_arg0) = m ((c.tc : Thread Cert.KGlaIdeal.nD Cert.KGlaIdeal.τ).loc Cert.KGlaIdeal.main_arg0)
      ∧ r.2.mem ((c.tc : Thread Cert.KGlaIdeal.nD Cert.KGlaIdeal.τ).loc Cert.KGlaIdeal.main_arg1) = m ((c.tc : Thread Cert.KGlaIdeal.nD Cert.KGlaIdeal.τ).loc Cert.KGlaIdeal.main_arg1)
      ∧ r.2.mem ((c.tc : Thread Cert.KGlaIdeal.nD Cert.KGlaIdeal.τ).loc Cert.KGlaIdeal.main_arg2) = m ((c.tc : Thread Cert.KGlaIdeal.nD Cert.KGlaIdeal.τ).loc Cert.KGlaIdeal.main_arg2)
      ∧ r.2.mem ((c.tc : Thread Cert.KGlaIdeal.nD Cert.KGlaIdeal.τ).loc Cert.KGlaIdeal.main_arg3) = m ((c.tc : Thread Cert.KGlaIdeal.nD Cert.KGlaIdeal.τ).loc Cert.KGlaIdeal.main_arg3)
      ∧ r.2.mem ((c.tc : Thread Cert.KGlaIdeal.nD Cert.KGlaIdeal.τ).loc Cert.KGlaIdeal.main_arg4) = m ((c.tc : Thread Cert.KGlaIdeal.nD Cert.KGlaIdeal.τ).loc Cert.KGlaIdeal.main_arg4)
      ∧ r.2.mem ((c.tc : Thread Cert.KGlaIdeal.nD Cert.KGlaIdeal.τ).loc Cert.KGlaIdeal.main_arg5) = m ((c.tc : Thread Cert.KGlaIdeal.nD Cert.KGlaIdeal.τ).loc Cert.KGlaIdeal.main_arg5)
      ∧ r.2.mem ((c.tc : Thread Cert.KGlaIdeal.nD Cert.KGlaIdeal.τ).loc Cert.KGlaIdeal.main_arg6) = m ((c.tc : Thread Cert.KGlaIdeal.nD Cert.KGlaIdeal.τ).loc Cert.KGlaIdeal.main_arg6))
      ∧ r.2.sem = fun _ => 0)

def quiescent_KGlaIdeal_pre_gla_finite [hKGlaIdeal : Cert.KGlaIdeal.Facts] [hPre_gla_finite : Cert.Pre_gla_finite.Facts] : Prop :=
  ∀ (m : (ℓ : Loc Cert.KGlaIdeal.nD Cert.KGlaIdeal.τ Cert.KGlaIdeal.sig) → Buf (Elt Ideal) ℓ) (g : Dev Cert.KGlaIdeal.nD → PrngReg), Pre_KGlaIdeal_gla_finite m →
    θ_run (Cert.KGlaIdeal.defs (F := Ideal)) (onTc (τ := Cert.KGlaIdeal.τ) (Cert.KGlaIdeal.main (F := Ideal))) ⟨m, fun _ => 0, g⟩ (fun r => (∀ c : Dev Cert.KGlaIdeal.nD,
      r.2.mem ((c.tc : Thread Cert.KGlaIdeal.nD Cert.KGlaIdeal.τ).loc Cert.KGlaIdeal.main_arg0) = m ((c.tc : Thread Cert.KGlaIdeal.nD Cert.KGlaIdeal.τ).loc Cert.KGlaIdeal.main_arg0)
      ∧ r.2.mem ((c.tc : Thread Cert.KGlaIdeal.nD Cert.KGlaIdeal.τ).loc Cert.KGlaIdeal.main_arg1) = m ((c.tc : Thread Cert.KGlaIdeal.nD Cert.KGlaIdeal.τ).loc Cert.KGlaIdeal.main_arg1)
      ∧ r.2.mem ((c.tc : Thread Cert.KGlaIdeal.nD Cert.KGlaIdeal.τ).loc Cert.KGlaIdeal.main_arg2) = m ((c.tc : Thread Cert.KGlaIdeal.nD Cert.KGlaIdeal.τ).loc Cert.KGlaIdeal.main_arg2)
      ∧ r.2.mem ((c.tc : Thread Cert.KGlaIdeal.nD Cert.KGlaIdeal.τ).loc Cert.KGlaIdeal.main_arg3) = m ((c.tc : Thread Cert.KGlaIdeal.nD Cert.KGlaIdeal.τ).loc Cert.KGlaIdeal.main_arg3)
      ∧ r.2.mem ((c.tc : Thread Cert.KGlaIdeal.nD Cert.KGlaIdeal.τ).loc Cert.KGlaIdeal.main_arg4) = m ((c.tc : Thread Cert.KGlaIdeal.nD Cert.KGlaIdeal.τ).loc Cert.KGlaIdeal.main_arg4)
      ∧ r.2.mem ((c.tc : Thread Cert.KGlaIdeal.nD Cert.KGlaIdeal.τ).loc Cert.KGlaIdeal.main_arg5) = m ((c.tc : Thread Cert.KGlaIdeal.nD Cert.KGlaIdeal.τ).loc Cert.KGlaIdeal.main_arg5)
      ∧ r.2.mem ((c.tc : Thread Cert.KGlaIdeal.nD Cert.KGlaIdeal.τ).loc Cert.KGlaIdeal.main_arg6) = m ((c.tc : Thread Cert.KGlaIdeal.nD Cert.KGlaIdeal.τ).loc Cert.KGlaIdeal.main_arg6))
      ∧ r.2.sem = fun _ => 0)

def quiescent_RGlaIdeal [hRGlaIdeal : Cert.RGlaIdeal.Facts] : Prop :=
  ∀ (m : (ℓ : Loc Cert.RGlaIdeal.nD Cert.RGlaIdeal.τ Cert.RGlaIdeal.sig) → Buf (Elt Ideal) ℓ) (g : Dev Cert.RGlaIdeal.nD → PrngReg), Pre_RGlaIdeal m →
    θ_run (Cert.RGlaIdeal.defs (F := Ideal)) (onTc (τ := Cert.RGlaIdeal.τ) (Cert.RGlaIdeal.main (F := Ideal))) ⟨m, fun _ => 0, g⟩ (fun r => (∀ c : Dev Cert.RGlaIdeal.nD,
      r.2.mem ((c.tc : Thread Cert.RGlaIdeal.nD Cert.RGlaIdeal.τ).loc Cert.RGlaIdeal.main_arg0) = m ((c.tc : Thread Cert.RGlaIdeal.nD Cert.RGlaIdeal.τ).loc Cert.RGlaIdeal.main_arg0)
      ∧ r.2.mem ((c.tc : Thread Cert.RGlaIdeal.nD Cert.RGlaIdeal.τ).loc Cert.RGlaIdeal.main_arg1) = m ((c.tc : Thread Cert.RGlaIdeal.nD Cert.RGlaIdeal.τ).loc Cert.RGlaIdeal.main_arg1)
      ∧ r.2.mem ((c.tc : Thread Cert.RGlaIdeal.nD Cert.RGlaIdeal.τ).loc Cert.RGlaIdeal.main_arg2) = m ((c.tc : Thread Cert.RGlaIdeal.nD Cert.RGlaIdeal.τ).loc Cert.RGlaIdeal.main_arg2)
      ∧ r.2.mem ((c.tc : Thread Cert.RGlaIdeal.nD Cert.RGlaIdeal.τ).loc Cert.RGlaIdeal.main_arg3) = m ((c.tc : Thread Cert.RGlaIdeal.nD Cert.RGlaIdeal.τ).loc Cert.RGlaIdeal.main_arg3)
      ∧ r.2.mem ((c.tc : Thread Cert.RGlaIdeal.nD Cert.RGlaIdeal.τ).loc Cert.RGlaIdeal.main_arg4) = m ((c.tc : Thread Cert.RGlaIdeal.nD Cert.RGlaIdeal.τ).loc Cert.RGlaIdeal.main_arg4)
      ∧ r.2.mem ((c.tc : Thread Cert.RGlaIdeal.nD Cert.RGlaIdeal.τ).loc Cert.RGlaIdeal.main_arg5) = m ((c.tc : Thread Cert.RGlaIdeal.nD Cert.RGlaIdeal.τ).loc Cert.RGlaIdeal.main_arg5)
      ∧ r.2.mem ((c.tc : Thread Cert.RGlaIdeal.nD Cert.RGlaIdeal.τ).loc Cert.RGlaIdeal.main_arg6) = m ((c.tc : Thread Cert.RGlaIdeal.nD Cert.RGlaIdeal.τ).loc Cert.RGlaIdeal.main_arg6))
      ∧ r.2.sem = fun _ => 0)

def quiescent_RGlaIdeal_pre_gla_finite [hRGlaIdeal : Cert.RGlaIdeal.Facts] [hPre_gla_finite : Cert.Pre_gla_finite.Facts] : Prop :=
  ∀ (m : (ℓ : Loc Cert.RGlaIdeal.nD Cert.RGlaIdeal.τ Cert.RGlaIdeal.sig) → Buf (Elt Ideal) ℓ) (g : Dev Cert.RGlaIdeal.nD → PrngReg), Pre_RGlaIdeal_gla_finite m →
    θ_run (Cert.RGlaIdeal.defs (F := Ideal)) (onTc (τ := Cert.RGlaIdeal.τ) (Cert.RGlaIdeal.main (F := Ideal))) ⟨m, fun _ => 0, g⟩ (fun r => (∀ c : Dev Cert.RGlaIdeal.nD,
      r.2.mem ((c.tc : Thread Cert.RGlaIdeal.nD Cert.RGlaIdeal.τ).loc Cert.RGlaIdeal.main_arg0) = m ((c.tc : Thread Cert.RGlaIdeal.nD Cert.RGlaIdeal.τ).loc Cert.RGlaIdeal.main_arg0)
      ∧ r.2.mem ((c.tc : Thread Cert.RGlaIdeal.nD Cert.RGlaIdeal.τ).loc Cert.RGlaIdeal.main_arg1) = m ((c.tc : Thread Cert.RGlaIdeal.nD Cert.RGlaIdeal.τ).loc Cert.RGlaIdeal.main_arg1)
      ∧ r.2.mem ((c.tc : Thread Cert.RGlaIdeal.nD Cert.RGlaIdeal.τ).loc Cert.RGlaIdeal.main_arg2) = m ((c.tc : Thread Cert.RGlaIdeal.nD Cert.RGlaIdeal.τ).loc Cert.RGlaIdeal.main_arg2)
      ∧ r.2.mem ((c.tc : Thread Cert.RGlaIdeal.nD Cert.RGlaIdeal.τ).loc Cert.RGlaIdeal.main_arg3) = m ((c.tc : Thread Cert.RGlaIdeal.nD Cert.RGlaIdeal.τ).loc Cert.RGlaIdeal.main_arg3)
      ∧ r.2.mem ((c.tc : Thread Cert.RGlaIdeal.nD Cert.RGlaIdeal.τ).loc Cert.RGlaIdeal.main_arg4) = m ((c.tc : Thread Cert.RGlaIdeal.nD Cert.RGlaIdeal.τ).loc Cert.RGlaIdeal.main_arg4)
      ∧ r.2.mem ((c.tc : Thread Cert.RGlaIdeal.nD Cert.RGlaIdeal.τ).loc Cert.RGlaIdeal.main_arg5) = m ((c.tc : Thread Cert.RGlaIdeal.nD Cert.RGlaIdeal.τ).loc Cert.RGlaIdeal.main_arg5)
      ∧ r.2.mem ((c.tc : Thread Cert.RGlaIdeal.nD Cert.RGlaIdeal.τ).loc Cert.RGlaIdeal.main_arg6) = m ((c.tc : Thread Cert.RGlaIdeal.nD Cert.RGlaIdeal.τ).loc Cert.RGlaIdeal.main_arg6))
      ∧ r.2.sem = fun _ => 0)

def quiescent_KOddIn [hKOddIn : Cert.KOddIn.Facts] : Prop :=
  ∀ (m : (ℓ : Loc Cert.KOddIn.nD Cert.KOddIn.τ Cert.KOddIn.sig) → Buf (Elt Bits) ℓ) (g : Dev Cert.KOddIn.nD → PrngReg), Pre_KOddIn m →
    θ_run (Cert.KOddIn.defs (F := Bits)) (onTc (τ := Cert.KOddIn.τ) (Cert.KOddIn.main (F := Bits))) ⟨m, fun _ => 0, g⟩ (fun r => (∀ c : Dev Cert.KOddIn.nD,
      r.2.mem ((c.tc : Thread Cert.KOddIn.nD Cert.KOddIn.τ).loc Cert.KOddIn.main_arg0) = m ((c.tc : Thread Cert.KOddIn.nD Cert.KOddIn.τ).loc Cert.KOddIn.main_arg0)
      ∧ r.2.mem ((c.tc : Thread Cert.KOddIn.nD Cert.KOddIn.τ).loc Cert.KOddIn.main_arg1) = m ((c.tc : Thread Cert.KOddIn.nD Cert.KOddIn.τ).loc Cert.KOddIn.main_arg1)
      ∧ r.2.mem ((c.tc : Thread Cert.KOddIn.nD Cert.KOddIn.τ).loc Cert.KOddIn.main_arg2) = m ((c.tc : Thread Cert.KOddIn.nD Cert.KOddIn.τ).loc Cert.KOddIn.main_arg2)
      ∧ r.2.mem ((c.tc : Thread Cert.KOddIn.nD Cert.KOddIn.τ).loc Cert.KOddIn.main_arg3) = m ((c.tc : Thread Cert.KOddIn.nD Cert.KOddIn.τ).loc Cert.KOddIn.main_arg3))
      ∧ r.2.sem = fun _ => 0)

def quiescent_KOddInIdeal [hKOddInIdeal : Cert.KOddInIdeal.Facts] : Prop :=
  ∀ (m : (ℓ : Loc Cert.KOddInIdeal.nD Cert.KOddInIdeal.τ Cert.KOddInIdeal.sig) → Buf (Elt Ideal) ℓ) (g : Dev Cert.KOddInIdeal.nD → PrngReg), Pre_KOddInIdeal m →
    θ_run (Cert.KOddInIdeal.defs (F := Ideal)) (onTc (τ := Cert.KOddInIdeal.τ) (Cert.KOddInIdeal.main (F := Ideal))) ⟨m, fun _ => 0, g⟩ (fun r => (∀ c : Dev Cert.KOddInIdeal.nD,
      r.2.mem ((c.tc : Thread Cert.KOddInIdeal.nD Cert.KOddInIdeal.τ).loc Cert.KOddInIdeal.main_arg0) = m ((c.tc : Thread Cert.KOddInIdeal.nD Cert.KOddInIdeal.τ).loc Cert.KOddInIdeal.main_arg0)
      ∧ r.2.mem ((c.tc : Thread Cert.KOddInIdeal.nD Cert.KOddInIdeal.τ).loc Cert.KOddInIdeal.main_arg1) = m ((c.tc : Thread Cert.KOddInIdeal.nD Cert.KOddInIdeal.τ).loc Cert.KOddInIdeal.main_arg1)
      ∧ r.2.mem ((c.tc : Thread Cert.KOddInIdeal.nD Cert.KOddInIdeal.τ).loc Cert.KOddInIdeal.main_arg2) = m ((c.tc : Thread Cert.KOddInIdeal.nD Cert.KOddInIdeal.τ).loc Cert.KOddInIdeal.main_arg2)
      ∧ r.2.mem ((c.tc : Thread Cert.KOddInIdeal.nD Cert.KOddInIdeal.τ).loc Cert.KOddInIdeal.main_arg3) = m ((c.tc : Thread Cert.KOddInIdeal.nD Cert.KOddInIdeal.τ).loc Cert.KOddInIdeal.main_arg3))
      ∧ r.2.sem = fun _ => 0)

def quiescent_ROddInIdeal [hROddInIdeal : Cert.ROddInIdeal.Facts] : Prop :=
  ∀ (m : (ℓ : Loc Cert.ROddInIdeal.nD Cert.ROddInIdeal.τ Cert.ROddInIdeal.sig) → Buf (Elt Ideal) ℓ) (g : Dev Cert.ROddInIdeal.nD → PrngReg), Pre_ROddInIdeal m →
    θ_run (Cert.ROddInIdeal.defs (F := Ideal)) (onTc (τ := Cert.ROddInIdeal.τ) (Cert.ROddInIdeal.main (F := Ideal))) ⟨m, fun _ => 0, g⟩ (fun r => (∀ c : Dev Cert.ROddInIdeal.nD,
      r.2.mem ((c.tc : Thread Cert.ROddInIdeal.nD Cert.ROddInIdeal.τ).loc Cert.ROddInIdeal.main_arg0) = m ((c.tc : Thread Cert.ROddInIdeal.nD Cert.ROddInIdeal.τ).loc Cert.ROddInIdeal.main_arg0)
      ∧ r.2.mem ((c.tc : Thread Cert.ROddInIdeal.nD Cert.ROddInIdeal.τ).loc Cert.ROddInIdeal.main_arg1) = m ((c.tc : Thread Cert.ROddInIdeal.nD Cert.ROddInIdeal.τ).loc Cert.ROddInIdeal.main_arg1)
      ∧ r.2.mem ((c.tc : Thread Cert.ROddInIdeal.nD Cert.ROddInIdeal.τ).loc Cert.ROddInIdeal.main_arg2) = m ((c.tc : Thread Cert.ROddInIdeal.nD Cert.ROddInIdeal.τ).loc Cert.ROddInIdeal.main_arg2)
      ∧ r.2.mem ((c.tc : Thread Cert.ROddInIdeal.nD Cert.ROddInIdeal.τ).loc Cert.ROddInIdeal.main_arg3) = m ((c.tc : Thread Cert.ROddInIdeal.nD Cert.ROddInIdeal.τ).loc Cert.ROddInIdeal.main_arg3))
      ∧ r.2.sem = fun _ => 0)

def quiescent_KEvenIn [hKEvenIn : Cert.KEvenIn.Facts] : Prop :=
  ∀ (m : (ℓ : Loc Cert.KEvenIn.nD Cert.KEvenIn.τ Cert.KEvenIn.sig) → Buf (Elt Bits) ℓ) (g : Dev Cert.KEvenIn.nD → PrngReg), Pre_KEvenIn m →
    θ_run (Cert.KEvenIn.defs (F := Bits)) (onTc (τ := Cert.KEvenIn.τ) (Cert.KEvenIn.main (F := Bits))) ⟨m, fun _ => 0, g⟩ (fun r => (∀ c : Dev Cert.KEvenIn.nD,
      r.2.mem ((c.tc : Thread Cert.KEvenIn.nD Cert.KEvenIn.τ).loc Cert.KEvenIn.main_arg0) = m ((c.tc : Thread Cert.KEvenIn.nD Cert.KEvenIn.τ).loc Cert.KEvenIn.main_arg0)
      ∧ r.2.mem ((c.tc : Thread Cert.KEvenIn.nD Cert.KEvenIn.τ).loc Cert.KEvenIn.main_arg1) = m ((c.tc : Thread Cert.KEvenIn.nD Cert.KEvenIn.τ).loc Cert.KEvenIn.main_arg1)
      ∧ r.2.mem ((c.tc : Thread Cert.KEvenIn.nD Cert.KEvenIn.τ).loc Cert.KEvenIn.main_arg2) = m ((c.tc : Thread Cert.KEvenIn.nD Cert.KEvenIn.τ).loc Cert.KEvenIn.main_arg2)
      ∧ r.2.mem ((c.tc : Thread Cert.KEvenIn.nD Cert.KEvenIn.τ).loc Cert.KEvenIn.main_arg3) = m ((c.tc : Thread Cert.KEvenIn.nD Cert.KEvenIn.τ).loc Cert.KEvenIn.main_arg3))
      ∧ r.2.sem = fun _ => 0)

def quiescent_KEvenInIdeal [hKEvenInIdeal : Cert.KEvenInIdeal.Facts] : Prop :=
  ∀ (m : (ℓ : Loc Cert.KEvenInIdeal.nD Cert.KEvenInIdeal.τ Cert.KEvenInIdeal.sig) → Buf (Elt Ideal) ℓ) (g : Dev Cert.KEvenInIdeal.nD → PrngReg), Pre_KEvenInIdeal m →
    θ_run (Cert.KEvenInIdeal.defs (F := Ideal)) (onTc (τ := Cert.KEvenInIdeal.τ) (Cert.KEvenInIdeal.main (F := Ideal))) ⟨m, fun _ => 0, g⟩ (fun r => (∀ c : Dev Cert.KEvenInIdeal.nD,
      r.2.mem ((c.tc : Thread Cert.KEvenInIdeal.nD Cert.KEvenInIdeal.τ).loc Cert.KEvenInIdeal.main_arg0) = m ((c.tc : Thread Cert.KEvenInIdeal.nD Cert.KEvenInIdeal.τ).loc Cert.KEvenInIdeal.main_arg0)
      ∧ r.2.mem ((c.tc : Thread Cert.KEvenInIdeal.nD Cert.KEvenInIdeal.τ).loc Cert.KEvenInIdeal.main_arg1) = m ((c.tc : Thread Cert.KEvenInIdeal.nD Cert.KEvenInIdeal.τ).loc Cert.KEvenInIdeal.main_arg1)
      ∧ r.2.mem ((c.tc : Thread Cert.KEvenInIdeal.nD Cert.KEvenInIdeal.τ).loc Cert.KEvenInIdeal.main_arg2) = m ((c.tc : Thread Cert.KEvenInIdeal.nD Cert.KEvenInIdeal.τ).loc Cert.KEvenInIdeal.main_arg2)
      ∧ r.2.mem ((c.tc : Thread Cert.KEvenInIdeal.nD Cert.KEvenInIdeal.τ).loc Cert.KEvenInIdeal.main_arg3) = m ((c.tc : Thread Cert.KEvenInIdeal.nD Cert.KEvenInIdeal.τ).loc Cert.KEvenInIdeal.main_arg3))
      ∧ r.2.sem = fun _ => 0)

def quiescent_REvenInIdeal [hREvenInIdeal : Cert.REvenInIdeal.Facts] : Prop :=
  ∀ (m : (ℓ : Loc Cert.REvenInIdeal.nD Cert.REvenInIdeal.τ Cert.REvenInIdeal.sig) → Buf (Elt Ideal) ℓ) (g : Dev Cert.REvenInIdeal.nD → PrngReg), Pre_REvenInIdeal m →
    θ_run (Cert.REvenInIdeal.defs (F := Ideal)) (onTc (τ := Cert.REvenInIdeal.τ) (Cert.REvenInIdeal.main (F := Ideal))) ⟨m, fun _ => 0, g⟩ (fun r => (∀ c : Dev Cert.REvenInIdeal.nD,
      r.2.mem ((c.tc : Thread Cert.REvenInIdeal.nD Cert.REvenInIdeal.τ).loc Cert.REvenInIdeal.main_arg0) = m ((c.tc : Thread Cert.REvenInIdeal.nD Cert.REvenInIdeal.τ).loc Cert.REvenInIdeal.main_arg0)
      ∧ r.2.mem ((c.tc : Thread Cert.REvenInIdeal.nD Cert.REvenInIdeal.τ).loc Cert.REvenInIdeal.main_arg1) = m ((c.tc : Thread Cert.REvenInIdeal.nD Cert.REvenInIdeal.τ).loc Cert.REvenInIdeal.main_arg1)
      ∧ r.2.mem ((c.tc : Thread Cert.REvenInIdeal.nD Cert.REvenInIdeal.τ).loc Cert.REvenInIdeal.main_arg2) = m ((c.tc : Thread Cert.REvenInIdeal.nD Cert.REvenInIdeal.τ).loc Cert.REvenInIdeal.main_arg2)
      ∧ r.2.mem ((c.tc : Thread Cert.REvenInIdeal.nD Cert.REvenInIdeal.τ).loc Cert.REvenInIdeal.main_arg3) = m ((c.tc : Thread Cert.REvenInIdeal.nD Cert.REvenInIdeal.τ).loc Cert.REvenInIdeal.main_arg3))
      ∧ r.2.sem = fun _ => 0)

def quiescent_KEvenOut [hKEvenOut : Cert.KEvenOut.Facts] : Prop :=
  ∀ (m : (ℓ : Loc Cert.KEvenOut.nD Cert.KEvenOut.τ Cert.KEvenOut.sig) → Buf (Elt Bits) ℓ) (g : Dev Cert.KEvenOut.nD → PrngReg), Pre_KEvenOut m →
    θ_run (Cert.KEvenOut.defs (F := Bits)) (onTc (τ := Cert.KEvenOut.τ) (Cert.KEvenOut.main (F := Bits))) ⟨m, fun _ => 0, g⟩ (fun r => (∀ c : Dev Cert.KEvenOut.nD,
      r.2.mem ((c.tc : Thread Cert.KEvenOut.nD Cert.KEvenOut.τ).loc Cert.KEvenOut.main_arg0) = m ((c.tc : Thread Cert.KEvenOut.nD Cert.KEvenOut.τ).loc Cert.KEvenOut.main_arg0)
      ∧ r.2.mem ((c.tc : Thread Cert.KEvenOut.nD Cert.KEvenOut.τ).loc Cert.KEvenOut.main_arg1) = m ((c.tc : Thread Cert.KEvenOut.nD Cert.KEvenOut.τ).loc Cert.KEvenOut.main_arg1)
      ∧ r.2.mem ((c.tc : Thread Cert.KEvenOut.nD Cert.KEvenOut.τ).loc Cert.KEvenOut.main_arg2) = m ((c.tc : Thread Cert.KEvenOut.nD Cert.KEvenOut.τ).loc Cert.KEvenOut.main_arg2)
      ∧ r.2.mem ((c.tc : Thread Cert.KEvenOut.nD Cert.KEvenOut.τ).loc Cert.KEvenOut.main_arg3) = m ((c.tc : Thread Cert.KEvenOut.nD Cert.KEvenOut.τ).loc Cert.KEvenOut.main_arg3)
      ∧ r.2.mem ((c.tc : Thread Cert.KEvenOut.nD Cert.KEvenOut.τ).loc Cert.KEvenOut.main_arg4) = m ((c.tc : Thread Cert.KEvenOut.nD Cert.KEvenOut.τ).loc Cert.KEvenOut.main_arg4)
      ∧ r.2.mem ((c.tc : Thread Cert.KEvenOut.nD Cert.KEvenOut.τ).loc Cert.KEvenOut.main_arg5) = m ((c.tc : Thread Cert.KEvenOut.nD Cert.KEvenOut.τ).loc Cert.KEvenOut.main_arg5)
      ∧ r.2.mem ((c.tc : Thread Cert.KEvenOut.nD Cert.KEvenOut.τ).loc Cert.KEvenOut.main_arg6) = m ((c.tc : Thread Cert.KEvenOut.nD Cert.KEvenOut.τ).loc Cert.KEvenOut.main_arg6)
      ∧ r.2.mem ((c.tc : Thread Cert.KEvenOut.nD Cert.KEvenOut.τ).loc Cert.KEvenOut.main_arg7) = m ((c.tc : Thread Cert.KEvenOut.nD Cert.KEvenOut.τ).loc Cert.KEvenOut.main_arg7))
      ∧ r.2.sem = fun _ => 0)

def quiescent_KEvenOutIdeal [hKEvenOutIdeal : Cert.KEvenOutIdeal.Facts] : Prop :=
  ∀ (m : (ℓ : Loc Cert.KEvenOutIdeal.nD Cert.KEvenOutIdeal.τ Cert.KEvenOutIdeal.sig) → Buf (Elt Ideal) ℓ) (g : Dev Cert.KEvenOutIdeal.nD → PrngReg), Pre_KEvenOutIdeal m →
    θ_run (Cert.KEvenOutIdeal.defs (F := Ideal)) (onTc (τ := Cert.KEvenOutIdeal.τ) (Cert.KEvenOutIdeal.main (F := Ideal))) ⟨m, fun _ => 0, g⟩ (fun r => (∀ c : Dev Cert.KEvenOutIdeal.nD,
      r.2.mem ((c.tc : Thread Cert.KEvenOutIdeal.nD Cert.KEvenOutIdeal.τ).loc Cert.KEvenOutIdeal.main_arg0) = m ((c.tc : Thread Cert.KEvenOutIdeal.nD Cert.KEvenOutIdeal.τ).loc Cert.KEvenOutIdeal.main_arg0)
      ∧ r.2.mem ((c.tc : Thread Cert.KEvenOutIdeal.nD Cert.KEvenOutIdeal.τ).loc Cert.KEvenOutIdeal.main_arg1) = m ((c.tc : Thread Cert.KEvenOutIdeal.nD Cert.KEvenOutIdeal.τ).loc Cert.KEvenOutIdeal.main_arg1)
      ∧ r.2.mem ((c.tc : Thread Cert.KEvenOutIdeal.nD Cert.KEvenOutIdeal.τ).loc Cert.KEvenOutIdeal.main_arg2) = m ((c.tc : Thread Cert.KEvenOutIdeal.nD Cert.KEvenOutIdeal.τ).loc Cert.KEvenOutIdeal.main_arg2)
      ∧ r.2.mem ((c.tc : Thread Cert.KEvenOutIdeal.nD Cert.KEvenOutIdeal.τ).loc Cert.KEvenOutIdeal.main_arg3) = m ((c.tc : Thread Cert.KEvenOutIdeal.nD Cert.KEvenOutIdeal.τ).loc Cert.KEvenOutIdeal.main_arg3)
      ∧ r.2.mem ((c.tc : Thread Cert.KEvenOutIdeal.nD Cert.KEvenOutIdeal.τ).loc Cert.KEvenOutIdeal.main_arg4) = m ((c.tc : Thread Cert.KEvenOutIdeal.nD Cert.KEvenOutIdeal.τ).loc Cert.KEvenOutIdeal.main_arg4)
      ∧ r.2.mem ((c.tc : Thread Cert.KEvenOutIdeal.nD Cert.KEvenOutIdeal.τ).loc Cert.KEvenOutIdeal.main_arg5) = m ((c.tc : Thread Cert.KEvenOutIdeal.nD Cert.KEvenOutIdeal.τ).loc Cert.KEvenOutIdeal.main_arg5)
      ∧ r.2.mem ((c.tc : Thread Cert.KEvenOutIdeal.nD Cert.KEvenOutIdeal.τ).loc Cert.KEvenOutIdeal.main_arg6) = m ((c.tc : Thread Cert.KEvenOutIdeal.nD Cert.KEvenOutIdeal.τ).loc Cert.KEvenOutIdeal.main_arg6)
      ∧ r.2.mem ((c.tc : Thread Cert.KEvenOutIdeal.nD Cert.KEvenOutIdeal.τ).loc Cert.KEvenOutIdeal.main_arg7) = m ((c.tc : Thread Cert.KEvenOutIdeal.nD Cert.KEvenOutIdeal.τ).loc Cert.KEvenOutIdeal.main_arg7))
      ∧ r.2.sem = fun _ => 0)

def quiescent_REvenOutIdeal [hREvenOutIdeal : Cert.REvenOutIdeal.Facts] : Prop :=
  ∀ (m : (ℓ : Loc Cert.REvenOutIdeal.nD Cert.REvenOutIdeal.τ Cert.REvenOutIdeal.sig) → Buf (Elt Ideal) ℓ) (g : Dev Cert.REvenOutIdeal.nD → PrngReg), Pre_REvenOutIdeal m →
    θ_run (Cert.REvenOutIdeal.defs (F := Ideal)) (onTc (τ := Cert.REvenOutIdeal.τ) (Cert.REvenOutIdeal.main (F := Ideal))) ⟨m, fun _ => 0, g⟩ (fun r => (∀ c : Dev Cert.REvenOutIdeal.nD,
      r.2.mem ((c.tc : Thread Cert.REvenOutIdeal.nD Cert.REvenOutIdeal.τ).loc Cert.REvenOutIdeal.main_arg0) = m ((c.tc : Thread Cert.REvenOutIdeal.nD Cert.REvenOutIdeal.τ).loc Cert.REvenOutIdeal.main_arg0)
      ∧ r.2.mem ((c.tc : Thread Cert.REvenOutIdeal.nD Cert.REvenOutIdeal.τ).loc Cert.REvenOutIdeal.main_arg1) = m ((c.tc : Thread Cert.REvenOutIdeal.nD Cert.REvenOutIdeal.τ).loc Cert.REvenOutIdeal.main_arg1)
      ∧ r.2.mem ((c.tc : Thread Cert.REvenOutIdeal.nD Cert.REvenOutIdeal.τ).loc Cert.REvenOutIdeal.main_arg2) = m ((c.tc : Thread Cert.REvenOutIdeal.nD Cert.REvenOutIdeal.τ).loc Cert.REvenOutIdeal.main_arg2)
      ∧ r.2.mem ((c.tc : Thread Cert.REvenOutIdeal.nD Cert.REvenOutIdeal.τ).loc Cert.REvenOutIdeal.main_arg3) = m ((c.tc : Thread Cert.REvenOutIdeal.nD Cert.REvenOutIdeal.τ).loc Cert.REvenOutIdeal.main_arg3)
      ∧ r.2.mem ((c.tc : Thread Cert.REvenOutIdeal.nD Cert.REvenOutIdeal.τ).loc Cert.REvenOutIdeal.main_arg4) = m ((c.tc : Thread Cert.REvenOutIdeal.nD Cert.REvenOutIdeal.τ).loc Cert.REvenOutIdeal.main_arg4)
      ∧ r.2.mem ((c.tc : Thread Cert.REvenOutIdeal.nD Cert.REvenOutIdeal.τ).loc Cert.REvenOutIdeal.main_arg5) = m ((c.tc : Thread Cert.REvenOutIdeal.nD Cert.REvenOutIdeal.τ).loc Cert.REvenOutIdeal.main_arg5)
      ∧ r.2.mem ((c.tc : Thread Cert.REvenOutIdeal.nD Cert.REvenOutIdeal.τ).loc Cert.REvenOutIdeal.main_arg6) = m ((c.tc : Thread Cert.REvenOutIdeal.nD Cert.REvenOutIdeal.τ).loc Cert.REvenOutIdeal.main_arg6)
      ∧ r.2.mem ((c.tc : Thread Cert.REvenOutIdeal.nD Cert.REvenOutIdeal.τ).loc Cert.REvenOutIdeal.main_arg7) = m ((c.tc : Thread Cert.REvenOutIdeal.nD Cert.REvenOutIdeal.τ).loc Cert.REvenOutIdeal.main_arg7))
      ∧ r.2.sem = fun _ => 0)

def quiescent_KOddOut [hKOddOut : Cert.KOddOut.Facts] : Prop :=
  ∀ (m : (ℓ : Loc Cert.KOddOut.nD Cert.KOddOut.τ Cert.KOddOut.sig) → Buf (Elt Bits) ℓ) (g : Dev Cert.KOddOut.nD → PrngReg), Pre_KOddOut m →
    θ_run (Cert.KOddOut.defs (F := Bits)) (onTc (τ := Cert.KOddOut.τ) (Cert.KOddOut.main (F := Bits))) ⟨m, fun _ => 0, g⟩ (fun r => (∀ c : Dev Cert.KOddOut.nD,
      r.2.mem ((c.tc : Thread Cert.KOddOut.nD Cert.KOddOut.τ).loc Cert.KOddOut.main_arg0) = m ((c.tc : Thread Cert.KOddOut.nD Cert.KOddOut.τ).loc Cert.KOddOut.main_arg0)
      ∧ r.2.mem ((c.tc : Thread Cert.KOddOut.nD Cert.KOddOut.τ).loc Cert.KOddOut.main_arg1) = m ((c.tc : Thread Cert.KOddOut.nD Cert.KOddOut.τ).loc Cert.KOddOut.main_arg1)
      ∧ r.2.mem ((c.tc : Thread Cert.KOddOut.nD Cert.KOddOut.τ).loc Cert.KOddOut.main_arg2) = m ((c.tc : Thread Cert.KOddOut.nD Cert.KOddOut.τ).loc Cert.KOddOut.main_arg2)
      ∧ r.2.mem ((c.tc : Thread Cert.KOddOut.nD Cert.KOddOut.τ).loc Cert.KOddOut.main_arg3) = m ((c.tc : Thread Cert.KOddOut.nD Cert.KOddOut.τ).loc Cert.KOddOut.main_arg3)
      ∧ r.2.mem ((c.tc : Thread Cert.KOddOut.nD Cert.KOddOut.τ).loc Cert.KOddOut.main_arg4) = m ((c.tc : Thread Cert.KOddOut.nD Cert.KOddOut.τ).loc Cert.KOddOut.main_arg4)
      ∧ r.2.mem ((c.tc : Thread Cert.KOddOut.nD Cert.KOddOut.τ).loc Cert.KOddOut.main_arg5) = m ((c.tc : Thread Cert.KOddOut.nD Cert.KOddOut.τ).loc Cert.KOddOut.main_arg5)
      ∧ r.2.mem ((c.tc : Thread Cert.KOddOut.nD Cert.KOddOut.τ).loc Cert.KOddOut.main_arg6) = m ((c.tc : Thread Cert.KOddOut.nD Cert.KOddOut.τ).loc Cert.KOddOut.main_arg6)
      ∧ r.2.mem ((c.tc : Thread Cert.KOddOut.nD Cert.KOddOut.τ).loc Cert.KOddOut.main_arg7) = m ((c.tc : Thread Cert.KOddOut.nD Cert.KOddOut.τ).loc Cert.KOddOut.main_arg7))
      ∧ r.2.sem = fun _ => 0)

def quiescent_KOddOutIdeal [hKOddOutIdeal : Cert.KOddOutIdeal.Facts] : Prop :=
  ∀ (m : (ℓ : Loc Cert.KOddOutIdeal.nD Cert.KOddOutIdeal.τ Cert.KOddOutIdeal.sig) → Buf (Elt Ideal) ℓ) (g : Dev Cert.KOddOutIdeal.nD → PrngReg), Pre_KOddOutIdeal m →
    θ_run (Cert.KOddOutIdeal.defs (F := Ideal)) (onTc (τ := Cert.KOddOutIdeal.τ) (Cert.KOddOutIdeal.main (F := Ideal))) ⟨m, fun _ => 0, g⟩ (fun r => (∀ c : Dev Cert.KOddOutIdeal.nD,
      r.2.mem ((c.tc : Thread Cert.KOddOutIdeal.nD Cert.KOddOutIdeal.τ).loc Cert.KOddOutIdeal.main_arg0) = m ((c.tc : Thread Cert.KOddOutIdeal.nD Cert.KOddOutIdeal.τ).loc Cert.KOddOutIdeal.main_arg0)
      ∧ r.2.mem ((c.tc : Thread Cert.KOddOutIdeal.nD Cert.KOddOutIdeal.τ).loc Cert.KOddOutIdeal.main_arg1) = m ((c.tc : Thread Cert.KOddOutIdeal.nD Cert.KOddOutIdeal.τ).loc Cert.KOddOutIdeal.main_arg1)
      ∧ r.2.mem ((c.tc : Thread Cert.KOddOutIdeal.nD Cert.KOddOutIdeal.τ).loc Cert.KOddOutIdeal.main_arg2) = m ((c.tc : Thread Cert.KOddOutIdeal.nD Cert.KOddOutIdeal.τ).loc Cert.KOddOutIdeal.main_arg2)
      ∧ r.2.mem ((c.tc : Thread Cert.KOddOutIdeal.nD Cert.KOddOutIdeal.τ).loc Cert.KOddOutIdeal.main_arg3) = m ((c.tc : Thread Cert.KOddOutIdeal.nD Cert.KOddOutIdeal.τ).loc Cert.KOddOutIdeal.main_arg3)
      ∧ r.2.mem ((c.tc : Thread Cert.KOddOutIdeal.nD Cert.KOddOutIdeal.τ).loc Cert.KOddOutIdeal.main_arg4) = m ((c.tc : Thread Cert.KOddOutIdeal.nD Cert.KOddOutIdeal.τ).loc Cert.KOddOutIdeal.main_arg4)
      ∧ r.2.mem ((c.tc : Thread Cert.KOddOutIdeal.nD Cert.KOddOutIdeal.τ).loc Cert.KOddOutIdeal.main_arg5) = m ((c.tc : Thread Cert.KOddOutIdeal.nD Cert.KOddOutIdeal.τ).loc Cert.KOddOutIdeal.main_arg5)
      ∧ r.2.mem ((c.tc : Thread Cert.KOddOutIdeal.nD Cert.KOddOutIdeal.τ).loc Cert.KOddOutIdeal.main_arg6) = m ((c.tc : Thread Cert.KOddOutIdeal.nD Cert.KOddOutIdeal.τ).loc Cert.KOddOutIdeal.main_arg6)
      ∧ r.2.mem ((c.tc : Thread Cert.KOddOutIdeal.nD Cert.KOddOutIdeal.τ).loc Cert.KOddOutIdeal.main_arg7) = m ((c.tc : Thread Cert.KOddOutIdeal.nD Cert.KOddOutIdeal.τ).loc Cert.KOddOutIdeal.main_arg7))
      ∧ r.2.sem = fun _ => 0)

def quiescent_ROddOutIdeal [hROddOutIdeal : Cert.ROddOutIdeal.Facts] : Prop :=
  ∀ (m : (ℓ : Loc Cert.ROddOutIdeal.nD Cert.ROddOutIdeal.τ Cert.ROddOutIdeal.sig) → Buf (Elt Ideal) ℓ) (g : Dev Cert.ROddOutIdeal.nD → PrngReg), Pre_ROddOutIdeal m →
    θ_run (Cert.ROddOutIdeal.defs (F := Ideal)) (onTc (τ := Cert.ROddOutIdeal.τ) (Cert.ROddOutIdeal.main (F := Ideal))) ⟨m, fun _ => 0, g⟩ (fun r => (∀ c : Dev Cert.ROddOutIdeal.nD,
      r.2.mem ((c.tc : Thread Cert.ROddOutIdeal.nD Cert.ROddOutIdeal.τ).loc Cert.ROddOutIdeal.main_arg0) = m ((c.tc : Thread Cert.ROddOutIdeal.nD Cert.ROddOutIdeal.τ).loc Cert.ROddOutIdeal.main_arg0)
      ∧ r.2.mem ((c.tc : Thread Cert.ROddOutIdeal.nD Cert.ROddOutIdeal.τ).loc Cert.ROddOutIdeal.main_arg1) = m ((c.tc : Thread Cert.ROddOutIdeal.nD Cert.ROddOutIdeal.τ).loc Cert.ROddOutIdeal.main_arg1)
      ∧ r.2.mem ((c.tc : Thread Cert.ROddOutIdeal.nD Cert.ROddOutIdeal.τ).loc Cert.ROddOutIdeal.main_arg2) = m ((c.tc : Thread Cert.ROddOutIdeal.nD Cert.ROddOutIdeal.τ).loc Cert.ROddOutIdeal.main_arg2)
      ∧ r.2.mem ((c.tc : Thread Cert.ROddOutIdeal.nD Cert.ROddOutIdeal.τ).loc Cert.ROddOutIdeal.main_arg3) = m ((c.tc : Thread Cert.ROddOutIdeal.nD Cert.ROddOutIdeal.τ).loc Cert.ROddOutIdeal.main_arg3)
      ∧ r.2.mem ((c.tc : Thread Cert.ROddOutIdeal.nD Cert.ROddOutIdeal.τ).loc Cert.ROddOutIdeal.main_arg4) = m ((c.tc : Thread Cert.ROddOutIdeal.nD Cert.ROddOutIdeal.τ).loc Cert.ROddOutIdeal.main_arg4)
      ∧ r.2.mem ((c.tc : Thread Cert.ROddOutIdeal.nD Cert.ROddOutIdeal.τ).loc Cert.ROddOutIdeal.main_arg5) = m ((c.tc : Thread Cert.ROddOutIdeal.nD Cert.ROddOutIdeal.τ).loc Cert.ROddOutIdeal.main_arg5)
      ∧ r.2.mem ((c.tc : Thread Cert.ROddOutIdeal.nD Cert.ROddOutIdeal.τ).loc Cert.ROddOutIdeal.main_arg6) = m ((c.tc : Thread Cert.ROddOutIdeal.nD Cert.ROddOutIdeal.τ).loc Cert.ROddOutIdeal.main_arg6)
      ∧ r.2.mem ((c.tc : Thread Cert.ROddOutIdeal.nD Cert.ROddOutIdeal.τ).loc Cert.ROddOutIdeal.main_arg7) = m ((c.tc : Thread Cert.ROddOutIdeal.nD Cert.ROddOutIdeal.τ).loc Cert.ROddOutIdeal.main_arg7))
      ∧ r.2.sem = fun _ => 0)

def preserves_KAtt_KAttIdeal : Prop :=
  True

def algebraic_KAttIdeal_RAttIdeal_pre_att_finite [hKAttIdeal : Cert.KAttIdeal.Facts] [hRAttIdeal : Cert.RAttIdeal.Facts] [hPre_att_finite : Cert.Pre_att_finite.Facts] : Prop :=
  ∀ (m : (ℓ : Loc Cert.KAttIdeal.nD Cert.KAttIdeal.τ Cert.KAttIdeal.sig) → Buf (Elt Ideal) ℓ) (g : Dev Cert.KAttIdeal.nD → PrngReg)
    (m' : (ℓ : Loc Cert.RAttIdeal.nD Cert.RAttIdeal.τ Cert.RAttIdeal.sig) → Buf (Elt Ideal) ℓ) (g' : Dev Cert.RAttIdeal.nD → PrngReg), Pre_KAttIdeal_att_finite m →
    (∀ c : Dev Cert.KAttIdeal.nD,
      m' ((c.tc : Thread Cert.RAttIdeal.nD Cert.RAttIdeal.τ).loc Cert.RAttIdeal.main_arg0) = m ((c.tc : Thread Cert.KAttIdeal.nD Cert.KAttIdeal.τ).loc Cert.KAttIdeal.main_arg0)
      ∧ m' ((c.tc : Thread Cert.RAttIdeal.nD Cert.RAttIdeal.τ).loc Cert.RAttIdeal.main_arg1) = m ((c.tc : Thread Cert.KAttIdeal.nD Cert.KAttIdeal.τ).loc Cert.KAttIdeal.main_arg1)
      ∧ m' ((c.tc : Thread Cert.RAttIdeal.nD Cert.RAttIdeal.τ).loc Cert.RAttIdeal.main_arg2) = m ((c.tc : Thread Cert.KAttIdeal.nD Cert.KAttIdeal.τ).loc Cert.KAttIdeal.main_arg2)
      ∧ m' ((c.tc : Thread Cert.RAttIdeal.nD Cert.RAttIdeal.τ).loc Cert.RAttIdeal.main_arg3) = m ((c.tc : Thread Cert.KAttIdeal.nD Cert.KAttIdeal.τ).loc Cert.KAttIdeal.main_arg3)
      ∧ m' ((c.tc : Thread Cert.RAttIdeal.nD Cert.RAttIdeal.τ).loc Cert.RAttIdeal.main_arg4) = m ((c.tc : Thread Cert.KAttIdeal.nD Cert.KAttIdeal.τ).loc Cert.KAttIdeal.main_arg4)
      ∧ m' ((c.tc : Thread Cert.RAttIdeal.nD Cert.RAttIdeal.τ).loc Cert.RAttIdeal.main_arg5) = m ((c.tc : Thread Cert.KAttIdeal.nD Cert.KAttIdeal.τ).loc Cert.KAttIdeal.main_arg5)) →
    ∃ (v0 : (c : Dev Cert.KAttIdeal.nD) → Buf (Elt Ideal) ((c.tc : Thread Cert.KAttIdeal.nD Cert.KAttIdeal.τ).loc Cert.KAttIdeal.main_v11_0)) (v1 : (c : Dev Cert.KAttIdeal.nD) → Buf (Elt Ideal) ((c.tc : Thread Cert.KAttIdeal.nD Cert.KAttIdeal.τ).loc Cert.KAttIdeal.main_v11_1)) (v2 : (c : Dev Cert.KAttIdeal.nD) → Buf (Elt Ideal) ((c.tc : Thread Cert.KAttIdeal.nD Cert.KAttIdeal.τ).loc Cert.KAttIdeal.main_v11_2)),
      θ_run (Cert.KAttIdeal.defs (F := Ideal)) (onTc (τ := Cert.KAttIdeal.τ) (Cert.KAttIdeal.main (F := Ideal))) ⟨m, fun _ => 0, g⟩ (fun r => ∀ c : Dev Cert.KAttIdeal.nD,
          r.2.mem ((c.tc : Thread Cert.KAttIdeal.nD Cert.KAttIdeal.τ).loc Cert.KAttIdeal.main_v11_0) = v0 c
          ∧ r.2.mem ((c.tc : Thread Cert.KAttIdeal.nD Cert.KAttIdeal.τ).loc Cert.KAttIdeal.main_v11_1) = v1 c
          ∧ r.2.mem ((c.tc : Thread Cert.KAttIdeal.nD Cert.KAttIdeal.τ).loc Cert.KAttIdeal.main_v11_2) = v2 c
          ∧ r.2.mem ((c.tc : Thread Cert.KAttIdeal.nD Cert.KAttIdeal.τ).loc Cert.KAttIdeal.main_arg0) = m ((c.tc : Thread Cert.KAttIdeal.nD Cert.KAttIdeal.τ).loc Cert.KAttIdeal.main_arg0)
          ∧ r.2.mem ((c.tc : Thread Cert.KAttIdeal.nD Cert.KAttIdeal.τ).loc Cert.KAttIdeal.main_arg1) = m ((c.tc : Thread Cert.KAttIdeal.nD Cert.KAttIdeal.τ).loc Cert.KAttIdeal.main_arg1)
          ∧ r.2.mem ((c.tc : Thread Cert.KAttIdeal.nD Cert.KAttIdeal.τ).loc Cert.KAttIdeal.main_arg2) = m ((c.tc : Thread Cert.KAttIdeal.nD Cert.KAttIdeal.τ).loc Cert.KAttIdeal.main_arg2)
          ∧ r.2.mem ((c.tc : Thread Cert.KAttIdeal.nD Cert.KAttIdeal.τ).loc Cert.KAttIdeal.main_arg3) = m ((c.tc : Thread Cert.KAttIdeal.nD Cert.KAttIdeal.τ).loc Cert.KAttIdeal.main_arg3)
          ∧ r.2.mem ((c.tc : Thread Cert.KAttIdeal.nD Cert.KAttIdeal.τ).loc Cert.KAttIdeal.main_arg4) = m ((c.tc : Thread Cert.KAttIdeal.nD Cert.KAttIdeal.τ).loc Cert.KAttIdeal.main_arg4)
          ∧ r.2.mem ((c.tc : Thread Cert.KAttIdeal.nD Cert.KAttIdeal.τ).loc Cert.KAttIdeal.main_arg5) = m ((c.tc : Thread Cert.KAttIdeal.nD Cert.KAttIdeal.τ).loc Cert.KAttIdeal.main_arg5))
      ∧ θ_run (Cert.RAttIdeal.defs (F := Ideal)) (onTc (τ := Cert.RAttIdeal.τ) (Cert.RAttIdeal.main (F := Ideal))) ⟨m', fun _ => 0, g'⟩ (fun r => ∀ c : Dev Cert.RAttIdeal.nD,
          r.2.mem ((c.tc : Thread Cert.RAttIdeal.nD Cert.RAttIdeal.τ).loc Cert.RAttIdeal.main_v56) = v0 c
          ∧ r.2.mem ((c.tc : Thread Cert.RAttIdeal.nD Cert.RAttIdeal.τ).loc Cert.RAttIdeal.main_v31) = v1 c
          ∧ r.2.mem ((c.tc : Thread Cert.RAttIdeal.nD Cert.RAttIdeal.τ).loc Cert.RAttIdeal.main_v34) = v2 c
          ∧ r.2.mem ((c.tc : Thread Cert.RAttIdeal.nD Cert.RAttIdeal.τ).loc Cert.RAttIdeal.main_arg0) = m' ((c.tc : Thread Cert.RAttIdeal.nD Cert.RAttIdeal.τ).loc Cert.RAttIdeal.main_arg0)
          ∧ r.2.mem ((c.tc : Thread Cert.RAttIdeal.nD Cert.RAttIdeal.τ).loc Cert.RAttIdeal.main_arg1) = m' ((c.tc : Thread Cert.RAttIdeal.nD Cert.RAttIdeal.τ).loc Cert.RAttIdeal.main_arg1)
          ∧ r.2.mem ((c.tc : Thread Cert.RAttIdeal.nD Cert.RAttIdeal.τ).loc Cert.RAttIdeal.main_arg2) = m' ((c.tc : Thread Cert.RAttIdeal.nD Cert.RAttIdeal.τ).loc Cert.RAttIdeal.main_arg2)
          ∧ r.2.mem ((c.tc : Thread Cert.RAttIdeal.nD Cert.RAttIdeal.τ).loc Cert.RAttIdeal.main_arg3) = m' ((c.tc : Thread Cert.RAttIdeal.nD Cert.RAttIdeal.τ).loc Cert.RAttIdeal.main_arg3)
          ∧ r.2.mem ((c.tc : Thread Cert.RAttIdeal.nD Cert.RAttIdeal.τ).loc Cert.RAttIdeal.main_arg4) = m' ((c.tc : Thread Cert.RAttIdeal.nD Cert.RAttIdeal.τ).loc Cert.RAttIdeal.main_arg4)
          ∧ r.2.mem ((c.tc : Thread Cert.RAttIdeal.nD Cert.RAttIdeal.τ).loc Cert.RAttIdeal.main_arg5) = m' ((c.tc : Thread Cert.RAttIdeal.nD Cert.RAttIdeal.τ).loc Cert.RAttIdeal.main_arg5))

def preserves_KGla_KGlaIdeal : Prop :=
  True

def algebraic_KGlaIdeal_RGlaIdeal_pre_gla_finite [hKGlaIdeal : Cert.KGlaIdeal.Facts] [hRGlaIdeal : Cert.RGlaIdeal.Facts] [hPre_gla_finite : Cert.Pre_gla_finite.Facts] : Prop :=
  ∀ (m : (ℓ : Loc Cert.KGlaIdeal.nD Cert.KGlaIdeal.τ Cert.KGlaIdeal.sig) → Buf (Elt Ideal) ℓ) (g : Dev Cert.KGlaIdeal.nD → PrngReg)
    (m' : (ℓ : Loc Cert.RGlaIdeal.nD Cert.RGlaIdeal.τ Cert.RGlaIdeal.sig) → Buf (Elt Ideal) ℓ) (g' : Dev Cert.RGlaIdeal.nD → PrngReg), Pre_KGlaIdeal_gla_finite m →
    (∀ c : Dev Cert.KGlaIdeal.nD,
      m' ((c.tc : Thread Cert.RGlaIdeal.nD Cert.RGlaIdeal.τ).loc Cert.RGlaIdeal.main_arg0) = m ((c.tc : Thread Cert.KGlaIdeal.nD Cert.KGlaIdeal.τ).loc Cert.KGlaIdeal.main_arg0)
      ∧ m' ((c.tc : Thread Cert.RGlaIdeal.nD Cert.RGlaIdeal.τ).loc Cert.RGlaIdeal.main_arg1) = m ((c.tc : Thread Cert.KGlaIdeal.nD Cert.KGlaIdeal.τ).loc Cert.KGlaIdeal.main_arg1)
      ∧ m' ((c.tc : Thread Cert.RGlaIdeal.nD Cert.RGlaIdeal.τ).loc Cert.RGlaIdeal.main_arg2) = m ((c.tc : Thread Cert.KGlaIdeal.nD Cert.KGlaIdeal.τ).loc Cert.KGlaIdeal.main_arg2)
      ∧ m' ((c.tc : Thread Cert.RGlaIdeal.nD Cert.RGlaIdeal.τ).loc Cert.RGlaIdeal.main_arg3) = m ((c.tc : Thread Cert.KGlaIdeal.nD Cert.KGlaIdeal.τ).loc Cert.KGlaIdeal.main_arg3)
      ∧ m' ((c.tc : Thread Cert.RGlaIdeal.nD Cert.RGlaIdeal.τ).loc Cert.RGlaIdeal.main_arg4) = m ((c.tc : Thread Cert.KGlaIdeal.nD Cert.KGlaIdeal.τ).loc Cert.KGlaIdeal.main_arg4)
      ∧ m' ((c.tc : Thread Cert.RGlaIdeal.nD Cert.RGlaIdeal.τ).loc Cert.RGlaIdeal.main_arg5) = m ((c.tc : Thread Cert.KGlaIdeal.nD Cert.KGlaIdeal.τ).loc Cert.KGlaIdeal.main_arg5)
      ∧ m' ((c.tc : Thread Cert.RGlaIdeal.nD Cert.RGlaIdeal.τ).loc Cert.RGlaIdeal.main_arg6) = m ((c.tc : Thread Cert.KGlaIdeal.nD Cert.KGlaIdeal.τ).loc Cert.KGlaIdeal.main_arg6)) →
    ∃ (v0 : (c : Dev Cert.KGlaIdeal.nD) → Buf (Elt Ideal) ((c.tc : Thread Cert.KGlaIdeal.nD Cert.KGlaIdeal.τ).loc Cert.KGlaIdeal.main_v103_0)) (v1 : (c : Dev Cert.KGlaIdeal.nD) → Buf (Elt Ideal) ((c.tc : Thread Cert.KGlaIdeal.nD Cert.KGlaIdeal.τ).loc Cert.KGlaIdeal.main_v103_1)),
      θ_run (Cert.KGlaIdeal.defs (F := Ideal)) (onTc (τ := Cert.KGlaIdeal.τ) (Cert.KGlaIdeal.main (F := Ideal))) ⟨m, fun _ => 0, g⟩ (fun r => ∀ c : Dev Cert.KGlaIdeal.nD,
          r.2.mem ((c.tc : Thread Cert.KGlaIdeal.nD Cert.KGlaIdeal.τ).loc Cert.KGlaIdeal.main_v103_0) = v0 c
          ∧ r.2.mem ((c.tc : Thread Cert.KGlaIdeal.nD Cert.KGlaIdeal.τ).loc Cert.KGlaIdeal.main_v103_1) = v1 c
          ∧ r.2.mem ((c.tc : Thread Cert.KGlaIdeal.nD Cert.KGlaIdeal.τ).loc Cert.KGlaIdeal.main_arg0) = m ((c.tc : Thread Cert.KGlaIdeal.nD Cert.KGlaIdeal.τ).loc Cert.KGlaIdeal.main_arg0)
          ∧ r.2.mem ((c.tc : Thread Cert.KGlaIdeal.nD Cert.KGlaIdeal.τ).loc Cert.KGlaIdeal.main_arg1) = m ((c.tc : Thread Cert.KGlaIdeal.nD Cert.KGlaIdeal.τ).loc Cert.KGlaIdeal.main_arg1)
          ∧ r.2.mem ((c.tc : Thread Cert.KGlaIdeal.nD Cert.KGlaIdeal.τ).loc Cert.KGlaIdeal.main_arg2) = m ((c.tc : Thread Cert.KGlaIdeal.nD Cert.KGlaIdeal.τ).loc Cert.KGlaIdeal.main_arg2)
          ∧ r.2.mem ((c.tc : Thread Cert.KGlaIdeal.nD Cert.KGlaIdeal.τ).loc Cert.KGlaIdeal.main_arg3) = m ((c.tc : Thread Cert.KGlaIdeal.nD Cert.KGlaIdeal.τ).loc Cert.KGlaIdeal.main_arg3)
          ∧ r.2.mem ((c.tc : Thread Cert.KGlaIdeal.nD Cert.KGlaIdeal.τ).loc Cert.KGlaIdeal.main_arg4) = m ((c.tc : Thread Cert.KGlaIdeal.nD Cert.KGlaIdeal.τ).loc Cert.KGlaIdeal.main_arg4)
          ∧ r.2.mem ((c.tc : Thread Cert.KGlaIdeal.nD Cert.KGlaIdeal.τ).loc Cert.KGlaIdeal.main_arg5) = m ((c.tc : Thread Cert.KGlaIdeal.nD Cert.KGlaIdeal.τ).loc Cert.KGlaIdeal.main_arg5)
          ∧ r.2.mem ((c.tc : Thread Cert.KGlaIdeal.nD Cert.KGlaIdeal.τ).loc Cert.KGlaIdeal.main_arg6) = m ((c.tc : Thread Cert.KGlaIdeal.nD Cert.KGlaIdeal.τ).loc Cert.KGlaIdeal.main_arg6))
      ∧ θ_run (Cert.RGlaIdeal.defs (F := Ideal)) (onTc (τ := Cert.RGlaIdeal.τ) (Cert.RGlaIdeal.main (F := Ideal))) ⟨m', fun _ => 0, g'⟩ (fun r => ∀ c : Dev Cert.RGlaIdeal.nD,
          r.2.mem ((c.tc : Thread Cert.RGlaIdeal.nD Cert.RGlaIdeal.τ).loc Cert.RGlaIdeal.main_v412) = v0 c
          ∧ r.2.mem ((c.tc : Thread Cert.RGlaIdeal.nD Cert.RGlaIdeal.τ).loc Cert.RGlaIdeal.main_v415) = v1 c
          ∧ r.2.mem ((c.tc : Thread Cert.RGlaIdeal.nD Cert.RGlaIdeal.τ).loc Cert.RGlaIdeal.main_arg0) = m' ((c.tc : Thread Cert.RGlaIdeal.nD Cert.RGlaIdeal.τ).loc Cert.RGlaIdeal.main_arg0)
          ∧ r.2.mem ((c.tc : Thread Cert.RGlaIdeal.nD Cert.RGlaIdeal.τ).loc Cert.RGlaIdeal.main_arg1) = m' ((c.tc : Thread Cert.RGlaIdeal.nD Cert.RGlaIdeal.τ).loc Cert.RGlaIdeal.main_arg1)
          ∧ r.2.mem ((c.tc : Thread Cert.RGlaIdeal.nD Cert.RGlaIdeal.τ).loc Cert.RGlaIdeal.main_arg2) = m' ((c.tc : Thread Cert.RGlaIdeal.nD Cert.RGlaIdeal.τ).loc Cert.RGlaIdeal.main_arg2)
          ∧ r.2.mem ((c.tc : Thread Cert.RGlaIdeal.nD Cert.RGlaIdeal.τ).loc Cert.RGlaIdeal.main_arg3) = m' ((c.tc : Thread Cert.RGlaIdeal.nD Cert.RGlaIdeal.τ).loc Cert.RGlaIdeal.main_arg3)
          ∧ r.2.mem ((c.tc : Thread Cert.RGlaIdeal.nD Cert.RGlaIdeal.τ).loc Cert.RGlaIdeal.main_arg4) = m' ((c.tc : Thread Cert.RGlaIdeal.nD Cert.RGlaIdeal.τ).loc Cert.RGlaIdeal.main_arg4)
          ∧ r.2.mem ((c.tc : Thread Cert.RGlaIdeal.nD Cert.RGlaIdeal.τ).loc Cert.RGlaIdeal.main_arg5) = m' ((c.tc : Thread Cert.RGlaIdeal.nD Cert.RGlaIdeal.τ).loc Cert.RGlaIdeal.main_arg5)
          ∧ r.2.mem ((c.tc : Thread Cert.RGlaIdeal.nD Cert.RGlaIdeal.τ).loc Cert.RGlaIdeal.main_arg6) = m' ((c.tc : Thread Cert.RGlaIdeal.nD Cert.RGlaIdeal.τ).loc Cert.RGlaIdeal.main_arg6))

def preserves_KOddIn_KOddInIdeal : Prop :=
  True

def algebraic_KOddInIdeal_ROddInIdeal [hKOddInIdeal : Cert.KOddInIdeal.Facts] [hROddInIdeal : Cert.ROddInIdeal.Facts] : Prop :=
  ∀ (m : (ℓ : Loc Cert.KOddInIdeal.nD Cert.KOddInIdeal.τ Cert.KOddInIdeal.sig) → Buf (Elt Ideal) ℓ) (g : Dev Cert.KOddInIdeal.nD → PrngReg)
    (m' : (ℓ : Loc Cert.ROddInIdeal.nD Cert.ROddInIdeal.τ Cert.ROddInIdeal.sig) → Buf (Elt Ideal) ℓ) (g' : Dev Cert.ROddInIdeal.nD → PrngReg), Pre_KOddInIdeal m →
    (∀ c : Dev Cert.KOddInIdeal.nD,
      m' ((c.tc : Thread Cert.ROddInIdeal.nD Cert.ROddInIdeal.τ).loc Cert.ROddInIdeal.main_arg0) = m ((c.tc : Thread Cert.KOddInIdeal.nD Cert.KOddInIdeal.τ).loc Cert.KOddInIdeal.main_arg0)
      ∧ m' ((c.tc : Thread Cert.ROddInIdeal.nD Cert.ROddInIdeal.τ).loc Cert.ROddInIdeal.main_arg1) = m ((c.tc : Thread Cert.KOddInIdeal.nD Cert.KOddInIdeal.τ).loc Cert.KOddInIdeal.main_arg1)
      ∧ m' ((c.tc : Thread Cert.ROddInIdeal.nD Cert.ROddInIdeal.τ).loc Cert.ROddInIdeal.main_arg2) = m ((c.tc : Thread Cert.KOddInIdeal.nD Cert.KOddInIdeal.τ).loc Cert.KOddInIdeal.main_arg2)
      ∧ m' ((c.tc : Thread Cert.ROddInIdeal.nD Cert.ROddInIdeal.τ).loc Cert.ROddInIdeal.main_arg3) = m ((c.tc : Thread Cert.KOddInIdeal.nD Cert.KOddInIdeal.τ).loc Cert.KOddInIdeal.main_arg3)) →
    ∃ (v0 : (c : Dev Cert.KOddInIdeal.nD) → Buf (Elt Ideal) ((c.tc : Thread Cert.KOddInIdeal.nD Cert.KOddInIdeal.τ).loc Cert.KOddInIdeal.main_v15_0)) (v1 : (c : Dev Cert.KOddInIdeal.nD) → Buf (Elt Ideal) ((c.tc : Thread Cert.KOddInIdeal.nD Cert.KOddInIdeal.τ).loc Cert.KOddInIdeal.main_v15_1)) (v2 : (c : Dev Cert.KOddInIdeal.nD) → Buf (Elt Ideal) ((c.tc : Thread Cert.KOddInIdeal.nD Cert.KOddInIdeal.τ).loc Cert.KOddInIdeal.main_v15_2)) (v3 : (c : Dev Cert.KOddInIdeal.nD) → Buf (Elt Ideal) ((c.tc : Thread Cert.KOddInIdeal.nD Cert.KOddInIdeal.τ).loc Cert.KOddInIdeal.main_v15_3)) (v4 : (c : Dev Cert.KOddInIdeal.nD) → Buf (Elt Ideal) ((c.tc : Thread Cert.KOddInIdeal.nD Cert.KOddInIdeal.τ).loc Cert.KOddInIdeal.main_v15_4)),
      θ_run (Cert.KOddInIdeal.defs (F := Ideal)) (onTc (τ := Cert.KOddInIdeal.τ) (Cert.KOddInIdeal.main (F := Ideal))) ⟨m, fun _ => 0, g⟩ (fun r => ∀ c : Dev Cert.KOddInIdeal.nD,
          r.2.mem ((c.tc : Thread Cert.KOddInIdeal.nD Cert.KOddInIdeal.τ).loc Cert.KOddInIdeal.main_v15_0) = v0 c
          ∧ r.2.mem ((c.tc : Thread Cert.KOddInIdeal.nD Cert.KOddInIdeal.τ).loc Cert.KOddInIdeal.main_v15_1) = v1 c
          ∧ r.2.mem ((c.tc : Thread Cert.KOddInIdeal.nD Cert.KOddInIdeal.τ).loc Cert.KOddInIdeal.main_v15_2) = v2 c
          ∧ r.2.mem ((c.tc : Thread Cert.KOddInIdeal.nD Cert.KOddInIdeal.τ).loc Cert.KOddInIdeal.main_v15_3) = v3 c
          ∧ r.2.mem ((c.tc : Thread Cert.KOddInIdeal.nD Cert.KOddInIdeal.τ).loc Cert.KOddInIdeal.main_v15_4) = v4 c
          ∧ r.2.mem ((c.tc : Thread Cert.KOddInIdeal.nD Cert.KOddInIdeal.τ).loc Cert.KOddInIdeal.main_arg0) = m ((c.tc : Thread Cert.KOddInIdeal.nD Cert.KOddInIdeal.τ).loc Cert.KOddInIdeal.main_arg0)
          ∧ r.2.mem ((c.tc : Thread Cert.KOddInIdeal.nD Cert.KOddInIdeal.τ).loc Cert.KOddInIdeal.main_arg1) = m ((c.tc : Thread Cert.KOddInIdeal.nD Cert.KOddInIdeal.τ).loc Cert.KOddInIdeal.main_arg1)
          ∧ r.2.mem ((c.tc : Thread Cert.KOddInIdeal.nD Cert.KOddInIdeal.τ).loc Cert.KOddInIdeal.main_arg2) = m ((c.tc : Thread Cert.KOddInIdeal.nD Cert.KOddInIdeal.τ).loc Cert.KOddInIdeal.main_arg2)
          ∧ r.2.mem ((c.tc : Thread Cert.KOddInIdeal.nD Cert.KOddInIdeal.τ).loc Cert.KOddInIdeal.main_arg3) = m ((c.tc : Thread Cert.KOddInIdeal.nD Cert.KOddInIdeal.τ).loc Cert.KOddInIdeal.main_arg3))
      ∧ θ_run (Cert.ROddInIdeal.defs (F := Ideal)) (onTc (τ := Cert.ROddInIdeal.τ) (Cert.ROddInIdeal.main (F := Ideal))) ⟨m', fun _ => 0, g'⟩ (fun r => ∀ c : Dev Cert.ROddInIdeal.nD,
          r.2.mem ((c.tc : Thread Cert.ROddInIdeal.nD Cert.ROddInIdeal.τ).loc Cert.ROddInIdeal.main_v24) = v0 c
          ∧ r.2.mem ((c.tc : Thread Cert.ROddInIdeal.nD Cert.ROddInIdeal.τ).loc Cert.ROddInIdeal.main_v35) = v1 c
          ∧ r.2.mem ((c.tc : Thread Cert.ROddInIdeal.nD Cert.ROddInIdeal.τ).loc Cert.ROddInIdeal.main_v36) = v2 c
          ∧ r.2.mem ((c.tc : Thread Cert.ROddInIdeal.nD Cert.ROddInIdeal.τ).loc Cert.ROddInIdeal.main_v37) = v3 c
          ∧ r.2.mem ((c.tc : Thread Cert.ROddInIdeal.nD Cert.ROddInIdeal.τ).loc Cert.ROddInIdeal.main_v39) = v4 c
          ∧ r.2.mem ((c.tc : Thread Cert.ROddInIdeal.nD Cert.ROddInIdeal.τ).loc Cert.ROddInIdeal.main_arg0) = m' ((c.tc : Thread Cert.ROddInIdeal.nD Cert.ROddInIdeal.τ).loc Cert.ROddInIdeal.main_arg0)
          ∧ r.2.mem ((c.tc : Thread Cert.ROddInIdeal.nD Cert.ROddInIdeal.τ).loc Cert.ROddInIdeal.main_arg1) = m' ((c.tc : Thread Cert.ROddInIdeal.nD Cert.ROddInIdeal.τ).loc Cert.ROddInIdeal.main_arg1)
          ∧ r.2.mem ((c.tc : Thread Cert.ROddInIdeal.nD Cert.ROddInIdeal.τ).loc Cert.ROddInIdeal.main_arg2) = m' ((c.tc : Thread Cert.ROddInIdeal.nD Cert.ROddInIdeal.τ).loc Cert.ROddInIdeal.main_arg2)
          ∧ r.2.mem ((c.tc : Thread Cert.ROddInIdeal.nD Cert.ROddInIdeal.τ).loc Cert.ROddInIdeal.main_arg3) = m' ((c.tc : Thread Cert.ROddInIdeal.nD Cert.ROddInIdeal.τ).loc Cert.ROddInIdeal.main_arg3))

def preserves_KEvenIn_KEvenInIdeal : Prop :=
  True

def algebraic_KEvenInIdeal_REvenInIdeal [hKEvenInIdeal : Cert.KEvenInIdeal.Facts] [hREvenInIdeal : Cert.REvenInIdeal.Facts] : Prop :=
  ∀ (m : (ℓ : Loc Cert.KEvenInIdeal.nD Cert.KEvenInIdeal.τ Cert.KEvenInIdeal.sig) → Buf (Elt Ideal) ℓ) (g : Dev Cert.KEvenInIdeal.nD → PrngReg)
    (m' : (ℓ : Loc Cert.REvenInIdeal.nD Cert.REvenInIdeal.τ Cert.REvenInIdeal.sig) → Buf (Elt Ideal) ℓ) (g' : Dev Cert.REvenInIdeal.nD → PrngReg), Pre_KEvenInIdeal m →
    (∀ c : Dev Cert.KEvenInIdeal.nD,
      m' ((c.tc : Thread Cert.REvenInIdeal.nD Cert.REvenInIdeal.τ).loc Cert.REvenInIdeal.main_arg0) = m ((c.tc : Thread Cert.KEvenInIdeal.nD Cert.KEvenInIdeal.τ).loc Cert.KEvenInIdeal.main_arg0)
      ∧ m' ((c.tc : Thread Cert.REvenInIdeal.nD Cert.REvenInIdeal.τ).loc Cert.REvenInIdeal.main_arg1) = m ((c.tc : Thread Cert.KEvenInIdeal.nD Cert.KEvenInIdeal.τ).loc Cert.KEvenInIdeal.main_arg1)
      ∧ m' ((c.tc : Thread Cert.REvenInIdeal.nD Cert.REvenInIdeal.τ).loc Cert.REvenInIdeal.main_arg2) = m ((c.tc : Thread Cert.KEvenInIdeal.nD Cert.KEvenInIdeal.τ).loc Cert.KEvenInIdeal.main_arg2)
      ∧ m' ((c.tc : Thread Cert.REvenInIdeal.nD Cert.REvenInIdeal.τ).loc Cert.REvenInIdeal.main_arg3) = m ((c.tc : Thread Cert.KEvenInIdeal.nD Cert.KEvenInIdeal.τ).loc Cert.KEvenInIdeal.main_arg3)) →
    ∃ (v0 : (c : Dev Cert.KEvenInIdeal.nD) → Buf (Elt Ideal) ((c.tc : Thread Cert.KEvenInIdeal.nD Cert.KEvenInIdeal.τ).loc Cert.KEvenInIdeal.main_v23_0)) (v1 : (c : Dev Cert.KEvenInIdeal.nD) → Buf (Elt Ideal) ((c.tc : Thread Cert.KEvenInIdeal.nD Cert.KEvenInIdeal.τ).loc Cert.KEvenInIdeal.main_v23_1)) (v2 : (c : Dev Cert.KEvenInIdeal.nD) → Buf (Elt Ideal) ((c.tc : Thread Cert.KEvenInIdeal.nD Cert.KEvenInIdeal.τ).loc Cert.KEvenInIdeal.main_v23_2)) (v3 : (c : Dev Cert.KEvenInIdeal.nD) → Buf (Elt Ideal) ((c.tc : Thread Cert.KEvenInIdeal.nD Cert.KEvenInIdeal.τ).loc Cert.KEvenInIdeal.main_v23_3)) (v4 : (c : Dev Cert.KEvenInIdeal.nD) → Buf (Elt Ideal) ((c.tc : Thread Cert.KEvenInIdeal.nD Cert.KEvenInIdeal.τ).loc Cert.KEvenInIdeal.main_v23_4)) (v5 : (c : Dev Cert.KEvenInIdeal.nD) → Buf (Elt Ideal) ((c.tc : Thread Cert.KEvenInIdeal.nD Cert.KEvenInIdeal.τ).loc Cert.KEvenInIdeal.main_v23_5)),
      θ_run (Cert.KEvenInIdeal.defs (F := Ideal)) (onTc (τ := Cert.KEvenInIdeal.τ) (Cert.KEvenInIdeal.main (F := Ideal))) ⟨m, fun _ => 0, g⟩ (fun r => ∀ c : Dev Cert.KEvenInIdeal.nD,
          r.2.mem ((c.tc : Thread Cert.KEvenInIdeal.nD Cert.KEvenInIdeal.τ).loc Cert.KEvenInIdeal.main_v23_0) = v0 c
          ∧ r.2.mem ((c.tc : Thread Cert.KEvenInIdeal.nD Cert.KEvenInIdeal.τ).loc Cert.KEvenInIdeal.main_v23_1) = v1 c
          ∧ r.2.mem ((c.tc : Thread Cert.KEvenInIdeal.nD Cert.KEvenInIdeal.τ).loc Cert.KEvenInIdeal.main_v23_2) = v2 c
          ∧ r.2.mem ((c.tc : Thread Cert.KEvenInIdeal.nD Cert.KEvenInIdeal.τ).loc Cert.KEvenInIdeal.main_v23_3) = v3 c
          ∧ r.2.mem ((c.tc : Thread Cert.KEvenInIdeal.nD Cert.KEvenInIdeal.τ).loc Cert.KEvenInIdeal.main_v23_4) = v4 c
          ∧ r.2.mem ((c.tc : Thread Cert.KEvenInIdeal.nD Cert.KEvenInIdeal.τ).loc Cert.KEvenInIdeal.main_v23_5) = v5 c
          ∧ r.2.mem ((c.tc : Thread Cert.KEvenInIdeal.nD Cert.KEvenInIdeal.τ).loc Cert.KEvenInIdeal.main_arg0) = m ((c.tc : Thread Cert.KEvenInIdeal.nD Cert.KEvenInIdeal.τ).loc Cert.KEvenInIdeal.main_arg0)
          ∧ r.2.mem ((c.tc : Thread Cert.KEvenInIdeal.nD Cert.KEvenInIdeal.τ).loc Cert.KEvenInIdeal.main_arg1) = m ((c.tc : Thread Cert.KEvenInIdeal.nD Cert.KEvenInIdeal.τ).loc Cert.KEvenInIdeal.main_arg1)
          ∧ r.2.mem ((c.tc : Thread Cert.KEvenInIdeal.nD Cert.KEvenInIdeal.τ).loc Cert.KEvenInIdeal.main_arg2) = m ((c.tc : Thread Cert.KEvenInIdeal.nD Cert.KEvenInIdeal.τ).loc Cert.KEvenInIdeal.main_arg2)
          ∧ r.2.mem ((c.tc : Thread Cert.KEvenInIdeal.nD Cert.KEvenInIdeal.τ).loc Cert.KEvenInIdeal.main_arg3) = m ((c.tc : Thread Cert.KEvenInIdeal.nD Cert.KEvenInIdeal.τ).loc Cert.KEvenInIdeal.main_arg3))
      ∧ θ_run (Cert.REvenInIdeal.defs (F := Ideal)) (onTc (τ := Cert.REvenInIdeal.τ) (Cert.REvenInIdeal.main (F := Ideal))) ⟨m', fun _ => 0, g'⟩ (fun r => ∀ c : Dev Cert.REvenInIdeal.nD,
          r.2.mem ((c.tc : Thread Cert.REvenInIdeal.nD Cert.REvenInIdeal.τ).loc Cert.REvenInIdeal.main_v35) = v0 c
          ∧ r.2.mem ((c.tc : Thread Cert.REvenInIdeal.nD Cert.REvenInIdeal.τ).loc Cert.REvenInIdeal.main_v26) = v1 c
          ∧ r.2.mem ((c.tc : Thread Cert.REvenInIdeal.nD Cert.REvenInIdeal.τ).loc Cert.REvenInIdeal.main_v37) = v2 c
          ∧ r.2.mem ((c.tc : Thread Cert.REvenInIdeal.nD Cert.REvenInIdeal.τ).loc Cert.REvenInIdeal.main_v38) = v3 c
          ∧ r.2.mem ((c.tc : Thread Cert.REvenInIdeal.nD Cert.REvenInIdeal.τ).loc Cert.REvenInIdeal.main_v30) = v4 c
          ∧ r.2.mem ((c.tc : Thread Cert.REvenInIdeal.nD Cert.REvenInIdeal.τ).loc Cert.REvenInIdeal.main_v39) = v5 c
          ∧ r.2.mem ((c.tc : Thread Cert.REvenInIdeal.nD Cert.REvenInIdeal.τ).loc Cert.REvenInIdeal.main_arg0) = m' ((c.tc : Thread Cert.REvenInIdeal.nD Cert.REvenInIdeal.τ).loc Cert.REvenInIdeal.main_arg0)
          ∧ r.2.mem ((c.tc : Thread Cert.REvenInIdeal.nD Cert.REvenInIdeal.τ).loc Cert.REvenInIdeal.main_arg1) = m' ((c.tc : Thread Cert.REvenInIdeal.nD Cert.REvenInIdeal.τ).loc Cert.REvenInIdeal.main_arg1)
          ∧ r.2.mem ((c.tc : Thread Cert.REvenInIdeal.nD Cert.REvenInIdeal.τ).loc Cert.REvenInIdeal.main_arg2) = m' ((c.tc : Thread Cert.REvenInIdeal.nD Cert.REvenInIdeal.τ).loc Cert.REvenInIdeal.main_arg2)
          ∧ r.2.mem ((c.tc : Thread Cert.REvenInIdeal.nD Cert.REvenInIdeal.τ).loc Cert.REvenInIdeal.main_arg3) = m' ((c.tc : Thread Cert.REvenInIdeal.nD Cert.REvenInIdeal.τ).loc Cert.REvenInIdeal.main_arg3))

def preserves_KEvenOut_KEvenOutIdeal : Prop :=
  True

def algebraic_KEvenOutIdeal_REvenOutIdeal [hKEvenOutIdeal : Cert.KEvenOutIdeal.Facts] [hREvenOutIdeal : Cert.REvenOutIdeal.Facts] : Prop :=
  ∀ (m : (ℓ : Loc Cert.KEvenOutIdeal.nD Cert.KEvenOutIdeal.τ Cert.KEvenOutIdeal.sig) → Buf (Elt Ideal) ℓ) (g : Dev Cert.KEvenOutIdeal.nD → PrngReg)
    (m' : (ℓ : Loc Cert.REvenOutIdeal.nD Cert.REvenOutIdeal.τ Cert.REvenOutIdeal.sig) → Buf (Elt Ideal) ℓ) (g' : Dev Cert.REvenOutIdeal.nD → PrngReg), Pre_KEvenOutIdeal m →
    (∀ c : Dev Cert.KEvenOutIdeal.nD,
      m' ((c.tc : Thread Cert.REvenOutIdeal.nD Cert.REvenOutIdeal.τ).loc Cert.REvenOutIdeal.main_arg0) = m ((c.tc : Thread Cert.KEvenOutIdeal.nD Cert.KEvenOutIdeal.τ).loc Cert.KEvenOutIdeal.main_arg0)
      ∧ m' ((c.tc : Thread Cert.REvenOutIdeal.nD Cert.REvenOutIdeal.τ).loc Cert.REvenOutIdeal.main_arg1) = m ((c.tc : Thread Cert.KEvenOutIdeal.nD Cert.KEvenOutIdeal.τ).loc Cert.KEvenOutIdeal.main_arg1)
      ∧ m' ((c.tc : Thread Cert.REvenOutIdeal.nD Cert.REvenOutIdeal.τ).loc Cert.REvenOutIdeal.main_arg2) = m ((c.tc : Thread Cert.KEvenOutIdeal.nD Cert.KEvenOutIdeal.τ).loc Cert.KEvenOutIdeal.main_arg2)
      ∧ m' ((c.tc : Thread Cert.REvenOutIdeal.nD Cert.REvenOutIdeal.τ).loc Cert.REvenOutIdeal.main_arg3) = m ((c.tc : Thread Cert.KEvenOutIdeal.nD Cert.KEvenOutIdeal.τ).loc Cert.KEvenOutIdeal.main_arg3)
      ∧ m' ((c.tc : Thread Cert.REvenOutIdeal.nD Cert.REvenOutIdeal.τ).loc Cert.REvenOutIdeal.main_arg4) = m ((c.tc : Thread Cert.KEvenOutIdeal.nD Cert.KEvenOutIdeal.τ).loc Cert.KEvenOutIdeal.main_arg4)
      ∧ m' ((c.tc : Thread Cert.REvenOutIdeal.nD Cert.REvenOutIdeal.τ).loc Cert.REvenOutIdeal.main_arg5) = m ((c.tc : Thread Cert.KEvenOutIdeal.nD Cert.KEvenOutIdeal.τ).loc Cert.KEvenOutIdeal.main_arg5)
      ∧ m' ((c.tc : Thread Cert.REvenOutIdeal.nD Cert.REvenOutIdeal.τ).loc Cert.REvenOutIdeal.main_arg6) = m ((c.tc : Thread Cert.KEvenOutIdeal.nD Cert.KEvenOutIdeal.τ).loc Cert.KEvenOutIdeal.main_arg6)
      ∧ m' ((c.tc : Thread Cert.REvenOutIdeal.nD Cert.REvenOutIdeal.τ).loc Cert.REvenOutIdeal.main_arg7) = m ((c.tc : Thread Cert.KEvenOutIdeal.nD Cert.KEvenOutIdeal.τ).loc Cert.KEvenOutIdeal.main_arg7)) →
    ∃ (v0 : (c : Dev Cert.KEvenOutIdeal.nD) → Buf (Elt Ideal) ((c.tc : Thread Cert.KEvenOutIdeal.nD Cert.KEvenOutIdeal.τ).loc Cert.KEvenOutIdeal.main_v4)),
      θ_run (Cert.KEvenOutIdeal.defs (F := Ideal)) (onTc (τ := Cert.KEvenOutIdeal.τ) (Cert.KEvenOutIdeal.main (F := Ideal))) ⟨m, fun _ => 0, g⟩ (fun r => ∀ c : Dev Cert.KEvenOutIdeal.nD,
          r.2.mem ((c.tc : Thread Cert.KEvenOutIdeal.nD Cert.KEvenOutIdeal.τ).loc Cert.KEvenOutIdeal.main_v4) = v0 c
          ∧ r.2.mem ((c.tc : Thread Cert.KEvenOutIdeal.nD Cert.KEvenOutIdeal.τ).loc Cert.KEvenOutIdeal.main_arg0) = m ((c.tc : Thread Cert.KEvenOutIdeal.nD Cert.KEvenOutIdeal.τ).loc Cert.KEvenOutIdeal.main_arg0)
          ∧ r.2.mem ((c.tc : Thread Cert.KEvenOutIdeal.nD Cert.KEvenOutIdeal.τ).loc Cert.KEvenOutIdeal.main_arg1) = m ((c.tc : Thread Cert.KEvenOutIdeal.nD Cert.KEvenOutIdeal.τ).loc Cert.KEvenOutIdeal.main_arg1)
          ∧ r.2.mem ((c.tc : Thread Cert.KEvenOutIdeal.nD Cert.KEvenOutIdeal.τ).loc Cert.KEvenOutIdeal.main_arg2) = m ((c.tc : Thread Cert.KEvenOutIdeal.nD Cert.KEvenOutIdeal.τ).loc Cert.KEvenOutIdeal.main_arg2)
          ∧ r.2.mem ((c.tc : Thread Cert.KEvenOutIdeal.nD Cert.KEvenOutIdeal.τ).loc Cert.KEvenOutIdeal.main_arg3) = m ((c.tc : Thread Cert.KEvenOutIdeal.nD Cert.KEvenOutIdeal.τ).loc Cert.KEvenOutIdeal.main_arg3)
          ∧ r.2.mem ((c.tc : Thread Cert.KEvenOutIdeal.nD Cert.KEvenOutIdeal.τ).loc Cert.KEvenOutIdeal.main_arg4) = m ((c.tc : Thread Cert.KEvenOutIdeal.nD Cert.KEvenOutIdeal.τ).loc Cert.KEvenOutIdeal.main_arg4)
          ∧ r.2.mem ((c.tc : Thread Cert.KEvenOutIdeal.nD Cert.KEvenOutIdeal.τ).loc Cert.KEvenOutIdeal.main_arg5) = m ((c.tc : Thread Cert.KEvenOutIdeal.nD Cert.KEvenOutIdeal.τ).loc Cert.KEvenOutIdeal.main_arg5)
          ∧ r.2.mem ((c.tc : Thread Cert.KEvenOutIdeal.nD Cert.KEvenOutIdeal.τ).loc Cert.KEvenOutIdeal.main_arg6) = m ((c.tc : Thread Cert.KEvenOutIdeal.nD Cert.KEvenOutIdeal.τ).loc Cert.KEvenOutIdeal.main_arg6)
          ∧ r.2.mem ((c.tc : Thread Cert.KEvenOutIdeal.nD Cert.KEvenOutIdeal.τ).loc Cert.KEvenOutIdeal.main_arg7) = m ((c.tc : Thread Cert.KEvenOutIdeal.nD Cert.KEvenOutIdeal.τ).loc Cert.KEvenOutIdeal.main_arg7))
      ∧ θ_run (Cert.REvenOutIdeal.defs (F := Ideal)) (onTc (τ := Cert.REvenOutIdeal.τ) (Cert.REvenOutIdeal.main (F := Ideal))) ⟨m', fun _ => 0, g'⟩ (fun r => ∀ c : Dev Cert.REvenOutIdeal.nD,
          r.2.mem ((c.tc : Thread Cert.REvenOutIdeal.nD Cert.REvenOutIdeal.τ).loc Cert.REvenOutIdeal.main_v18) = v0 c
          ∧ r.2.mem ((c.tc : Thread Cert.REvenOutIdeal.nD Cert.REvenOutIdeal.τ).loc Cert.REvenOutIdeal.main_arg0) = m' ((c.tc : Thread Cert.REvenOutIdeal.nD Cert.REvenOutIdeal.τ).loc Cert.REvenOutIdeal.main_arg0)
          ∧ r.2.mem ((c.tc : Thread Cert.REvenOutIdeal.nD Cert.REvenOutIdeal.τ).loc Cert.REvenOutIdeal.main_arg1) = m' ((c.tc : Thread Cert.REvenOutIdeal.nD Cert.REvenOutIdeal.τ).loc Cert.REvenOutIdeal.main_arg1)
          ∧ r.2.mem ((c.tc : Thread Cert.REvenOutIdeal.nD Cert.REvenOutIdeal.τ).loc Cert.REvenOutIdeal.main_arg2) = m' ((c.tc : Thread Cert.REvenOutIdeal.nD Cert.REvenOutIdeal.τ).loc Cert.REvenOutIdeal.main_arg2)
          ∧ r.2.mem ((c.tc : Thread Cert.REvenOutIdeal.nD Cert.REvenOutIdeal.τ).loc Cert.REvenOutIdeal.main_arg3) = m' ((c.tc : Thread Cert.REvenOutIdeal.nD Cert.REvenOutIdeal.τ).loc Cert.REvenOutIdeal.main_arg3)
          ∧ r.2.mem ((c.tc : Thread Cert.REvenOutIdeal.nD Cert.REvenOutIdeal.τ).loc Cert.REvenOutIdeal.main_arg4) = m' ((c.tc : Thread Cert.REvenOutIdeal.nD Cert.REvenOutIdeal.τ).loc Cert.REvenOutIdeal.main_arg4)
          ∧ r.2.mem ((c.tc : Thread Cert.REvenOutIdeal.nD Cert.REvenOutIdeal.τ).loc Cert.REvenOutIdeal.main_arg5) = m' ((c.tc : Thread Cert.REvenOutIdeal.nD Cert.REvenOutIdeal.τ).loc Cert.REvenOutIdeal.main_arg5)
          ∧ r.2.mem ((c.tc : Thread Cert.REvenOutIdeal.nD Cert.REvenOutIdeal.τ).loc Cert.REvenOutIdeal.main_arg6) = m' ((c.tc : Thread Cert.REvenOutIdeal.nD Cert.REvenOutIdeal.τ).loc Cert.REvenOutIdeal.main_arg6)
          ∧ r.2.mem ((c.tc : Thread Cert.REvenOutIdeal.nD Cert.REvenOutIdeal.τ).loc Cert.REvenOutIdeal.main_arg7) = m' ((c.tc : Thread Cert.REvenOutIdeal.nD Cert.REvenOutIdeal.τ).loc Cert.REvenOutIdeal.main_arg7))

def preserves_KOddOut_KOddOutIdeal : Prop :=
  True

def algebraic_KOddOutIdeal_ROddOutIdeal [hKOddOutIdeal : Cert.KOddOutIdeal.Facts] [hROddOutIdeal : Cert.ROddOutIdeal.Facts] : Prop :=
  ∀ (m : (ℓ : Loc Cert.KOddOutIdeal.nD Cert.KOddOutIdeal.τ Cert.KOddOutIdeal.sig) → Buf (Elt Ideal) ℓ) (g : Dev Cert.KOddOutIdeal.nD → PrngReg)
    (m' : (ℓ : Loc Cert.ROddOutIdeal.nD Cert.ROddOutIdeal.τ Cert.ROddOutIdeal.sig) → Buf (Elt Ideal) ℓ) (g' : Dev Cert.ROddOutIdeal.nD → PrngReg), Pre_KOddOutIdeal m →
    (∀ c : Dev Cert.KOddOutIdeal.nD,
      m' ((c.tc : Thread Cert.ROddOutIdeal.nD Cert.ROddOutIdeal.τ).loc Cert.ROddOutIdeal.main_arg0) = m ((c.tc : Thread Cert.KOddOutIdeal.nD Cert.KOddOutIdeal.τ).loc Cert.KOddOutIdeal.main_arg0)
      ∧ m' ((c.tc : Thread Cert.ROddOutIdeal.nD Cert.ROddOutIdeal.τ).loc Cert.ROddOutIdeal.main_arg1) = m ((c.tc : Thread Cert.KOddOutIdeal.nD Cert.KOddOutIdeal.τ).loc Cert.KOddOutIdeal.main_arg1)
      ∧ m' ((c.tc : Thread Cert.ROddOutIdeal.nD Cert.ROddOutIdeal.τ).loc Cert.ROddOutIdeal.main_arg2) = m ((c.tc : Thread Cert.KOddOutIdeal.nD Cert.KOddOutIdeal.τ).loc Cert.KOddOutIdeal.main_arg2)
      ∧ m' ((c.tc : Thread Cert.ROddOutIdeal.nD Cert.ROddOutIdeal.τ).loc Cert.ROddOutIdeal.main_arg3) = m ((c.tc : Thread Cert.KOddOutIdeal.nD Cert.KOddOutIdeal.τ).loc Cert.KOddOutIdeal.main_arg3)
      ∧ m' ((c.tc : Thread Cert.ROddOutIdeal.nD Cert.ROddOutIdeal.τ).loc Cert.ROddOutIdeal.main_arg4) = m ((c.tc : Thread Cert.KOddOutIdeal.nD Cert.KOddOutIdeal.τ).loc Cert.KOddOutIdeal.main_arg4)
      ∧ m' ((c.tc : Thread Cert.ROddOutIdeal.nD Cert.ROddOutIdeal.τ).loc Cert.ROddOutIdeal.main_arg5) = m ((c.tc : Thread Cert.KOddOutIdeal.nD Cert.KOddOutIdeal.τ).loc Cert.KOddOutIdeal.main_arg5)
      ∧ m' ((c.tc : Thread Cert.ROddOutIdeal.nD Cert.ROddOutIdeal.τ).loc Cert.ROddOutIdeal.main_arg6) = m ((c.tc : Thread Cert.KOddOutIdeal.nD Cert.KOddOutIdeal.τ).loc Cert.KOddOutIdeal.main_arg6)
      ∧ m' ((c.tc : Thread Cert.ROddOutIdeal.nD Cert.ROddOutIdeal.τ).loc Cert.ROddOutIdeal.main_arg7) = m ((c.tc : Thread Cert.KOddOutIdeal.nD Cert.KOddOutIdeal.τ).loc Cert.KOddOutIdeal.main_arg7)) →
    ∃ (v0 : (c : Dev Cert.KOddOutIdeal.nD) → Buf (Elt Ideal) ((c.tc : Thread Cert.KOddOutIdeal.nD Cert.KOddOutIdeal.τ).loc Cert.KOddOutIdeal.main_v3)),
      θ_run (Cert.KOddOutIdeal.defs (F := Ideal)) (onTc (τ := Cert.KOddOutIdeal.τ) (Cert.KOddOutIdeal.main (F := Ideal))) ⟨m, fun _ => 0, g⟩ (fun r => ∀ c : Dev Cert.KOddOutIdeal.nD,
          r.2.mem ((c.tc : Thread Cert.KOddOutIdeal.nD Cert.KOddOutIdeal.τ).loc Cert.KOddOutIdeal.main_v3) = v0 c
          ∧ r.2.mem ((c.tc : Thread Cert.KOddOutIdeal.nD Cert.KOddOutIdeal.τ).loc Cert.KOddOutIdeal.main_arg0) = m ((c.tc : Thread Cert.KOddOutIdeal.nD Cert.KOddOutIdeal.τ).loc Cert.KOddOutIdeal.main_arg0)
          ∧ r.2.mem ((c.tc : Thread Cert.KOddOutIdeal.nD Cert.KOddOutIdeal.τ).loc Cert.KOddOutIdeal.main_arg1) = m ((c.tc : Thread Cert.KOddOutIdeal.nD Cert.KOddOutIdeal.τ).loc Cert.KOddOutIdeal.main_arg1)
          ∧ r.2.mem ((c.tc : Thread Cert.KOddOutIdeal.nD Cert.KOddOutIdeal.τ).loc Cert.KOddOutIdeal.main_arg2) = m ((c.tc : Thread Cert.KOddOutIdeal.nD Cert.KOddOutIdeal.τ).loc Cert.KOddOutIdeal.main_arg2)
          ∧ r.2.mem ((c.tc : Thread Cert.KOddOutIdeal.nD Cert.KOddOutIdeal.τ).loc Cert.KOddOutIdeal.main_arg3) = m ((c.tc : Thread Cert.KOddOutIdeal.nD Cert.KOddOutIdeal.τ).loc Cert.KOddOutIdeal.main_arg3)
          ∧ r.2.mem ((c.tc : Thread Cert.KOddOutIdeal.nD Cert.KOddOutIdeal.τ).loc Cert.KOddOutIdeal.main_arg4) = m ((c.tc : Thread Cert.KOddOutIdeal.nD Cert.KOddOutIdeal.τ).loc Cert.KOddOutIdeal.main_arg4)
          ∧ r.2.mem ((c.tc : Thread Cert.KOddOutIdeal.nD Cert.KOddOutIdeal.τ).loc Cert.KOddOutIdeal.main_arg5) = m ((c.tc : Thread Cert.KOddOutIdeal.nD Cert.KOddOutIdeal.τ).loc Cert.KOddOutIdeal.main_arg5)
          ∧ r.2.mem ((c.tc : Thread Cert.KOddOutIdeal.nD Cert.KOddOutIdeal.τ).loc Cert.KOddOutIdeal.main_arg6) = m ((c.tc : Thread Cert.KOddOutIdeal.nD Cert.KOddOutIdeal.τ).loc Cert.KOddOutIdeal.main_arg6)
          ∧ r.2.mem ((c.tc : Thread Cert.KOddOutIdeal.nD Cert.KOddOutIdeal.τ).loc Cert.KOddOutIdeal.main_arg7) = m ((c.tc : Thread Cert.KOddOutIdeal.nD Cert.KOddOutIdeal.τ).loc Cert.KOddOutIdeal.main_arg7))
      ∧ θ_run (Cert.ROddOutIdeal.defs (F := Ideal)) (onTc (τ := Cert.ROddOutIdeal.τ) (Cert.ROddOutIdeal.main (F := Ideal))) ⟨m', fun _ => 0, g'⟩ (fun r => ∀ c : Dev Cert.ROddOutIdeal.nD,
          r.2.mem ((c.tc : Thread Cert.ROddOutIdeal.nD Cert.ROddOutIdeal.τ).loc Cert.ROddOutIdeal.main_v31) = v0 c
          ∧ r.2.mem ((c.tc : Thread Cert.ROddOutIdeal.nD Cert.ROddOutIdeal.τ).loc Cert.ROddOutIdeal.main_arg0) = m' ((c.tc : Thread Cert.ROddOutIdeal.nD Cert.ROddOutIdeal.τ).loc Cert.ROddOutIdeal.main_arg0)
          ∧ r.2.mem ((c.tc : Thread Cert.ROddOutIdeal.nD Cert.ROddOutIdeal.τ).loc Cert.ROddOutIdeal.main_arg1) = m' ((c.tc : Thread Cert.ROddOutIdeal.nD Cert.ROddOutIdeal.τ).loc Cert.ROddOutIdeal.main_arg1)
          ∧ r.2.mem ((c.tc : Thread Cert.ROddOutIdeal.nD Cert.ROddOutIdeal.τ).loc Cert.ROddOutIdeal.main_arg2) = m' ((c.tc : Thread Cert.ROddOutIdeal.nD Cert.ROddOutIdeal.τ).loc Cert.ROddOutIdeal.main_arg2)
          ∧ r.2.mem ((c.tc : Thread Cert.ROddOutIdeal.nD Cert.ROddOutIdeal.τ).loc Cert.ROddOutIdeal.main_arg3) = m' ((c.tc : Thread Cert.ROddOutIdeal.nD Cert.ROddOutIdeal.τ).loc Cert.ROddOutIdeal.main_arg3)
          ∧ r.2.mem ((c.tc : Thread Cert.ROddOutIdeal.nD Cert.ROddOutIdeal.τ).loc Cert.ROddOutIdeal.main_arg4) = m' ((c.tc : Thread Cert.ROddOutIdeal.nD Cert.ROddOutIdeal.τ).loc Cert.ROddOutIdeal.main_arg4)
          ∧ r.2.mem ((c.tc : Thread Cert.ROddOutIdeal.nD Cert.ROddOutIdeal.τ).loc Cert.ROddOutIdeal.main_arg5) = m' ((c.tc : Thread Cert.ROddOutIdeal.nD Cert.ROddOutIdeal.τ).loc Cert.ROddOutIdeal.main_arg5)
          ∧ r.2.mem ((c.tc : Thread Cert.ROddOutIdeal.nD Cert.ROddOutIdeal.τ).loc Cert.ROddOutIdeal.main_arg6) = m' ((c.tc : Thread Cert.ROddOutIdeal.nD Cert.ROddOutIdeal.τ).loc Cert.ROddOutIdeal.main_arg6)
          ∧ r.2.mem ((c.tc : Thread Cert.ROddOutIdeal.nD Cert.ROddOutIdeal.τ).loc Cert.ROddOutIdeal.main_arg7) = m' ((c.tc : Thread Cert.ROddOutIdeal.nD Cert.ROddOutIdeal.τ).loc Cert.ROddOutIdeal.main_arg7))

def Claim : Prop :=
  ∃ (hKAtt : Cert.KAtt.Facts) (hKAttIdeal : Cert.KAttIdeal.Facts) (hRAttIdeal : Cert.RAttIdeal.Facts) (hKGla : Cert.KGla.Facts) (hKGlaIdeal : Cert.KGlaIdeal.Facts) (hRGlaIdeal : Cert.RGlaIdeal.Facts) (hKOddIn : Cert.KOddIn.Facts) (hKOddInIdeal : Cert.KOddInIdeal.Facts) (hROddInIdeal : Cert.ROddInIdeal.Facts) (hKEvenIn : Cert.KEvenIn.Facts) (hKEvenInIdeal : Cert.KEvenInIdeal.Facts) (hREvenInIdeal : Cert.REvenInIdeal.Facts) (hKEvenOut : Cert.KEvenOut.Facts) (hKEvenOutIdeal : Cert.KEvenOutIdeal.Facts) (hREvenOutIdeal : Cert.REvenOutIdeal.Facts) (hKOddOut : Cert.KOddOut.Facts) (hKOddOutIdeal : Cert.KOddOutIdeal.Facts) (hROddOutIdeal : Cert.ROddOutIdeal.Facts) (hPre_att_finite : Cert.Pre_att_finite.Facts) (hPre_gla_finite : Cert.Pre_gla_finite.Facts),
    quiescent_KAtt (hKAtt := hKAtt)
    ∧ quiescent_KAttIdeal (hKAttIdeal := hKAttIdeal)
    ∧ quiescent_KAttIdeal_pre_att_finite (hKAttIdeal := hKAttIdeal) (hPre_att_finite := hPre_att_finite)
    ∧ quiescent_RAttIdeal (hRAttIdeal := hRAttIdeal)
    ∧ quiescent_RAttIdeal_pre_att_finite (hRAttIdeal := hRAttIdeal) (hPre_att_finite := hPre_att_finite)
    ∧ quiescent_KGla (hKGla := hKGla)
    ∧ quiescent_KGlaIdeal (hKGlaIdeal := hKGlaIdeal)
    ∧ quiescent_KGlaIdeal_pre_gla_finite (hKGlaIdeal := hKGlaIdeal) (hPre_gla_finite := hPre_gla_finite)
    ∧ quiescent_RGlaIdeal (hRGlaIdeal := hRGlaIdeal)
    ∧ quiescent_RGlaIdeal_pre_gla_finite (hRGlaIdeal := hRGlaIdeal) (hPre_gla_finite := hPre_gla_finite)
    ∧ quiescent_KOddIn (hKOddIn := hKOddIn)
    ∧ quiescent_KOddInIdeal (hKOddInIdeal := hKOddInIdeal)
    ∧ quiescent_ROddInIdeal (hROddInIdeal := hROddInIdeal)
    ∧ quiescent_KEvenIn (hKEvenIn := hKEvenIn)
    ∧ quiescent_KEvenInIdeal (hKEvenInIdeal := hKEvenInIdeal)
    ∧ quiescent_REvenInIdeal (hREvenInIdeal := hREvenInIdeal)
    ∧ quiescent_KEvenOut (hKEvenOut := hKEvenOut)
    ∧ quiescent_KEvenOutIdeal (hKEvenOutIdeal := hKEvenOutIdeal)
    ∧ quiescent_REvenOutIdeal (hREvenOutIdeal := hREvenOutIdeal)
    ∧ quiescent_KOddOut (hKOddOut := hKOddOut)
    ∧ quiescent_KOddOutIdeal (hKOddOutIdeal := hKOddOutIdeal)
    ∧ quiescent_ROddOutIdeal (hROddOutIdeal := hROddOutIdeal)
    ∧ preserves_KAtt_KAttIdeal
    ∧ algebraic_KAttIdeal_RAttIdeal_pre_att_finite (hKAttIdeal := hKAttIdeal) (hRAttIdeal := hRAttIdeal) (hPre_att_finite := hPre_att_finite)
    ∧ preserves_KGla_KGlaIdeal
    ∧ algebraic_KGlaIdeal_RGlaIdeal_pre_gla_finite (hKGlaIdeal := hKGlaIdeal) (hRGlaIdeal := hRGlaIdeal) (hPre_gla_finite := hPre_gla_finite)
    ∧ preserves_KOddIn_KOddInIdeal
    ∧ algebraic_KOddInIdeal_ROddInIdeal (hKOddInIdeal := hKOddInIdeal) (hROddInIdeal := hROddInIdeal)
    ∧ preserves_KEvenIn_KEvenInIdeal
    ∧ algebraic_KEvenInIdeal_REvenInIdeal (hKEvenInIdeal := hKEvenInIdeal) (hREvenInIdeal := hREvenInIdeal)
    ∧ preserves_KEvenOut_KEvenOutIdeal
    ∧ algebraic_KEvenOutIdeal_REvenOutIdeal (hKEvenOutIdeal := hKEvenOutIdeal) (hREvenOutIdeal := hREvenOutIdeal)
    ∧ preserves_KOddOut_KOddOutIdeal
    ∧ algebraic_KOddOutIdeal_ROddOutIdeal (hKOddOutIdeal := hKOddOutIdeal) (hROddOutIdeal := hROddOutIdeal)
-- ==== Pre_att_finite.lean ====
abbrev S32x256x512 : Shape := ⟨3, ![32, 256, 512]⟩
abbrev S32x256x256 : Shape := ⟨3, ![32, 256, 256]⟩
abbrev S64 : Shape := ⟨1, ![64]⟩
abbrev S8 : Shape := ⟨1, ![8]⟩
abbrev S32x256x2x2x64 : Shape := ⟨5, ![32, 256, 2, 2, 64]⟩
abbrev S32x256x2x1x64 : Shape := ⟨5, ![32, 256, 2, 1, 64]⟩
abbrev S32x256x2x64 : Shape := ⟨4, ![32, 256, 2, 64]⟩
abbrev S_ : Shape := ⟨0, ![]⟩

class Facts : Prop where
  shapeCasts_S32x256x256_S32x256x2x2x64 : S32x256x256.ShapeCasts S32x256x2x2x64
  slices_S32x256x2x2x64_S32x256x2x1x64_0_0_0_0_0 : S32x256x2x2x64.Slices ![0, 0, 0, 0, 0] S32x256x2x1x64
  shapeCasts_S32x256x2x1x64_S32x256x2x64 : S32x256x2x1x64.ShapeCasts S32x256x2x64
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x256x2x64 : S_.BroadcastsInDim S32x256x2x64 (![] : Fin 0 → Fin S32x256x2x64.rank)
  reducesTo_S32x256x2x64_S_d0_1_2_3 : S32x256x2x64.ReducesTo [0, 1, 2, 3] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v16 : IVec S_ 1) (main_v17 : FVec F S64 .f32) : IVec S_ 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v16 main_v20
  let main_v22 : FVec F S8 .f32 := Host.absf main_arg5
  let main_cst_6 : FVec F S_ .f32 := constant S_ .f32 0x7F800000#32
  let main_v23 : FVec F S8 .f32 := broadcastInDim S8 ![] bcast_S_S8 main_cst_6
  let main_v24 : IVec S8 1 := cmpf .olt main_v22 main_v23
  let main_c_7 : IVec S_ 1 := constantI S_ 1 1#1
  let main_v25 : IVec S_ 1 := (fun x v => Host.reduce IntOp.andi x v reducesTo_S8_S_d0 h_S_) main_v24 main_c_7
  let main_v26 : IVec S_ 1 := andi main_v21 main_v25
  main_v26

def fn {F : FTy → Type} [FloatOps F] (main_arg0 : FVec F S32x256x512 .f32) (main_arg1 : FVec F S32x256x256 .f32) (main_arg2 : FVec F S32x256x512 .f32) (main_arg3 : FVec F S64 .f32) (main_arg4 : FVec F S64 .f32) (main_arg5 : FVec F S8 .f32) : IVec S_ 1 :=
  let main_v0 : FVec F S32x256x2x2x64 .f32 := shapeCast S32x256x2x2x64 main_arg1 shapeCasts_S32x256x256_S32x256x2x2x64
  let main_v1 : FVec F S32x256x2x1x64 .f32 := (extractStridedSlice S32x256x2x1x64 ![0, 0, 0, 0, 0] · slices_S32x256x2x2x64_S32x256x2x1x64_0_0_0_0_0) main_v0
  let main_v2 : FVec F S32x256x2x64 .f32 := shapeCast S32x256x2x64 main_v1 shapeCasts_S32x256x2x1x64_S32x256x2x64
  let main_v3 : FVec F S32x256x512 .f32 := Host.absf main_arg0
  let main_cst : FVec F S_ .f32 := constant S_ .f32 0x7F800000#32
  let main_v4 : FVec F S32x256x512 .f32 := broadcastInDim S32x256x512 ![] bcast_S_S32x256x512 main_cst
  let main_v5 : IVec S32x256x512 1 := cmpf .olt main_v3 main_v4
  let main_c : IVec S_ 1 := constantI S_ 1 1#1
  let main_v6 : IVec S_ 1 := (fun x v => Host.reduce IntOp.andi x v reducesTo_S32x256x512_S_d0_1_2 h_S_) main_v5 main_c
  let main_v7 : FVec F S32x256x2x64 .f32 := Host.absf main_v2
  let main_cst_0 : FVec F S_ .f32 := constant S_ .f32 0x7F800000#32
  let main_v8 : FVec F S32x256x2x64 .f32 := broadcastInDim S32x256x2x64 ![] bcast_S_S32x256x2x64 main_cst_0
  let main_v9 : IVec S32x256x2x64 1 := cmpf .olt main_v7 main_v8
  let main_c_1 : IVec S_ 1 := constantI S_ 1 1#1
  let main_v10 : IVec S_ 1 := (fun x v => Host.reduce IntOp.andi x v reducesTo_S32x256x2x64_S_d0_1_2_3 h_S_) main_v9 main_c_1
  let main_v11 : IVec S_ 1 := andi main_v6 main_v10
  let main_v12 : FVec F S64 .f32 := Host.absf main_arg3
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_c_3 : IVec S_ 1 := constantI S_ 1 1#1
  let main_v15 : IVec S_ 1 := (fun x v => Host.reduce IntOp.andi x v reducesTo_S64_S_d0 h_S_) main_v14 main_c_3
  let main_v16 : IVec S_ 1 := andi main_v11 main_v15
  let main_v17 : FVec F S64 .f32 := Host.absf main_arg4
  fn_part1 (F := F) main_arg5 main_v16 main_v17
-- ==== Pre_gla_finite.lean ====
abbrev S32x256x512 : Shape := ⟨3, ![32, 256, 512]⟩
abbrev S32x256x128 : Shape := ⟨3, ![32, 256, 128]⟩
abbrev S2x16x256 : Shape := ⟨3, ![2, 16, 256]⟩
abbrev S2x256 : Shape := ⟨2, ![2, 256]⟩
abbrev S128 : Shape := ⟨1, ![128]⟩
abbrev S32x256x32 : Shape := ⟨3, ![32, 256, 32]⟩
abbrev S_ : Shape := ⟨0, ![]⟩

class Facts : Prop where
  slices_S32x256x128_S32x256x32_0_0_0 : S32x256x128.Slices ![0, 0, 0] S32x256x32
  bcast_S_S32x256x32 : S_.BroadcastsInDim S32x256x32 (![] : Fin 0 → Fin S32x256x32.rank)
  reducesTo_S32x256x32_S_d0_1_2 : S32x256x32.ReducesTo [0, 1, 2] S_
  h_S_ : 0 < S_.numel
  bcast_S_S2x16x256 : S_.BroadcastsInDim S2x16x256 (![] : Fin 0 → Fin S2x16x256.rank)
  reducesTo_S2x16x256_S_d0_1_2 : S2x16x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn {F : FTy → Type} [FloatOps F] (main_arg0 : FVec F S32x256x512 .f32) (main_arg1 : FVec F S32x256x512 .f32) (main_arg2 : FVec F S32x256x128 .f32) (main_arg3 : FVec F S32x256x512 .f32) (main_arg4 : FVec F S2x16x256 .f32) (main_arg5 : FVec F S2x256 .f32) (main_arg6 : FVec F S128 .f32) : IVec S_ 1 :=
  let main_v0 : FVec F S32x256x32 .f32 := (extractStridedSlice S32x256x32 ![0, 0, 0] · slices_S32x256x128_S32x256x32_0_0_0) main_arg2
  let main_v1 : FVec F S32x256x32 .f32 := Host.absf main_v0
  let main_cst : FVec F S_ .f32 := constant S_ .f32 0x7F800000#32
  let main_v2 : FVec F S32x256x32 .f32 := broadcastInDim S32x256x32 ![] bcast_S_S32x256x32 main_cst
  let main_v3 : IVec S32x256x32 1 := cmpf .olt main_v1 main_v2
  let main_c : IVec S_ 1 := constantI S_ 1 1#1
  let main_v4 : IVec S_ 1 := (fun x v => Host.reduce IntOp.andi x v reducesTo_S32x256x32_S_d0_1_2 h_S_) main_v3 main_c
  let main_v5 : FVec F S2x16x256 .f32 := Host.absf main_arg4
  let main_cst_0 : FVec F S_ .f32 := constant S_ .f32 0x7F800000#32
  let main_v6 : FVec F S2x16x256 .f32 := broadcastInDim S2x16x256 ![] bcast_S_S2x16x256 main_cst_0
  let main_v7 : IVec S2x16x256 1 := cmpf .olt main_v5 main_v6
  let main_c_1 : IVec S_ 1 := constantI S_ 1 1#1
  let main_v8 : IVec S_ 1 := (fun x v => Host.reduce IntOp.andi x v reducesTo_S2x16x256_S_d0_1_2 h_S_) main_v7 main_c_1
  let main_v9 : IVec S_ 1 := andi main_v4 main_v8
  let main_v10 : FVec F S2x256 .f32 := Host.absf main_arg5
  let main_cst_2 : FVec F S_ .f32 := constant S_ .f32 0x7F800000#32
  let main_v11 : FVec F S2x256 .f32 := broadcastInDim S2x256 ![] bcast_S_S2x256 main_cst_2
  let main_v12 : IVec S2x256 1 := cmpf .olt main_v10 main_v11
  let main_c_3 : IVec S_ 1 := constantI S_ 1 1#1
  let main_v13 : IVec S_ 1 := (fun x v => Host.reduce IntOp.andi x v reducesTo_S2x256_S_d0_1 h_S_) main_v12 main_c_3
  let main_v14 : IVec S_ 1 := andi main_v9 main_v13
  main_v14
-- ==== KAtt.lean ====
abbrev S32x256x512 : Shape := ⟨3, ![32, 256, 512]⟩
abbrev S32x256x256 : Shape := ⟨3, ![32, 256, 256]⟩
abbrev S64 : Shape := ⟨1, ![64]⟩
abbrev S8 : Shape := ⟨1, ![8]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S_ : Shape := ⟨0, ![]⟩
abbrev S128 : Shape := ⟨1, ![128]⟩
abbrev S1x128 : Shape := ⟨2, ![1, 128]⟩
abbrev S2x4x1 : Shape := ⟨3, ![2, 4, 1]⟩
abbrev S2x4x128 : Shape := ⟨3, ![2, 4, 128]⟩
abbrev S2x8x128 : Shape := ⟨3, ![2, 8, 128]⟩
abbrev S32x2x256x64 : Shape := ⟨4, ![32, 2, 256, 64]⟩
abbrev S1x256x256 : Shape := ⟨3, ![1, 256, 256]⟩
abbrev S1x256x128 : Shape := ⟨3, ![1, 256, 128]⟩
abbrev S1x8x128 : Shape := ⟨3, ![1, 8, 128]⟩
abbrev S1x1x256x64 : Shape := ⟨4, ![1, 1, 256, 64]⟩
abbrev S256x256 : Shape := ⟨2, ![256, 256]⟩
abbrev S256x1 : Shape := ⟨2, ![256, 1]⟩
abbrev S256x128 : Shape := ⟨2, ![256, 128]⟩
abbrev S256x64 : Shape := ⟨2, ![256, 64]⟩
abbrev S1x1x1 : Shape := ⟨3, ![1, 1, 1]⟩
abbrev S1x1 : Shape := ⟨2, ![1, 1]⟩

abbrev nBuf : Space → Nat
  | .hbm => 22
  | .vmem => 16
  | .smem => 0
  | _ => 0

abbrev bufTy : (tb : Table) → Fin (tcTables nBuf tb) → BufTy
  | .hbm, ⟨0, _⟩ => ⟨S32x256x512, .f32⟩
  | .hbm, ⟨1, _⟩ => ⟨S32x256x256, .f32⟩
  | .hbm, ⟨2, _⟩ => ⟨S32x256x512, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S_, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S2x4x1, .f32⟩
  | .hbm, ⟨15, _⟩ => ⟨S2x4x128, .f32⟩
  | .hbm, ⟨16, _⟩ => ⟨S_, .f32⟩
  | .hbm, ⟨17, _⟩ => ⟨S2x4x128, .f32⟩
  | .hbm, ⟨18, _⟩ => ⟨S2x8x128, .f32⟩
  | .hbm, ⟨19, _⟩ => ⟨S32x256x512, .f32⟩
  | .hbm, ⟨20, _⟩ => ⟨S32x2x256x64, .f32⟩
  | .hbm, ⟨21, _⟩ => ⟨S32x2x256x64, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S1x128, .f32⟩
  | .local _ .vmem, ⟨8, _⟩ => ⟨S1x8x128, .f32⟩
  | .local _ .vmem, ⟨9, _⟩ => ⟨S1x8x128, .f32⟩
  | .local _ .vmem, ⟨10, _⟩ => ⟨S1x256x256, .f32⟩
  | .local _ .vmem, ⟨11, _⟩ => ⟨S1x256x256, .f32⟩
  | .local _ .vmem, ⟨12, _⟩ => ⟨S1x1x256x64, .f32⟩
  | .local _ .vmem, ⟨13, _⟩ => ⟨S1x1x256x64, .f32⟩
  | .local _ .vmem, ⟨14, _⟩ => ⟨S1x1x256x64, .f32⟩
  | .local _ .vmem, ⟨15, _⟩ => ⟨S1x1x256x64, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RAttIdeal.lean ====
abbrev S32x256x512 : Shape := ⟨3, ![32, 256, 512]⟩
abbrev S32x256x256 : Shape := ⟨3, ![32, 256, 256]⟩
abbrev S64 : Shape := ⟨1, ![64]⟩
abbrev S8 : Shape := ⟨1, ![8]⟩
abbrev S32x256x2x2x64 : Shape := ⟨5, ![32, 256, 2, 2, 64]⟩
abbrev S32x256x2x4x64 : Shape := ⟨5, ![32, 256, 2, 4, 64]⟩
abbrev S_ : Shape := ⟨0, ![]⟩
abbrev S32x256x2x4 : Shape := ⟨4, ![32, 256, 2, 4]⟩
abbrev S32x256x2x4x1 : Shape := ⟨5, ![32, 256, 2, 4, 1]⟩
abbrev S1x1x1x1x64 : Shape := ⟨5, ![1, 1, 1, 1, 64]⟩
abbrev S32x2x4x256x64 : Shape := ⟨5, ![32, 2, 4, 256, 64]⟩
abbrev S32x256x2x1x64 : Shape := ⟨5, ![32, 256, 2, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S1x1x1x64 : Shape := ⟨4, ![1, 1, 1, 64]⟩
abbrev S32x2x256x64 : Shape := ⟨4, ![32, 2, 256, 64]⟩
abbrev S32x2x4x256x256 : Shape := ⟨5, ![32, 2, 4, 256, 256]⟩
abbrev S1x2x4x1x1 : Shape := ⟨5, ![1, 2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩

abbrev nBuf : Space → Nat
  | .hbm => 73
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x256, .f32⟩
  | .hbm, ⟨2, _⟩ => ⟨S32x256x512, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S32x256x2x2x64, .f32⟩
  | .hbm, ⟨7, _⟩ => ⟨S32x256x2x4x64, .f32⟩
  | .hbm, ⟨8, _⟩ => ⟨S32x256x2x4x64, .f32⟩
  | .hbm, ⟨9, _⟩ => ⟨S_, .f32⟩
  | .hbm, ⟨10, _⟩ => ⟨S32x256x2x4, .f32⟩
  | .hbm, ⟨11, _⟩ => ⟨S32x256x2x4x1, .f32⟩
  | .hbm, ⟨12, _⟩ => ⟨S_, .f32⟩
  | .hbm, ⟨13, _⟩ => ⟨S32x256x2x4x1, .f32⟩
  | .hbm, ⟨14, _⟩ => ⟨S32x256x2x4x1, .f32⟩
  | .hbm, ⟨15, _⟩ => ⟨S_, .f32⟩
  | .hbm, ⟨16, _⟩ => ⟨S32x256x2x4x1, .f32⟩
  | .hbm, ⟨17, _⟩ => ⟨S32x256x2x4x1, .f32⟩
  | .hbm, ⟨18, _⟩ => ⟨S32x256x2x4x1, .f32⟩
  | .hbm, ⟨19, _⟩ => ⟨S32x256x2x4x64, .f32⟩
  | .hbm, ⟨20, _⟩ => ⟨S32x256x2x4x64, .f32⟩
  | .hbm, ⟨21, _⟩ => ⟨S1x1x1x1x64, .f32⟩
  | .hbm, ⟨22, _⟩ => ⟨S32x256x2x4x64, .f32⟩
  | .hbm, ⟨23, _⟩ => ⟨S32x256x2x4x64, .f32⟩
  | .hbm, ⟨24, _⟩ => ⟨S32x2x4x256x64, .f32⟩
  | .hbm, ⟨25, _⟩ => ⟨S32x256x2x1x64, .f32⟩
  | .hbm, ⟨26, _⟩ => ⟨S32x256x2x64, .f32⟩
  | .hbm, ⟨27, _⟩ => ⟨S32x256x2x64, .f32⟩
  | .hbm, ⟨28, _⟩ => ⟨S_, .f32⟩
  | .hbm, ⟨29, _⟩ => ⟨S32x256x2, .f32⟩
  | .hbm, ⟨30, _⟩ => ⟨S32x256x2x1, .f32⟩
  | .hbm, ⟨31, _⟩ => ⟨S_, .f32⟩
  | .hbm, ⟨32, _⟩ => ⟨S32x256x2x1, .f32⟩
  | .hbm, ⟨33, _⟩ => ⟨S32x256x2x1, .f32⟩
  | .hbm, ⟨34, _⟩ => ⟨S_, .f32⟩
  | .hbm, ⟨35, _⟩ => ⟨S32x256x2x1, .f32⟩
  | .hbm, ⟨36, _⟩ => ⟨S32x256x2x1, .f32⟩
  | .hbm, ⟨37, _⟩ => ⟨S32x256x2x1, .f32⟩
  | .hbm, ⟨38, _⟩ => ⟨S32x256x2x64, .f32⟩
  | .hbm, ⟨39, _⟩ => ⟨S32x256x2x64, .f32⟩
  | .hbm, ⟨40, _⟩ => ⟨S1x1x1x64, .f32⟩
  | .hbm, ⟨41, _⟩ => ⟨S32x256x2x64, .f32⟩
  | .hbm, ⟨42, _⟩ => ⟨S32x256x2x64, .f32⟩
  | .hbm, ⟨43, _⟩ => ⟨S32x2x256x64, .f32⟩
  | .hbm, ⟨44, _⟩ => ⟨S32x256x2x1x64, .f32⟩
  | .hbm, ⟨45, _⟩ => ⟨S32x256x2x64, .f32⟩
  | .hbm, ⟨46, _⟩ => ⟨S32x2x256x64, .f32⟩
  | .hbm, ⟨47, _⟩ => ⟨S_, .f32⟩
  | .hbm, ⟨48, _⟩ => ⟨S32x2x4x256x64, .f32⟩
  | .hbm, ⟨49, _⟩ => ⟨S32x2x4x256x64, .f32⟩
  | .hbm, ⟨50, _⟩ => ⟨S32x2x4x256x256, .f32⟩
  | .hbm, ⟨51, _⟩ => ⟨S1x2x4x1x1, .f32⟩
  | .hbm, ⟨52, _⟩ => ⟨S32x2x4x256x1, .f32⟩
  | .hbm, ⟨53, _⟩ => ⟨S32x2x4x256x257, .f32⟩
  | .hbm, ⟨54, _⟩ => ⟨S_, .f32⟩
  | .hbm, ⟨55, _⟩ => ⟨S32x2x4x256, .f32⟩
  | .hbm, ⟨56, _⟩ => ⟨S_, .f32⟩
  | .hbm, ⟨57, _⟩ => ⟨S32x2x4x256, .f32⟩
  | .hbm, ⟨58, _⟩ => ⟨S32x2x4x256, .f32⟩
  | .hbm, ⟨59, _⟩ => ⟨S32x2x4x256x1, .f32⟩
  | .hbm, ⟨60, _⟩ => ⟨S32x2x4x256x257, .f32⟩
  | .hbm, ⟨61, _⟩ => ⟨S32x2x4x256x257, .f32⟩
  | .hbm, ⟨62, _⟩ => ⟨S32x2x4x256x257, .f32⟩
  | .hbm, ⟨63, _⟩ => ⟨S_, .f32⟩
  | .hbm, ⟨64, _⟩ => ⟨S32x2x4x256, .f32⟩
  | .hbm, ⟨65, _⟩ => ⟨S32x2x4x256x1, .f32⟩
  | .hbm, ⟨66, _⟩ => ⟨S32x2x4x256x257, .f32⟩
  | .hbm, ⟨67, _⟩ => ⟨S32x2x4x256x257, .f32⟩
  | .hbm, ⟨68, _⟩ => ⟨S32x2x4x256x256, .f32⟩
  | .hbm, ⟨69, _⟩ => ⟨S32x2x4x256x64, .f32⟩
  | .hbm, ⟨70, _⟩ => ⟨S32x256x2x4x64, .f32⟩
  | .hbm, ⟨71, _⟩ => ⟨S32x256x512, .f32⟩
  | .hbm, ⟨72, _⟩ => ⟨S32x256x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== KGla.lean ====
abbrev S32x256x512 : Shape := ⟨3, ![32, 256, 512]⟩
abbrev S32x256x128 : Shape := ⟨3, ![32, 256, 128]⟩
abbrev S2x16x256 : Shape := ⟨3, ![2, 16, 256]⟩
abbrev S2x256 : Shape := ⟨2, ![2, 256]⟩
abbrev S128 : Shape := ⟨1, ![128]⟩
abbrev S_ : Shape := ⟨0, ![]⟩
abbrev S128x128 : Shape := ⟨2, ![128, 128]⟩
abbrev S1x16x256 : Shape := ⟨3, ![1, 16, 256]⟩
abbrev S16x256 : Shape := ⟨2, ![16, 256]⟩
abbrev S16x64 : Shape := ⟨2, ![16, 64]⟩
abbrev S1 : Shape := ⟨1, ![1]⟩
abbrev S2 : Shape := ⟨1, ![2]⟩
abbrev S1x256 : Shape := ⟨2, ![1, 256]⟩
abbrev S256 : Shape := ⟨1, ![256]⟩
abbrev S64 : Shape := ⟨1, ![64]⟩
abbrev S1x128 : Shape := ⟨2, ![1, 128]⟩
abbrev S1x128x128 : Shape := ⟨3, ![1, 128, 128]⟩
abbrev S4x128x128 : Shape := ⟨3, ![4, 128, 128]⟩
abbrev S1x1x128 : Shape := ⟨3, ![1, 1, 128]⟩
abbrev S4x1x128 : Shape := ⟨3, ![4, 1, 128]⟩
abbrev S32x2x4x64x128 : Shape := ⟨5, ![32, 2, 4, 64, 128]⟩
abbrev S1x256x128 : Shape := ⟨3, ![1, 256, 128]⟩
abbrev S1x2x1x64x128 : Shape := ⟨5, ![1, 2, 1, 64, 128]⟩
abbrev S256x128 : Shape := ⟨2, ![256, 128]⟩
abbrev S64x64 : Shape := ⟨2, ![64, 64]⟩
abbrev S64x128 : Shape := ⟨2, ![64, 128]⟩
abbrev S1x64x128 : Shape := ⟨3, ![1, 64, 128]⟩
abbrev S128x64 : Shape := ⟨2, ![128, 64]⟩
abbrev S1x64 : Shape := ⟨2, ![1, 64]⟩
abbrev S1x1x1x64x128 : Shape := ⟨5, ![1, 1, 1, 64, 128]⟩
abbrev S64x1 : Shape := ⟨2, ![64, 1]⟩

abbrev nBuf : Space → Nat
  | .hbm => 132
  | .vmem => 20
  | .smem => 0
  | _ => 0

abbrev hbmTy0_0 (i : Nat) : BufTy := match i % 128 with
  | 0 => ⟨S32x256x512, .f32⟩
  | 1 => ⟨S32x256x512, .f32⟩
  | 2 => ⟨S32x256x128, .f32⟩
  | 3 => ⟨S32x256x512, .f32⟩
  | 4 => ⟨S2x16x256, .f32⟩
  | 5 => ⟨S2x256, .f32⟩
  | 6 => ⟨S128, .f32⟩
  | 7 => ⟨S_, .f32⟩
  | 8 => ⟨S128x128, .f32⟩
  | 9 => ⟨S1x16x256, .f32⟩
  | 10 => ⟨S16x256, .f32⟩
  | 11 => ⟨S16x64, .f32⟩
  | 12 => ⟨S_, .i32⟩
  | 13 => ⟨S1, .i32⟩
  | 14 => ⟨S_, .i32⟩
  | 15 => ⟨S1, .i32⟩
  | 16 => ⟨S2, .i32⟩
  | 17 => ⟨S128x128, .f32⟩
  | 18 => ⟨S1x16x256, .f32⟩
  | 19 => ⟨S16x256, .f32⟩
  | 20 => ⟨S16x64, .f32⟩
  | 21 => ⟨S_, .i32⟩
  | 22 => ⟨S1, .i32⟩
  | 23 => ⟨S_, .i32⟩
  | 24 => ⟨S1, .i32⟩
  | 25 => ⟨S2, .i32⟩
  | 26 => ⟨S128x128, .f32⟩
  | 27 => ⟨S1x256, .f32⟩
  | 28 => ⟨S256, .f32⟩
  | 29 => ⟨S64, .f32⟩
  | 30 => ⟨S1x256, .f32⟩
  | 31 => ⟨S256, .f32⟩
  | 32 => ⟨S64, .f32⟩
  | 33 => ⟨S128, .f32⟩
  | 34 => ⟨S1x128, .f32⟩
  | 35 => ⟨S_, .f32⟩
  | 36 => ⟨S128x128, .f32⟩
  | 37 => ⟨S1x16x256, .f32⟩
  | 38 => ⟨S16x256, .f32⟩
  | 39 => ⟨S16x64, .f32⟩
  | 40 => ⟨S_, .i32⟩
  | 41 => ⟨S1, .i32⟩
  | 42 => ⟨S_, .i32⟩
  | 43 => ⟨S1, .i32⟩
  | 44 => ⟨S2, .i32⟩
  | 45 => ⟨S128x128, .f32⟩
  | 46 => ⟨S1x16x256, .f32⟩
  | 47 => ⟨S16x256, .f32⟩
  | 48 => ⟨S16x64, .f32⟩
  | 49 => ⟨S_, .i32⟩
  | 50 => ⟨S1, .i32⟩
  | 51 => ⟨S_, .i32⟩
  | 52 => ⟨S1, .i32⟩
  | 53 => ⟨S2, .i32⟩
  | 54 => ⟨S128x128, .f32⟩
  | 55 => ⟨S1x256, .f32⟩
  | 56 => ⟨S256, .f32⟩
  | 57 => ⟨S64, .f32⟩
  | 58 => ⟨S1x256, .f32⟩
  | 59 => ⟨S256, .f32⟩
  | 60 => ⟨S64, .f32⟩
  | 61 => ⟨S128, .f32⟩
  | 62 => ⟨S1x128, .f32⟩
  | 63 => ⟨S_, .f32⟩
  | 64 => ⟨S128x128, .f32⟩
  | 65 => ⟨S1x16x256, .f32⟩
  | 66 => ⟨S16x256, .f32⟩
  | 67 => ⟨S16x64, .f32⟩
  | 68 => ⟨S_, .i32⟩
  | 69 => ⟨S1, .i32⟩
  | 70 => ⟨S_, .i32⟩
  | 71 => ⟨S1, .i32⟩
  | 72 => ⟨S2, .i32⟩
  | 73 => ⟨S128x128, .f32⟩
  | 74 => ⟨S1x16x256, .f32⟩
  | 75 => ⟨S16x256, .f32⟩
  | 76 => ⟨S16x64, .f32⟩
  | 77 => ⟨S_, .i32⟩
  | 78 => ⟨S1, .i32⟩
  | 79 => ⟨S_, .i32⟩
  | 80 => ⟨S1, .i32⟩
  | 81 => ⟨S2, .i32⟩
  | 82 => ⟨S128x128, .f32⟩
  | 83 => ⟨S1x256, .f32⟩
  | 84 => ⟨S256, .f32⟩
  | 85 => ⟨S64, .f32⟩
  | 86 => ⟨S1x256, .f32⟩
  | 87 => ⟨S256, .f32⟩
  | 88 => ⟨S64, .f32⟩
  | 89 => ⟨S128, .f32⟩
  | 90 => ⟨S1x128, .f32⟩
  | 91 => ⟨S_, .f32⟩
  | 92 => ⟨S128x128, .f32⟩
  | 93 => ⟨S1x16x256, .f32⟩
  | 94 => ⟨S16x256, .f32⟩
  | 95 => ⟨S16x64, .f32⟩
  | 96 => ⟨S_, .i32⟩
  | 97 => ⟨S1, .i32⟩
  | 98 => ⟨S_, .i32⟩
  | 99 => ⟨S1, .i32⟩
  | 100 => ⟨S2, .i32⟩
  | 101 => ⟨S128x128, .f32⟩
  | 102 => ⟨S1x16x256, .f32⟩
  | 103 => ⟨S16x256, .f32⟩
  | 104 => ⟨S16x64, .f32⟩
  | 105 => ⟨S_, .i32⟩
  | 106 => ⟨S1, .i32⟩
  | 107 => ⟨S_, .i32⟩
  | 108 => ⟨S1, .i32⟩
  | 109 => ⟨S2, .i32⟩
  | 110 => ⟨S128x128, .f32⟩
  | 111 => ⟨S1x256, .f32⟩
  | 112 => ⟨S256, .f32⟩
  | 113 => ⟨S64, .f32⟩
  | 114 => ⟨S1x256, .f32⟩
  | 115 => ⟨S256, .f32⟩
  | 116 => ⟨S64, .f32⟩
  | 117 => ⟨S128, .f32⟩
  | 118 => ⟨S1x128, .f32⟩
  | 119 => ⟨S1x128x128, .f32⟩
  | 120 => ⟨S1x128x128, .f32⟩
  | 121 => ⟨S1x128x128, .f32⟩
  | 122 => ⟨S1x128x128, .f32⟩
  | 123 => ⟨S4x128x128, .f32⟩
  | 124 => ⟨S1x1x128, .f32⟩
  | 125 => ⟨S1x1x128, .f32⟩
  | 126 => ⟨S1x1x128, .f32⟩
  | 127 => ⟨S1x1x128, .f32⟩
  | _ => ⟨S32x256x512, .f32⟩

abbrev hbmTy0_1 (i : Nat) : BufTy := match i % 128 with
  | 0 => ⟨S4x1x128, .f32⟩
  | 1 => ⟨S1x128, .f32⟩
  | 2 => ⟨S32x256x512, .f32⟩
  | 3 => ⟨S32x2x4x64x128, .f32⟩
  | _ => ⟨S32x256x512, .f32⟩

abbrev hbmTy (i : Nat) : BufTy := match i / 128 with
  | 0 => hbmTy0_0 i
  | 1 => hbmTy0_1 i
  | _ => ⟨S32x256x512, .f32⟩

abbrev bufTy : (tb : Table) → Fin (tcTables nBuf tb) → BufTy
  | .hbm, ⟨i, _⟩ => hbmTy i
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x256x128, .f32⟩
  | .local _ .vmem, ⟨11, _⟩ => ⟨S1x256x128, .f32⟩
  | .local _ .vmem, ⟨12, _⟩ => ⟨S1x128, .f32⟩
  | .local _ .vmem, ⟨13, _⟩ => ⟨S1x256x128, .f32⟩
  | .local _ .vmem, ⟨14, _⟩ => ⟨S1x256x128, .f32⟩
  | .local _ .vmem, ⟨15, _⟩ => ⟨S1x2x1x64x128, .f32⟩
  | .local _ .vmem, ⟨16, _⟩ => ⟨S1x2x1x64x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_c_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_16 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103_0 : Ref sig .tc := ⟨.hbm, 130, rfl⟩
abbrev main_v103_1 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32 : BitVec 32 := 64#32
  let v23 : BitVec 32 := Scalar.muli arg14 c64_i32
  v23
def k0_off1 (k0_t1 : Fin k0_t1_loop.trips) : Fin 3 → Nat :=
  let c0_18 : Index := 0#32
  let c0_i32 : BitVec 32 := 0#32
  let c1_i32 : BitVec 32 := 1#32
  let arg14 : BitVec 32 := Scf.iv c0_i32 c1_i32 k0_t1
  let c64_i32 : BitVec 32 := 64#32
  let v23 : BitVec 32 := Scalar.muli arg14 c64_i32
  let v24 : BitVec 32 := v23
  let v25 : Index := Scalar.indexCast v24
  let c0_19 : Index := 0#32
  ![0, v25.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c64_i32 : BitVec 32 := 64#32
  let v23 : BitVec 32 := Scalar.muli arg14 c64_i32
  let v24 : BitVec 32 := v23
  let v52 : Index := Scalar.indexCast v24
  let c0_34 : Index := 0#32
  ![v52.toNat, 0]
@[reducible] def k0_t2_loop : Scf.Loop 32 :=
  let c0_i32_2 : BitVec 32 := 0#32
  let c4_i32_3 : BitVec 32 := 4#32
  let v12 : BitVec 32 := Scalar.addi c0_i32_2 c4_i32_3
  let c1_i32_4 : BitVec 32 := 1#32
  ⟨c0_i32_2, v12, c1_i32_4⟩
def k0_mult2 (k0_t2 : Fin k0_t2_loop.trips) : BitVec 32 :=
  let c0_i32_2 : BitVec 32 := 0#32
  let c1_i32_4 : BitVec 32 := 1#32
  let arg14 : BitVec 32 := Scf.iv c0_i32_2 c1_i32_4 k0_t2
  let c64_i32 : BitVec 32 := 64#32
  let v23 : BitVec 32 := Scalar.muli arg14 c64_i32
  v23
def k0_off3 (k0_t2 : Fin k0_t2_loop.trips) : Fin 3 → Nat :=
  let c0_18 : Index := 0#32
  let c0_i32_2 : BitVec 32 := 0#32
  let c1_i32_4 : BitVec 32 := 1#32
  let arg14 : BitVec 32 := Scf.iv c0_i32_2 c1_i32_4 k0_t2
  let c64_i32 : BitVec 32 := 64#32
  let v23 : BitVec 32 := Scalar.muli arg14 c64_i32
  let v24 : BitVec 32 := v23
  let v25 : Index := Scalar.indexCast v24
  let c0_19 : Index := 0#32
  ![0, v25.toNat, 0]
def k0_off4 (k0_t2 : Fin k0_t2_loop.trips) : Fin 2 → Nat :=
  let c0_i32_2 : BitVec 32 := 0#32
  let c1_i32_4 : BitVec 32 := 1#32
  let arg14 : BitVec 32 := Scf.iv c0_i32_2 c1_i32_4 k0_t2
  let c64_i32 : BitVec 32 := 64#32
  let v23 : BitVec 32 := Scalar.muli arg14 c64_i32
  let v24 : BitVec 32 := v23
  let v35 : Index := Scalar.indexCast v24
  let c0_23 : Index := 0#32
  ![v35.toNat, 0]
def k0_mult3 (k0_t2 : Fin k0_t2_loop.trips) : BitVec 32 :=
  let c0_i32_2 : BitVec 32 := 0#32
  let c1_i32_4 : BitVec 32 := 1#32
  let arg14 : BitVec 32 := Scf.iv c0_i32_2 c1_i32_4 k0_t2
  let c64_i32_29 : BitVec 32 := 64#32
  let v74 : BitVec 32 := Scalar.muli arg14 c64_i32_29
  v74
def k0_mult4 (k0_t2 : Fin k0_t2_loop.trips) : BitVec 32 :=
  let c3_i32 : BitVec 32 := 3#32
  let c0_i32_2 : BitVec 32 := 0#32
  let c1_i32_4 : BitVec 32 := 1#32
  let arg14 : BitVec 32 := Scf.iv c0_i32_2 c1_i32_4 k0_t2
  let v80 : BitVec 32 := Scalar.subi c3_i32 arg14
  let c64_i32_31 : BitVec 32 := 64#32
  let v81 : BitVec 32 := Scalar.muli v80 c64_i32_31
  v81
def k0_off5 (k0_t2 : Fin k0_t2_loop.trips) : Fin 3 → Nat :=
  let c0_32 : Index := 0#32
  let c3_i32 : BitVec 32 := 3#32
  let c0_i32_2 : BitVec 32 := 0#32
  let c1_i32_4 : BitVec 32 := 1#32
  let arg14 : BitVec 32 := Scf.iv c0_i32_2 c1_i32_4 k0_t2
  let v80 : BitVec 32 := Scalar.subi c3_i32 arg14
  let c64_i32_31 : BitVec 32 := 64#32
  let v81 : BitVec 32 := Scalar.muli v80 c64_i32_31
  let v82 : BitVec 32 := v81
  let v83 : Index := Scalar.indexCast v82
  let c0_33 : Index := 0#32
  ![0, v83.toNat, 0]
def k0_off6 (k0_t2 : Fin k0_t2_loop.trips) : Fin 2 → Nat :=
  let c3_i32 : BitVec 32 := 3#32
  let c0_i32_2 : BitVec 32 := 0#32
  let c1_i32_4 : BitVec 32 := 1#32
  let arg14 : BitVec 32 := Scf.iv c0_i32_2 c1_i32_4 k0_t2
  let v80 : BitVec 32 := Scalar.subi c3_i32 arg14
  let c64_i32_31 : BitVec 32 := 64#32
  let v81 : BitVec 32 := Scalar.muli v80 c64_i32_31
  let v82 : BitVec 32 := v81
  let v93 : Index := Scalar.indexCast v82
  let c0_37 : Index := 0#32
  ![v93.toNat, 0]
def k0_mult5 (k0_t2 : Fin k0_t2_loop.trips) : BitVec 32 :=
  let c3_i32 : BitVec 32 := 3#32
  let c0_i32_2 : BitVec 32 := 0#32
  let c1_i32_4 : BitVec 32 := 1#32
  let arg14 : BitVec 32 := Scf.iv c0_i32_2 c1_i32_4 k0_t2
  let v80 : BitVec 32 := Scalar.subi c3_i32 arg14
  let c64_i32_43 : BitVec 32 := 64#32
  let v132 : BitVec 32 := Scalar.muli v80 c64_i32_43
  v132
@[reducible] def k0_t3_loop : Scf.Loop 32 :=
  let c0_i32_14 : BitVec 32 := 0#32
  let c4_i32_15 : BitVec 32 := 4#32
  let v22 : BitVec 32 := Scalar.addi c0_i32_14 c4_i32_15
  let c1_i32_16 : BitVec 32 := 1#32
  ⟨c0_i32_14, v22, c1_i32_16⟩
def k0_mult6 (k0_t3 : Fin k0_t3_loop.trips) : BitVec 32 :=
  let c0_i32_14 : BitVec 32 := 0#32
  let c1_i32_16 : BitVec 32 := 1#32
  let arg14 : BitVec 32 := Scf.iv c0_i32_14 c1_i32_16 k0_t3
  let c64_i32 : BitVec 32 := 64#32
  let v23 : BitVec 32 := Scalar.muli arg14 c64_i32
  v23
def k0_off7 (k0_t3 : Fin k0_t3_loop.trips) : Fin 2 → Nat :=
  let c0_i32_14 : BitVec 32 := 0#32
  let c1_i32_16 : BitVec 32 := 1#32
  let arg14 : BitVec 32 := Scf.iv c0_i32_14 c1_i32_16 k0_t3
  let c64_i32 : BitVec 32 := 64#32
  let v23 : BitVec 32 := Scalar.muli arg14 c64_i32
  let v24 : BitVec 32 := v23
  let v25 : Index := Scalar.indexCast v24
  let c0_18 : Index := 0#32
  ![v25.toNat, 0]
def k0_off8 (k0_t3 : Fin k0_t3_loop.trips) : Fin 3 → Nat :=
  let c0_25 : Index := 0#32
  let c0_i32_14 : BitVec 32 := 0#32
  let c1_i32_16 : BitVec 32 := 1#32
  let arg14 : BitVec 32 := Scf.iv c0_i32_14 c1_i32_16 k0_t3
  let c64_i32 : BitVec 32 := 64#32
  let v23 : BitVec 32 := Scalar.muli arg14 c64_i32
  let v24 : BitVec 32 := v23
  let v44 : Index := Scalar.indexCast v24
  let c0_26 : Index := 0#32
  ![0, v44.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RGlaIdeal.lean ====
abbrev S32x256x512 : Shape := ⟨3, ![32, 256, 512]⟩
abbrev S32x256x128 : Shape := ⟨3, ![32, 256, 128]⟩
abbrev S2x16x256 : Shape := ⟨3, ![2, 16, 256]⟩
abbrev S2x256 : Shape := ⟨2, ![2, 256]⟩
abbrev S128 : Shape := ⟨1, ![128]⟩
abbrev S32x256x4x2x64 : Shape := ⟨5, ![32, 256, 4, 2, 64]⟩
abbrev S2x32x4x256x64 : Shape := ⟨5, ![2, 32, 4, 256, 64]⟩
abbrev S1x32x4x256x64 : Shape := ⟨5, ![1, 32, 4, 256, 64]⟩
abbrev S32x4x256x64 : Shape := ⟨4, ![32, 4, 256, 64]⟩
abbrev S_ : Shape := ⟨0, ![]⟩
abbrev S32x256x4x128 : Shape := ⟨4, ![32, 256, 4, 128]⟩
abbrev S32x4x256x128 : Shape := ⟨4, ![32, 4, 256, 128]⟩
abbrev S32x256x16 : Shape := ⟨3, ![32, 256, 16]⟩
abbrev S32x4x64x128 : Shape := ⟨4, ![32, 4, 64, 128]⟩
abbrev S1x16x256 : Shape := ⟨3, ![1, 16, 256]⟩
abbrev S16x256 : Shape := ⟨2, ![16, 256]⟩
abbrev S32x256x256 : Shape := ⟨3, ![32, 256, 256]⟩
abbrev S1x256 : Shape := ⟨2, ![1, 256]⟩
abbrev S256 : Shape := ⟨1, ![256]⟩
abbrev S1x1x256 : Shape := ⟨3, ![1, 1, 256]⟩
abbrev S32x256x4x64 : Shape := ⟨4, ![32, 256, 4, 64]⟩
abbrev S64x64 : Shape := ⟨2, ![64, 64]⟩
abbrev S64x64x1 : Shape := ⟨3, ![64, 64, 1]⟩
abbrev S32x4x4x64x64 : Shape := ⟨5, ![32, 4, 4, 64, 64]⟩
abbrev S4x32x4x64x64 : Shape := ⟨5, ![4, 32, 4, 64, 64]⟩
abbrev S32x4x4x64x128 : Shape := ⟨5, ![32, 4, 4, 64, 128]⟩
abbrev S4x32x4x64x128 : Shape := ⟨5, ![4, 32, 4, 64, 128]⟩
abbrev S1x32x4x64x64 : Shape := ⟨5, ![1, 32, 4, 64, 64]⟩
abbrev S32x4x64x64 : Shape := ⟨4, ![32, 4, 64, 64]⟩
abbrev S1x32x4x64x128 : Shape := ⟨5, ![1, 32, 4, 64, 128]⟩
abbrev S32x4x64x1x64 : Shape := ⟨5, ![32, 4, 64, 1, 64]⟩
abbrev S32x4x1x64x64 : Shape := ⟨5, ![32, 4, 1, 64, 64]⟩
abbrev S32x4x64x64x64 : Shape := ⟨5, ![32, 4, 64, 64, 64]⟩
abbrev S32x4x1x64 : Shape := ⟨4, ![32, 4, 1, 64]⟩
abbrev S32x4x64 : Shape := ⟨3, ![32, 4, 64]⟩
abbrev S32x4x64x1 : Shape := ⟨4, ![32, 4, 64, 1]⟩
abbrev S32x4x256 : Shape := ⟨3, ![32, 4, 256]⟩
abbrev S32x4x256x1 : Shape := ⟨4, ![32, 4, 256, 1]⟩
abbrev S1x1x1x128 : Shape := ⟨4, ![1, 1, 1, 128]⟩
abbrev S32x1x4x64x128 : Shape := ⟨5, ![32, 1, 4, 64, 128]⟩
abbrev S32x2x4x64x128 : Shape := ⟨5, ![32, 2, 4, 64, 128]⟩

abbrev nBuf : Space → Nat
  | .hbm => 566
  | .vmem => 0
  | .smem => 0
  | _ => 0

abbrev hbmTy0_0 (i : Nat) : BufTy := match i % 128 with
  | 0 => ⟨S32x256x512, .f32⟩
  | 1 => ⟨S32x256x512, .f32⟩
  | 2 => ⟨S32x256x128, .f32⟩
  | 3 => ⟨S32x256x512, .f32⟩
  | 4 => ⟨S2x16x256, .f32⟩
  | 5 => ⟨S2x256, .f32⟩
  | 6 => ⟨S128, .f32⟩
  | 7 => ⟨S32x256x4x2x64, .f32⟩
  | 8 => ⟨S2x32x4x256x64, .f32⟩
  | 9 => ⟨S1x32x4x256x64, .f32⟩
  | 10 => ⟨S32x4x256x64, .f32⟩
  | 11 => ⟨S_, .f32⟩
  | 12 => ⟨S32x4x256x64, .f32⟩
  | 13 => ⟨S32x4x256x64, .f32⟩
  | 14 => ⟨S1x32x4x256x64, .f32⟩
  | 15 => ⟨S32x4x256x64, .f32⟩
  | 16 => ⟨S32x256x4x128, .f32⟩
  | 17 => ⟨S32x4x256x128, .f32⟩
  | 18 => ⟨S32x256x16, .f32⟩
  | 19 => ⟨S32x256x16, .f32⟩
  | 20 => ⟨S_, .f32⟩
  | 21 => ⟨S32x4x64x128, .f32⟩
  | 22 => ⟨S1x16x256, .f32⟩
  | 23 => ⟨S16x256, .f32⟩
  | 24 => ⟨S32x256x256, .f32⟩
  | 25 => ⟨S1x256, .f32⟩
  | 26 => ⟨S256, .f32⟩
  | 27 => ⟨S1x1x256, .f32⟩
  | 28 => ⟨S32x256x256, .f32⟩
  | 29 => ⟨S32x256x256, .f32⟩
  | 30 => ⟨S32x256x256, .f32⟩
  | 31 => ⟨S_, .f32⟩
  | 32 => ⟨S32x256x256, .f32⟩
  | 33 => ⟨S32x256x256, .f32⟩
  | 34 => ⟨S32x256x256, .f32⟩
  | 35 => ⟨S32x256x256, .f32⟩
  | 36 => ⟨S32x256x256, .i1⟩
  | 37 => ⟨S32x256x256, .f32⟩
  | 38 => ⟨S32x256x256, .f32⟩
  | 39 => ⟨S32x256x256, .f32⟩
  | 40 => ⟨S32x256x256, .f32⟩
  | 41 => ⟨S32x256x256, .f32⟩
  | 42 => ⟨S32x256x256, .f32⟩
  | 43 => ⟨S32x256x256, .f32⟩
  | 44 => ⟨S32x256x256, .f32⟩
  | 45 => ⟨S32x256x256, .f32⟩
  | 46 => ⟨S_, .f32⟩
  | 47 => ⟨S32x256x256, .f32⟩
  | 48 => ⟨S32x256x256, .f32⟩
  | 49 => ⟨S32x256x4x64, .f32⟩
  | 50 => ⟨S32x4x256x64, .f32⟩
  | 51 => ⟨S1x16x256, .f32⟩
  | 52 => ⟨S16x256, .f32⟩
  | 53 => ⟨S32x256x256, .f32⟩
  | 54 => ⟨S1x256, .f32⟩
  | 55 => ⟨S256, .f32⟩
  | 56 => ⟨S1x1x256, .f32⟩
  | 57 => ⟨S32x256x256, .f32⟩
  | 58 => ⟨S32x256x256, .f32⟩
  | 59 => ⟨S32x256x256, .f32⟩
  | 60 => ⟨S_, .f32⟩
  | 61 => ⟨S32x256x256, .f32⟩
  | 62 => ⟨S32x256x256, .f32⟩
  | 63 => ⟨S32x256x256, .f32⟩
  | 64 => ⟨S32x256x256, .f32⟩
  | 65 => ⟨S32x256x256, .i1⟩
  | 66 => ⟨S32x256x256, .f32⟩
  | 67 => ⟨S32x256x256, .f32⟩
  | 68 => ⟨S32x256x256, .f32⟩
  | 69 => ⟨S32x256x256, .f32⟩
  | 70 => ⟨S32x256x256, .f32⟩
  | 71 => ⟨S32x256x256, .f32⟩
  | 72 => ⟨S32x256x256, .f32⟩
  | 73 => ⟨S32x256x256, .f32⟩
  | 74 => ⟨S32x256x256, .f32⟩
  | 75 => ⟨S_, .f32⟩
  | 76 => ⟨S32x256x256, .f32⟩
  | 77 => ⟨S32x256x256, .f32⟩
  | 78 => ⟨S32x256x4x64, .f32⟩
  | 79 => ⟨S32x4x256x64, .f32⟩
  | 80 => ⟨S_, .i1⟩
  | 81 => ⟨S64x64, .i1⟩
  | 82 => ⟨S64x64, .i32⟩
  | 83 => ⟨S_, .i32⟩
  | 84 => ⟨S64x64, .i32⟩
  | 85 => ⟨S64x64, .i32⟩
  | 86 => ⟨S64x64, .i32⟩
  | 87 => ⟨S64x64, .i1⟩
  | 88 => ⟨S_, .i1⟩
  | 89 => ⟨S64x64, .i1⟩
  | 90 => ⟨S64x64, .i1⟩
  | 91 => ⟨S64x64x1, .i1⟩
  | 92 => ⟨S32x4x4x64x64, .f32⟩
  | 93 => ⟨S4x32x4x64x64, .f32⟩
  | 94 => ⟨S32x4x4x64x64, .f32⟩
  | 95 => ⟨S4x32x4x64x64, .f32⟩
  | 96 => ⟨S32x4x4x64x128, .f32⟩
  | 97 => ⟨S4x32x4x64x128, .f32⟩
  | 98 => ⟨S32x4x4x64x64, .f32⟩
  | 99 => ⟨S4x32x4x64x64, .f32⟩
  | 100 => ⟨S1x32x4x64x64, .f32⟩
  | 101 => ⟨S32x4x64x64, .f32⟩
  | 102 => ⟨S1x32x4x64x64, .f32⟩
  | 103 => ⟨S32x4x64x64, .f32⟩
  | 104 => ⟨S1x32x4x64x128, .f32⟩
  | 105 => ⟨S32x4x64x128, .f32⟩
  | 106 => ⟨S1x32x4x64x64, .f32⟩
  | 107 => ⟨S32x4x64x64, .f32⟩
  | 108 => ⟨S_, .f32⟩
  | 109 => ⟨S_, .f32⟩
  | 110 => ⟨S32x4x64x64, .f32⟩
  | 111 => ⟨S32x4x64x64, .f32⟩
  | 112 => ⟨S32x4x64x64, .f32⟩
  | 113 => ⟨S32x4x64x128, .f32⟩
  | 114 => ⟨S32x4x64x1x64, .f32⟩
  | 115 => ⟨S32x4x1x64x64, .f32⟩
  | 116 => ⟨S32x4x64x64x64, .f32⟩
  | 117 => ⟨S32x4x64x64x64, .f32⟩
  | 118 => ⟨S32x4x64x64x64, .f32⟩
  | 119 => ⟨S_, .f32⟩
  | 120 => ⟨S_, .f32⟩
  | 121 => ⟨S32x4x64x64x64, .i1⟩
  | 122 => ⟨S32x4x64x64x64, .f32⟩
  | 123 => ⟨S32x4x64x64x64, .f32⟩
  | 124 => ⟨S32x4x64x64x64, .f32⟩
  | 125 => ⟨S_, .f32⟩
  | 126 => ⟨S_, .f32⟩
  | 127 => ⟨S32x4x64x64x64, .i1⟩
  | _ => ⟨S32x256x512, .f32⟩

abbrev hbmTy0_1 (i : Nat) : BufTy := match i % 128 with
  | 0 => ⟨S32x4x64x64x64, .f32⟩
  | 1 => ⟨S32x4x64x64x64, .f32⟩
  | 2 => ⟨S32x4x64x1x64, .f32⟩
  | 3 => ⟨S32x4x1x64x64, .f32⟩
  | 4 => ⟨S32x4x64x64x64, .f32⟩
  | 5 => ⟨S32x4x64x64x64, .f32⟩
  | 6 => ⟨S32x4x64x64x64, .f32⟩
  | 7 => ⟨S32x4x64x64x64, .f32⟩
  | 8 => ⟨S_, .f32⟩
  | 9 => ⟨S32x4x64x64, .f32⟩
  | 10 => ⟨S32x4x64x128, .f32⟩
  | 11 => ⟨S32x4x64x128, .f32⟩
  | 12 => ⟨S32x4x1x64, .f32⟩
  | 13 => ⟨S32x4x1x64, .f32⟩
  | 14 => ⟨S32x4x64, .f32⟩
  | 15 => ⟨S32x4x64x1, .f32⟩
  | 16 => ⟨S32x4x64x128, .f32⟩
  | 17 => ⟨S32x4x64x128, .f32⟩
  | 18 => ⟨S32x4x64x64, .f32⟩
  | 19 => ⟨S32x4x64x64, .f32⟩
  | 20 => ⟨S32x4x64x64, .f32⟩
  | 21 => ⟨S32x4x64x64, .f32⟩
  | 22 => ⟨S32x4x64x128, .f32⟩
  | 23 => ⟨S32x4x64x128, .f32⟩
  | 24 => ⟨S1x32x4x64x64, .f32⟩
  | 25 => ⟨S32x4x64x64, .f32⟩
  | 26 => ⟨S1x32x4x64x64, .f32⟩
  | 27 => ⟨S32x4x64x64, .f32⟩
  | 28 => ⟨S1x32x4x64x128, .f32⟩
  | 29 => ⟨S32x4x64x128, .f32⟩
  | 30 => ⟨S1x32x4x64x64, .f32⟩
  | 31 => ⟨S32x4x64x64, .f32⟩
  | 32 => ⟨S_, .f32⟩
  | 33 => ⟨S_, .f32⟩
  | 34 => ⟨S32x4x64x64, .f32⟩
  | 35 => ⟨S32x4x64x64, .f32⟩
  | 36 => ⟨S32x4x64x64, .f32⟩
  | 37 => ⟨S32x4x64x128, .f32⟩
  | 38 => ⟨S32x4x64x1x64, .f32⟩
  | 39 => ⟨S32x4x1x64x64, .f32⟩
  | 40 => ⟨S32x4x64x64x64, .f32⟩
  | 41 => ⟨S32x4x64x64x64, .f32⟩
  | 42 => ⟨S32x4x64x64x64, .f32⟩
  | 43 => ⟨S_, .f32⟩
  | 44 => ⟨S_, .f32⟩
  | 45 => ⟨S32x4x64x64x64, .i1⟩
  | 46 => ⟨S32x4x64x64x64, .f32⟩
  | 47 => ⟨S32x4x64x64x64, .f32⟩
  | 48 => ⟨S32x4x64x64x64, .f32⟩
  | 49 => ⟨S_, .f32⟩
  | 50 => ⟨S_, .f32⟩
  | 51 => ⟨S32x4x64x64x64, .i1⟩
  | 52 => ⟨S32x4x64x64x64, .f32⟩
  | 53 => ⟨S32x4x64x64x64, .f32⟩
  | 54 => ⟨S32x4x64x1x64, .f32⟩
  | 55 => ⟨S32x4x1x64x64, .f32⟩
  | 56 => ⟨S32x4x64x64x64, .f32⟩
  | 57 => ⟨S32x4x64x64x64, .f32⟩
  | 58 => ⟨S32x4x64x64x64, .f32⟩
  | 59 => ⟨S32x4x64x64x64, .f32⟩
  | 60 => ⟨S_, .f32⟩
  | 61 => ⟨S32x4x64x64, .f32⟩
  | 62 => ⟨S32x4x64x128, .f32⟩
  | 63 => ⟨S32x4x64x128, .f32⟩
  | 64 => ⟨S32x4x1x64, .f32⟩
  | 65 => ⟨S32x4x1x64, .f32⟩
  | 66 => ⟨S32x4x64, .f32⟩
  | 67 => ⟨S32x4x64x1, .f32⟩
  | 68 => ⟨S32x4x64x128, .f32⟩
  | 69 => ⟨S32x4x64x128, .f32⟩
  | 70 => ⟨S32x4x64x64, .f32⟩
  | 71 => ⟨S32x4x64x64, .f32⟩
  | 72 => ⟨S32x4x64x64, .f32⟩
  | 73 => ⟨S32x4x64x64, .f32⟩
  | 74 => ⟨S32x4x64x128, .f32⟩
  | 75 => ⟨S32x4x64x128, .f32⟩
  | 76 => ⟨S1x32x4x64x64, .f32⟩
  | 77 => ⟨S32x4x64x64, .f32⟩
  | 78 => ⟨S1x32x4x64x64, .f32⟩
  | 79 => ⟨S32x4x64x64, .f32⟩
  | 80 => ⟨S1x32x4x64x128, .f32⟩
  | 81 => ⟨S32x4x64x128, .f32⟩
  | 82 => ⟨S1x32x4x64x64, .f32⟩
  | 83 => ⟨S32x4x64x64, .f32⟩
  | 84 => ⟨S_, .f32⟩
  | 85 => ⟨S_, .f32⟩
  | 86 => ⟨S32x4x64x64, .f32⟩
  | 87 => ⟨S32x4x64x64, .f32⟩
  | 88 => ⟨S32x4x64x64, .f32⟩
  | 89 => ⟨S32x4x64x128, .f32⟩
  | 90 => ⟨S32x4x64x1x64, .f32⟩
  | 91 => ⟨S32x4x1x64x64, .f32⟩
  | 92 => ⟨S32x4x64x64x64, .f32⟩
  | 93 => ⟨S32x4x64x64x64, .f32⟩
  | 94 => ⟨S32x4x64x64x64, .f32⟩
  | 95 => ⟨S_, .f32⟩
  | 96 => ⟨S_, .f32⟩
  | 97 => ⟨S32x4x64x64x64, .i1⟩
  | 98 => ⟨S32x4x64x64x64, .f32⟩
  | 99 => ⟨S32x4x64x64x64, .f32⟩
  | 100 => ⟨S32x4x64x64x64, .f32⟩
  | 101 => ⟨S_, .f32⟩
  | 102 => ⟨S_, .f32⟩
  | 103 => ⟨S32x4x64x64x64, .i1⟩
  | 104 => ⟨S32x4x64x64x64, .f32⟩
  | 105 => ⟨S32x4x64x64x64, .f32⟩
  | 106 => ⟨S32x4x64x1x64, .f32⟩
  | 107 => ⟨S32x4x1x64x64, .f32⟩
  | 108 => ⟨S32x4x64x64x64, .f32⟩
  | 109 => ⟨S32x4x64x64x64, .f32⟩
  | 110 => ⟨S32x4x64x64x64, .f32⟩
  | 111 => ⟨S32x4x64x64x64, .f32⟩
  | 112 => ⟨S_, .f32⟩
  | 113 => ⟨S32x4x64x64, .f32⟩
  | 114 => ⟨S32x4x64x128, .f32⟩
  | 115 => ⟨S32x4x64x128, .f32⟩
  | 116 => ⟨S32x4x1x64, .f32⟩
  | 117 => ⟨S32x4x1x64, .f32⟩
  | 118 => ⟨S32x4x64, .f32⟩
  | 119 => ⟨S32x4x64x1, .f32⟩
  | 120 => ⟨S32x4x64x128, .f32⟩
  | 121 => ⟨S32x4x64x128, .f32⟩
  | 122 => ⟨S32x4x64x64, .f32⟩
  | 123 => ⟨S32x4x64x64, .f32⟩
  | 124 => ⟨S32x4x64x64, .f32⟩
  | 125 => ⟨S32x4x64x64, .f32⟩
  | 126 => ⟨S32x4x64x128, .f32⟩
  | 127 => ⟨S32x4x64x128, .f32⟩
  | _ => ⟨S32x256x512, .f32⟩

abbrev hbmTy0_2 (i : Nat) : BufTy := match i % 128 with
  | 0 => ⟨S1x32x4x64x64, .f32⟩
  | 1 => ⟨S32x4x64x64, .f32⟩
  | 2 => ⟨S1x32x4x64x64, .f32⟩
  | 3 => ⟨S32x4x64x64, .f32⟩
  | 4 => ⟨S1x32x4x64x128, .f32⟩
  | 5 => ⟨S32x4x64x128, .f32⟩
  | 6 => ⟨S1x32x4x64x64, .f32⟩
  | 7 => ⟨S32x4x64x64, .f32⟩
  | 8 => ⟨S_, .f32⟩
  | 9 => ⟨S_, .f32⟩
  | 10 => ⟨S32x4x64x64, .f32⟩
  | 11 => ⟨S32x4x64x64, .f32⟩
  | 12 => ⟨S32x4x64x64, .f32⟩
  | 13 => ⟨S32x4x64x128, .f32⟩
  | 14 => ⟨S32x4x64x1x64, .f32⟩
  | 15 => ⟨S32x4x1x64x64, .f32⟩
  | 16 => ⟨S32x4x64x64x64, .f32⟩
  | 17 => ⟨S32x4x64x64x64, .f32⟩
  | 18 => ⟨S32x4x64x64x64, .f32⟩
  | 19 => ⟨S_, .f32⟩
  | 20 => ⟨S_, .f32⟩
  | 21 => ⟨S32x4x64x64x64, .i1⟩
  | 22 => ⟨S32x4x64x64x64, .f32⟩
  | 23 => ⟨S32x4x64x64x64, .f32⟩
  | 24 => ⟨S32x4x64x64x64, .f32⟩
  | 25 => ⟨S_, .f32⟩
  | 26 => ⟨S_, .f32⟩
  | 27 => ⟨S32x4x64x64x64, .i1⟩
  | 28 => ⟨S32x4x64x64x64, .f32⟩
  | 29 => ⟨S32x4x64x64x64, .f32⟩
  | 30 => ⟨S32x4x64x1x64, .f32⟩
  | 31 => ⟨S32x4x1x64x64, .f32⟩
  | 32 => ⟨S32x4x64x64x64, .f32⟩
  | 33 => ⟨S32x4x64x64x64, .f32⟩
  | 34 => ⟨S32x4x64x64x64, .f32⟩
  | 35 => ⟨S32x4x64x64x64, .f32⟩
  | 36 => ⟨S_, .f32⟩
  | 37 => ⟨S32x4x64x64, .f32⟩
  | 38 => ⟨S32x4x64x128, .f32⟩
  | 39 => ⟨S32x4x64x128, .f32⟩
  | 40 => ⟨S32x4x1x64, .f32⟩
  | 41 => ⟨S32x4x1x64, .f32⟩
  | 42 => ⟨S32x4x64, .f32⟩
  | 43 => ⟨S32x4x64x1, .f32⟩
  | 44 => ⟨S32x4x64x128, .f32⟩
  | 45 => ⟨S32x4x64x128, .f32⟩
  | 46 => ⟨S32x4x64x64, .f32⟩
  | 47 => ⟨S32x4x64x64, .f32⟩
  | 48 => ⟨S32x4x64x64, .f32⟩
  | 49 => ⟨S32x4x64x64, .f32⟩
  | 50 => ⟨S32x4x64x128, .f32⟩
  | 51 => ⟨S32x4x64x128, .f32⟩
  | 52 => ⟨S32x4x256x128, .f32⟩
  | 53 => ⟨S32x4x256x64, .f32⟩
  | 54 => ⟨S32x4x256x64, .f32⟩
  | 55 => ⟨S32x4x256x128, .f32⟩
  | 56 => ⟨S32x4x256x64, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S64x64x1, .i1⟩
  | 69 => ⟨S32x4x4x64x64, .f32⟩
  | 70 => ⟨S4x32x4x64x64, .f32⟩
  | 71 => ⟨S32x4x4x64x64, .f32⟩
  | 72 => ⟨S4x32x4x64x64, .f32⟩
  | 73 => ⟨S32x4x4x64x128, .f32⟩
  | 74 => ⟨S4x32x4x64x128, .f32⟩
  | 75 => ⟨S32x4x4x64x64, .f32⟩
  | 76 => ⟨S4x32x4x64x64, .f32⟩
  | 77 => ⟨S1x32x4x64x64, .f32⟩
  | 78 => ⟨S32x4x64x64, .f32⟩
  | 79 => ⟨S1x32x4x64x64, .f32⟩
  | 80 => ⟨S32x4x64x64, .f32⟩
  | 81 => ⟨S1x32x4x64x128, .f32⟩
  | 82 => ⟨S32x4x64x128, .f32⟩
  | 83 => ⟨S1x32x4x64x64, .f32⟩
  | 84 => ⟨S32x4x64x64, .f32⟩
  | 85 => ⟨S_, .f32⟩
  | 86 => ⟨S_, .f32⟩
  | 87 => ⟨S32x4x64x64, .f32⟩
  | 88 => ⟨S32x4x64x64, .f32⟩
  | 89 => ⟨S32x4x64x64, .f32⟩
  | 90 => ⟨S32x4x64x128, .f32⟩
  | 91 => ⟨S32x4x64x1x64, .f32⟩
  | 92 => ⟨S32x4x1x64x64, .f32⟩
  | 93 => ⟨S32x4x64x64x64, .f32⟩
  | 94 => ⟨S32x4x64x64x64, .f32⟩
  | 95 => ⟨S32x4x64x64x64, .f32⟩
  | 96 => ⟨S_, .f32⟩
  | 97 => ⟨S_, .f32⟩
  | 98 => ⟨S32x4x64x64x64, .i1⟩
  | 99 => ⟨S32x4x64x64x64, .f32⟩
  | 100 => ⟨S32x4x64x64x64, .f32⟩
  | 101 => ⟨S32x4x64x64x64, .f32⟩
  | 102 => ⟨S_, .f32⟩
  | 103 => ⟨S_, .f32⟩
  | 104 => ⟨S32x4x64x64x64, .i1⟩
  | 105 => ⟨S32x4x64x64x64, .f32⟩
  | 106 => ⟨S32x4x64x64x64, .f32⟩
  | 107 => ⟨S32x4x64x1x64, .f32⟩
  | 108 => ⟨S32x4x1x64x64, .f32⟩
  | 109 => ⟨S32x4x64x64x64, .f32⟩
  | 110 => ⟨S32x4x64x64x64, .f32⟩
  | 111 => ⟨S32x4x64x64x64, .f32⟩
  | 112 => ⟨S32x4x64x64x64, .f32⟩
  | 113 => ⟨S_, .f32⟩
  | 114 => ⟨S32x4x64x64, .f32⟩
  | 115 => ⟨S32x4x64x128, .f32⟩
  | 116 => ⟨S32x4x64x128, .f32⟩
  | 117 => ⟨S32x4x1x64, .f32⟩
  | 118 => ⟨S32x4x1x64, .f32⟩
  | 119 => ⟨S32x4x64, .f32⟩
  | 120 => ⟨S32x4x64x1, .f32⟩
  | 121 => ⟨S32x4x64x128, .f32⟩
  | 122 => ⟨S32x4x64x128, .f32⟩
  | 123 => ⟨S32x4x64x64, .f32⟩
  | 124 => ⟨S32x4x64x64, .f32⟩
  | 125 => ⟨S32x4x64x64, .f32⟩
  | 126 => ⟨S32x4x64x64, .f32⟩
  | 127 => ⟨S32x4x64x128, .f32⟩
  | _ => ⟨S32x256x512, .f32⟩

abbrev hbmTy0_3 (i : Nat) : BufTy := match i % 128 with
  | 0 => ⟨S32x4x64x128, .f32⟩
  | 1 => ⟨S1x32x4x64x64, .f32⟩
  | 2 => ⟨S32x4x64x64, .f32⟩
  | 3 => ⟨S1x32x4x64x64, .f32⟩
  | 4 => ⟨S32x4x64x64, .f32⟩
  | 5 => ⟨S1x32x4x64x128, .f32⟩
  | 6 => ⟨S32x4x64x128, .f32⟩
  | 7 => ⟨S1x32x4x64x64, .f32⟩
  | 8 => ⟨S32x4x64x64, .f32⟩
  | 9 => ⟨S_, .f32⟩
  | 10 => ⟨S_, .f32⟩
  | 11 => ⟨S32x4x64x64, .f32⟩
  | 12 => ⟨S32x4x64x64, .f32⟩
  | 13 => ⟨S32x4x64x64, .f32⟩
  | 14 => ⟨S32x4x64x128, .f32⟩
  | 15 => ⟨S32x4x64x1x64, .f32⟩
  | 16 => ⟨S32x4x1x64x64, .f32⟩
  | 17 => ⟨S32x4x64x64x64, .f32⟩
  | 18 => ⟨S32x4x64x64x64, .f32⟩
  | 19 => ⟨S32x4x64x64x64, .f32⟩
  | 20 => ⟨S_, .f32⟩
  | 21 => ⟨S_, .f32⟩
  | 22 => ⟨S32x4x64x64x64, .i1⟩
  | 23 => ⟨S32x4x64x64x64, .f32⟩
  | 24 => ⟨S32x4x64x64x64, .f32⟩
  | 25 => ⟨S32x4x64x64x64, .f32⟩
  | 26 => ⟨S_, .f32⟩
  | 27 => ⟨S_, .f32⟩
  | 28 => ⟨S32x4x64x64x64, .i1⟩
  | 29 => ⟨S32x4x64x64x64, .f32⟩
  | 30 => ⟨S32x4x64x64x64, .f32⟩
  | 31 => ⟨S32x4x64x1x64, .f32⟩
  | 32 => ⟨S32x4x1x64x64, .f32⟩
  | 33 => ⟨S32x4x64x64x64, .f32⟩
  | 34 => ⟨S32x4x64x64x64, .f32⟩
  | 35 => ⟨S32x4x64x64x64, .f32⟩
  | 36 => ⟨S32x4x64x64x64, .f32⟩
  | 37 => ⟨S_, .f32⟩
  | 38 => ⟨S32x4x64x64, .f32⟩
  | 39 => ⟨S32x4x64x128, .f32⟩
  | 40 => ⟨S32x4x64x128, .f32⟩
  | 41 => ⟨S32x4x1x64, .f32⟩
  | 42 => ⟨S32x4x1x64, .f32⟩
  | 43 => ⟨S32x4x64, .f32⟩
  | 44 => ⟨S32x4x64x1, .f32⟩
  | 45 => ⟨S32x4x64x128, .f32⟩
  | 46 => ⟨S32x4x64x128, .f32⟩
  | 47 => ⟨S32x4x64x64, .f32⟩
  | 48 => ⟨S32x4x64x64, .f32⟩
  | 49 => ⟨S32x4x64x64, .f32⟩
  | 50 => ⟨S32x4x64x64, .f32⟩
  | 51 => ⟨S32x4x64x128, .f32⟩
  | 52 => ⟨S32x4x64x128, .f32⟩
  | 53 => ⟨S1x32x4x64x64, .f32⟩
  | 54 => ⟨S32x4x64x64, .f32⟩
  | 55 => ⟨S1x32x4x64x64, .f32⟩
  | 56 => ⟨S32x4x64x64, .f32⟩
  | 57 => ⟨S1x32x4x64x128, .f32⟩
  | 58 => ⟨S32x4x64x128, .f32⟩
  | 59 => ⟨S1x32x4x64x64, .f32⟩
  | 60 => ⟨S32x4x64x64, .f32⟩
  | 61 => ⟨S_, .f32⟩
  | 62 => ⟨S_, .f32⟩
  | 63 => ⟨S32x4x64x64, .f32⟩
  | 64 => ⟨S32x4x64x64, .f32⟩
  | 65 => ⟨S32x4x64x64, .f32⟩
  | 66 => ⟨S32x4x64x128, .f32⟩
  | 67 => ⟨S32x4x64x1x64, .f32⟩
  | 68 => ⟨S32x4x1x64x64, .f32⟩
  | 69 => ⟨S32x4x64x64x64, .f32⟩
  | 70 => ⟨S32x4x64x64x64, .f32⟩
  | 71 => ⟨S32x4x64x64x64, .f32⟩
  | 72 => ⟨S_, .f32⟩
  | 73 => ⟨S_, .f32⟩
  | 74 => ⟨S32x4x64x64x64, .i1⟩
  | 75 => ⟨S32x4x64x64x64, .f32⟩
  | 76 => ⟨S32x4x64x64x64, .f32⟩
  | 77 => ⟨S32x4x64x64x64, .f32⟩
  | 78 => ⟨S_, .f32⟩
  | 79 => ⟨S_, .f32⟩
  | 80 => ⟨S32x4x64x64x64, .i1⟩
  | 81 => ⟨S32x4x64x64x64, .f32⟩
  | 82 => ⟨S32x4x64x64x64, .f32⟩
  | 83 => ⟨S32x4x64x1x64, .f32⟩
  | 84 => ⟨S32x4x1x64x64, .f32⟩
  | 85 => ⟨S32x4x64x64x64, .f32⟩
  | 86 => ⟨S32x4x64x64x64, .f32⟩
  | 87 => ⟨S32x4x64x64x64, .f32⟩
  | 88 => ⟨S32x4x64x64x64, .f32⟩
  | 89 => ⟨S_, .f32⟩
  | 90 => ⟨S32x4x64x64, .f32⟩
  | 91 => ⟨S32x4x64x128, .f32⟩
  | 92 => ⟨S32x4x64x128, .f32⟩
  | 93 => ⟨S32x4x1x64, .f32⟩
  | 94 => ⟨S32x4x1x64, .f32⟩
  | 95 => ⟨S32x4x64, .f32⟩
  | 96 => ⟨S32x4x64x1, .f32⟩
  | 97 => ⟨S32x4x64x128, .f32⟩
  | 98 => ⟨S32x4x64x128, .f32⟩
  | 99 => ⟨S32x4x64x64, .f32⟩
  | 100 => ⟨S32x4x64x64, .f32⟩
  | 101 => ⟨S32x4x64x64, .f32⟩
  | 102 => ⟨S32x4x64x64, .f32⟩
  | 103 => ⟨S32x4x64x128, .f32⟩
  | 104 => ⟨S32x4x64x128, .f32⟩
  | 105 => ⟨S1x32x4x64x64, .f32⟩
  | 106 => ⟨S32x4x64x64, .f32⟩
  | 107 => ⟨S1x32x4x64x64, .f32⟩
  | 108 => ⟨S32x4x64x64, .f32⟩
  | 109 => ⟨S1x32x4x64x128, .f32⟩
  | 110 => ⟨S32x4x64x128, .f32⟩
  | 111 => ⟨S1x32x4x64x64, .f32⟩
  | 112 => ⟨S32x4x64x64, .f32⟩
  | 113 => ⟨S_, .f32⟩
  | 114 => ⟨S_, .f32⟩
  | 115 => ⟨S32x4x64x64, .f32⟩
  | 116 => ⟨S32x4x64x64, .f32⟩
  | 117 => ⟨S32x4x64x64, .f32⟩
  | 118 => ⟨S32x4x64x128, .f32⟩
  | 119 => ⟨S32x4x64x1x64, .f32⟩
  | 120 => ⟨S32x4x1x64x64, .f32⟩
  | 121 => ⟨S32x4x64x64x64, .f32⟩
  | 122 => ⟨S32x4x64x64x64, .f32⟩
  | 123 => ⟨S32x4x64x64x64, .f32⟩
  | 124 => ⟨S_, .f32⟩
  | 125 => ⟨S_, .f32⟩
  | 126 => ⟨S32x4x64x64x64, .i1⟩
  | 127 => ⟨S32x4x64x64x64, .f32⟩
  | _ => ⟨S32x256x512, .f32⟩

abbrev hbmTy0_4 (i : Nat) : BufTy := match i % 128 with
  | 0 => ⟨S32x4x64x64x64, .f32⟩
  | 1 => ⟨S32x4x64x64x64, .f32⟩
  | 2 => ⟨S_, .f32⟩
  | 3 => ⟨S_, .f32⟩
  | 4 => ⟨S32x4x64x64x64, .i1⟩
  | 5 => ⟨S32x4x64x64x64, .f32⟩
  | 6 => ⟨S32x4x64x64x64, .f32⟩
  | 7 => ⟨S32x4x64x1x64, .f32⟩
  | 8 => ⟨S32x4x1x64x64, .f32⟩
  | 9 => ⟨S32x4x64x64x64, .f32⟩
  | 10 => ⟨S32x4x64x64x64, .f32⟩
  | 11 => ⟨S32x4x64x64x64, .f32⟩
  | 12 => ⟨S32x4x64x64x64, .f32⟩
  | 13 => ⟨S_, .f32⟩
  | 14 => ⟨S32x4x64x64, .f32⟩
  | 15 => ⟨S32x4x64x128, .f32⟩
  | 16 => ⟨S32x4x64x128, .f32⟩
  | 17 => ⟨S32x4x1x64, .f32⟩
  | 18 => ⟨S32x4x1x64, .f32⟩
  | 19 => ⟨S32x4x64, .f32⟩
  | 20 => ⟨S32x4x64x1, .f32⟩
  | 21 => ⟨S32x4x64x128, .f32⟩
  | 22 => ⟨S32x4x64x128, .f32⟩
  | 23 => ⟨S32x4x64x64, .f32⟩
  | 24 => ⟨S32x4x64x64, .f32⟩
  | 25 => ⟨S32x4x64x64, .f32⟩
  | 26 => ⟨S32x4x64x64, .f32⟩
  | 27 => ⟨S32x4x64x128, .f32⟩
  | 28 => ⟨S32x4x64x128, .f32⟩
  | 29 => ⟨S32x4x256x128, .f32⟩
  | 30 => ⟨S32x4x256x128, .f32⟩
  | 31 => ⟨S32x4x256x128, .f32⟩
  | 32 => ⟨S32x4x256x128, .f32⟩
  | 33 => ⟨S_, .f32⟩
  | 34 => ⟨S32x4x256, .f32⟩
  | 35 => ⟨S32x4x256x1, .f32⟩
  | 36 => ⟨S_, .f32⟩
  | 37 => ⟨S32x4x256x1, .f32⟩
  | 38 => ⟨S32x4x256x1, .f32⟩
  | 39 => ⟨S_, .f32⟩
  | 40 => ⟨S32x4x256x1, .f32⟩
  | 41 => ⟨S32x4x256x1, .f32⟩
  | 42 => ⟨S32x4x256x1, .f32⟩
  | 43 => ⟨S32x4x256x128, .f32⟩
  | 44 => ⟨S32x4x256x128, .f32⟩
  | 45 => ⟨S1x1x1x128, .f32⟩
  | 46 => ⟨S32x4x256x128, .f32⟩
  | 47 => ⟨S32x4x256x128, .f32⟩
  | 48 => ⟨S32x256x4x128, .f32⟩
  | 49 => ⟨S32x256x512, .f32⟩
  | 50 => ⟨S32x256x512, .f32⟩
  | 51 => ⟨S32x1x4x64x128, .f32⟩
  | 52 => ⟨S32x1x4x64x128, .f32⟩
  | 53 => ⟨S32x2x4x64x128, .f32⟩
  | _ => ⟨S32x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x256x512, .f32⟩

abbrev bufTy : (tb : Table) → Fin (tcTables nBuf tb) → BufTy
  | .hbm, ⟨i, _⟩ => hbmTy i
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_call0_cst : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_v8 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_v11 : Ref sig .tc := ⟨.hbm, 72, rfl⟩
abbrev main_call1_v1 : Ref sig .tc := ⟨.hbm, 73, rfl⟩
abbrev main_v34 : Ref sig .tc := ⟨.hbm, 74, rfl⟩
abbrev main_cst_2 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c : Ref sig .tc := ⟨.hbm, 80, rfl⟩
abbrev main_v39 : Ref sig .tc := ⟨.hbm, 81, rfl⟩
abbrev main_call2_v0 : Ref sig .tc := ⟨.hbm, 82, rfl⟩
abbrev main_call2_c : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_0 : Ref sig .tc := ⟨.hbm, 88, rfl⟩
abbrev main_call2_v5 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_call3_call0_cst : Ref sig .tc := ⟨.hbm, 108, rfl⟩
abbrev main_call3_call0_v0 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_3 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v67 : Ref sig .tc := ⟨.hbm, 123, rfl⟩
abbrev main_v68 : Ref sig .tc := ⟨.hbm, 124, rfl⟩
abbrev main_cst_4 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_5 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_call6_call0_cst : Ref sig .tc := ⟨.hbm, 160, rfl⟩
abbrev main_call6_call0_v0 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_6 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v108 : Ref sig .tc := ⟨.hbm, 175, rfl⟩
abbrev main_v109 : Ref sig .tc := ⟨.hbm, 176, rfl⟩
abbrev main_cst_7 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_8 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_call9_call0_cst : Ref sig .tc := ⟨.hbm, 212, rfl⟩
abbrev main_call9_call0_v0 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_cst_9 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_v149 : Ref sig .tc := ⟨.hbm, 227, rfl⟩
abbrev main_v150 : Ref sig .tc := ⟨.hbm, 228, rfl⟩
abbrev main_cst_10 : Ref sig .tc := ⟨.hbm, 229, rfl⟩
abbrev main_call11_v0 : Ref sig .tc := ⟨.hbm, 230, rfl⟩
abbrev main_call11_v1 : Ref sig .tc := ⟨.hbm, 231, rfl⟩
abbrev main_call11_v2 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_11 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_call12_call0_cst : Ref sig .tc := ⟨.hbm, 264, rfl⟩
abbrev main_call12_call0_v0 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_cst_12 : Ref sig .tc := ⟨.hbm, 275, rfl⟩
abbrev main_call13_v0 : Ref sig .tc := ⟨.hbm, 276, rfl⟩
abbrev main_call13_v1 : Ref sig .tc := ⟨.hbm, 277, rfl⟩
abbrev main_call13_v2 : Ref sig .tc := ⟨.hbm, 278, rfl⟩
abbrev main_v190 : Ref sig .tc := ⟨.hbm, 279, rfl⟩
abbrev main_v191 : Ref sig .tc := ⟨.hbm, 280, rfl⟩
abbrev main_cst_13 : Ref sig .tc := ⟨.hbm, 281, rfl⟩
abbrev main_call14_v0 : Ref sig .tc := ⟨.hbm, 282, rfl⟩
abbrev main_call14_v1 : Ref sig .tc := ⟨.hbm, 283, rfl⟩
abbrev main_call14_v2 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_14 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_c_15 : Ref sig .tc := ⟨.hbm, 313, rfl⟩
abbrev main_v219 : Ref sig .tc := ⟨.hbm, 314, rfl⟩
abbrev main_call19_v0 : Ref sig .tc := ⟨.hbm, 315, rfl⟩
abbrev main_call19_c : Ref sig .tc := ⟨.hbm, 316, rfl⟩
abbrev main_call19_v1 : Ref sig .tc := ⟨.hbm, 317, rfl⟩
abbrev main_call19_v2 : Ref sig .tc := ⟨.hbm, 318, rfl⟩
abbrev main_call19_v3 : Ref sig .tc := ⟨.hbm, 319, rfl⟩
abbrev main_call19_v4 : Ref sig .tc := ⟨.hbm, 320, rfl⟩
abbrev main_call19_c_0 : Ref sig .tc := ⟨.hbm, 321, rfl⟩
abbrev main_call19_v5 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_call20_call0_cst : Ref sig .tc := ⟨.hbm, 341, rfl⟩
abbrev main_call20_call0_v0 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_cst_16 : Ref sig .tc := ⟨.hbm, 352, rfl⟩
abbrev main_call21_v0 : Ref sig .tc := ⟨.hbm, 353, rfl⟩
abbrev main_call21_v1 : Ref sig .tc := ⟨.hbm, 354, rfl⟩
abbrev main_call21_v2 : Ref sig .tc := ⟨.hbm, 355, rfl⟩
abbrev main_v247 : Ref sig .tc := ⟨.hbm, 356, rfl⟩
abbrev main_v248 : Ref sig .tc := ⟨.hbm, 357, rfl⟩
abbrev main_cst_17 : Ref sig .tc := ⟨.hbm, 358, rfl⟩
abbrev main_call22_v0 : Ref sig .tc := ⟨.hbm, 359, rfl⟩
abbrev main_call22_v1 : Ref sig .tc := ⟨.hbm, 360, rfl⟩
abbrev main_call22_v2 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_cst_18 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_call23_call0_cst : Ref sig .tc := ⟨.hbm, 393, rfl⟩
abbrev main_call23_call0_v0 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_v286 : Ref sig .tc := ⟨.hbm, 402, rfl⟩
abbrev main_v287 : Ref sig .tc := ⟨.hbm, 403, rfl⟩
abbrev main_cst_19 : Ref sig .tc := ⟨.hbm, 404, rfl⟩
abbrev main_call24_v0 : Ref sig .tc := ⟨.hbm, 405, rfl⟩
abbrev main_call24_v1 : Ref sig .tc := ⟨.hbm, 406, rfl⟩
abbrev main_call24_v2 : Ref sig .tc := ⟨.hbm, 407, rfl⟩
abbrev main_v288 : Ref sig .tc := ⟨.hbm, 408, rfl⟩
abbrev main_v289 : Ref sig .tc := ⟨.hbm, 409, rfl⟩
abbrev main_cst_20 : Ref sig .tc := ⟨.hbm, 410, rfl⟩
abbrev main_call25_v0 : Ref sig .tc := ⟨.hbm, 411, rfl⟩
abbrev main_call25_v1 : Ref sig .tc := ⟨.hbm, 412, rfl⟩
abbrev main_call25_v2 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_v293 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_cst_21 : Ref sig .tc := ⟨.hbm, 421, rfl⟩
abbrev main_v297 : Ref sig .tc := ⟨.hbm, 422, rfl⟩
abbrev main_v298 : Ref sig .tc := ⟨.hbm, 423, rfl⟩
abbrev main_v299 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_v308 : Ref sig .tc := ⟨.hbm, 433, rfl⟩
abbrev main_v309 : Ref sig .tc := ⟨.hbm, 434, rfl⟩
abbrev main_v310 : Ref sig .tc := ⟨.hbm, 435, rfl⟩
abbrev main_v311 : Ref sig .tc := ⟨.hbm, 436, rfl⟩
abbrev main_v312 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_call26_call0_cst : Ref sig .tc := ⟨.hbm, 445, rfl⟩
abbrev main_call26_call0_v0 : Ref sig .tc := ⟨.hbm, 446, rfl⟩
abbrev main_v320 : Ref sig .tc := ⟨.hbm, 447, rfl⟩
abbrev main_v321 : Ref sig .tc := ⟨.hbm, 448, rfl⟩
abbrev main_v322 : Ref sig .tc := ⟨.hbm, 449, rfl⟩
abbrev main_v323 : Ref sig .tc := ⟨.hbm, 450, rfl⟩
abbrev main_v324 : Ref sig .tc := ⟨.hbm, 451, rfl⟩
abbrev main_v325 : Ref sig .tc := ⟨.hbm, 452, rfl⟩
abbrev main_v326 : Ref sig .tc := ⟨.hbm, 453, rfl⟩
abbrev main_v327 : Ref sig .tc := ⟨.hbm, 454, rfl⟩
abbrev main_v328 : Ref sig .tc := ⟨.hbm, 455, rfl⟩
abbrev main_cst_22 : Ref sig .tc := ⟨.hbm, 456, rfl⟩
abbrev main_call27_v0 : Ref sig .tc := ⟨.hbm, 457, rfl⟩
abbrev main_call27_v1 : Ref sig .tc := ⟨.hbm, 458, rfl⟩
abbrev main_call27_v2 : Ref sig .tc := ⟨.hbm, 459, rfl⟩
abbrev main_v329 : Ref sig .tc := ⟨.hbm, 460, rfl⟩
abbrev main_v330 : Ref sig .tc := ⟨.hbm, 461, rfl⟩
abbrev main_cst_23 : Ref sig .tc := ⟨.hbm, 462, rfl⟩
abbrev main_call28_v0 : Ref sig .tc := ⟨.hbm, 463, rfl⟩
abbrev main_call28_v1 : Ref sig .tc := ⟨.hbm, 464, rfl⟩
abbrev main_call28_v2 : Ref sig .tc := ⟨.hbm, 465, rfl⟩
abbrev main_v331 : Ref sig .tc := ⟨.hbm, 466, rfl⟩
abbrev main_v332 : Ref sig .tc := ⟨.hbm, 467, rfl⟩
abbrev main_v333 : Ref sig .tc := ⟨.hbm, 468, rfl⟩
abbrev main_v334 : Ref sig .tc := ⟨.hbm, 469, rfl⟩
abbrev main_v335 : Ref sig .tc := ⟨.hbm, 470, rfl⟩
abbrev main_v336 : Ref sig .tc := ⟨.hbm, 471, rfl⟩
abbrev main_v337 : Ref sig .tc := ⟨.hbm, 472, rfl⟩
abbrev main_cst_24 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_v341 : Ref sig .tc := ⟨.hbm, 477, rfl⟩
abbrev main_v342 : Ref sig .tc := ⟨.hbm, 478, rfl⟩
abbrev main_v343 : Ref sig .tc := ⟨.hbm, 479, rfl⟩
abbrev main_v344 : Ref sig .tc := ⟨.hbm, 480, rfl⟩
abbrev main_v345 : Ref sig .tc := ⟨.hbm, 481, rfl⟩
abbrev main_v346 : Ref sig .tc := ⟨.hbm, 482, rfl⟩
abbrev main_v347 : Ref sig .tc := ⟨.hbm, 483, rfl⟩
abbrev main_v348 : Ref sig .tc := ⟨.hbm, 484, rfl⟩
abbrev main_v349 : Ref sig .tc := ⟨.hbm, 485, rfl⟩
abbrev main_v350 : Ref sig .tc := ⟨.hbm, 486, rfl⟩
abbrev main_v351 : Ref sig .tc := ⟨.hbm, 487, rfl⟩
abbrev main_v352 : Ref sig .tc := ⟨.hbm, 488, rfl⟩
abbrev main_v353 : Ref sig .tc := ⟨.hbm, 489, rfl⟩
abbrev main_v354 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_call29_call0_cst : Ref sig .tc := ⟨.hbm, 497, rfl⟩
abbrev main_call29_call0_v0 : Ref sig .tc := ⟨.hbm, 498, rfl⟩
abbrev main_v361 : Ref sig .tc := ⟨.hbm, 499, rfl⟩
abbrev main_v362 : Ref sig .tc := ⟨.hbm, 500, rfl⟩
abbrev main_v363 : Ref sig .tc := ⟨.hbm, 501, rfl⟩
abbrev main_v364 : Ref sig .tc := ⟨.hbm, 502, rfl⟩
abbrev main_v365 : Ref sig .tc := ⟨.hbm, 503, rfl⟩
abbrev main_v366 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_cst_25 : Ref sig .tc := ⟨.hbm, 508, rfl⟩
abbrev main_call30_v0 : Ref sig .tc := ⟨.hbm, 509, rfl⟩
abbrev main_call30_v1 : Ref sig .tc := ⟨.hbm, 510, rfl⟩
abbrev main_call30_v2 : Ref sig .tc := ⟨.hbm, 511, rfl⟩
abbrev main_v370 : Ref sig .tc := ⟨.hbm, 512, rfl⟩
abbrev main_v371 : Ref sig .tc := ⟨.hbm, 513, rfl⟩
abbrev main_cst_26 : Ref sig .tc := ⟨.hbm, 514, rfl⟩
abbrev main_call31_v0 : Ref sig .tc := ⟨.hbm, 515, rfl⟩
abbrev main_call31_v1 : Ref sig .tc := ⟨.hbm, 516, rfl⟩
abbrev main_call31_v2 : Ref sig .tc := ⟨.hbm, 517, rfl⟩
abbrev main_v372 : Ref sig .tc := ⟨.hbm, 518, rfl⟩
abbrev main_v373 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_cst_27 : Ref sig .tc := ⟨.hbm, 525, rfl⟩
abbrev main_v379 : Ref sig .tc := ⟨.hbm, 526, rfl⟩
abbrev main_v380 : Ref sig .tc := ⟨.hbm, 527, rfl⟩
abbrev main_v381 : Ref sig .tc := ⟨.hbm, 528, rfl⟩
abbrev main_v382 : Ref sig .tc := ⟨.hbm, 529, rfl⟩
abbrev main_v383 : Ref sig .tc := ⟨.hbm, 530, rfl⟩
abbrev main_v384 : Ref sig .tc := ⟨.hbm, 531, rfl⟩
abbrev main_v385 : Ref sig .tc := ⟨.hbm, 532, rfl⟩
abbrev main_v386 : Ref sig .tc := ⟨.hbm, 533, rfl⟩
abbrev main_v387 : Ref sig .tc := ⟨.hbm, 534, rfl⟩
abbrev main_v388 : Ref sig .tc := ⟨.hbm, 535, rfl⟩
abbrev main_v389 : Ref sig .tc := ⟨.hbm, 536, rfl⟩
abbrev main_v390 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_cst_28 : Ref sig .tc := ⟨.hbm, 545, rfl⟩
abbrev main_v398 : Ref sig .tc := ⟨.hbm, 546, rfl⟩
abbrev main_v399 : Ref sig .tc := ⟨.hbm, 547, rfl⟩
abbrev main_cst_29 : Ref sig .tc := ⟨.hbm, 548, rfl⟩
abbrev main_v400 : Ref sig .tc := ⟨.hbm, 549, rfl⟩
abbrev main_v401 : Ref sig .tc := ⟨.hbm, 550, rfl⟩
abbrev main_cst_30 : Ref sig .tc := ⟨.hbm, 551, rfl⟩
abbrev main_v402 : Ref sig .tc := ⟨.hbm, 552, rfl⟩
abbrev main_v403 : Ref sig .tc := ⟨.hbm, 553, rfl⟩
abbrev main_v404 : Ref sig .tc := ⟨.hbm, 554, rfl⟩
abbrev main_v405 : Ref sig .tc := ⟨.hbm, 555, rfl⟩
abbrev main_v406 : Ref sig .tc := ⟨.hbm, 556, rfl⟩
abbrev main_v407 : Ref sig .tc := ⟨.hbm, 557, rfl⟩
abbrev main_v408 : Ref sig .tc := ⟨.hbm, 558, rfl⟩
abbrev main_v409 : Ref sig .tc := ⟨.hbm, 559, rfl⟩
abbrev main_v410 : Ref sig .tc := ⟨.hbm, 560, rfl⟩
abbrev main_v411 : Ref sig .tc := ⟨.hbm, 561, rfl⟩
abbrev main_v412 : Ref sig .tc := ⟨.hbm, 562, rfl⟩
abbrev main_v413 : Ref sig .tc := ⟨.hbm, 563, rfl⟩
abbrev main_v414 : Ref sig .tc := ⟨.hbm, 564, rfl⟩
abbrev main_v415 : Ref sig .tc := ⟨.hbm, 565, rfl⟩

abbrev nD : Nat := 1
abbrev τ : Topo := Topo.v7x

variable {F : FTy → Type} [FloatOps F]
-- ==== KOddIn.lean ====
abbrev S4x4096x1024 : Shape := ⟨3, ![4, 4096, 1024]⟩
abbrev S4x3072 : Shape := ⟨2, ![4, 3072]⟩
abbrev S1024 : Shape := ⟨1, ![1024]⟩
abbrev S1024x3328 : Shape := ⟨2, ![1024, 3328]⟩
abbrev S4x3x1024 : Shape := ⟨3, ![4, 3, 1024]⟩
abbrev S1024x512 : Shape := ⟨2, ![1024, 512]⟩
abbrev S1024x128 : Shape := ⟨2, ![1024, 128]⟩
abbrev S1024x2560 : Shape := ⟨2, ![1024, 2560]⟩
abbrev S1024x64 : Shape := ⟨2, ![1024, 64]⟩
abbrev S1024x256 : Shape := ⟨2, ![1024, 256]⟩
abbrev S1x1024 : Shape := ⟨2, ![1, 1024]⟩
abbrev S4x4096x512 : Shape := ⟨3, ![4, 4096, 512]⟩
abbrev S4x4096x256 : Shape := ⟨3, ![4, 4096, 256]⟩
abbrev S1x512x1024 : Shape := ⟨3, ![1, 512, 1024]⟩
abbrev S1x3x1024 : Shape := ⟨3, ![1, 3, 1024]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩
abbrev S512x256 : Shape := ⟨2, ![512, 256]⟩

abbrev nBuf : Space → Nat
  | .hbm => 24
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x3328, .f32⟩
  | .hbm, ⟨4, _⟩ => ⟨S4x3x1024, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x2560, .f32⟩
  | .hbm, ⟨9, _⟩ => ⟨S1024x64, .f32⟩
  | .hbm, ⟨10, _⟩ => ⟨S1024x64, .f32⟩
  | .hbm, ⟨11, _⟩ => ⟨S1024x128, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x256, .f32⟩
  | .hbm, ⟨16, _⟩ => ⟨S1024x3328, .f32⟩
  | .hbm, ⟨17, _⟩ => ⟨S1024x3328, .bf16⟩
  | .hbm, ⟨18, _⟩ => ⟨S1x1024, .f32⟩
  | .hbm, ⟨19, _⟩ => ⟨S4x4096x512, .f32⟩
  | .hbm, ⟨20, _⟩ => ⟨S4x4096x256, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x3328, .bf16⟩
  | .local _ .vmem, ⟨6, _⟩ => ⟨S1x512x512, .f32⟩
  | .local _ .vmem, ⟨7, _⟩ => ⟨S1x512x512, .f32⟩
  | .local _ .vmem, ⟨8, _⟩ => ⟨S1x512x256, .f32⟩
  | .local _ .vmem, ⟨9, _⟩ => ⟨S1x512x256, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ROddInIdeal.lean ====
abbrev S4x4096x1024 : Shape := ⟨3, ![4, 4096, 1024]⟩
abbrev S4x3072 : Shape := ⟨2, ![4, 3072]⟩
abbrev S1024 : Shape := ⟨1, ![1024]⟩
abbrev S1024x3328 : Shape := ⟨2, ![1024, 3328]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3328 : Shape := ⟨3, ![4, 4096, 3328]⟩
abbrev S4x4096x512 : Shape := ⟨3, ![4, 4096, 512]⟩
abbrev S4x4096x128 : Shape := ⟨3, ![4, 4096, 128]⟩
abbrev S4x4096x2x1x64 : Shape := ⟨5, ![4, 4096, 2, 1, 64]⟩
abbrev S4x4096x2x2x64 : Shape := ⟨5, ![4, 4096, 2, 2, 64]⟩
abbrev S4x4096x256 : Shape := ⟨3, ![4, 4096, 256]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x3328, .f32⟩
  | .hbm, ⟨4, _⟩ => ⟨S4x1x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x3328, .f32⟩
  | .hbm, ⟨32, _⟩ => ⟨S4x4096x512, .f32⟩
  | .hbm, ⟨33, _⟩ => ⟨S4x4096x128, .f32⟩
  | .hbm, ⟨34, _⟩ => ⟨S4x4096x128, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x2x1x64, .f32⟩
  | .hbm, ⟨41, _⟩ => ⟨S4x4096x2x1x64, .f32⟩
  | .hbm, ⟨42, _⟩ => ⟨S4x4096x2x2x64, .f32⟩
  | .hbm, ⟨43, _⟩ => ⟨S4x4096x256, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S_, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S_, .f32⟩
  | .hbm, ⟨57, _⟩ => ⟨S4x4096x512, .f32⟩
  | .hbm, ⟨58, _⟩ => ⟨S4x4096x512, .f32⟩
  | .hbm, ⟨59, _⟩ => ⟨S_, .f32⟩
  | .hbm, ⟨60, _⟩ => ⟨S4x4096x512, .f32⟩
  | .hbm, ⟨61, _⟩ => ⟨S4x4096x512, .f32⟩
  | .hbm, ⟨62, _⟩ => ⟨S4x4096x512, .f32⟩
  | .hbm, ⟨63, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== KEvenIn.lean ====
abbrev S4x4096x1024 : Shape := ⟨3, ![4, 4096, 1024]⟩
abbrev S4x3072 : Shape := ⟨2, ![4, 3072]⟩
abbrev S1024 : Shape := ⟨1, ![1024]⟩
abbrev S1024x2592 : Shape := ⟨2, ![1024, 2592]⟩
abbrev S4x3x1024 : Shape := ⟨3, ![4, 3, 1024]⟩
abbrev S1024x256 : Shape := ⟨2, ![1024, 256]⟩
abbrev S1024x512 : Shape := ⟨2, ![1024, 512]⟩
abbrev S1024x32 : Shape := ⟨2, ![1024, 32]⟩
abbrev S1024x1536 : Shape := ⟨2, ![1024, 1536]⟩
abbrev S1024x64 : Shape := ⟨2, ![1024, 64]⟩
abbrev S1024x128 : Shape := ⟨2, ![1024, 128]⟩
abbrev S_ : Shape := ⟨0, ![]⟩
abbrev S1024x2688 : Shape := ⟨2, ![1024, 2688]⟩
abbrev S1x1024 : Shape := ⟨2, ![1, 1024]⟩
abbrev S4x4096x512 : Shape := ⟨3, ![4, 4096, 512]⟩
abbrev S4x4096x128 : Shape := ⟨3, ![4, 4096, 128]⟩
abbrev S1x512x1024 : Shape := ⟨3, ![1, 512, 1024]⟩
abbrev S1x3x1024 : Shape := ⟨3, ![1, 3, 1024]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩
abbrev S512x128 : Shape := ⟨2, ![512, 128]⟩

abbrev nBuf : Space → Nat
  | .hbm => 35
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x2592, .f32⟩
  | .hbm, ⟨4, _⟩ => ⟨S4x3x1024, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x32, .f32⟩
  | .hbm, ⟨9, _⟩ => ⟨S1024x1536, .f32⟩
  | .hbm, ⟨10, _⟩ => ⟨S1024x64, .f32⟩
  | .hbm, ⟨11, _⟩ => ⟨S1024x64, .f32⟩
  | .hbm, ⟨12, _⟩ => ⟨S1024x128, .f32⟩
  | .hbm, ⟨13, _⟩ => ⟨S1024x64, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S1024x64, .f32⟩
  | .hbm, ⟨18, _⟩ => ⟨S1024x128, .f32⟩
  | .hbm, ⟨19, _⟩ => ⟨S1024x64, .f32⟩
  | .hbm, ⟨20, _⟩ => ⟨S1024x64, .f32⟩
  | .hbm, ⟨21, _⟩ => ⟨S1024x128, .f32⟩
  | .hbm, ⟨22, _⟩ => ⟨S1024x512, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x2688, .f32⟩
  | .hbm, ⟨27, _⟩ => ⟨S1024x2688, .bf16⟩
  | .hbm, ⟨28, _⟩ => ⟨S1x1024, .f32⟩
  | .hbm, ⟨29, _⟩ => ⟨S4x4096x512, .f32⟩
  | .hbm, ⟨30, _⟩ => ⟨S4x4096x512, .f32⟩
  | .hbm, ⟨31, _⟩ => ⟨S4x4096x128, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x2688, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x128, .f32⟩
  | .local _ .vmem, ⟨11, _⟩ => ⟨S1x512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev main_v23_4 : Ref sig .tc := ⟨.hbm, 33, rfl⟩
abbrev main_v23_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== REvenInIdeal.lean ====
abbrev S4x4096x1024 : Shape := ⟨3, ![4, 4096, 1024]⟩
abbrev S4x3072 : Shape := ⟨2, ![4, 3072]⟩
abbrev S1024 : Shape := ⟨1, ![1024]⟩
abbrev S1024x2592 : Shape := ⟨2, ![1024, 2592]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2592 : Shape := ⟨3, ![4, 4096, 2592]⟩
abbrev S4x4096x256 : Shape := ⟨3, ![4, 4096, 256]⟩
abbrev S4x4096x512 : Shape := ⟨3, ![4, 4096, 512]⟩
abbrev S4x4096x16 : Shape := ⟨3, ![4, 4096, 16]⟩
abbrev S4x4096x4x1x64 : Shape := ⟨5, ![4, 4096, 4, 1, 64]⟩
abbrev S4x4096x4x2x64 : Shape := ⟨5, ![4, 4096, 4, 2, 64]⟩
abbrev S4x4096x32 : Shape := ⟨3, ![4, 4096, 32]⟩
abbrev S4x4096x128 : Shape := ⟨3, ![4, 4096, 128]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x2592, .f32⟩
  | .hbm, ⟨4, _⟩ => ⟨S4x1x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x2592, .f32⟩
  | .hbm, ⟨32, _⟩ => ⟨S4x4096x256, .f32⟩
  | .hbm, ⟨33, _⟩ => ⟨S4x4096x256, .f32⟩
  | .hbm, ⟨34, _⟩ => ⟨S4x4096x512, .f32⟩
  | .hbm, ⟨35, _⟩ => ⟨S4x4096x16, .f32⟩
  | .hbm, ⟨36, _⟩ => ⟨S4x4096x16, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x4x1x64, .f32⟩
  | .hbm, ⟨41, _⟩ => ⟨S4x4096x4x1x64, .f32⟩
  | .hbm, ⟨42, _⟩ => ⟨S4x4096x4x2x64, .f32⟩
  | .hbm, ⟨43, _⟩ => ⟨S4x4096x512, .f32⟩
  | .hbm, ⟨44, _⟩ => ⟨S4x4096x32, .f32⟩
  | .hbm, ⟨45, _⟩ => ⟨S_, .i32⟩
  | .hbm, ⟨46, _⟩ => ⟨S_, .f32⟩
  | .hbm, ⟨47, _⟩ => ⟨S4x4096x128, .f32⟩
  | .hbm, ⟨48, _⟩ => ⟨S4x4096x512, .f32⟩
  | .hbm, ⟨49, _⟩ => ⟨S4x4096x512, .f32⟩
  | .hbm, ⟨50, _⟩ => ⟨S_, .f32⟩
  | .hbm, ⟨51, _⟩ => ⟨S4x4096x512, .f32⟩
  | .hbm, ⟨52, _⟩ => ⟨S4x4096x512, .f32⟩
  | .hbm, ⟨53, _⟩ => ⟨S_, .f32⟩
  | .hbm, ⟨54, _⟩ => ⟨S4x4096x512, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S_, .f32⟩
  | .hbm, ⟨60, _⟩ => ⟨S4x4096x512, .f32⟩
  | .hbm, ⟨61, _⟩ => ⟨S4x4096x512, .f32⟩
  | .hbm, ⟨62, _⟩ => ⟨S_, .f32⟩
  | .hbm, ⟨63, _⟩ => ⟨S4x4096x512, .f32⟩
  | .hbm, ⟨64, _⟩ => ⟨S4x4096x512, .f32⟩
  | .hbm, ⟨65, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_call0_v0 : Ref sig .tc := ⟨.hbm, 46, rfl⟩
abbrev main_v37 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v38 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== KEvenOut.lean ====
abbrev S4x4096x1024 : Shape := ⟨3, ![4, 4096, 1024]⟩
abbrev S4x3072 : Shape := ⟨2, ![4, 3072]⟩
abbrev S4x4096x512 : Shape := ⟨3, ![4, 4096, 512]⟩
abbrev S512x512 : Shape := ⟨2, ![512, 512]⟩
abbrev S512 : Shape := ⟨1, ![512]⟩
abbrev S1024x1024 : Shape := ⟨2, ![1024, 1024]⟩
abbrev S4x3x1024 : Shape := ⟨3, ![4, 3, 1024]⟩
abbrev S1x512 : Shape := ⟨2, ![1, 512]⟩
abbrev S1x512x1024 : Shape := ⟨3, ![1, 512, 1024]⟩
abbrev S1x3x1024 : Shape := ⟨3, ![1, 3, 1024]⟩
abbrev S1x512x512 : Shape := ⟨3, ![1, 512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S4x3x1024, .f32⟩
  | .hbm, ⟨9, _⟩ => ⟨S1024x1024, .bf16⟩
  | .hbm, ⟨10, _⟩ => ⟨S512x512, .bf16⟩
  | .hbm, ⟨11, _⟩ => ⟨S1x512, .f32⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .bf16⟩
  | .local _ .vmem, ⟨11, _⟩ => ⟨S1x512, .f32⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== REvenOutIdeal.lean ====
abbrev S4x4096x1024 : Shape := ⟨3, ![4, 4096, 1024]⟩
abbrev S4x3072 : Shape := ⟨2, ![4, 3072]⟩
abbrev S4x4096x512 : Shape := ⟨3, ![4, 4096, 512]⟩
abbrev S512x512 : Shape := ⟨2, ![512, 512]⟩
abbrev S512 : Shape := ⟨1, ![512]⟩
abbrev S1024x1024 : Shape := ⟨2, ![1024, 1024]⟩
abbrev S4x1024 : Shape := ⟨2, ![4, 1024]⟩
abbrev S4x1x1024 : Shape := ⟨3, ![4, 1, 1024]⟩
abbrev S1x1x512 : Shape := ⟨3, ![1, 1, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S4x1024, .f32⟩
  | .hbm, ⟨9, _⟩ => ⟨S4x1x1024, .f32⟩
  | .hbm, ⟨10, _⟩ => ⟨S4x4096x512, .f32⟩
  | .hbm, ⟨11, _⟩ => ⟨S1x1x512, .f32⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S4x4096x512, .f32⟩
  | .hbm, ⟨16, _⟩ => ⟨S_, .f32⟩
  | .hbm, ⟨17, _⟩ => ⟨S4x4096x512, .f32⟩
  | .hbm, ⟨18, _⟩ => ⟨S4x4096x512, .f32⟩
  | .hbm, ⟨19, _⟩ => ⟨S_, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KOddOut.lean ====
abbrev S4x4096x1024 : Shape := ⟨3, ![4, 4096, 1024]⟩
abbrev S4x3072 : Shape := ⟨2, ![4, 3072]⟩
abbrev S4x4096x512 : Shape := ⟨3, ![4, 4096, 512]⟩
abbrev S3x512 : Shape := ⟨2, ![3, 512]⟩
abbrev S512 : Shape := ⟨1, ![512]⟩
abbrev S1024x1024 : Shape := ⟨2, ![1024, 1024]⟩
abbrev S4x3x1024 : Shape := ⟨3, ![4, 3, 1024]⟩
abbrev S1x512 : Shape := ⟨2, ![1, 512]⟩
abbrev S1x512x1024 : Shape := ⟨3, ![1, 512, 1024]⟩
abbrev S1x3x1024 : Shape := ⟨3, ![1, 3, 1024]⟩
abbrev S1x512x512 : Shape := ⟨3, ![1, 512, 512]⟩
abbrev S1x8x512 : Shape := ⟨3, ![1, 8, 512]⟩
abbrev S512x512 : Shape := ⟨2, ![512, 512]⟩
abbrev S1x1x512 : Shape := ⟨3, ![1, 1, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S3x512, .f32⟩
  | .hbm, ⟨6, _⟩ => ⟨S512, .f32⟩
  | .hbm, ⟨7, _⟩ => ⟨S1024x1024, .f32⟩
  | .hbm, ⟨8, _⟩ => ⟨S4x3x1024, .f32⟩
  | .hbm, ⟨9, _⟩ => ⟨S1024x1024, .bf16⟩
  | .hbm, ⟨10, _⟩ => ⟨S1x512, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x512x512, .f32⟩
  | .local _ .vmem, ⟨13, _⟩ => ⟨S1x512x512, .f32⟩
  | .local _ .vmem, ⟨14, _⟩ => ⟨S3x512, .f32⟩
  | .local _ .vmem, ⟨15, _⟩ => ⟨S1x512, .f32⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ROddOutIdeal.lean ====
abbrev S4x4096x1024 : Shape := ⟨3, ![4, 4096, 1024]⟩
abbrev S4x3072 : Shape := ⟨2, ![4, 3072]⟩
abbrev S4x4096x512 : Shape := ⟨3, ![4, 4096, 512]⟩
abbrev S3x512 : Shape := ⟨2, ![3, 512]⟩
abbrev S512 : Shape := ⟨1, ![512]⟩
abbrev S1024x1024 : Shape := ⟨2, ![1024, 1024]⟩
abbrev S4x1024 : Shape := ⟨2, ![4, 1024]⟩
abbrev S4x1x1024 : Shape := ⟨3, ![4, 1, 1024]⟩
abbrev S_ : Shape := ⟨0, ![]⟩
abbrev S4x4098x512 : Shape := ⟨3, ![4, 4098, 512]⟩
abbrev S1x512 : Shape := ⟨2, ![1, 512]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S3x512, .f32⟩
  | .hbm, ⟨6, _⟩ => ⟨S512, .f32⟩
  | .hbm, ⟨7, _⟩ => ⟨S1024x1024, .f32⟩
  | .hbm, ⟨8, _⟩ => ⟨S4x1024, .f32⟩
  | .hbm, ⟨9, _⟩ => ⟨S4x1x1024, .f32⟩
  | .hbm, ⟨10, _⟩ => ⟨S_, .i32⟩
  | .hbm, ⟨11, _⟩ => ⟨S_, .f32⟩
  | .hbm, ⟨12, _⟩ => ⟨S4x4098x512, .f32⟩
  | .hbm, ⟨13, _⟩ => ⟨S4x4096x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S1x1x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Rows.lean ====
module

public import Idealize.ShloMosaic.Lib.Pointwise

@[expose] public section

/-! The scalar formulas both programs of a projection call are compared with, stated on one row of the
    activations at a time. -/

noncomputable section

open Idealize.ShloMosaic

namespace Cert.Rows

/-- One entry of a normalized and modulated row: `x` divided by its root mean square, times the norm's
    weight, times one plus the scale, plus the shift. -/
def modRow (x shift scale nw : Fin 1024 → EReal) (d : Fin 1024) : EReal :=
  x d * Ideal.rsqrt (Ideal.div (∑ e, x e * x e) (Ideal.ofBits .f32 0x44800000#32) + Ideal.ofBits .f32 0x358637BD#32)
    * nw d * (1 + scale d) + shift d

/-- One entry of a projection: the modulated row against one column of the weight. -/
def projRow (x shift scale nw w : Fin 1024 → EReal) : EReal :=
  ∑ d, modRow x shift scale nw d * w d

/-- The gate `v · σ(v)`. -/
def gate (v : EReal) : EReal := v * Ideal.div 1 (1 + Ideal.exp (-v))

/-- The logistic function. -/
def sigm (v : EReal) : EReal := Ideal.div 1 (1 + Ideal.exp (-v))

end Cert.Rows
-- ==== Proof.Soft.lean ====
module

public import Idealize.ShloMosaic.Lib.Pointwise
public import proofs.«01_k».proof.Proof.Rows

@[expose] public section

/-! A row of attention over the extended reals: dividing by the softmax's denominator before or after the
    weighted sum is the same where the logits are finite, and a finite row normalized stays finite. -/

noncomputable section

open Idealize.ShloMosaic

namespace Cert.Soft

/-- A finite value. -/
def Fine (x : EReal) : Prop := ∃ r : ℝ, x = r

theorem fine_mul {x y : EReal} (hx : Fine x) (hy : Fine y) : Fine (x * y) := by
  obtain ⟨a, rfl⟩ := hx; obtain ⟨b, rfl⟩ := hy; exact ⟨a * b, (EReal.coe_mul a b).symm⟩

theorem fine_sum {n : ℕ} (f : Fin n → EReal) (h : ∀ k, Fine (f k)) : Fine (∑ k, f k) := by
  choose g hg using h
  exact ⟨∑ k, g k, by simp only [hg]; exact (map_sum (⟨⟨Real.toEReal, rfl⟩, EReal.coe_add⟩ : ℝ →+ EReal) g Finset.univ).symm⟩

theorem fine_of_abs {x : EReal} (h : max x (-x) < ⊤) : Fine x := by
  induction x using EReal.rec with
  | bot => exact absurd h (by simp)
  | top => exact absurd h (by simp)
  | coe r => exact ⟨r, rfl⟩

theorem ninf : Ideal.ofBits .f32 0xFF800000#32 = ⊥ := by simp [Ideal.ofBits, Ideal.ieee]
theorem pinf : Ideal.ofBits .f32 0x7F800000#32 = ⊤ := by simp [Ideal.ofBits, Ideal.ieee]
theorem w64 : Ideal.ofBits .f32 0x42800000#32 = ((64 : ℝ) : EReal) := by
  simp [Ideal.ofBits, Ideal.ieee, -EReal.coe_mul]; norm_num
theorem w64i : Ideal.ofBits .f32 0x3C800000#32 = ((1 / 64 : ℝ) : EReal) := by
  simp [Ideal.ofBits, Ideal.ieee, -EReal.coe_mul]; norm_num
theorem w8i : Ideal.ofBits .f32 0x3E000000#32 = ((1 / 8 : ℝ) : EReal) := by
  simp [Ideal.ofBits, Ideal.ieee, -EReal.coe_mul]; norm_num
theorem one : Ideal.ofBits .f32 0x3F800000#32 = 1 := by
  simp [Ideal.ofBits, Ideal.ieee, -EReal.coe_mul]; norm_num
theorem eps_pos : ∃ e : ℝ, 0 < e ∧ Ideal.ofBits .f32 0x358637BD#32 = (e : EReal) := by
  refine ⟨_, ?_, by simp [Ideal.ofBits, Ideal.ieee, -EReal.coe_mul]; rfl⟩
  positivity

/-- The reciprocal root mean square of 64 numbers. -/
def rms (x : Fin 64 → EReal) : EReal :=
  Ideal.rsqrt (Ideal.div (∑ e, x e * x e) (Ideal.ofBits .f32 0x42800000#32) + Ideal.ofBits .f32 0x358637BD#32)

/-- The mean as a product with the reciprocal of the count. -/
theorem rms_mul (x : Fin 64 → EReal) : rms x
    = Ideal.rsqrt ((∑ e, x e * x e) * Ideal.ofBits .f32 0x3C800000#32 + Ideal.ofBits .f32 0x358637BD#32) := by
  rw [rms, w64, Ideal.div_coe (by norm_num), w64i]

theorem rms_fine (x : Fin 64 → EReal) (h : ∀ e, Fine (x e)) : Fine (rms x) := by
  choose g hg using h
  obtain ⟨e, he, hb⟩ := eps_pos
  have hs : ∑ k, x k * x k = ((∑ k, g k * g k : ℝ) : EReal) := by
    simp only [hg, ← EReal.coe_mul]
    exact (map_sum (⟨⟨Real.toEReal, rfl⟩, EReal.coe_add⟩ : ℝ →+ EReal) (fun k => g k * g k) Finset.univ).symm
  have hp : (0 : ℝ) < (∑ k, g k * g k) * (1 / 64) + e :=
    add_pos_of_nonneg_of_pos (mul_nonneg (Finset.sum_nonneg fun k _ => mul_self_nonneg _) (by norm_num)) he
  rw [rms_mul, hs, w64i, hb, ← EReal.coe_mul, ← EReal.coe_add, Ideal.rsqrt_coe, if_neg hp.le.not_gt, if_neg hp.ne']
  exact ⟨_, rfl⟩

/-- The largest of a row's scores and of the sink's logit. -/
def top (S : Fin 256 → EReal) (z : EReal) : EReal :=
  max z (Finset.univ.fold max (Ideal.ofBits .f32 0xFF800000#32) S)

/-- One entry of a row's attention: the exponentials' weighted sum over their sum, the sink in the denominator only. -/
def head (S : Fin 256 → EReal) (z : EReal) (v : Fin 256 → EReal) : EReal :=
  Ideal.div (∑ k, Ideal.exp (S k - top S z) * v k) (Ideal.exp (z - top S z) + ∑ k, Ideal.exp (S k - top S z))

/-- The row with the sink's logit behind it. -/
def cat (S : Fin 256 → EReal) (z : EReal) (l : Fin 257) : EReal :=
  if hl : l.val < 256 then S ⟨l.val, hl⟩ else z

theorem top_cat (S : Fin 256 → EReal) (z : EReal) :
    max (Ideal.ofBits .f32 0xFF800000#32) (Finset.univ.fold max (Ideal.ofBits .f32 0xFF800000#32) (cat S z)) = top S z := by
  refine eq_of_forall_ge_iff fun c => ?_
  simp only [top, ninf, max_le_iff, Finset.fold_max_le, bot_le, true_and, Finset.mem_univ, forall_const]
  constructor
  · intro h
    exact ⟨by simpa [cat] using h ⟨256, by omega⟩, fun k => by simpa [cat, k.isLt] using h ⟨k.val, by omega⟩⟩
  · rintro ⟨h, h'⟩ l
    unfold cat
    split
    · exact h' _
    · exact h

theorem sum_cat (S : Fin 256 → EReal) (z m : EReal) :
    ∑ l, Ideal.exp (cat S z l - m) = Ideal.exp (z - m) + ∑ k, Ideal.exp (S k - m) := by
  rw [Fin.sum_univ_castSucc, add_comm]
  refine congrArg₂ (· + ·) ?_ (Finset.sum_congr rfl fun k _ => ?_)
  · simp [cat]
  · simp [cat, k.isLt]

theorem sum_mul_real {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ,
      EReal.right_distrib_of_nonneg_of_ne_top (by exact_mod_cast hc) (EReal.coe_ne_top c), ih]

/-- The quotient after the weighted sum is the weighted sum of the quotients. -/
theorem head_eq (S : Fin 256 → EReal) (z : EReal) (v : Fin 256 → EReal) (hS : ∀ k, Fine (S k)) (hz : Fine z) :
    head S z v = ∑ k, Ideal.div (Ideal.exp (S k - top S z)) (∑ l, Ideal.exp (cat S z l - top S z)) * v k := by
  have ht : Fine (top S z) := by
    obtain ⟨a, rfl⟩ := hz
    choose g hg using hS
    have h1 : (a : EReal) ≤ top S a := le_max_left _ _
    have h2 : top S a < ⊤ := by
      rw [top, max_lt_iff, Finset.fold_max_lt, ninf]
      exact ⟨EReal.coe_lt_top a, bot_lt_top, fun k _ => by rw [hg]; exact EReal.coe_lt_top _⟩
    exact ⟨(top S a).toReal, (EReal.coe_toReal h2.ne (fun e => by rw [e] at h1; exact absurd h1 (by simp))).symm⟩
  obtain ⟨r, hr⟩ := ht
  obtain ⟨a, rfl⟩ := hz
  choose g hg using hS
  have hd : Ideal.exp ((a : EReal) - (r : EReal)) + ∑ k, Ideal.exp (S k - (r : EReal))
      = ((Real.exp (a - r) + ∑ k, Real.exp (g k - r) : ℝ) : EReal) := by
    simp only [hg, ← EReal.coe_sub, Ideal.exp_coe, EReal.coe_add]
    exact congrArg _ (map_sum (⟨⟨Real.toEReal, rfl⟩, EReal.coe_add⟩ : ℝ →+ EReal) (fun k => Real.exp (g k - r)) Finset.univ).symm
  have hp : (0 : ℝ) < Real.exp (a - r) + ∑ k, Real.exp (g k - r) :=
    add_pos_of_pos_of_nonneg (Real.exp_pos _) (Finset.sum_nonneg fun k _ => (Real.exp_pos _).le)
  rw [head, sum_cat, hr, hd]
  simp only [Ideal.div_coe hp.ne']
  rw [sum_mul_real _ _ (one_div_nonneg.mpr hp.le)]
  exact Finset.sum_congr rfl fun k _ => mul_right_comm _ _ _

end Cert.Soft
-- ==== Proof.AttRef.lean ====
module

public import proofs.«01_k».proof.Proof.Gen.RAttIdeal.Run
public import proofs.«01_k».proof.Proof.Soft

@[expose] public section

set_option maxRecDepth 16384

noncomputable section

namespace Cert.AttRef

open Cert.RAttIdeal Cert.RAttIdeal.Gen Idealize.ShloMosaic Idealize.ShloMosaic.TcCoe Idealize.SL.Sem

variable (Q SA : FVec Ideal S32x256x512 .f32) (KV : FVec Ideal S32x256x256 .f32) (QW KW : FVec Ideal S64 .f32)
  (SK : FVec Ideal S8 .f32)

/-- The keys: the first half of each head's lanes, normalized. -/
def kn : FVec Ideal S32x2x256x64 .f32 :=
  transpose S32x2x256x64 [0, 2, 1, 3] (mulf (mulf (shapeCast _ (extractStridedSlice S32x256x2x1x64 ![0, 0, 0, 0, 0] (shapeCast _ KV shapeCasts_S32x256x256_S32x256x2x2x64) slices_S32x256x2x2x64_S32x256x2x1x64_0_0_0_0_0) shapeCasts_S32x256x2x1x64_S32x256x2x64) (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 (Host.reduceAdd (mulf (shapeCast _ (extractStridedSlice S32x256x2x1x64 ![0, 0, 0, 0, 0] (shapeCast _ KV shapeCasts_S32x256x256_S32x256x2x2x64) slices_S32x256x2x2x64_S32x256x2x1x64_0_0_0_0_0) shapeCasts_S32x256x2x1x64_S32x256x2x64) (shapeCast _ (extractStridedSlice S32x256x2x1x64 ![0, 0, 0, 0, 0] (shapeCast _ KV shapeCasts_S32x256x256_S32x256x2x2x64) slices_S32x256x2x2x64_S32x256x2x1x64_0_0_0_0_0) shapeCasts_S32x256x2x1x64_S32x256x2x64)) (constant S_ .f32 0x00000000#32) reducesTo_S32x256x2x64_S32x256x2_d3 h_S_)) (broadcastInDim S32x256x2x1 ![] bcast_S_S32x256x2x1 (constant S_ .f32 0x42800000#32))) (broadcastInDim S32x256x2x1 ![] bcast_S_S32x256x2x1 (constant S_ .f32 0x358637BD#32)))))) (broadcastInDim S32x256x2x64 ![0, 1, 2, 3] bcast_S1x1x1x64_S32x256x2x64_0_1_2_3 (broadcastInDim S1x1x1x64 ![3] bcast_S64_S1x1x1x64_3 KW))) transposes_S32x256x2x64_S32x2x256x64_0_2_1_3

/-- The values: the second half of each head's lanes. -/
def vv : FVec Ideal S32x2x256x64 .f32 :=
  transpose S32x2x256x64 [0, 2, 1, 3] (shapeCast _ (extractStridedSlice S32x256x2x1x64 ![0, 0, 0, 1, 0] (shapeCast _ KV shapeCasts_S32x256x256_S32x256x2x2x64) slices_S32x256x2x2x64_S32x256x2x1x64_0_0_0_1_0) shapeCasts_S32x256x2x1x64_S32x256x2x64) transposes_S32x256x2x64_S32x2x256x64_0_2_1_3

/-- The queries, normalized. -/
def qn : FVec Ideal S32x2x4x256x64 .f32 :=
  transpose S32x2x4x256x64 [0, 2, 3, 1, 4] (mulf (mulf (shapeCast _ Q shapeCasts_S32x256x512_S32x256x2x4x64) (broadcastInDim S32x256x2x4x64 ![0, 1, 2, 3, 4] bcast_S32x256x2x4x1_S32x256x2x4x64_0_1_2_3_4 (Host.rsqrt (addf (Host.divf (broadcastInDim S32x256x2x4x1 ![0, 1, 2, 3] bcast_S32x256x2x4_S32x256x2x4x1_0_1_2_3 (Host.reduceAdd (mulf (shapeCast _ Q shapeCasts_S32x256x512_S32x256x2x4x64) (shapeCast _ Q shapeCasts_S32x256x512_S32x256x2x4x64)) (constant S_ .f32 0x00000000#32) reducesTo_S32x256x2x4x64_S32x256x2x4_d4 h_S_)) (broadcastInDim S32x256x2x4x1 ![] bcast_S_S32x256x2x4x1 (constant S_ .f32 0x42800000#32))) (broadcastInDim S32x256x2x4x1 ![] bcast_S_S32x256x2x4x1 (constant S_ .f32 0x358637BD#32)))))) (broadcastInDim S32x256x2x4x64 ![0, 1, 2, 3, 4] bcast_S1x1x1x1x64_S32x256x2x4x64_0_1_2_3_4 (broadcastInDim S1x1x1x1x64 ![4] bcast_S64_S1x1x1x1x64_4 QW))) transposes_S32x256x2x4x64_S32x2x4x256x64_0_2_3_1_4

/-- The scores. -/
def sc : FVec Ideal S32x2x4x256x256 .f32 :=
  Host.dotGeneral dot_S32x2x4x256x64_S32x2x256x64_S32x2x4x256x256_4_3_23_2_01_01 none (mulf (qn Q QW) (broadcastInDim S32x2x4x256x64 ![] bcast_S_S32x2x4x256x64 (constant S_ .f32 0x3E000000#32))) (kn KV KW)

/-- The scores with the sink's logit behind them. -/
def cat : FVec Ideal S32x2x4x256x257 .f32 :=
  concatenate S32x2x4x256x257 4 [⟨S32x2x4x256x256, (sc Q KV QW KW)⟩, ⟨S32x2x4x256x1, (broadcastInDim S32x2x4x256x1 ![0, 1, 2, 3, 4] bcast_S1x2x4x1x1_S32x2x4x256x1_0_1_2_3_4 (shapeCast _ SK shapeCasts_S8_S1x2x4x1x1))⟩] concatenates_S32x2x4x256x256_S32x2x4x256x1_S32x2x4x256x257_d4

/-- The largest logit of each row. -/
def mx : FVec Ideal S32x2x4x256 .f32 :=
  maximumf (broadcastInDim S32x2x4x256 ![] bcast_S_S32x2x4x256 (constant S_ .f32 0xFF800000#32)) (Host.reduce FloatOps.maximumf (cat Q KV QW KW SK) (constant S_ .f32 0xFF800000#32) reducesTo_S32x2x4x256x257_S32x2x4x256_d4 h_S_)

/-- The exponentials. -/
def ex : FVec Ideal S32x2x4x256x257 .f32 :=
  Host.exp (subf (cat Q KV QW KW SK) (broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 (mx Q KV QW KW SK))))

/-- The attention weights, the sink's left out. -/
def sm : FVec Ideal S32x2x4x256x256 .f32 :=
  extractStridedSlice S32x2x4x256x256 ![0, 0, 0, 0, 0] (Host.divf (ex Q KV QW KW SK) (broadcastInDim S32x2x4x256x257 ![0, 1, 2, 3, 4] bcast_S32x2x4x256x1_S32x2x4x256x257_0_1_2_3_4 (broadcastInDim S32x2x4x256x1 ![0, 1, 2, 3] bcast_S32x2x4x256_S32x2x4x256x1_0_1_2_3 (Host.reduceAdd (ex Q KV QW KW SK) (constant S_ .f32 0x00000000#32) reducesTo_S32x2x4x256x257_S32x2x4x256_d4 h_S_)))) slices_S32x2x4x256x257_S32x2x4x256x256_0_0_0_0_0

/-- The attention of each head. -/
def ov : FVec Ideal S32x2x4x256x64 .f32 :=
  Host.dotGeneral dot_S32x2x4x256x256_S32x2x256x64_S32x2x4x256x64_4_2_23_3_01_01 none (sm Q KV QW KW SK) (vv KV)

/-- The gated result. -/
def out : FVec Ideal S32x256x512 .f32 :=
  mulf (shapeCast _ (transpose S32x256x2x4x64 [0, 3, 1, 2, 4] (ov Q KV QW KW SK) transposes_S32x2x4x256x64_S32x256x2x4x64_0_3_1_2_4) shapeCasts_S32x256x2x4x64_S32x256x512) SA

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = out (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v31) = kn (m ((c.tc : Thread nD τ).loc main_arg1)) (m ((c.tc : Thread nD τ).loc main_arg4))
      ∧ r.2.mem ((c.tc : Thread nD τ).loc main_v34) = vv (m ((c.tc : Thread nD τ).loc main_arg1)) :=
  (θ_run defs _ _).mono (fun _ h c => ⟨(h c).1, (h c).2.1, (h c).2.2.1⟩) (Cert.RAttIdeal.Value.run m ρ)

theorem kn_apply (b : Fin 32) (h : Fin 2) (s : Fin 256) (d : Fin 64) :
    kn KV KW (ix4 b h s d) = KV (ix3 b s ⟨h.val * 128 + d.val, by omega⟩)
      * Soft.rms (fun e => KV (ix3 b s ⟨h.val * 128 + e.val, by omega⟩)) * KW (ix1 d) := by
  pointwise [kn, Soft.rms]

theorem vv_apply (b : Fin 32) (h : Fin 2) (s : Fin 256) (d : Fin 64) :
    vv KV (ix4 b h s d) = KV (ix3 b s ⟨h.val * 128 + 64 + d.val, by omega⟩) := by
  pointwise [vv]

theorem qn_apply (b : Fin 32) (h : Fin 2) (g : Fin 4) (s : Fin 256) (d : Fin 64) :
    qn Q QW (ix5 b h g s d) = Q (ix3 b s ⟨h.val * 256 + g.val * 64 + d.val, by omega⟩)
      * Soft.rms (fun e => Q (ix3 b s ⟨h.val * 256 + g.val * 64 + e.val, by omega⟩)) * QW (ix1 d) := by
  pointwise [qn, Soft.rms]

theorem sc_apply (b : Fin 32) (h : Fin 2) (g : Fin 4) (s k : Fin 256) :
    sc Q KV QW KW (ix5 b h g s k) = ∑ d : Fin 64, qn Q QW (ix5 b h g s d) * Ideal.ofBits .f32 0x3E000000#32
      * kn KV KW (ix4 b h k d) := by
  pointwise [sc]

theorem ov_apply (b : Fin 32) (h : Fin 2) (g : Fin 4) (s : Fin 256) (d : Fin 64) :
    ov Q KV QW KW SK (ix5 b h g s d) = ∑ k : Fin 256, sm Q KV QW KW SK (ix5 b h g s k) * vv KV (ix4 b h k d) := by
  pointwise [ov]

theorem out_apply (b : Fin 32) (s : Fin 256) (n : Fin 512) :
    out Q SA KV QW KW SK (ix3 b s n) = ov Q KV QW KW SK (ix5 b ⟨n.val / 256, by omega⟩ ⟨n.val / 64 % 4, by omega⟩ s ⟨n.val % 64, by omega⟩)
      * SA (ix3 b s n) := by
  pointwise [out]

theorem sm_apply (b : Fin 32) (h : Fin 2) (g : Fin 4) (s k : Fin 256) :
    sm Q KV QW KW SK (ix5 b h g s k) = Ideal.div (ex Q KV QW KW SK (ix5 b h g s ⟨k.val, by omega⟩))
      (∑ l : Fin 257, ex Q KV QW KW SK (ix5 b h g s l)) := by
  pointwise [sm]

theorem ex_apply (b : Fin 32) (h : Fin 2) (g : Fin 4) (s : Fin 256) (l : Fin 257) :
    ex Q KV QW KW SK (ix5 b h g s l) = Ideal.exp (cat Q KV QW KW SK (ix5 b h g s l) - mx Q KV QW KW SK (ix4 b h g s)) := by
  pointwise [ex]

theorem cat_apply (b : Fin 32) (h : Fin 2) (g : Fin 4) (s : Fin 256) (l : Fin 257) :
    cat Q KV QW KW SK (ix5 b h g s l) = if hl : l.val < 256 then sc Q KV QW KW (ix5 b h g s ⟨l.val, hl⟩)
      else SK (ix1 ⟨h.val * 4 + g.val, by omega⟩) := by
  pointwise [cat]

theorem maxAt (v w : FVec Ideal S32x2x4x256 .f32) (i : S32x2x4x256.Idx) : maximumf v w i = max (v i) (w i) := rfl

theorem negInf (b : Fin 32) (h : Fin 2) (g : Fin 4) (s : Fin 256) :
    broadcastInDim S32x2x4x256 ![] bcast_S_S32x2x4x256 (constant (F := Ideal) S_ .f32 0xFF800000#32) (ix4 b h g s)
      = Ideal.ofBits .f32 0xFF800000#32 := rfl

theorem maxRow (v : FVec Ideal S32x2x4x256x257 .f32) (b : Fin 32) (h : Fin 2) (g : Fin 4) (s : Fin 256) :
    Host.reduce FloatOps.maximumf v (constant S_ .f32 0xFF800000#32) reducesTo_S32x2x4x256x257_S32x2x4x256_d4 h_S_ (ix4 b h g s)
      = Finset.univ.fold max (Ideal.ofBits .f32 0xFF800000#32) fun l : Fin 257 => v (ix5 b h g s l) := by
  simp only [pointwise]

theorem mx_apply (b : Fin 32) (h : Fin 2) (g : Fin 4) (s : Fin 256) :
    mx Q KV QW KW SK (ix4 b h g s) = max (Ideal.ofBits .f32 0xFF800000#32)
      (Finset.univ.fold max (Ideal.ofBits .f32 0xFF800000#32) fun l : Fin 257 => cat Q KV QW KW SK (ix5 b h g s l)) := by
  rw [mx, maxAt, maxRow, negInf]

/-- The attention of one row, by rows. -/
def rowS (b : Fin 32) (h : Fin 2) (g : Fin 4) (s k : Fin 256) : EReal :=
  ∑ d : Fin 64, Q (ix3 b s ⟨h.val * 256 + g.val * 64 + d.val, by omega⟩)
    * Soft.rms (fun e => Q (ix3 b s ⟨h.val * 256 + g.val * 64 + e.val, by omega⟩)) * QW (ix1 d) * Ideal.ofBits .f32 0x3E000000#32
    * (KV (ix3 b k ⟨h.val * 128 + d.val, by omega⟩)
      * Soft.rms (fun e => KV (ix3 b k ⟨h.val * 128 + e.val, by omega⟩)) * KW (ix1 d))

theorem sc_row (b : Fin 32) (h : Fin 2) (g : Fin 4) (s k : Fin 256) :
    sc Q KV QW KW (ix5 b h g s k) = rowS Q KV QW KW b h g s k := by
  rw [sc_apply, rowS]
  exact Finset.sum_congr rfl fun d _ => by rw [qn_apply, kn_apply]

theorem cat_row (b : Fin 32) (h : Fin 2) (g : Fin 4) (s : Fin 256) (l : Fin 257) :
    cat Q KV QW KW SK (ix5 b h g s l) = Soft.cat (rowS Q KV QW KW b h g s) (SK (ix1 ⟨h.val * 4 + g.val, by omega⟩)) l := by
  rw [cat_apply, Soft.cat]
  simp only [sc_row]

theorem mx_row (b : Fin 32) (h : Fin 2) (g : Fin 4) (s : Fin 256) :
    mx Q KV QW KW SK (ix4 b h g s) = Soft.top (rowS Q KV QW KW b h g s) (SK (ix1 ⟨h.val * 4 + g.val, by omega⟩)) := by
  rw [mx_apply, ← Soft.top_cat]
  refine congrArg (max _) (congrArg (fun f => Finset.fold max _ f Finset.univ) (funext fun l => cat_row Q KV QW KW SK b h g s l))

theorem rowS_fine (hQ : ∀ i, Soft.Fine (Q i)) (hK : ∀ b s (h : Fin 2) (d : Fin 64), Soft.Fine (KV (ix3 b s ⟨h.val * 128 + d.val, by omega⟩)))
    (hQW : ∀ i, Soft.Fine (QW i)) (hKW : ∀ i, Soft.Fine (KW i)) (b : Fin 32) (h : Fin 2) (g : Fin 4) (s k : Fin 256) :
    Soft.Fine (rowS Q KV QW KW b h g s k) :=
  Soft.fine_sum _ fun d => Soft.fine_mul (Soft.fine_mul (Soft.fine_mul (Soft.fine_mul (hQ _) (Soft.rms_fine _ fun e => hQ _)) (hQW _))
    ⟨_, Soft.w8i⟩) (Soft.fine_mul (Soft.fine_mul (hK _ _ _ _) (Soft.rms_fine _ fun e => hK _ _ _ _)) (hKW _))

theorem ov_row (hQ : ∀ i, Soft.Fine (Q i)) (hK : ∀ b s (h : Fin 2) (d : Fin 64), Soft.Fine (KV (ix3 b s ⟨h.val * 128 + d.val, by omega⟩)))
    (hQW : ∀ i, Soft.Fine (QW i)) (hKW : ∀ i, Soft.Fine (KW i)) (hSK : ∀ i, Soft.Fine (SK i))
    (b : Fin 32) (h : Fin 2) (g : Fin 4) (s : Fin 256) (d : Fin 64) :
    ov Q KV QW KW SK (ix5 b h g s d) = Soft.head (rowS Q KV QW KW b h g s) (SK (ix1 ⟨h.val * 4 + g.val, by omega⟩))
      fun k => KV (ix3 b k ⟨h.val * 128 + 64 + d.val, by omega⟩) := by
  rw [ov_apply, Soft.head_eq _ _ _ (rowS_fine Q KV QW KW hQ hK hQW hKW b h g s) (hSK _)]
  refine Finset.sum_congr rfl fun k _ => ?_
  rw [sm_apply, vv_apply, ex_apply, mx_row, cat_row]
  refine congrArg (· * _) (congrArg₂ Ideal.div ?_ (Finset.sum_congr rfl fun l _ => ?_))
  · exact congrArg (fun x => Ideal.exp (x - _)) (dif_pos k.isLt)
  · rw [ex_apply, mx_row, cat_row]

end Cert.AttRef
-- ==== Proof.AttPay.lean ====
module

public import proofs.«01_k».proof.Proof.Gen.KAttIdeal.Value
public import proofs.«01_k».proof.Proof.AttRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttPay

open Cert.KAttIdeal Cert.KAttIdeal.Gen

/-- The integer word both programs' normalization masks by: the floor of the lane over 64. -/
def segWord (n : ℕ) : BitVec 32 :=
  Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32)

/-- The mask of segment `s` holds in its 64 lanes. -/
theorem seg_iff : ∀ n : Fin 256, ∀ s : Fin 4,
    (IntOp.cmpi .eq (segWord n.val) (BitVec.ofNat 32 s.val) = 1#1) ↔ n.val / 64 = s.val := by
  decide +kernel

theorem select_seg (n : Fin 256) (s : Fin 4) (a b : EReal) :
    Scalar.select (IntOp.cmpi .eq (segWord n.val) (BitVec.ofNat 32 s.val)) a b = if n.val / 64 = s.val then a else b := by
  unfold Scalar.select
  exact if_congr (seg_iff n s) rfl rfl

theorem seg4 (r n : Fin 256) : k0_pay4 (ix2 r n) = segWord n.val := by
  pointwise [k0_pay4, segWord]

theorem seg2 (r : Fin 256) (n : Fin 128) :
    Scalar.select (k0_pay15 (ix2 r n)) (k0_pay16 (ix2 r n)) (k0_pay14 (ix2 r n)) = segWord n.val := by
  pointwise [k0_pay14, k0_pay15, k0_pay16, segWord]

/-- A sum masked to one segment is the sum over its 64 lanes. -/
theorem seg_sum {a : ℕ} (f : Fin (a * 64) → EReal) (s : Fin a) :
    (∑ n, if n.val / 64 = s.val then f n else 0) = ∑ e : Fin 64, f ⟨s.val * 64 + e.val, by have := s.isLt; have := e.isLt; omega⟩ := by
  rw [← finProdFinEquiv.sum_comp, Fintype.sum_prod_type, Finset.sum_eq_single s]
  · refine Finset.sum_congr rfl fun e _ => ?_
    have h : (finProdFinEquiv (s, e)).val = e.val + 64 * s.val := rfl
    rw [if_pos (by have := e.isLt; omega)]
    exact congrArg f (Fin.ext (by rw [h]; show _ = s.val * 64 + e.val; omega))
  · intro b _ hb
    refine Finset.sum_eq_zero fun e _ => if_neg fun h => hb (Fin.ext ?_)
    have h' : (finProdFinEquiv (b, e)).val = e.val + 64 * b.val := rfl
    have := e.isLt
    omega
  · exact fun h => absurd (Finset.mem_univ s) h

/-- The masked sum of squares of a row of 256 lanes. -/
theorem masked4 (x : Fin 256 → EReal) (s : Fin 4) :
    (∑ n : Fin 256, Scalar.select (IntOp.cmpi .eq (segWord n.val) (BitVec.ofNat 32 s.val)) (x n * x n) 0)
      = ∑ e : Fin 64, x ⟨s.val * 64 + e.val, by omega⟩ * x ⟨s.val * 64 + e.val, by omega⟩ :=
  (Finset.sum_congr rfl fun n _ => select_seg n s _ _).trans (seg_sum (a := 4) (fun n => x n * x n) s)

/-- The masked sum of squares of a row of 128 lanes, first segment. -/
theorem masked2 (x : Fin 128 → EReal) :
    (∑ n : Fin 128, Scalar.select (IntOp.cmpi .eq (segWord n.val) 0#32) (x n * x n) 0)
      = ∑ e : Fin 64, x ⟨e.val, by omega⟩ * x ⟨e.val, by omega⟩ := by
  refine (Finset.sum_congr rfl fun n _ => select_seg ⟨n.val, by omega⟩ 0 _ _).trans
    ((seg_sum (a := 2) (fun n => x n * x n) 0).trans (Finset.sum_congr rfl fun e _ => ?_))
  simp

/-- One normalized and scaled lane of the queries' block. -/
def qlane (x w : Fin 256 → EReal) (n : Fin 256) : EReal :=
  x n * Soft.rms (fun e => x ⟨n.val / 64 * 64 + e.val, by omega⟩) * w n * Ideal.ofBits .f32 0x3E000000#32

theorem rs4 (x : Fin 256 → EReal) (s : Fin 4) :
    Ideal.rsqrt ((∑ n : Fin 256, Scalar.select (IntOp.cmpi .eq (segWord n.val) (BitVec.ofNat 32 s.val)) (x n * x n) 0)
      * Ideal.ofBits .f32 0x3C800000#32 + Ideal.ofBits .f32 0x358637BD#32)
      = Soft.rms fun e => x ⟨s.val * 64 + e.val, by omega⟩ := by
  rw [masked4, Soft.rms_mul]

theorem q_apply (v0 : Vec Ideal S1x256x256 .f32) (v3 : Vec Ideal S1x256 .f32) (r n : Fin 256) :
    k0_pay11 (k0_pay2 v0) (k0_pay3 v3) k0_pay4 (k0_pay9 k0_pay4 (k0_pay5 v0) (k0_pay6 (F := Ideal)) (k0_pay7 v0) k0_pay8)
      (k0_pay10 k0_pay4 (k0_pay5 v0)) (ix2 r n)
      = qlane (fun n => v0 (ix3 0 r n)) (fun n => v3 (ix2 0 n)) n := by
  pointwise [k0_pay11, k0_pay9, k0_pay10, k0_pay7, k0_pay8, k0_pay6, k0_pay5, k0_pay3, k0_pay2, seg4]
  have e0 := rs4 (fun n => v0 (ix3 0 r n)) 0
  have e1 := rs4 (fun n => v0 (ix3 0 r n)) 1
  have e2 := rs4 (fun n => v0 (ix3 0 r n)) 2
  have e3 := rs4 (fun n => v0 (ix3 0 r n)) 3
  refine (congrArg (fun z => v0 (ix3 0 r n) * z * v3 (ix2 0 n) * Ideal.ofBits .f32 0x3E000000#32)
    ((select_seg n 3 _ _).trans (if_congr Iff.rfl e3 ((select_seg n 2 _ _).trans (if_congr Iff.rfl e2
      ((select_seg n 1 _ _).trans (if_congr Iff.rfl e1 ((select_seg n 0 _ _).trans (if_congr Iff.rfl e0 rfl))))))))).trans ?_
  unfold qlane
  refine congrArg (fun z => v0 (ix3 0 r n) * z * v3 (ix2 0 n) * Ideal.ofBits .f32 0x3E000000#32) ?_
  have hs : ∀ s : Fin 4, n.val / 64 = s.val → Soft.rms (fun e => v0 (ix3 0 r ⟨s.val * 64 + e.val, by omega⟩))
      = Soft.rms fun e => v0 (ix3 0 r ⟨n.val / 64 * 64 + e.val, by omega⟩) := by
    intro s h
    simp only [h]
  split_ifs with h3 h2 h1 h0
  · exact hs 3 h3
  · exact hs 2 h2
  · exact hs 1 h1
  · exact hs 0 h0
  · exfalso
    have : n.val / 64 < 4 := by omega
    have g3 : n.val / 64 ≠ 3 := h3
    have g2 : n.val / 64 ≠ 2 := h2
    have g1 : n.val / 64 ≠ 1 := h1
    have g0 : n.val / 64 ≠ 0 := h0
    omega

/-- One lane of the keys' and values' block. -/
theorem kv_apply (v100 : Vec Ideal S1x256x128 .f32) (v102 : Vec Ideal S1x128 .f32) (r : Fin 256) (n : Fin 128) :
    k0_pay17 (k0_pay12 v100) (k0_pay13 v102) k0_pay14 k0_pay15 k0_pay16 (ix2 r n)
      = v100 (ix3 0 r n) * (if n.val < 64 then Soft.rms (fun e => v100 (ix3 0 r ⟨e.val, by omega⟩)) else 1) * v102 (ix2 0 n) := by
  pointwise [k0_pay17, k0_pay12, k0_pay13, seg2]
  refine congrArg (fun z => v100 (ix3 0 r n) * z * v102 (ix2 0 n)) ?_
  refine (select_seg ⟨n.val, by omega⟩ 0 _ _).trans (if_congr ?_ ?_ rfl)
  · show n.val / 64 = 0 ↔ _
    omega
  · rw [Soft.rms_mul]
    exact congrArg (fun z => Ideal.rsqrt (z * Ideal.ofBits .f32 0x3C800000#32 + Ideal.ofBits .f32 0x358637BD#32))
      (masked2 fun n => v100 (ix3 0 r n))

/-- The four heads of a group side by side, gated. -/
theorem heads_apply (q : FVec Ideal S256x256 .f32) (k v : FVec Ideal S256x64 .bf16) (s0 : FVec Ideal S256x256 .f32)
    (m0 : FVec Ideal S256 .f32) (z0 z1 z2 z3 : Vec Ideal S1x1x1 .f32) (sa : Vec Ideal S1x256x256 .f32)
    (hs : ∀ r x : Fin 256, s0 (ix2 r x) = ∑ e : Fin 64, q (ix2 r ⟨e.val, by omega⟩) * k (ix2 x e))
    (hm : ∀ r : Fin 256, m0 (ix1 r) = Finset.univ.fold max (Ideal.ofBits .f32 0xFF800000#32) fun x => s0 (ix2 r x))
    (r : Fin 256) (g : Fin 4) (d : Fin 64) :
    k0_pay1 (k0_pay33 q k v (k0_pay27 v s0 (k0_pay25 z0) m0) (k0_pay28 q k v z1) (k0_pay29 q k) (k0_pay30 z2)
      (k0_pay31 q k) (k0_pay32 z2) z3 sa) (ix3 0 r ⟨g.val * 64 + d.val, by omega⟩)
      = Soft.head (fun x => ∑ e : Fin 64, q (ix2 r ⟨g.val * 64 + e.val, by omega⟩) * k (ix2 x e))
          (![z0 (ix3 0 0 0), z1 (ix3 0 0 0), z2 (ix3 0 0 0), z3 (ix3 0 0 0)] g) (fun x => v (ix2 x d))
        * sa (ix3 0 r ⟨g.val * 64 + d.val, by omega⟩) := by
  have d1 : ∀ h, (⟨64 + d.val - 64, h⟩ : Fin 64) = d := fun h => Fin.ext (by show 64 + d.val - 64 = _; omega)
  have d2 : ∀ h, (⟨128 + d.val - 64 - 64, h⟩ : Fin 64) = d := fun h => Fin.ext (by show 128 + d.val - 64 - 64 = _; omega)
  have d3 : ∀ h, (⟨192 + d.val - 64 - 64 - 64, h⟩ : Fin 64) = d :=
    fun h => Fin.ext (by show 192 + d.val - 64 - 64 - 64 = _; omega)
  fin_cases g
  · pointwise [k0_pay1, k0_pay33, k0_pay27, k0_pay25, Soft.head, Soft.top, hm, hs]
  · pointwise [k0_pay1, k0_pay33, k0_pay28, Soft.head, Soft.top]
  · pointwise [k0_pay1, k0_pay33, k0_pay29, k0_pay30, k0_pay31, k0_pay32, Soft.head, Soft.top]
    refine congrArg₂ (· * ·) ((dif_neg (by omega)).trans ((dif_neg (by omega)).trans ((dif_pos (by omega)).trans ?_))) rfl
    simp only [d2]
  · pointwise [k0_pay1, k0_pay33, Soft.head, Soft.top]
    refine congrArg₂ (· * ·) ((dif_neg (by omega)).trans ((dif_neg (by omega)).trans ((dif_neg (by omega)).trans ?_))) rfl
    simp only [d3]

end Cert.AttPay
-- ==== Proof.Att.lean ====
module

public import proofs.«01_k».proof.Proof.Gen.KAttIdeal.Value
public import proofs.«01_k».proof.Proof.AttPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Att

open Cert.KAttIdeal Cert.KAttIdeal.Gen

variable (m : (ℓ : Loc nD τ sig) → Buf (Elt Ideal) ℓ)

/-- The windows' index maps at every grid point. -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![0, 0] ∧ win0_4.index t = ![0, 0] ∧ win0_5.index t = ![(grid0.coords t 1).val, 0, 0]
    ∧ win0_6.index t = ![(grid0.coords t 0).val, 0, (grid0.coords t 1).val]
    ∧ win0_7.index t = ![(grid0.coords t 0).val, (grid0.coords t 1).val, 0, 0]
    ∧ win0_8.index t = ![(grid0.coords t 0).val, (grid0.coords t 1).val, 0, 0] :=
  (by decide +kernel : ∀ t : Fin grid0.N, _)

/-- The batch row of a grid point, and its group of heads. -/
def bat (t : Fin cfg0.N) : Fin 32 := grid0.coords t 0
def grp (t : Fin cfg0.N) : Fin 2 := grid0.coords t 1

theorem b0 (c : Dev nD) (t : Fin cfg0.N) (r n : Fin 256) : iblk m c 0 t (ix3 0 r n)
    = m ((c : Thread nD τ).loc main_arg0) (ix3 (bat t) r ⟨(grp t).val * 256 + n.val, by omega⟩) := by
  blk_point [iblk, V, idx t, bat, grp]

theorem b1 (c : Dev nD) (t : Fin cfg0.N) (r : Fin 256) (n : Fin 128) : iblk m c 1 t (ix3 0 r n)
    = m ((c : Thread nD τ).loc main_arg1) (ix3 (bat t) r ⟨(grp t).val * 128 + n.val, by omega⟩) := by
  blk_point [iblk, V, idx t, bat, grp]

theorem b2 (c : Dev nD) (t : Fin cfg0.N) (r n : Fin 256) : iblk m c 2 t (ix3 0 r n)
    = m ((c : Thread nD τ).loc main_arg2) (ix3 (bat t) r ⟨(grp t).val * 256 + n.val, by omega⟩) := by
  blk_point [iblk, V, idx t, bat, grp]

theorem b3 (c : Dev nD) (t : Fin cfg0.N) (n : Fin 256) : iblk m c 3 t (ix2 0 n)
    = m ((c : Thread nD τ).loc main_arg3) (ix1 ⟨n.val % 64, by omega⟩) := by
  blk_point [iblk, V, idx t, bat, grp]

/-- The keys' norm weight followed by ones, as the host lays it out. -/
def kLay (w : FVec Ideal S64 .f32) : FVec Ideal S1x128 .f32 :=
  broadcastInDim S1x128 ![1] bcast_S128_S1x128_1 (concatenate S128 0 [⟨S64, w⟩,
    ⟨S64, broadcastInDim S64 ![] bcast_S_S64 (constant S_ .f32 0x3F800000#32)⟩] concatenates_S64_S64_S128_d0)

set_option maxHeartbeats 1600000 in
theorem V_k (c : Dev nD) : V m c main_v6 = kLay (m ((c : Thread nD τ).loc main_arg4)) := by
  rfl

theorem kLay_apply (w : FVec Ideal S64 .f32) (n : Fin 128) :
    kLay w (ix2 0 n) = if h : n.val < 64 then w (ix1 ⟨n.val, h⟩) else (1 : EReal) := by
  pointwise [kLay]

theorem b4 (c : Dev nD) (t : Fin cfg0.N) (n : Fin 128) : iblk m c 4 t (ix2 0 n)
    = if h : n.val < 64 then m ((c : Thread nD τ).loc main_arg4) (ix1 ⟨n.val, h⟩) else (1 : EReal) := by
  refine Eq.trans ?_ (kLay_apply (m ((c : Thread nD τ).loc main_arg4)) n)
  rw [← V_k m c]
  blk_point [iblk, idx t]

/-- The sinks' logits of the two groups, padded, as the host lays them out. -/
def sLay (w : FVec Ideal S8 .f32) : FVec Ideal S2x8x128 .f32 :=
  concatenate S2x8x128 1 [⟨S2x4x128, broadcastInDim S2x4x128 ![0, 1, 2] bcast_S2x4x1_S2x4x128_0_1_2 (shapeCast S2x4x1 w shapeCasts_S8_S2x4x1)⟩, ⟨S2x4x128, broadcastInDim S2x4x128 ![] bcast_S_S2x4x128 (constant S_ .f32 0x00000000#32)⟩]
    concatenates_S2x4x128_S2x4x128_S2x8x128_d1

set_option maxHeartbeats 1600000 in
theorem V_s (c : Dev nD) : V m c main_v10 = sLay (m ((c : Thread nD τ).loc main_arg5)) := by
  rfl

theorem sLay_apply (w : FVec Ideal S8 .f32) (h : Fin 2) (g : Fin 8) :
    sLay w (ix3 h g 0) = if hg : g.val < 4 then w (ix1 ⟨h.val * 4 + g.val, by omega⟩) else (0 : EReal) := by
  pointwise [sLay]

theorem b5 (c : Dev nD) (t : Fin cfg0.N) (g : Fin 8) : iblk m c 5 t (ix3 0 g 0)
    = if h : g.val < 4 then m ((c : Thread nD τ).loc main_arg5) (ix1 ⟨(grp t).val * 4 + g.val, by omega⟩) else (0 : EReal) := by
  refine Eq.trans ?_ (sLay_apply (m ((c : Thread nD τ).loc main_arg5)) (grp t) g)
  rw [← V_s m c]
  blk_point [iblk, idx t, grp]

theorem e6 (A : S32x256x512.Idx → EReal) (t : Fin cfg0.N) (r n : Fin 256) :
    A (((cfg0.win 6).blk t).view.emb (ix3 0 r n)) = A (ix3 (bat t) r ⟨(grp t).val * 256 + n.val, by omega⟩) := by
  blk_point [idx t, bat, grp]

theorem e7 (A : S32x2x256x64.Idx → EReal) (t : Fin cfg0.N) (r : Fin 256) (d : Fin 64) :
    A (((cfg0.win 7).blk t).view.emb (ix4 0 0 r d)) = A (ix4 (bat t) (grp t) r d) := by
  blk_point [idx t, bat, grp]

theorem e8 (A : S32x2x256x64.Idx → EReal) (t : Fin cfg0.N) (r : Fin 256) (d : Fin 64) :
    A (((cfg0.win 8).blk t).view.emb (ix4 0 0 r d)) = A (ix4 (bat t) (grp t) r d) := by
  blk_point [idx t, bat, grp]

section
variable (x0 : Vec Ideal S1x256x256 .f32) (x1 : Vec Ideal S1x256x128 .f32) (x2 : Vec Ideal S1x256x256 .f32)
  (x3 : Vec Ideal S1x256 .f32) (x4 : Vec Ideal S1x128 .f32) (x5 : Vec Ideal S1x8x128 .f32)

/-- One lane of the block of keys and values. -/
def kvLane (r : Fin 256) (n : Fin 128) : EReal :=
  x1 (ix3 0 r n) * (if n.val < 64 then Soft.rms (fun e => x1 (ix3 0 r ⟨e.val, by omega⟩)) else 1) * x4 (ix2 0 n)

theorem ld0 : View.ld x0 r0_0 = x0 := by
  exact View.ld_unit_zero (by decide) _ _

theorem ld2 : View.ld x1 r0_2 = x1 := by
  exact View.ld_unit_zero (by decide) _ _

theorem ld1 : View.ld x3 r0_1 = x3 := by
  exact View.ld_unit_zero (by decide) _ _

theorem ld3 : View.ld x4 r0_3 = x4 := by
  exact View.ld_unit_zero (by decide) _ _

theorem q36 (r n : Fin 256) : k0_pay36 x0 x1 x2 x3 x4 x5 (ix2 r n)
    = AttPay.qlane (fun n => x0 (ix3 0 r n)) (fun n => x3 (ix2 0 n)) n := by
  unfold k0_pay36 k0_pay34 k0_pay35
  rw [AttPay.q_apply, ld0, ld1]

theorem kv17 (r : Fin 256) (n : Fin 128) : k0_pay17 (k0_pay37 x0 x1 x2 x3 x4 x5) (k0_pay38 x0 x1 x2 x3 x4 x5)
    (k0_pay39 x0 x1 x2 x3 x4 x5) (k0_pay40 x0 x1 x2 x3 x4 x5) (k0_pay41 x0 x1 x2 x3 x4 x5) (ix2 r n) = kvLane x1 x4 r n := by
  unfold k0_pay37 k0_pay38 k0_pay39 k0_pay40 k0_pay41
  rw [AttPay.kv_apply, ld2, ld3]
  rfl

theorem k42 (r : Fin 256) (d : Fin 64) : k0_pay42 x0 x1 x2 x3 x4 x5 (ix2 r d) = kvLane x1 x4 r ⟨d.val, by omega⟩ := by
  pointwise [k0_pay42, k0_pay22, k0_pay18, kv17]

theorem v43 (r : Fin 256) (d : Fin 64) : k0_pay43 x0 x1 x2 x3 x4 x5 (ix2 r d) = kvLane x1 x4 r ⟨64 + d.val, by omega⟩ := by
  pointwise [k0_pay43, k0_pay23, k0_pay19, kv17]

theorem out7 (r : Fin 256) (d : Fin 64) : out0_7 x0 x1 x2 x3 x4 x5 (ix4 0 0 r d) = kvLane x1 x4 r ⟨d.val, by omega⟩ := by
  frame_out
  pointwise [k0_pay20, k0_pay18, kv17]

theorem out8 (r : Fin 256) (d : Fin 64) : out0_8 x0 x1 x2 x3 x4 x5 (ix4 0 0 r d) = kvLane x1 x4 r ⟨64 + d.val, by omega⟩ := by
  frame_out
  pointwise [k0_pay21, k0_pay19, kv17]

theorem out6 (r : Fin 256) (g : Fin 4) (d : Fin 64) :
   out0_6 x0 x1 x2 x3 x4 x5 (ix3 0 r ⟨g.val * 64 + d.val, by omega⟩)
    = Soft.head (fun x => ∑ e : Fin 64, AttPay.qlane (fun n => x0 (ix3 0 r n)) (fun n => x3 (ix2 0 n)) ⟨g.val * 64 + e.val, by omega⟩
          * kvLane x1 x4 x ⟨e.val, by omega⟩)
        (x5 (ix3 0 ⟨g.val, by omega⟩ 0)) (fun x => kvLane x1 x4 x ⟨64 + d.val, by omega⟩)
      * x2 (ix3 0 r ⟨g.val * 64 + d.val, by omega⟩) := by
  frame_out
  refine (AttPay.heads_apply _ _ _ _ _ _ _ _ _ _ (fun r x => ?_) (fun r => ?_) r g d).trans ?_
  · pointwise [k0_pay24, k0_pay42]
  · pointwise [k0_pay26]
  · refine congrArg (· * _) ?_
    have hz : (![View.ld x5 r0_5 (ix3 0 0 0), View.ld x5 r0_6 (ix3 0 0 0), View.ld x5 r0_7 (ix3 0 0 0),
        View.ld x5 r0_8 (ix3 0 0 0)] : Fin 4 → EReal) g = x5 (ix3 0 ⟨g.val, by omega⟩ 0) := by
      fin_cases g
      · show View.ld x5 r0_5 (ix3 0 0 0) = x5 (ix3 0 0 0)
        exact View.ld_unit_apply_of x5 _ _ _ _ _ (by decide)
      · show View.ld x5 r0_6 (ix3 0 0 0) = x5 (ix3 0 1 0)
        exact View.ld_unit_apply_of x5 _ _ _ _ _ (by decide)
      · show View.ld x5 r0_7 (ix3 0 0 0) = x5 (ix3 0 2 0)
        exact View.ld_unit_apply_of x5 _ _ _ _ _ (by decide)
      · show View.ld x5 r0_8 (ix3 0 0 0) = x5 (ix3 0 3 0)
        exact View.ld_unit_apply_of x5 _ _ _ _ _ (by decide)
    rw [hz]
    simp only [q36, k42, v43]

end

/-- The call's arguments. -/
abbrev a0 (c : Dev nD) : FVec Ideal S32x256x512 .f32 := m ((c : Thread nD τ).loc main_arg0)
abbrev a1 (c : Dev nD) : FVec Ideal S32x256x256 .f32 := m ((c : Thread nD τ).loc main_arg1)
abbrev a2 (c : Dev nD) : FVec Ideal S32x256x512 .f32 := m ((c : Thread nD τ).loc main_arg2)
abbrev a3 (c : Dev nD) : FVec Ideal S64 .f32 := m ((c : Thread nD τ).loc main_arg3)
abbrev a4 (c : Dev nD) : FVec Ideal S64 .f32 := m ((c : Thread nD τ).loc main_arg4)
abbrev a5 (c : Dev nD) : FVec Ideal S8 .f32 := m ((c : Thread nD τ).loc main_arg5)

/-- A key's lane of a block. -/
theorem k_blk (c : Dev nD) (t : Fin cfg0.N) (r : Fin 256) (d : Fin 64) :
    kvLane (iblk m c 1 t) (iblk m c 4 t) r ⟨d.val, by omega⟩
      = a1 m c (ix3 (bat t) r ⟨(grp t).val * 128 + d.val, by omega⟩)
        * Soft.rms (fun e => a1 m c (ix3 (bat t) r ⟨(grp t).val * 128 + e.val, by omega⟩))
        * a4 m c (ix1 d) := by
  unfold kvLane
  refine congrArg₂ (fun a b : EReal => a * b) (congrArg₂ (fun a b : EReal => a * b) (b1 m c t r _) ((if_pos d.isLt).trans ?_)) ((b4 m c t _).trans (dif_pos d.isLt))
  exact congrArg Soft.rms (funext fun e => b1 m c t r _)

/-- A value's lane of a block. -/
theorem v_blk (c : Dev nD) (t : Fin cfg0.N) (r : Fin 256) (d : Fin 64) :
    kvLane (iblk m c 1 t) (iblk m c 4 t) r ⟨64 + d.val, by omega⟩
      = a1 m c (ix3 (bat t) r ⟨(grp t).val * 128 + 64 + d.val, by omega⟩) := by
  have hn : ¬ (64 + d.val < 64) := by omega
  unfold kvLane
  refine (congrArg₂ (fun a b : EReal => a * b) (congrArg₂ (fun a b : EReal => a * b) (b1 m c t r _) (if_neg hn)) ((b4 m c t _).trans (dif_neg hn))).trans ?_
  refine (mul_one _).trans ((mul_one _).trans ?_)
  exact congrArg (fun n => a1 m c (ix3 (bat t) r n)) (Fin.ext (Nat.add_assoc _ _ _).symm)

theorem one_elt (a : Fin 1) : a = 0 := Subsingleton.elim a 0

theorem pt4 (y : S1x1x256x64.Idx) : ∃ (r : Fin 256) (d : Fin 64), y = ix4 0 0 r d :=
  ⟨y 2, y 3, (eq_ix4 y).trans (congrArg₂ (fun a b => ix4 a b (y 2) (y 3)) (one_elt (y 0)) (one_elt (y 1)))⟩

theorem pt3 (y : S1x256x256.Idx) : ∃ (r : Fin 256) (g : Fin 4) (d : Fin 64), y = ix3 0 r ⟨g.val * 64 + d.val, by omega⟩ := by
  have h2 : (y 2).val < 256 := (y 2).isLt
  refine ⟨y 1, ⟨(y 2).val / 64, by omega⟩, ⟨(y 2).val % 64, by omega⟩, (eq_ix3 y).trans
    (congrArg₂ (fun a b => ix3 a (y 1) b) (one_elt (y 0)) (Fin.ext ?_))⟩
  show (y 2).val = (y 2).val / 64 * 64 + (y 2).val % 64
  omega

/-- The key cache's array: the reference's. -/
theorem final7 (c : Dev nD) : (dats m 0 c).arrAt 7 (cfgs 0).N = AttRef.kn (a1 m c) (a4 m c) := by
  refine (dats m 0 c).arrAt_eq_of_covers 7 _ (by decide +kernel) fun t _ y => ?_
  blk_simp
  rw [after0_7]
  obtain ⟨r, d, rfl⟩ := pt4 y
  exact (out7 _ _ _ _ _ _ r d).trans ((k_blk m c t r d).trans
    ((AttRef.kn_apply _ _ _ _ _ _).symm.trans (e7 (AttRef.kn (a1 m c) (a4 m c)) t r d).symm))

/-- The value cache's array: the reference's. -/
theorem final8 (c : Dev nD) : (dats m 0 c).arrAt 8 (cfgs 0).N = AttRef.vv (a1 m c) := by
  refine (dats m 0 c).arrAt_eq_of_covers 8 _ (by decide +kernel) fun t _ y => ?_
  blk_simp
  rw [after0_8]
  obtain ⟨r, d, rfl⟩ := pt4 y
  exact (out8 _ _ _ _ _ _ r d).trans ((v_blk m c t r d).trans
    ((AttRef.vv_apply _ _ _ _ _).symm.trans (e8 (AttRef.vv (a1 m c)) t r d).symm))

/-- A query's lane of a block. -/
theorem q_blk (c : Dev nD) (t : Fin cfg0.N) (r : Fin 256) (g : Fin 4) (d : Fin 64) :
    AttPay.qlane (fun n => iblk m c 0 t (ix3 0 r n)) (fun n => iblk m c 3 t (ix2 0 n)) ⟨g.val * 64 + d.val, by omega⟩
      = a0 m c (ix3 (bat t) r ⟨(grp t).val * 256 + g.val * 64 + d.val, by omega⟩)
        * Soft.rms (fun e => a0 m c (ix3 (bat t) r ⟨(grp t).val * 256 + g.val * 64 + e.val, by omega⟩))
        * a3 m c (ix1 d) * Ideal.ofBits .f32 0x3E000000#32 := by
  unfold AttPay.qlane
  refine congrArg (· * _) (congrArg₂ (· * ·) (congrArg₂ (· * ·) ((b0 m c t r _).trans ?_) (congrArg Soft.rms (funext fun e =>
    (b0 m c t r _).trans ?_))) ((b3 m c t _).trans ?_))
  · exact congrArg (fun n => a0 m c (ix3 (bat t) r n)) (Fin.ext (Nat.add_assoc _ _ _).symm)
  · refine congrArg (fun n => a0 m c (ix3 (bat t) r n)) (Fin.ext ?_)
    show _ + ((g.val * 64 + d.val) / 64 * 64 + e.val) = _ + g.val * 64 + e.val
    omega
  · refine congrArg (fun n => a3 m c (ix1 n)) (Fin.ext ?_)
    show (g.val * 64 + d.val) % 64 = d.val
    omega

/-- The attention's array: the reference's, where the logits are finite. -/
theorem final6 (c : Dev nD) (hQ : ∀ i, Soft.Fine (a0 m c i))
    (hK : ∀ b s (h : Fin 2) (d : Fin 64), Soft.Fine (a1 m c (ix3 b s ⟨h.val * 128 + d.val, by omega⟩)))
    (hQW : ∀ i, Soft.Fine (a3 m c i)) (hKW : ∀ i, Soft.Fine (a4 m c i)) (hSK : ∀ i, Soft.Fine (a5 m c i)) :
    (dats m 0 c).arrAt 6 (cfgs 0).N
    = AttRef.out (a0 m c) (a2 m c) (a1 m c) (a3 m c) (a4 m c) (a5 m c) := by
  refine (dats m 0 c).arrAt_eq_of_covers 6 _ (by decide +kernel) fun t _ y => ?_
  blk_simp
  rw [after0_6]
  obtain ⟨r, g, d, rfl⟩ := pt3 y
  refine (out6 _ _ _ _ _ _ r g d).trans (Eq.trans ?_ (e6 (AttRef.out (a0 m c) (a2 m c) (a1 m c) (a3 m c) (a4 m c) (a5 m c)) t r _).symm)
  refine Eq.trans ?_ (AttRef.out_apply _ _ _ _ _ _ _ _ _).symm
  refine congrArg₂ (· * ·) ?_ (b2 m c t r _)
  have h0 : (⟨((grp t).val * 256 + (g.val * 64 + d.val)) / 256, by omega⟩ : Fin 2) = grp t := Fin.ext (by
    show ((grp t).val * 256 + (g.val * 64 + d.val)) / 256 = (grp t).val
    omega)
  have h1 : (⟨((grp t).val * 256 + (g.val * 64 + d.val)) / 64 % 4, by omega⟩ : Fin 4) = g := Fin.ext (by
    show ((grp t).val * 256 + (g.val * 64 + d.val)) / 64 % 4 = g.val
    omega)
  have h2 : (⟨((grp t).val * 256 + (g.val * 64 + d.val)) % 64, by omega⟩ : Fin 64) = d := Fin.ext (by
    show ((grp t).val * 256 + (g.val * 64 + d.val)) % 64 = d.val
    omega)
  refine Eq.trans ?_ (congrArg (AttRef.ov (a0 m c) (a1 m c) (a3 m c) (a4 m c) (a5 m c))
    (congr (congrArg₂ (fun h g => ix5 (bat t) h g r) h0 h1) h2)).symm
  rw [AttRef.ov_row _ _ _ _ _ hQ hK hQW hKW hSK]
  have hs : (fun x : Fin 256 => ∑ e : Fin 64, AttPay.qlane (fun n => iblk m c 0 t (ix3 0 r n)) (fun n => iblk m c 3 t (ix2 0 n))
      ⟨g.val * 64 + e.val, by omega⟩ * kvLane (iblk m c 1 t) (iblk m c 4 t) x ⟨e.val, by omega⟩)
      = AttRef.rowS (a0 m c) (a1 m c) (a3 m c) (a4 m c) (bat t) (grp t) g r :=
    funext fun x => Finset.sum_congr rfl fun e _ => congrArg₂ (· * ·) (q_blk m c t r g e) (k_blk m c t x e)
  have hz : iblk m c 5 t (ix3 0 ⟨g.val, by omega⟩ 0) = a5 m c (ix1 ⟨(grp t).val * 4 + g.val, by omega⟩) :=
    (b5 m c t _).trans (dif_pos g.isLt)
  have hv : (fun x : Fin 256 => kvLane (iblk m c 1 t) (iblk m c 4 t) x ⟨64 + d.val, by omega⟩)
      = fun x => a1 m c (ix3 (bat t) x ⟨(grp t).val * 128 + 64 + d.val, by omega⟩) :=
    funext fun x => v_blk m c t x d
  exact (congrArg₂ (fun S v => Soft.head S _ v) hs hv).trans (congrArg (fun z => Soft.head _ z _) hz)

end Cert.Att
-- ==== Proof.AttPre.lean ====
module

public import proofs.«01_k».proof.Proof.Gen.Pre_att_finite
public import proofs.«01_k».proof.Proof.Soft

@[expose] public section

set_option maxRecDepth 16384

/-! What the attention call's precondition says of the arguments: the entries are finite. -/

noncomputable section

open Idealize.ShloMosaic Idealize.SL.Sem

namespace Cert.AttPre

open Cert.Pre_att_finite Cert.Pre_att_finite.Gen

theorem andi_one (p q : BitVec 1) : (IntOp.andi p q = 1#1) ↔ (p = 1#1 ∧ q = 1#1) := by
  simp only [IntOp.andi]; decide +revert

/-- A conjunction over a whole array holds of every entry. -/
theorem reduce_all {s t u : Shape} {axes : List (Fin s.rank)} (x : s.Idx → BitVec 1) (init : u.Idx → BitVec 1)
    (h : s.ReducesTo axes t) (hu : 0 < u.numel) (j : t.Idx) (e : Host.reduce IntOp.andi x init h hu j = 1#1)
    (i : s.Idx) (hi : h.drop i = j) : x i = 1#1 := by
  rw [Host.reduce_eq_fold] at e
  exact ((Finset.fold_op_rel_iff_and (r := fun _ b => b = 1#1) (c := 1#1) (fun {a b c} => andi_one b c)).mp e).2 i (by simp [hi])

theorem fine_of_olt {x b : EReal} (hb : b = ⊤) (h : Ideal.cmp .olt (max x (-x)) b = 1#1) : Soft.Fine x := by
  subst hb
  refine Soft.fine_of_abs ?_
  by_contra hn
  simp [Ideal.cmp, hn] at h

/-- A finiteness test over a whole array. -/
theorem all_fine {s : Shape} {axes : List (Fin s.rank)} (x b : FVec Ideal s .f32) (hb : ∀ i, b i = Ideal.ofBits .f32 0x7F800000#32)
    (init : S_.Idx → BitVec 1) (h : s.ReducesTo axes S_) (hu : 0 < S_.numel) (j : S_.Idx)
    (e : Host.reduce IntOp.andi (cmpf .olt (Host.absf x) b) init h hu j = 1#1) (i : s.Idx) : Soft.Fine (x i) :=
  fine_of_olt (b := b i) ((hb i).trans Soft.pinf) (reduce_all _ init h hu j e i (funext fun a => a.elim0))

theorem pre (A0 : FVec Ideal S32x256x512 .f32) (A1 : FVec Ideal S32x256x256 .f32) (A2 : FVec Ideal S32x256x512 .f32)
    (A3 A4 : FVec Ideal S64 .f32) (A5 : FVec Ideal S8 .f32) (h : fn (F := Ideal) A0 A1 A2 A3 A4 A5 = fun _ => 1#1) :
    (∀ i, Soft.Fine (A0 i)) ∧ (∀ b s (h : Fin 2) (d : Fin 64), Soft.Fine (A1 (ix3 b s ⟨h.val * 128 + d.val, by omega⟩)))
      ∧ (∀ i, Soft.Fine (A3 i)) ∧ (∀ i, Soft.Fine (A4 i)) ∧ ∀ i, Soft.Fine (A5 i) := by
  have e := congrFun h (fun a => a.elim0)
  simp only [fn, fn_part1] at e
  obtain ⟨e, e5⟩ := (andi_one _ _).mp e
  obtain ⟨e, e4⟩ := (andi_one _ _).mp e
  obtain ⟨e, e3⟩ := (andi_one _ _).mp e
  obtain ⟨e0, e1⟩ := (andi_one _ _).mp e
  refine ⟨all_fine _ _ (fun i => rfl) _ _ _ _ e0, fun b s h d => ?_, all_fine _ _ (fun i => rfl) _ _ _ _ e3,
    all_fine _ _ (fun i => rfl) _ _ _ _ e4, all_fine _ _ (fun i => rfl) _ _ _ _ e5⟩
  have f := all_fine _ _ (fun i => rfl) _ _ _ _ e1 (ix4 b s h d)
  refine Eq.subst (motive := Soft.Fine) ?_ f
  pointwise []

end Cert.AttPre
-- ==== Proof.OddInRef.lean ====
module

public import proofs.«01_k».proof.Proof.Gen.ROddInIdeal.Run
public import proofs.«01_k».proof.Proof.Rows

@[expose] public section

set_option maxRecDepth 16384

noncomputable section

namespace Cert.OddInRef

open Cert.ROddInIdeal Cert.ROddInIdeal.Gen Idealize.ShloMosaic Idealize.ShloMosaic.TcCoe Idealize.SL.Sem

/-- The reference's normalized and modulated rows. -/
def rows (X : FVec Ideal S4x4096x1024 .f32) (M : FVec Ideal S4x3072 .f32) (N : FVec Ideal S1024 .f32) :
    FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 N))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 M) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 M) slices_S4x1x3072_S4x1x1024_0_0_0))

/-- The reference's projection of the rows. -/
def proj (X : FVec Ideal S4x4096x1024 .f32) (M : FVec Ideal S4x3072 .f32) (N : FVec Ideal S1024 .f32)
    (W : FVec Ideal S1024x3328 .f32) : FVec Ideal S4x4096x3328 .f32 :=
  Host.dotGeneral dot_S4x4096x1024_S1024x3328_S4x4096x3328_2_0_01_1_n_n none (rows X M N) W

/-- `v · σ(v)` as the reference spells it. -/
def silu (v : FVec Ideal S4x4096x512 .f32) : FVec Ideal S4x4096x512 .f32 :=
  mulf v (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf v))))

variable (X : FVec Ideal S4x4096x1024 .f32) (M : FVec Ideal S4x3072 .f32) (N : FVec Ideal S1024 .f32)
  (W : FVec Ideal S1024x3328 .f32)

/-- The reference's first result, the queries. -/
def out0 : FVec Ideal S4x4096x512 .f32 := extractStridedSlice S4x4096x512 ![0, 0, 0] (proj X M N W) slices_S4x4096x3328_S4x4096x512_0_0_0
/-- The second result: keys and values, interleaved head by head. -/
def out1 : FVec Ideal S4x4096x256 .f32 :=
  shapeCast _ (concatenate S4x4096x2x2x64 3 [⟨S4x4096x2x1x64, (shapeCast _ (extractStridedSlice S4x4096x128 ![0, 0, 512] (proj X M N W) slices_S4x4096x3328_S4x4096x128_0_0_512) shapeCasts_S4x4096x128_S4x4096x2x1x64)⟩, ⟨S4x4096x2x1x64, (shapeCast _ (extractStridedSlice S4x4096x128 ![0, 0, 640] (proj X M N W) slices_S4x4096x3328_S4x4096x128_0_0_640) shapeCasts_S4x4096x128_S4x4096x2x1x64)⟩] concatenates_S4x4096x2x1x64_S4x4096x2x1x64_S4x4096x2x2x64_d3) shapeCasts_S4x4096x2x2x64_S4x4096x256
/-- The third result: the attention's gate. -/
def out2 : FVec Ideal S4x4096x512 .f32 := silu (extractStridedSlice S4x4096x512 ![0, 0, 768] (proj X M N W) slices_S4x4096x3328_S4x4096x512_0_0_768)
/-- The fourth result: the convolution's input. -/
def out3 : FVec Ideal S4x4096x512 .f32 := mulf (extractStridedSlice S4x4096x512 ![0, 0, 2304] (proj X M N W) slices_S4x4096x3328_S4x4096x512_0_0_2304) (extractStridedSlice S4x4096x512 ![0, 0, 1280] (proj X M N W) slices_S4x4096x3328_S4x4096x512_0_0_1280)
/-- The fifth result: the convolution's gate. -/
def out4 : FVec Ideal S4x4096x512 .f32 := mulf (extractStridedSlice S4x4096x512 ![0, 0, 1792] (proj X M N W) slices_S4x4096x3328_S4x4096x512_0_0_1792) (silu (extractStridedSlice S4x4096x512 ![0, 0, 2816] (proj X M N W) slices_S4x4096x3328_S4x4096x512_0_0_2816))

/-- The reference's run, its results by the names above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v35) = out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v39) = out4 (m ((c.tc : Thread nD τ).loc main_arg0)) (m ((c.tc : Thread nD τ).loc main_arg1)) (m ((c.tc : Thread nD τ).loc main_arg2)) (m ((c.tc : Thread nD τ).loc main_arg3)) :=
  (θ_run defs _ _).mono (fun _ h c => ⟨(h c).1, (h c).2.1, (h c).2.2.1, (h c).2.2.2.1, (h c).2.2.2.2.1⟩)
    (Cert.ROddInIdeal.Value.run m ρ)

theorem proj_apply (b : Fin 4) (s : Fin 4096) (n : Fin 3328) :
    proj X M N W (ix3 b s n) = Rows.projRow (fun e => X (ix3 b s e)) (fun e => M (ix2 b ⟨e, by omega⟩))
      (fun e => M (ix2 b ⟨1024 + e, by omega⟩)) (fun e => N (ix1 e)) (fun e => W (ix2 e n)) := by
  pointwise [proj, rows, Rows.projRow, Rows.modRow]

/-- Keys in the first half of every head's 128 lanes, values in the second. -/
theorem out1_apply (b : Fin 4) (s : Fin 4096) (n : Fin 256) :
    out1 X M N W (ix3 b s n) = if n.val / 64 % 2 < 1 then proj X M N W (ix3 b s ⟨512 + (n.val / 128 * 64 + n.val % 64), by omega⟩)
      else proj X M N W (ix3 b s ⟨640 + (n.val / 128 * 64 + n.val % 64), by omega⟩) := by
  pointwise [out1]
  split_ifs <;> rfl

end Cert.OddInRef
-- ==== Proof.OddInBlk.lean ====
module

public import proofs.«01_k».proof.Proof.Gen.KOddInIdeal.Value
public import proofs.«01_k».proof.Proof.OddInRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OddIn

open Cert.KOddInIdeal Cert.KOddInIdeal.Gen

variable (m : (ℓ : Loc nD τ sig) → Buf (Elt Ideal) ℓ)

/-- The windows' index maps at every grid point. -/
theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0] :=
  (by decide +kernel : ∀ t : Fin grid0.N, _)

/-- The kernel's normalized and modulated block, entry by entry. -/
theorem rows_apply (v0 : Vec Ideal S1x512x1024 .f32) (v12 : Vec Ideal S1x1024 .f32)
    (v16 v18 : Vec Ideal S1x1x1024 .f32) (r : Fin 512) (d : Fin 1024) :
    k0_pay2 v0 v12 v16 v18 (ix2 r d) = Rows.modRow (fun e => v0 (ix3 0 r e)) (fun e => v16 (ix3 0 0 e))
      (fun e => v18 (ix3 0 0 e)) (fun e => v12 (ix2 0 e)) d := by
  pointwise [k0_pay2, Rows.modRow]

/-- The same from the whole windows. -/
theorem rows8_apply (x0 : Vec Ideal S1x512x1024 .f32) (x1 : Vec Ideal S1x3x1024 .f32)
    (x2 : Vec Ideal S1x1024 .f32) (x3 : Vec Ideal S1024x3328 .bf16) (r : Fin 512) (d : Fin 1024) :
    k0_pay8 x0 x1 x2 x3 (ix2 r d) = Rows.modRow (fun e => x0 (ix3 0 r e)) (fun e => x1 (ix3 0 0 e))
      (fun e => x1 (ix3 0 1 e)) (fun e => x2 (ix2 0 e)) d := by
  pointwise [k0_pay8, k0_pay2, Rows.modRow]

/-- The batch of a grid point's block. -/
def bat (t : Fin cfg0.N) : Fin 4 := ⟨(grid0.coords t 0).val, (grid0.coords t 0).isLt⟩
/-- The position, in the array, of row `r` of a grid point's block. -/
def pos (t : Fin cfg0.N) (r : Fin 512) : Fin 4096 :=
  ⟨512 * (grid0.coords t 1).val + r.val, by have h : (grid0.coords t 1).val < 8 := (grid0.coords t 1).isLt; omega⟩

theorem x_read (c : Dev nD) (t : Fin cfg0.N) (r : Fin 512) (e : Fin 1024) :
    iblk m c 0 t (ix3 0 r e) = m ((c : Thread nD τ).loc main_arg0) (ix3 (bat t) (pos t r) e) := by
  blk_point [iblk, V, idx t]
  · rfl
  · simp only [pos]; omega
theorem mod_read (c : Dev nD) (t : Fin cfg0.N) (k : Fin 3) (e : Fin 1024) :
    iblk m c 1 t (ix3 0 k e) = m ((c : Thread nD τ).loc main_arg1) (ix2 (bat t) ⟨1024 * k.val + e.val, by omega⟩) := by
  blk_point [iblk, V, idx t]
  all_goals rfl
theorem norm_read (c : Dev nD) (t : Fin cfg0.N) (e : Fin 1024) :
    iblk m c 2 t (ix2 0 e) = m ((c : Thread nD τ).loc main_arg2) (ix1 e) := by
  blk_point [iblk, V, idx t]

/-- Keys and values of the weight, interleaved head by head as the kernel's host code lays them out. -/
def kvLay (W : FVec Ideal S1024x3328 .f32) : FVec Ideal S1024x256 .f32 :=
  concatenate S1024x256 1
    [⟨S1024x128, concatenate S1024x128 1
        [⟨S1024x64, extractStridedSlice S1024x64 ![0, 0] (extractStridedSlice S1024x128 ![0, 512] W slices_S1024x3328_S1024x128_0_512) slices_S1024x128_S1024x64_0_0⟩,
         ⟨S1024x64, extractStridedSlice S1024x64 ![0, 0] (extractStridedSlice S1024x128 ![0, 640] W slices_S1024x3328_S1024x128_0_640) slices_S1024x128_S1024x64_0_0⟩]
        concatenates_S1024x64_S1024x64_S1024x128_d1⟩,
     ⟨S1024x128, concatenate S1024x128 1
        [⟨S1024x64, extractStridedSlice S1024x64 ![0, 64] (extractStridedSlice S1024x128 ![0, 512] W slices_S1024x3328_S1024x128_0_512) slices_S1024x128_S1024x64_0_64⟩,
         ⟨S1024x64, extractStridedSlice S1024x64 ![0, 64] (extractStridedSlice S1024x128 ![0, 640] W slices_S1024x3328_S1024x128_0_640) slices_S1024x128_S1024x64_0_64⟩]
        concatenates_S1024x64_S1024x64_S1024x128_d1⟩]
    concatenates_S1024x128_S1024x128_S1024x256_d1

/-- The whole weight as the kernel reads it. -/
def wLay (W : FVec Ideal S1024x3328 .f32) : FVec Ideal S1024x3328 .bf16 :=
  truncf .bf16 (concatenate S1024x3328 1
    [⟨S1024x512, extractStridedSlice S1024x512 ![0, 0] W slices_S1024x3328_S1024x512_0_0⟩,
     ⟨S1024x256, kvLay W⟩,
     ⟨S1024x2560, extractStridedSlice S1024x2560 ![0, 768] W slices_S1024x3328_S1024x2560_0_768⟩]
    concatenates_S1024x512_S1024x256_S1024x2560_S1024x3328_d1) bitsLt_bf16_f32

set_option maxHeartbeats 1600000 in
theorem V_w (c : Dev nD) : V m c main_v13 = wLay (m ((c : Thread nD τ).loc main_arg3)) := by
  rfl

/-- The weight's column that lies at column `n` of the kernel's layout. -/
def colVal (n : ℕ) : ℕ :=
  if n < 512 then n else if n < 768 then
    (if (n - 512) / 64 % 2 < 1 then 512 + ((n - 512) / 128 * 64 + (n - 512) % 64)
      else 640 + ((n - 512) / 128 * 64 + (n - 512) % 64))
  else n

/-- The same as a column index. -/
def col (n : Fin 3328) : Fin 3328 := ⟨colVal n.val, by unfold colVal; split_ifs <;> omega⟩

theorem wLay_apply (W : FVec Ideal S1024x3328 .f32) (e : Fin 1024) (n : Fin 3328) :
    wLay W (ix2 e n) = W (ix2 e (col n)) := by
  pointwise [wLay, kvLay]
  split_ifs <;> refine congrArg W (congrArg (ix2 e) (Fin.ext ?_)) <;> simp only [col, colVal] <;> split_ifs <;> omega

theorem w_read (c : Dev nD) (t : Fin cfg0.N) (e : Fin 1024) (n : Fin 3328) :
    iblk m c 3 t (ix2 e n) = m ((c : Thread nD τ).loc main_arg3) (ix2 e (col n)) := by
  refine Eq.trans ?_ (wLay_apply (m ((c : Thread nD τ).loc main_arg3)) e n)
  rw [← V_w m c]
  blk_point [iblk, idx t]

/-- A block's row of the modulated activations against a column of the weight is the reference's projection
    at the array position of the row and the column's place in the weight. -/
theorem proj_blk (c : Dev nD) (t : Fin cfg0.N) (r : Fin 512) (n : Fin 3328) (v16 v18 : Vec Ideal S1x1x1024 .f32)
    (h16 : ∀ e : Fin 1024, v16 (ix3 0 0 e) = iblk m c 1 t (ix3 0 0 e))
    (h18 : ∀ e : Fin 1024, v18 (ix3 0 0 e) = iblk m c 1 t (ix3 0 1 e)) :
    ∑ x : Fin 1024, k0_pay2 (iblk m c 0 t) (iblk m c 2 t) v16 v18 (ix2 r x) * iblk m c 3 t (ix2 x n)
      = OddInRef.proj (m ((c : Thread nD τ).loc main_arg0)) (m ((c : Thread nD τ).loc main_arg1))
        (m ((c : Thread nD τ).loc main_arg2)) (m ((c : Thread nD τ).loc main_arg3)) (ix3 (bat t) (pos t r) (col n)) := by
  refine Eq.trans ?_ (OddInRef.proj_apply _ _ _ _ _ _ _).symm
  refine Finset.sum_congr rfl fun x _ => ?_
  refine congrArg₂ (· * ·) ((rows_apply _ _ _ _ r x).trans ?_) (w_read m c t x n)
  have e16 : ∀ e : Fin 1024, v16 (ix3 0 0 e) = m ((c : Thread nD τ).loc main_arg1) (ix2 (bat t) ⟨e, by omega⟩) :=
    fun e => ((h16 e).trans (mod_read m c t 0 e)).trans (by congr 2; ext; simp)
  have e18 : ∀ e : Fin 1024, v18 (ix3 0 0 e) = m ((c : Thread nD τ).loc main_arg1) (ix2 (bat t) ⟨1024 + e, by omega⟩) :=
    fun e => (h18 e).trans (mod_read m c t 1 e)
  simp only [x_read m c t, norm_read m c t, e16, e18]

/-- The same for the block of modulated rows the later projections share. -/
theorem proj_blk8 (c : Dev nD) (t : Fin cfg0.N) (r : Fin 512) (n : Fin 3328) :
    ∑ x : Fin 1024, k0_pay8 (iblk m c 0 t) (iblk m c 1 t) (iblk m c 2 t) (iblk m c 3 t) (ix2 r x) * iblk m c 3 t (ix2 x n)
      = OddInRef.proj (m ((c : Thread nD τ).loc main_arg0)) (m ((c : Thread nD τ).loc main_arg1))
        (m ((c : Thread nD τ).loc main_arg2)) (m ((c : Thread nD τ).loc main_arg3)) (ix3 (bat t) (pos t r) (col n)) := by
  refine Eq.trans ?_ (OddInRef.proj_apply _ _ _ _ _ _ _).symm
  refine Finset.sum_congr rfl fun x _ => ?_
  refine congrArg₂ (· * ·) ((rows8_apply _ _ _ _ r x).trans ?_) (w_read m c t x n)
  have e16 : ∀ e : Fin 1024, iblk m c 1 t (ix3 0 0 e) = m ((c : Thread nD τ).loc main_arg1) (ix2 (bat t) ⟨e, by omega⟩) :=
    fun e => (mod_read m c t 0 e).trans (by congr 2; ext; simp)
  have e18 : ∀ e : Fin 1024, iblk m c 1 t (ix3 0 1 e) = m ((c : Thread nD τ).loc main_arg1) (ix2 (bat t) ⟨1024 + e, by omega⟩) :=
    fun e => mod_read m c t 1 e
  simp only [x_read m c t, norm_read m c t, e16, e18]

end Cert.OddIn
-- ==== Proof.OddIn.lean ====
module

public import proofs.«01_k».proof.Proof.OddInBlk

@[expose] public section

set_option maxRecDepth 16384

noncomputable section

open Idealize.ShloMosaic Idealize.ShloMosaic.TcCoe Idealize.SL.Sem
open Idealize.ShloMosaic.Pipeline (Dat)

namespace Cert.OddIn

open Cert.KOddInIdeal Cert.KOddInIdeal.Gen

variable (m : (ℓ : Loc nD τ sig) → Buf (Elt Ideal) ℓ)

theorem final4 (c : Dev nD) : (dats m 0 c).arrAt 4 (cfgs 0).N
    = OddInRef.out0 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, OddInRef.out0]
  have h2 : (y 2).val < 512 := (y 2).isLt
  refine (proj_blk m c t (y 1) ⟨(y 2).val, by omega⟩ (View.ld (iblk m c 1 t) r0_2) (View.ld (iblk m c 1 t) r0_3) ?_ ?_).trans ?_
  · intro e; pointwise
  · intro e; pointwise
  · have hc : colVal (y 2).val = (y 2).val := if_pos h2
    blk_ext [idx t, bat, pos, col, hc]

/-- Keys and values. -/
theorem final5 (c : Dev nD) : (dats m 0 c).arrAt 5 (cfgs 0).N
    = OddInRef.out1 (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  have h2 : (y 2).val < 256 := (y 2).isLt
  pointwise [k0_pay4, OddInRef.out1]
  refine (proj_blk8 m c t (y 1) ⟨512 + (y 2).val, by omega⟩).trans ?_
  split_ifs with h
  · blk_simp [idx t] at h
    blk_ext [idx t, bat, pos, col]
    unfold colVal
    split_ifs <;> omega
  · blk_simp [idx t] at h
    blk_ext [idx t, bat, pos, col]
    unfold colVal
    split_ifs <;> omega

/-- The attention gate. -/
theorem final6 (c : Dev nD) : (dats m 0 c).arrAt 6 (cfgs 0).N
    = OddInRef.out2 (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]; frame_out
  have h2 : (y 2).val < 512 := (y 2).isLt
  pointwise [k0_pay5, OddInRef.out2, OddInRef.silu]
  refine congrArg Rows.gate ?_
  refine (proj_blk8 m c t (y 1) ⟨768 + (y 2).val, by omega⟩).trans ?_
  have hc : colVal (768 + (y 2).val) = 768 + (y 2).val := by unfold colVal; rw [if_neg (by omega), if_neg (by omega)]
  blk_ext [idx t, bat, pos, col, hc]

/-- The convolution's input. -/
theorem final7 (c : Dev nD) : (dats m 0 c).arrAt 7 (cfgs 0).N
    = OddInRef.out3 (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]; frame_out
  have h2 : (y 2).val < 512 := (y 2).isLt
  pointwise [k0_pay6, OddInRef.out3]
  refine congrArg₂ (fun a b : EReal => a * b) ?_ ?_
  · refine (proj_blk8 m c t (y 1) ⟨2304 + (y 2).val, by omega⟩).trans ?_
    have hc : colVal (2304 + (y 2).val) = 2304 + (y 2).val := by unfold colVal; rw [if_neg (by omega), if_neg (by omega)]
    blk_ext [idx t, bat, pos, col, hc]
  · refine (proj_blk8 m c t (y 1) ⟨1280 + (y 2).val, by omega⟩).trans ?_
    have hc : colVal (1280 + (y 2).val) = 1280 + (y 2).val := by unfold colVal; rw [if_neg (by omega), if_neg (by omega)]
    blk_ext [idx t, bat, pos, col, hc]

/-- The convolution's gate. -/
theorem final8 (c : Dev nD) : (dats m 0 c).arrAt 8 (cfgs 0).N
    = OddInRef.out4 (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp
  rw [after0_8]; frame_out
  have h2 : (y 2).val < 512 := (y 2).isLt
  pointwise [k0_pay1, k0_pay7, OddInRef.out4, OddInRef.silu]
  refine congrArg₂ (fun a b : EReal => a * Rows.gate b) ?_ ?_
  · refine (proj_blk8 m c t (y 1) ⟨1792 + (y 2).val, by omega⟩).trans ?_
    have hc : colVal (1792 + (y 2).val) = 1792 + (y 2).val := by unfold colVal; rw [if_neg (by omega), if_neg (by omega)]
    blk_ext [idx t, bat, pos, col, hc]
  · refine (proj_blk8 m c t (y 1) ⟨2816 + (y 2).val, by omega⟩).trans ?_
    have hc : colVal (2816 + (y 2).val) = 2816 + (y 2).val := by unfold colVal; rw [if_neg (by omega), if_neg (by omega)]
    blk_ext [idx t, bat, pos, col, hc]

end Cert.OddIn
-- ==== Proof.EvenInRef.lean ====
module

public import proofs.«01_k».proof.Proof.Gen.REvenInIdeal.Run
public import proofs.«01_k».proof.Proof.Rows

@[expose] public section

set_option maxRecDepth 16384

noncomputable section

namespace Cert.EvenInRef

open Cert.REvenInIdeal Cert.REvenInIdeal.Gen Idealize.ShloMosaic Idealize.ShloMosaic.TcCoe Idealize.SL.Sem

/-- The reference's normalized and modulated rows. -/
def rows (X : FVec Ideal S4x4096x1024 .f32) (M : FVec Ideal S4x3072 .f32) (N : FVec Ideal S1024 .f32) :
    FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 N))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 M) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 M) slices_S4x1x3072_S4x1x1024_0_0_0))

/-- The reference's projection of the rows. -/
def proj (X : FVec Ideal S4x4096x1024 .f32) (M : FVec Ideal S4x3072 .f32) (N : FVec Ideal S1024 .f32)
    (W : FVec Ideal S1024x2592 .f32) : FVec Ideal S4x4096x2592 .f32 :=
  Host.dotGeneral dot_S4x4096x1024_S1024x2592_S4x4096x2592_2_0_01_1_n_n none (rows X M N) W

/-- `v · σ(v)` as the reference spells it. -/
def silu (v : FVec Ideal S4x4096x512 .f32) : FVec Ideal S4x4096x512 .f32 :=
  mulf v (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf v))))

variable (X : FVec Ideal S4x4096x1024 .f32) (M : FVec Ideal S4x3072 .f32) (N : FVec Ideal S1024 .f32)
  (W : FVec Ideal S1024x2592 .f32)

/-- The first result: queries and keys, interleaved head by head. -/
def out0 : FVec Ideal S4x4096x512 .f32 :=
  shapeCast _ (concatenate S4x4096x4x2x64 3 [⟨S4x4096x4x1x64, (shapeCast _ (extractStridedSlice S4x4096x256 ![0, 0, 0] (proj X M N W) slices_S4x4096x2592_S4x4096x256_0_0_0) shapeCasts_S4x4096x256_S4x4096x4x1x64)⟩, ⟨S4x4096x4x1x64, (shapeCast _ (extractStridedSlice S4x4096x256 ![0, 0, 256] (proj X M N W) slices_S4x4096x2592_S4x4096x256_0_0_256) shapeCasts_S4x4096x256_S4x4096x4x1x64)⟩] concatenates_S4x4096x4x1x64_S4x4096x4x1x64_S4x4096x4x2x64_d3) shapeCasts_S4x4096x4x2x64_S4x4096x512
/-- The second result: the values. -/
def out1 : FVec Ideal S4x4096x512 .f32 := extractStridedSlice S4x4096x512 ![0, 0, 512] (proj X M N W) slices_S4x4096x2592_S4x4096x512_0_0_512
/-- The third result: the low-rank factors, padded with zeros to 128 columns. -/
def out2 : FVec Ideal S4x4096x128 .f32 :=
  pad S4x4096x128 ![0, 0, 0] ![0, 0, 96] ![0, 0, 0] (concatenate S4x4096x32 2 [⟨S4x4096x16, (extractStridedSlice S4x4096x16 ![0, 0, 1024] (proj X M N W) slices_S4x4096x2592_S4x4096x16_0_0_1024)⟩, ⟨S4x4096x16, (extractStridedSlice S4x4096x16 ![0, 0, 1040] (proj X M N W) slices_S4x4096x2592_S4x4096x16_0_0_1040)⟩] concatenates_S4x4096x16_S4x4096x16_S4x4096x32_d2) (sitofp .f32 (constantI S_ 32 0#32)) pads_S4x4096x32_S4x4096x128_000_000_0960 h_S_
/-- The fourth result: the linear attention's gate. -/
def out3 : FVec Ideal S4x4096x512 .f32 := silu (extractStridedSlice S4x4096x512 ![0, 0, 1056] (proj X M N W) slices_S4x4096x2592_S4x4096x512_0_0_1056)
/-- The fifth result: the state space layer's input. -/
def out4 : FVec Ideal S4x4096x512 .f32 := extractStridedSlice S4x4096x512 ![0, 0, 1568] (proj X M N W) slices_S4x4096x2592_S4x4096x512_0_0_1568
/-- The sixth result: the state space layer's gate. -/
def out5 : FVec Ideal S4x4096x512 .f32 := silu (extractStridedSlice S4x4096x512 ![0, 0, 2080] (proj X M N W) slices_S4x4096x2592_S4x4096x512_0_0_2080)

/-- The reference's run, its results by the names above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v26) = out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v38) = out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = out4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v39) = out5 (m ((c.tc : Thread nD τ).loc main_arg0)) (m ((c.tc : Thread nD τ).loc main_arg1)) (m ((c.tc : Thread nD τ).loc main_arg2)) (m ((c.tc : Thread nD τ).loc main_arg3)) :=
  (θ_run defs _ _).mono (fun _ h c => ⟨(h c).1, (h c).2.1, (h c).2.2.1, (h c).2.2.2.1, (h c).2.2.2.2.1, (h c).2.2.2.2.2.1⟩)
    (Cert.REvenInIdeal.Value.run m ρ)

theorem proj_apply (b : Fin 4) (s : Fin 4096) (n : Fin 2592) :
    proj X M N W (ix3 b s n) = Rows.projRow (fun e => X (ix3 b s e)) (fun e => M (ix2 b ⟨e, by omega⟩))
      (fun e => M (ix2 b ⟨1024 + e, by omega⟩)) (fun e => N (ix1 e)) (fun e => W (ix2 e n)) := by
  pointwise [proj, rows, Rows.projRow, Rows.modRow]

/-- Queries in the first half of every head's 128 lanes, keys in the second. -/
theorem out0_apply (b : Fin 4) (s : Fin 4096) (n : Fin 512) :
    out0 X M N W (ix3 b s n) = if n.val / 64 % 2 < 1 then proj X M N W (ix3 b s ⟨n.val / 128 * 64 + n.val % 64, by omega⟩)
      else proj X M N W (ix3 b s ⟨256 + (n.val / 128 * 64 + n.val % 64), by omega⟩) := by
  pointwise [out0]
  split_ifs <;> rfl

/-- The 32 low-rank columns, zeros behind them. -/
theorem out2_apply (b : Fin 4) (s : Fin 4096) (n : Fin 128) :
    out2 X M N W (ix3 b s n) = if n.val < 32 then proj X M N W (ix3 b s ⟨1024 + n.val, by omega⟩) else 0 := by
  have h0 : FloatOps.sitofp (F := Ideal) FTy.f32 0#32 = 0 := by
    show ((((0#32 : BitVec 32).toInt : ℝ)) : EReal) = 0
    simp
  pointwise [out2]
  rw [h0]
  split_ifs <;> first
    | rfl
    | exact congrArg (fun z => proj X M N W (ix3 b s z)) (Fin.ext (by simp only []; omega))

end Cert.EvenInRef
-- ==== Proof.EvenInBlk.lean ====
module

public import proofs.«01_k».proof.Proof.Gen.KEvenInIdeal.Value
public import proofs.«01_k».proof.Proof.EvenInRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EvenIn

open Cert.KEvenInIdeal Cert.KEvenInIdeal.Gen

variable (m : (ℓ : Loc nD τ sig) → Buf (Elt Ideal) ℓ)

/-- The windows' index maps at every grid point. -/
theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0] :=
  (by decide +kernel : ∀ t : Fin grid0.N, _)

/-- The kernel's normalized and modulated block, entry by entry. -/
theorem rows_apply (v0 : Vec Ideal S1x512x1024 .f32) (v12 : Vec Ideal S1x1024 .f32)
    (v16 v18 : Vec Ideal S1x1x1024 .f32) (r : Fin 512) (d : Fin 1024) :
    k0_pay2 v0 v12 v16 v18 (ix2 r d) = Rows.modRow (fun e => v0 (ix3 0 r e)) (fun e => v16 (ix3 0 0 e))
      (fun e => v18 (ix3 0 0 e)) (fun e => v12 (ix2 0 e)) d := by
  pointwise [k0_pay2, Rows.modRow]

/-- The same from the whole windows. -/
theorem rows9_apply (x0 : Vec Ideal S1x512x1024 .f32) (x1 : Vec Ideal S1x3x1024 .f32)
    (x2 : Vec Ideal S1x1024 .f32) (x3 : Vec Ideal S1024x2688 .bf16) (r : Fin 512) (d : Fin 1024) :
    k0_pay9 x0 x1 x2 x3 (ix2 r d) = Rows.modRow (fun e => x0 (ix3 0 r e)) (fun e => x1 (ix3 0 0 e))
      (fun e => x1 (ix3 0 1 e)) (fun e => x2 (ix2 0 e)) d := by
  pointwise [k0_pay9, k0_pay2, Rows.modRow]

/-- The batch of a grid point's block. -/
def bat (t : Fin cfg0.N) : Fin 4 := ⟨(grid0.coords t 0).val, (grid0.coords t 0).isLt⟩
/-- The position, in the array, of row `r` of a grid point's block. -/
def pos (t : Fin cfg0.N) (r : Fin 512) : Fin 4096 :=
  ⟨512 * (grid0.coords t 1).val + r.val, by have h : (grid0.coords t 1).val < 8 := (grid0.coords t 1).isLt; omega⟩

theorem x_read (c : Dev nD) (t : Fin cfg0.N) (r : Fin 512) (e : Fin 1024) :
    iblk m c 0 t (ix3 0 r e) = m ((c : Thread nD τ).loc main_arg0) (ix3 (bat t) (pos t r) e) := by
  blk_point [iblk, V, idx t]
  · rfl
  · simp only [pos]; omega
/-- The modulation as the kernel reads it: shift, scale and gate apart. -/
def modLay (M : FVec Ideal S4x3072 .f32) : FVec Ideal S4x3x1024 .f32 := shapeCast S4x3x1024 M shapeCasts_S4x3072_S4x3x1024

/-- The norm's weight as the kernel reads it: one row. -/
def normLay (N : FVec Ideal S1024 .f32) : FVec Ideal S1x1024 .f32 := broadcastInDim S1x1024 ![1] bcast_S1024_S1x1024_1 N

theorem modLay_apply (M : FVec Ideal S4x3072 .f32) (b : Fin 4) (k : Fin 3) (e : Fin 1024) :
    modLay M (ix3 b k e) = M (ix2 b ⟨1024 * k.val + e.val, by omega⟩) := by
  pointwise [modLay]
  exact congrArg (fun z => M (ix2 b z)) (Fin.ext (by simp only []; omega))

theorem normLay_apply (N : FVec Ideal S1024 .f32) (e : Fin 1024) : normLay N (ix2 0 e) = N (ix1 e) := by
  pointwise [normLay]

set_option maxHeartbeats 1600000 in
theorem V_mod (c : Dev nD) : V m c main_v0 = modLay (m ((c : Thread nD τ).loc main_arg1)) := by
  rfl

set_option maxHeartbeats 1600000 in
theorem V_norm (c : Dev nD) : V m c main_v22 = normLay (m ((c : Thread nD τ).loc main_arg2)) := by
  rfl

theorem mod_read (c : Dev nD) (t : Fin cfg0.N) (k : Fin 3) (e : Fin 1024) :
    iblk m c 1 t (ix3 0 k e) = m ((c : Thread nD τ).loc main_arg1) (ix2 (bat t) ⟨1024 * k.val + e.val, by omega⟩) := by
  refine Eq.trans ?_ (modLay_apply (m ((c : Thread nD τ).loc main_arg1)) (bat t) k e)
  rw [← V_mod m c]
  blk_point [iblk, idx t]
  all_goals rfl

theorem norm_read (c : Dev nD) (t : Fin cfg0.N) (e : Fin 1024) :
    iblk m c 2 t (ix2 0 e) = m ((c : Thread nD τ).loc main_arg2) (ix1 e) := by
  refine Eq.trans ?_ (normLay_apply (m ((c : Thread nD τ).loc main_arg2)) e)
  rw [← V_norm m c]
  blk_point [iblk, idx t]

/-- Queries and keys of the weight, interleaved head by head as the kernel's host code lays them out. -/
def qkLay (W : FVec Ideal S1024x2592 .f32) : FVec Ideal S1024x512 .f32 :=
  concatenate S1024x512 1
    [⟨S1024x128, concatenate S1024x128 1
        [⟨S1024x64, extractStridedSlice S1024x64 ![0, 0] (extractStridedSlice S1024x256 ![0, 0] W slices_S1024x2592_S1024x256_0_0) slices_S1024x256_S1024x64_0_0⟩,
         ⟨S1024x64, extractStridedSlice S1024x64 ![0, 0] (extractStridedSlice S1024x256 ![0, 256] W slices_S1024x2592_S1024x256_0_256) slices_S1024x256_S1024x64_0_0⟩]
        concatenates_S1024x64_S1024x64_S1024x128_d1⟩,
     ⟨S1024x128, concatenate S1024x128 1
        [⟨S1024x64, extractStridedSlice S1024x64 ![0, 64] (extractStridedSlice S1024x256 ![0, 0] W slices_S1024x2592_S1024x256_0_0) slices_S1024x256_S1024x64_0_64⟩,
         ⟨S1024x64, extractStridedSlice S1024x64 ![0, 64] (extractStridedSlice S1024x256 ![0, 256] W slices_S1024x2592_S1024x256_0_256) slices_S1024x256_S1024x64_0_64⟩]
        concatenates_S1024x64_S1024x64_S1024x128_d1⟩,
     ⟨S1024x128, concatenate S1024x128 1
        [⟨S1024x64, extractStridedSlice S1024x64 ![0, 128] (extractStridedSlice S1024x256 ![0, 0] W slices_S1024x2592_S1024x256_0_0) slices_S1024x256_S1024x64_0_128⟩,
         ⟨S1024x64, extractStridedSlice S1024x64 ![0, 128] (extractStridedSlice S1024x256 ![0, 256] W slices_S1024x2592_S1024x256_0_256) slices_S1024x256_S1024x64_0_128⟩]
        concatenates_S1024x64_S1024x64_S1024x128_d1⟩,
     ⟨S1024x128, concatenate S1024x128 1
        [⟨S1024x64, extractStridedSlice S1024x64 ![0, 192] (extractStridedSlice S1024x256 ![0, 0] W slices_S1024x2592_S1024x256_0_0) slices_S1024x256_S1024x64_0_192⟩,
         ⟨S1024x64, extractStridedSlice S1024x64 ![0, 192] (extractStridedSlice S1024x256 ![0, 256] W slices_S1024x2592_S1024x256_0_256) slices_S1024x256_S1024x64_0_192⟩]
        concatenates_S1024x64_S1024x64_S1024x128_d1⟩]
    concatenates_S1024x128_S1024x128_S1024x128_S1024x128_S1024x512_d1

/-- The whole weight as the kernel reads it. -/
def wLay (W : FVec Ideal S1024x2592 .f32) : FVec Ideal S1024x2688 .bf16 :=
  truncf .bf16 (concatenate S1024x2688 1
    [⟨S1024x512, qkLay W⟩,
     ⟨S1024x512, extractStridedSlice S1024x512 ![0, 512] W slices_S1024x2592_S1024x512_0_512⟩,
     ⟨S1024x128, pad S1024x128 ![0, 0] ![0, 96] ![0, 0] (extractStridedSlice S1024x32 ![0, 1024] W slices_S1024x2592_S1024x32_0_1024) (sitofp .f32 (constantI S_ 32 0#32)) pads_S1024x32_S1024x128_000_0960 h_S_⟩,
     ⟨S1024x1536, extractStridedSlice S1024x1536 ![0, 1056] W slices_S1024x2592_S1024x1536_0_1056⟩]
    concatenates_S1024x512_S1024x512_S1024x128_S1024x1536_S1024x2688_d1) bitsLt_bf16_f32

set_option maxHeartbeats 1600000 in
theorem V_w (c : Dev nD) : V m c main_v21 = wLay (m ((c : Thread nD τ).loc main_arg3)) := by
  rfl

/-- The weight's column that lies at column `n` of the kernel's layout. -/
def colVal (n : ℕ) : ℕ :=
  if n < 512 then
    (if n / 64 % 2 < 1 then n / 128 * 64 + n % 64 else 256 + (n / 128 * 64 + n % 64))
  else if n < 1056 then n else n - 96

/-- The same as a column index. -/
def col (n : Fin 2688) : Fin 2592 := ⟨colVal n.val, by unfold colVal; split_ifs <;> omega⟩

/-- The kernel's layout entry by entry, the 96 zero columns included. -/
theorem wLay_apply (W : FVec Ideal S1024x2592 .f32) (e : Fin 1024) (n : Fin 2688) :
    wLay W (ix2 e n) = if 1056 ≤ n.val ∧ n.val < 1152 then 0 else W (ix2 e (col n)) := by
  have h0 : FloatOps.sitofp (F := Ideal) FTy.f32 0#32 = 0 := by
    show ((((0#32 : BitVec 32).toInt : ℝ)) : EReal) = 0
    simp
  by_cases hz : 1056 ≤ n.val ∧ n.val < 1152
  · rw [if_pos hz]
    pointwise [wLay, qkLay]
    split_ifs <;> first
      | (exfalso; omega)
      | exact h0
  · rw [if_neg hz]
    pointwise [wLay, qkLay]
    split_ifs <;> first
      | (exfalso; omega)
      | (refine congrArg W (congrArg (ix2 e) (Fin.ext ?_)); simp only [col, colVal]; split_ifs <;> omega)

/-- The weight's block is the whole weight at every grid point. -/
theorem w_whole (c : Dev nD) (t : Fin cfg0.N) (e : Fin 1024) (n : Fin 2688) :
    iblk m c 3 t (ix2 e n) = V m c main_v21 (ix2 e n) := by
  blk_point [iblk, idx t]

/-- The weight's block in the kernel's layout. -/
theorem w_lay (c : Dev nD) (t : Fin cfg0.N) (e : Fin 1024) (n : Fin 2688) :
    iblk m c 3 t (ix2 e n) = wLay (m ((c : Thread nD τ).loc main_arg3)) (ix2 e n) :=
  (w_whole m c t e n).trans (congrFun (V_w m c) (ix2 e n))

/-- Outside the zero columns. -/
theorem w_read (c : Dev nD) (t : Fin cfg0.N) (e : Fin 1024) (n : Fin 2688) (h : ¬(1056 ≤ n.val ∧ n.val < 1152)) :
    iblk m c 3 t (ix2 e n) = m ((c : Thread nD τ).loc main_arg3) (ix2 e (col n)) :=
  (w_lay m c t e n).trans ((wLay_apply (m ((c : Thread nD τ).loc main_arg3)) e n).trans (if_neg h))

/-- In the zero columns. -/
theorem w_zero (c : Dev nD) (t : Fin cfg0.N) (e : Fin 1024) (n : Fin 2688) (h : 1056 ≤ n.val ∧ n.val < 1152) :
    iblk m c 3 t (ix2 e n) = (0 : EReal) :=
  (w_lay m c t e n).trans ((wLay_apply (m ((c : Thread nD τ).loc main_arg3)) e n).trans (if_pos h))

/-- A block's row of the modulated activations against a column of the weight is the reference's projection
    at the array position of the row and the column's place in the weight. -/
theorem proj_blk (c : Dev nD) (t : Fin cfg0.N) (r : Fin 512) (n : Fin 2688) (hn : ¬(1056 ≤ n.val ∧ n.val < 1152)) (v16 v18 : Vec Ideal S1x1x1024 .f32)
    (h16 : ∀ e : Fin 1024, v16 (ix3 0 0 e) = iblk m c 1 t (ix3 0 0 e))
    (h18 : ∀ e : Fin 1024, v18 (ix3 0 0 e) = iblk m c 1 t (ix3 0 1 e)) :
    ∑ x : Fin 1024, k0_pay2 (iblk m c 0 t) (iblk m c 2 t) v16 v18 (ix2 r x) * iblk m c 3 t (ix2 x n)
      = EvenInRef.proj (m ((c : Thread nD τ).loc main_arg0)) (m ((c : Thread nD τ).loc main_arg1))
        (m ((c : Thread nD τ).loc main_arg2)) (m ((c : Thread nD τ).loc main_arg3)) (ix3 (bat t) (pos t r) (col n)) := by
  refine Eq.trans ?_ (EvenInRef.proj_apply _ _ _ _ _ _ _).symm
  refine Finset.sum_congr rfl fun x _ => ?_
  refine congrArg₂ (· * ·) ((rows_apply _ _ _ _ r x).trans ?_) (w_read m c t x n hn)
  have e16 : ∀ e : Fin 1024, v16 (ix3 0 0 e) = m ((c : Thread nD τ).loc main_arg1) (ix2 (bat t) ⟨e, by omega⟩) :=
    fun e => ((h16 e).trans (mod_read m c t 0 e)).trans (by congr 2; ext; simp)
  have e18 : ∀ e : Fin 1024, v18 (ix3 0 0 e) = m ((c : Thread nD τ).loc main_arg1) (ix2 (bat t) ⟨1024 + e, by omega⟩) :=
    fun e => (h18 e).trans (mod_read m c t 1 e)
  simp only [x_read m c t, norm_read m c t, e16, e18]

/-- The same for the block of modulated rows the later projections share. -/
theorem proj_blk9 (c : Dev nD) (t : Fin cfg0.N) (r : Fin 512) (n : Fin 2688) (hn : ¬(1056 ≤ n.val ∧ n.val < 1152)) :
    ∑ x : Fin 1024, k0_pay9 (iblk m c 0 t) (iblk m c 1 t) (iblk m c 2 t) (iblk m c 3 t) (ix2 r x) * iblk m c 3 t (ix2 x n)
      = EvenInRef.proj (m ((c : Thread nD τ).loc main_arg0)) (m ((c : Thread nD τ).loc main_arg1))
        (m ((c : Thread nD τ).loc main_arg2)) (m ((c : Thread nD τ).loc main_arg3)) (ix3 (bat t) (pos t r) (col n)) := by
  refine Eq.trans ?_ (EvenInRef.proj_apply _ _ _ _ _ _ _).symm
  refine Finset.sum_congr rfl fun x _ => ?_
  refine congrArg₂ (· * ·) ((rows9_apply _ _ _ _ r x).trans ?_) (w_read m c t x n hn)
  have e16 : ∀ e : Fin 1024, iblk m c 1 t (ix3 0 0 e) = m ((c : Thread nD τ).loc main_arg1) (ix2 (bat t) ⟨e, by omega⟩) :=
    fun e => (mod_read m c t 0 e).trans (by congr 2; ext; simp)
  have e18 : ∀ e : Fin 1024, iblk m c 1 t (ix3 0 1 e) = m ((c : Thread nD τ).loc main_arg1) (ix2 (bat t) ⟨1024 + e, by omega⟩) :=
    fun e => mod_read m c t 1 e
  simp only [x_read m c t, norm_read m c t, e16, e18]

end Cert.EvenIn
-- ==== Proof.EvenIn.lean ====
module

public import proofs.«01_k».proof.Proof.EvenInBlk

@[expose] public section

set_option maxRecDepth 16384

noncomputable section

open Idealize.ShloMosaic Idealize.ShloMosaic.TcCoe Idealize.SL.Sem
open Idealize.ShloMosaic.Pipeline (Dat)

namespace Cert.EvenIn

open Cert.KEvenInIdeal Cert.KEvenInIdeal.Gen

variable (m : (ℓ : Loc nD τ sig) → Buf (Elt Ideal) ℓ)

/-- Against a zero column of the weight's layout a row's projection is zero. -/
theorem proj_zero (c : Dev nD) (t : Fin cfg0.N) (r : Fin 512) (n : Fin 2688) (hn : 1056 ≤ n.val ∧ n.val < 1152) :
    ∑ x : Fin 1024, k0_pay9 (iblk m c 0 t) (iblk m c 1 t) (iblk m c 2 t) (iblk m c 3 t) (ix2 r x) * iblk m c 3 t (ix2 x n)
      = (0 : EReal) :=
  Finset.sum_eq_zero fun x _ => (congrArg (fun w : EReal => _ * w) (w_zero m c t x n hn)).trans (mul_zero _)

/-- Queries and keys. -/
theorem final4 (c : Dev nD) : (dats m 0 c).arrAt 4 (cfgs 0).N
    = EvenInRef.out0 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]; frame_out
  have h2 : (y 2).val < 512 := (y 2).isLt
  pointwise [k0_pay3]
  refine (proj_blk m c t (y 1) ⟨(y 2).val, by omega⟩ (by simp only []; omega) (View.ld (iblk m c 1 t) r0_2) (View.ld (iblk m c 1 t) r0_3) ?_ ?_).trans ?_
  · intro e; pointwise
  · intro e; pointwise
  generalize hj : ((cfg0.win 4).blk t).view.emb y = j
  rw [eq_ix3 j]
  refine Eq.trans ?_ (EvenInRef.out0_apply _ _ _ _ (j 0) (j 1) (j 2)).symm
  subst hj
  split_ifs with h
  · blk_simp [idx t] at h
    blk_ext [idx t, bat, pos, col]
    unfold colVal
    split_ifs <;> omega
  · blk_simp [idx t] at h
    blk_ext [idx t, bat, pos, col]
    unfold colVal
    split_ifs <;> omega

/-- The values. -/
theorem final5 (c : Dev nD) : (dats m 0 c).arrAt 5 (cfgs 0).N
    = EvenInRef.out1 (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  have h2 : (y 2).val < 512 := (y 2).isLt
  pointwise [k0_pay4, EvenInRef.out1]
  refine (proj_blk9 m c t (y 1) ⟨512 + (y 2).val, by omega⟩ (by simp only []; omega)).trans ?_
  have hc : colVal (512 + (y 2).val) = 512 + (y 2).val := by unfold colVal; split_ifs <;> omega
  blk_ext [idx t, bat, pos, col, hc]

/-- The low-rank factors: the weight's zero columns make the padding. -/
theorem final6 (c : Dev nD) : (dats m 0 c).arrAt 6 (cfgs 0).N
    = EvenInRef.out2 (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]; frame_out
  have h2 : (y 2).val < 128 := (y 2).isLt
  pointwise [k0_pay5]
  generalize hj : ((cfg0.win 6).blk t).view.emb y = j
  rw [eq_ix3 j]
  refine Eq.trans ?_ (EvenInRef.out2_apply _ _ _ _ (j 0) (j 1) (j 2)).symm
  subst hj
  split_ifs with h
  · blk_simp [idx t] at h
    refine (proj_blk9 m c t (y 1) ⟨1024 + (y 2).val, by omega⟩ (by simp only []; omega)).trans ?_
    have hc : colVal (1024 + (y 2).val) = 1024 + (y 2).val := by unfold colVal; split_ifs <;> omega
    blk_ext [idx t, bat, pos, col, hc]
  · blk_simp [idx t] at h
    exact proj_zero m c t (y 1) ⟨1024 + (y 2).val, by omega⟩ (by simp only []; omega)

/-- The linear attention's gate. -/
theorem final7 (c : Dev nD) : (dats m 0 c).arrAt 7 (cfgs 0).N
    = EvenInRef.out3 (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]; frame_out
  have h2 : (y 2).val < 512 := (y 2).isLt
  pointwise [k0_pay6, EvenInRef.out3, EvenInRef.silu]
  refine congrArg Rows.gate ?_
  refine (proj_blk9 m c t (y 1) ⟨1152 + (y 2).val, by omega⟩ (by simp only []; omega)).trans ?_
  have hc : colVal (1152 + (y 2).val) = 1056 + (y 2).val := by unfold colVal; split_ifs <;> omega
  blk_ext [idx t, bat, pos, col, hc]

/-- The state space layer's input. -/
theorem final8 (c : Dev nD) : (dats m 0 c).arrAt 8 (cfgs 0).N
    = EvenInRef.out4 (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp
  rw [after0_8]; frame_out
  have h2 : (y 2).val < 512 := (y 2).isLt
  pointwise [k0_pay7, EvenInRef.out4]
  refine (proj_blk9 m c t (y 1) ⟨1664 + (y 2).val, by omega⟩ (by simp only []; omega)).trans ?_
  have hc : colVal (1664 + (y 2).val) = 1568 + (y 2).val := by unfold colVal; split_ifs <;> omega
  blk_ext [idx t, bat, pos, col, hc]

/-- The state space layer's gate. -/
theorem final9 (c : Dev nD) : (dats m 0 c).arrAt 9 (cfgs 0).N
    = EvenInRef.out5 (m ((c : Thread nD τ).loc main_arg0)) (m ((c : Thread nD τ).loc main_arg1))
      (m ((c : Thread nD τ).loc main_arg2)) (m ((c : Thread nD τ).loc main_arg3)) := by
  refine (dats m 0 c).arrAt_eq_of_covers 9 _ (by decide +kernel) fun t _ y => ?_
  blk_simp
  rw [after0_9]; frame_out
  have h2 : (y 2).val < 512 := (y 2).isLt
  pointwise [k0_pay1, k0_pay8, EvenInRef.out5, EvenInRef.silu]
  refine congrArg Rows.gate ?_
  refine (proj_blk9 m c t (y 1) ⟨2176 + (y 2).val, by omega⟩ (by simp only []; omega)).trans ?_
  have hc : colVal (2176 + (y 2).val) = 2080 + (y 2).val := by unfold colVal; split_ifs <;> omega
  blk_ext [idx t, bat, pos, col, hc]

end Cert.EvenIn
-- ==== Proof.EvenOutRef.lean ====
module

public import proofs.«01_k».proof.Proof.Gen.REvenOutIdeal.Run
public import proofs.«01_k».proof.Proof.Rows

@[expose] public section

set_option maxRecDepth 16384

noncomputable section

namespace Cert.EvenOutRef

open Cert.REvenOutIdeal Cert.REvenOutIdeal.Gen Idealize.ShloMosaic Idealize.ShloMosaic.TcCoe Idealize.SL.Sem

variable (X : FVec Ideal S4x4096x1024 .f32) (M : FVec Ideal S4x3072 .f32) (YG Z SS : FVec Ideal S4x4096x512 .f32)
  (WG : FVec Ideal S512x512 .f32) (B : FVec Ideal S512 .f32) (W : FVec Ideal S1024x1024 .f32)

/-- The state-space branch after its gated linear unit. -/
def glu : FVec Ideal S4x4096x512 .f32 :=
  mulf (mulf Z (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (addf (Host.dotGeneral dot_S4x4096x512_S512x512_S4x4096x512_2_0_01_1_n_n none Z WG) (broadcastInDim S4x4096x512 ![0, 1, 2] bcast_S1x1x512_S4x4096x512_0_1_2 (broadcastInDim S1x1x512 ![2] bcast_S512_S1x1x512_2 B)))))))) SS

/-- The reference's result: the residual plus the gated output projection of both branches side by side. -/
def out : FVec Ideal S4x4096x1024 .f32 :=
  addf X (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] M slices_S4x3072_S4x1024_0_2048))) (Host.dotGeneral dot_S4x4096x1024_S1024x1024_S4x4096x1024_2_0_01_1_n_n none (concatenate S4x4096x1024 2 [⟨S4x4096x512, YG⟩, ⟨S4x4096x512, glu Z SS WG B⟩] concatenates_S4x4096x512_S4x4096x512_S4x4096x1024_d2) W))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (θ_run defs _ _).mono (fun _ h c => (h c).1) (Cert.REvenOutIdeal.Value.run m ρ)

/-- The result entry by entry, the two branches' projections apart. -/
theorem out_apply (b : Fin 4) (s : Fin 4096) (n : Fin 1024) :
    out X M YG Z SS WG B W (ix3 b s n) = X (ix3 b s n) + M (ix2 b ⟨2048 + n.val, by omega⟩)
      * ((∑ k : Fin 512, YG (ix3 b s k) * W (ix2 ⟨k.val, by omega⟩ n))
        + ∑ k : Fin 512, Z (ix3 b s k) * Rows.sigm ((∑ l : Fin 512, Z (ix3 b s l) * WG (ix2 l k)) + B (ix1 k)) * SS (ix3 b s k)
          * W (ix2 ⟨512 + k.val, by omega⟩ n)) := by
  pointwise [out, glu, Rows.sigm]

end Cert.EvenOutRef
-- ==== Proof.EvenOut.lean ====
module

public import proofs.«01_k».proof.Proof.Gen.KEvenOutIdeal.Value
public import proofs.«01_k».proof.Proof.EvenOutRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EvenOut

open Cert.KEvenOutIdeal Cert.KEvenOutIdeal.Gen

variable (m : (ℓ : Loc nD τ sig) → Buf (Elt Ideal) ℓ)

/-- The windows' index maps at every grid point. -/
theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, _)

set_option maxHeartbeats 1600000 in
/-- The result array: the reference's. -/
theorem final8 (c : Dev nD) : (dats m 0 c).arrAt 8 (cfgs 0).N
    = EvenOutRef.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay1, k0_pay2, k0_pay3]
  generalize hj : ((cfg0.win 8).blk t).view.emb y = j
  rw [eq_ix3 j]
  refine Eq.trans ?_ (EvenOutRef.out_apply _ _ _ _ _ _ _ _ (j 0) (j 1) (j 2)).symm
  subst hj
  pointwise [Rows.sigm, Ideal.logistic]
  blk_point [iblk, V, idx t]

end Cert.EvenOut
-- ==== Proof.OddOutRef.lean ====
module

public import proofs.«01_k».proof.Proof.Gen.ROddOutIdeal.Run
public import proofs.«01_k».proof.Proof.Rows

@[expose] public section

set_option maxRecDepth 16384

noncomputable section

namespace Cert.OddOutRef

open Cert.ROddOutIdeal Cert.ROddOutIdeal.Gen Idealize.ShloMosaic Idealize.ShloMosaic.TcCoe Idealize.SL.Sem

variable (X : FVec Ideal S4x4096x1024 .f32) (M : FVec Ideal S4x3072 .f32) (YA P G : FVec Ideal S4x4096x512 .f32)
  (CW : FVec Ideal S3x512 .f32) (B : FVec Ideal S512 .f32) (W : FVec Ideal S1024x1024 .f32)

/-- The convolution's input with one zero row before and after. -/
def padded : FVec Ideal S4x4098x512 .f32 :=
  pad S4x4098x512 ![0, 1, 0] ![0, 1, 0] ![0, 0, 0] P (sitofp .f32 (constantI S_ 32 0#32)) pads_S4x4096x512_S4x4098x512_000_110_000 h_S_

/-- The gated three-tap convolution. -/
def conv : FVec Ideal S4x4096x512 .f32 :=
  mulf G (addf (addf (addf (mulf (extractStridedSlice S4x4096x512 ![0, 0, 0] (padded P) slices_S4x4098x512_S4x4096x512_0_0_0) (broadcastInDim S4x4096x512 ![0, 1, 2] bcast_S1x1x512_S4x4096x512_0_1_2 (broadcastInDim S1x1x512 ![2] bcast_S512_S1x1x512_2 (shapeCast _ (extractStridedSlice S1x512 ![0, 0] CW slices_S3x512_S1x512_0_0) shapeCasts_S1x512_S512)))) (mulf (extractStridedSlice S4x4096x512 ![0, 1, 0] (padded P) slices_S4x4098x512_S4x4096x512_0_1_0) (broadcastInDim S4x4096x512 ![0, 1, 2] bcast_S1x1x512_S4x4096x512_0_1_2 (broadcastInDim S1x1x512 ![2] bcast_S512_S1x1x512_2 (shapeCast _ (extractStridedSlice S1x512 ![1, 0] CW slices_S3x512_S1x512_1_0) shapeCasts_S1x512_S512))))) (mulf (extractStridedSlice S4x4096x512 ![0, 2, 0] (padded P) slices_S4x4098x512_S4x4096x512_0_2_0) (broadcastInDim S4x4096x512 ![0, 1, 2] bcast_S1x1x512_S4x4096x512_0_1_2 (broadcastInDim S1x1x512 ![2] bcast_S512_S1x1x512_2 (shapeCast _ (extractStridedSlice S1x512 ![2, 0] CW slices_S3x512_S1x512_2_0) shapeCasts_S1x512_S512))))) (broadcastInDim S4x4096x512 ![0, 1, 2] bcast_S1x1x512_S4x4096x512_0_1_2 (broadcastInDim S1x1x512 ![2] bcast_S512_S1x1x512_2 B)))

/-- The reference's result: the residual plus the gated output projection of both branches side by side. -/
def out : FVec Ideal S4x4096x1024 .f32 :=
  addf X (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] M slices_S4x3072_S4x1024_0_2048))) (Host.dotGeneral dot_S4x4096x1024_S1024x1024_S4x4096x1024_2_0_01_1_n_n none (concatenate S4x4096x1024 2 [⟨S4x4096x512, YA⟩, ⟨S4x4096x512, conv P G CW B⟩] concatenates_S4x4096x512_S4x4096x512_S4x4096x1024_d2) W))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (θ_run defs _ _).mono (fun _ h c => (h c).1) (Cert.ROddOutIdeal.Value.run m ρ)

/-- A row of the padded input: zero at both ends, the input's row in between. -/
theorem padded_apply (b : Fin 4) (s : Fin 4098) (k : Fin 512) :
    padded P (ix3 b s k) = if h : 1 ≤ s.val ∧ s.val ≤ 4096 then P (ix3 b ⟨s.val - 1, by omega⟩ k) else 0 := by
  have h0 : FloatOps.sitofp (F := Ideal) FTy.f32 0#32 = 0 := by
    show ((((0#32 : BitVec 32).toInt : ℝ)) : EReal) = 0
    simp
  pointwise [padded]
  rw [h0]
  refine dite_congr (propext ⟨fun h => ⟨h.1, by omega⟩, fun h => ⟨h.1, by omega⟩⟩) (fun _ => rfl) fun _ => rfl

/-- Inside, the padded input is the input. -/
theorem padded_in (b : Fin 4) (s : Fin 4098) (q : Fin 4096) (k : Fin 512) (h : s.val = q.val + 1) :
    padded P (ix3 b s k) = P (ix3 b q k) := by
  rw [padded_apply, dif_pos (by omega)]
  exact congrArg (fun z => P (ix3 b z k)) (Fin.ext (by simp only []; omega))

/-- At both ends it is zero. -/
theorem padded_end (b : Fin 4) (s : Fin 4098) (k : Fin 512) (h : s.val = 0 ∨ s.val = 4097) :
    padded P (ix3 b s k) = 0 := by
  rw [padded_apply, dif_neg (by omega)]

/-- The convolution entry by entry. -/
theorem conv_apply (b : Fin 4) (s : Fin 4096) (k : Fin 512) :
    conv P G CW B (ix3 b s k) = G (ix3 b s k) *
      (padded P (ix3 b ⟨s.val, by omega⟩ k) * CW (ix2 0 k) + padded P (ix3 b ⟨1 + s.val, by omega⟩ k) * CW (ix2 1 k)
        + padded P (ix3 b ⟨2 + s.val, by omega⟩ k) * CW (ix2 2 k) + B (ix1 k)) := by
  pointwise [conv]

/-- The result entry by entry, the two branches' projections apart. -/
theorem out_apply (b : Fin 4) (s : Fin 4096) (n : Fin 1024) :
    out X M YA P G CW B W (ix3 b s n) = X (ix3 b s n) + M (ix2 b ⟨2048 + n.val, by omega⟩)
      * ((∑ k : Fin 512, YA (ix3 b s k) * W (ix2 ⟨k.val, by omega⟩ n))
        + ∑ k : Fin 512, conv P G CW B (ix3 b s k) * W (ix2 ⟨512 + k.val, by omega⟩ n)) := by
  pointwise [out]

end Cert.OddOutRef
-- ==== Proof.OddOut.lean ====
module

public import proofs.«01_k».proof.Proof.Gen.KOddOutIdeal.Value
public import proofs.«01_k».proof.Proof.OddOutRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OddOut

open Cert.KOddOutIdeal Cert.KOddOutIdeal.Gen

variable (m : (ℓ : Loc nD τ sig) → Buf (Elt Ideal) ℓ)

/-- The windows' index maps at every grid point. -/
theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val * 64 - 1, 0]
    ∧ win0_5.index t = ![(grid0.coords t 0).val, min ((grid0.coords t 1).val * 64 + 64) 511, 0]
    ∧ win0_6.index t = ![(grid0.coords t 0).val, (grid0.coords t 1).val, 0]
    ∧ win0_7.index t = ![0, 0] ∧ win0_8.index t = ![0, 0] ∧ win0_9.index t = ![0, 0]
    ∧ win0_10.index t = ![(grid0.coords t 0).val, (grid0.coords t 1).val, 0] :=
  (by decide +kernel : ∀ t : Fin grid0.N, _)

/-- The kernel's integer arithmetic for a row's position, at block `a` and row `r` of the block. -/
def posWord (a r : ℕ) : BitVec 32 :=
  Scalar.select
      (IntOp.andi
        (IntOp.xori
          (IntOp.cmpi CmpIPredicate.slt
            (IntOp.remsi ArithUnit.vector
              (IntOp.addi (Scalar.muli (BitVec.ofNat 32 a) 512#32) (BitVec.ofNat 32 r))
              (Scalar.select (Scalar.cmpi CmpIPredicate.eq 4096#32 0#32) 1#32 4096#32))
            0#32)
          (Scalar.cmpi CmpIPredicate.slt (Scalar.select (Scalar.cmpi CmpIPredicate.eq 4096#32 0#32) 1#32 4096#32) 0#32))
        (IntOp.cmpi CmpIPredicate.ne
          (IntOp.remsi ArithUnit.vector (IntOp.addi (Scalar.muli (BitVec.ofNat 32 a) 512#32) (BitVec.ofNat 32 r))
            (Scalar.select (Scalar.cmpi CmpIPredicate.eq 4096#32 0#32) 1#32 4096#32))
          0#32))
      (IntOp.addi
        (IntOp.remsi ArithUnit.vector (IntOp.addi (Scalar.muli (BitVec.ofNat 32 a) 512#32) (BitVec.ofNat 32 r))
          (Scalar.select (Scalar.cmpi CmpIPredicate.eq 4096#32 0#32) 1#32 4096#32))
        (Scalar.select (Scalar.cmpi CmpIPredicate.eq 4096#32 0#32) 1#32 4096#32))
      (IntOp.remsi ArithUnit.vector (IntOp.addi (Scalar.muli (BitVec.ofNat 32 a) 512#32) (BitVec.ofNat 32 r))
        (Scalar.select (Scalar.cmpi CmpIPredicate.eq 4096#32 0#32) 1#32 4096#32))

/-- It is the first row's word exactly at the sequence's first row. -/
theorem posWord_first : ∀ (a : Fin 8) (r : Fin 512),
    (IntOp.cmpi CmpIPredicate.eq (posWord a.val r.val) 0#32 = 1#1) ↔ 512 * a.val + r.val = 0 := by
  decide +kernel

/-- It is the last row's word exactly at the sequence's last row. -/
theorem posWord_last : ∀ (a : Fin 8) (r : Fin 512),
    (IntOp.cmpi CmpIPredicate.eq (posWord a.val r.val) 4095#32 = 1#1) ↔ 512 * a.val + r.val = 4095 := by
  decide +kernel

/-- Inside a block: the word of a row is zero exactly at row zero. -/
theorem row_first : ∀ r : Fin 512, (IntOp.cmpi CmpIPredicate.eq (BitVec.ofNat 32 r.val) 0#32 = 1#1) ↔ r.val = 0 := by
  decide +kernel

/-- Inside a block: the word of a row is 511 exactly at the last row. -/
theorem row_last : ∀ r : Fin 512, (IntOp.cmpi CmpIPredicate.eq (BitVec.ofNat 32 r.val) 511#32 = 1#1) ↔ r.val = 511 := by
  decide +kernel

/-- The row above within the block's window: the previous block's last row at row zero. -/
theorem above (v0 : Vec Ideal S1x512x512 .f32) (v25 : Vec Ideal S1x1x512 .f32) (r k : Fin 512) :
   k0_pay4 v0 v25 (ix2 r k) = if h : r.val = 0 then v25 (ix3 0 0 k) else v0 (ix3 0 ⟨r.val - 1, by omega⟩ k) := by
  pointwise [k0_pay4, k0_pay2]
  unfold Scalar.select
  by_cases h : r.val = 0
  · rw [dif_pos h]
    exact if_pos ((row_first r).2 h)
  · rw [dif_neg h]
    refine (if_neg (mt (row_first r).1 h)).trans ?_
    refine congrArg (fun z => v0 (ix3 0 z k)) (Fin.ext ?_)
    show (r.val + 512 - 1) % 512 = r.val - 1
    omega

theorem pay8 (i : grid0.Coords) (v0 : Vec Ideal S1x512x512 .f32) (v25 v33 : Vec Ideal S1x1x512 .f32) (v47 v50 v54 v58 : Vec Ideal S1x512 .f32) (v62 : Vec Ideal S1x512x512 .f32) (r k : Fin 512) :
   k0_pay8 (k0_pay2 v0) (k0_pay3 i) (k0_pay4 v0 v25) k0_pay5 (k0_pay6 v0) (k0_pay7 v33) v47 v50 v54 v58 v62 (ix2 r k) =
    v62 (ix3 0 r k) *
      ((if 512 * (i 1).val + r.val = 0 then 0 else (if h : r.val = 0 then v25 (ix3 0 0 k) else v0 (ix3 0 ⟨r.val - 1, by omega⟩ k)) * v47 (ix2 0 k))
        + v0 (ix3 0 r k) * v50 (ix2 0 k)
        + (if 512 * (i 1).val + r.val = 4095 then 0 else (if h : r.val = 511 then v33 (ix3 0 0 k) else v0 (ix3 0 ⟨r.val + 1, by omega⟩ k)) * v54 (ix2 0 k))
        + v58 (ix2 0 k)) := by
  have hw : k0_pay3 i (ix2 r k) = posWord (i 1).val r.val := by pointwise [k0_pay3, posWord]
  have e0 : ∀ x y : EReal, Scalar.select (IntOp.cmpi CmpIPredicate.eq (k0_pay3 i (ix2 r k)) 0#32) x y = if 512 * (i 1).val + r.val = 0 then x else y := by
    intro x y; rw [hw]; exact if_congr (posWord_first (i 1) r) rfl rfl
  have e1 : ∀ x y : EReal, Scalar.select (IntOp.cmpi CmpIPredicate.eq (k0_pay3 i (ix2 r k)) 4095#32) x y = if 512 * (i 1).val + r.val = 4095 then x else y := by
    intro x y; rw [hw]; exact if_congr (posWord_last (i 1) r) rfl rfl
  have hb : (if h : r.val = 511 then v33 (ix3 0 0 k) else v0 (ix3 0 ⟨r.val + 1, by omega⟩ k))
      = Scalar.select (k0_pay5 (ix2 r k)) (k0_pay7 v33 (ix2 r k)) (k0_pay6 v0 (ix2 r k)) := by
    pointwise [k0_pay5, k0_pay7, k0_pay6, k0_pay2]
    unfold Scalar.select
    by_cases h : r.val = 511
    · rw [dif_pos h]
      exact (if_pos ((row_last r).2 h)).symm
    · rw [dif_neg h]
      refine Eq.trans ?_ (if_neg (mt (row_last r).1 h)).symm
      refine congrArg (fun z => v0 (ix3 0 z k)) (Fin.ext ?_)
      show r.val + 1 = (r.val + 512 - 511) % 512
      omega
  have hp : k0_pay2 v0 (ix2 r k) = v0 (ix3 0 r k) := by pointwise [k0_pay2]
  rw [← above, hb, ← e0, ← e1, ← hp]
  pointwise [k0_pay8]

/-- The batch entry a grid point works on. -/
def bat (t : Fin cfg0.N) : Fin 4 := grid0.coords t 0

/-- The sequence position of a row of the point's block. -/
def pos (t : Fin cfg0.N) (r : Fin 512) : Fin 4096 :=
  ⟨(grid0.coords t 1).val * 512 + r.val, by have h : (grid0.coords t 1).val < 8 := (grid0.coords t 1).isLt; omega⟩

/-- The block of `p` read at a row. -/
theorem p_read (c : Dev nD) (t : Fin cfg0.N) (r k : Fin 512) :
    iblk m c 3 t (ix3 0 r k) = m ((c : Thread nD τ).loc main_arg3) (ix3 (bat t) (pos t r) k) := by
  blk_point [iblk, V, idx t, bat, pos]

/-- The last row of the eight rows before the block. -/
theorem prev_read (c : Dev nD) (t : Fin cfg0.N) (k : Fin 512) (h : 1 ≤ (grid0.coords t 1).val) :
    View.ld (iblk m c 4 t) r0_1 (ix3 0 0 k) = m ((c : Thread nD τ).loc main_arg3)
      (ix3 (bat t) ⟨(grid0.coords t 1).val * 512 - 1, by have h : (grid0.coords t 1).val < 8 := (grid0.coords t 1).isLt; omega⟩ k) := by
  blk_point [iblk, V, idx t, bat, pos]

/-- The first row of the eight rows after the block. -/
theorem next_read (c : Dev nD) (t : Fin cfg0.N) (k : Fin 512) (h : (grid0.coords t 1).val < 7) :
    View.ld (iblk m c 5 t) r0_2 (ix3 0 0 k) = m ((c : Thread nD τ).loc main_arg3)
      (ix3 (bat t) ⟨(grid0.coords t 1).val * 512 + 512, by omega⟩ k) := by
  blk_point [iblk, V, idx t, bat, pos]

/-- The gated convolution of a block's row: the reference's. -/
theorem conv_row (c : Dev nD) (t : Fin cfg0.N) (r k : Fin 512) :
    k0_pay8 (k0_pay2 (iblk m c 3 t)) (k0_pay3 (grid0.coords t))
      (k0_pay4 (iblk m c 3 t) (View.ld (iblk m c 4 t) r0_1)) k0_pay5 (k0_pay6 (iblk m c 3 t))
      (k0_pay7 (View.ld (iblk m c 5 t) r0_2)) (View.ld (iblk m c 7 t) r0_3) (View.ld (iblk m c 7 t) r0_4)
      (View.ld (iblk m c 7 t) r0_5) (iblk m c 8 t) (iblk m c 6 t) (ix2 r k)
      = OddOutRef.conv (m ((c : Thread nD τ).loc main_arg3)) (m ((c : Thread nD τ).loc main_arg4))
        (m ((c : Thread nD τ).loc main_arg5)) (m ((c : Thread nD τ).loc main_arg6)) (ix3 (bat t) (pos t r) k) := by
  have ht : (grid0.coords t 1).val < 8 := (grid0.coords t 1).isLt
  refine (pay8 _ _ _ _ _ _ _ _ _ r k).trans (Eq.trans ?_ (OddOutRef.conv_apply _ _ _ _ _ _ _).symm)
  have hG : iblk m c 6 t (ix3 0 r k) = m ((c : Thread nD τ).loc main_arg4) (ix3 (bat t) (pos t r) k) := by
    blk_point [iblk, V, idx t, bat, pos]
  have h0 : View.ld (iblk m c 7 t) r0_3 (ix2 0 k) = m ((c : Thread nD τ).loc main_arg5) (ix2 0 k) := by
    blk_point [iblk, V, idx t]
  have h1 : View.ld (iblk m c 7 t) r0_4 (ix2 0 k) = m ((c : Thread nD τ).loc main_arg5) (ix2 1 k) := by
    blk_point [iblk, V, idx t]
  have h2 : View.ld (iblk m c 7 t) r0_5 (ix2 0 k) = m ((c : Thread nD τ).loc main_arg5) (ix2 2 k) := by
    blk_point [iblk, V, idx t]
  have hB : iblk m c 8 t (ix2 0 k) = m ((c : Thread nD τ).loc main_arg6) (ix1 k) := by
    blk_point [iblk, V, idx t]
  rw [hG, h0, h1, h2, hB]
  refine congrArg₂ (· * ·) rfl (congrArg₂ (· + ·) (congrArg₂ (· + ·) (congrArg₂ (· + ·) ?_ ?_) ?_) rfl)
  · by_cases hs : 512 * (grid0.coords t 1).val + r.val = 0
    · rw [if_pos hs, OddOutRef.padded_end _ _ _ _ (Or.inl (by show (grid0.coords t 1).val * 512 + r.val = 0; omega)), zero_mul]
    · rw [if_neg hs]
      refine congrArg₂ (· * ·) ?_ rfl
      by_cases hr : r.val = 0
      · rw [dif_pos hr]
        refine (prev_read m c t k (by omega)).trans (OddOutRef.padded_in _ _ _ _ _ ?_).symm
        show (grid0.coords t 1).val * 512 + r.val = (grid0.coords t 1).val * 512 - 1 + 1
        omega
      · rw [dif_neg hr]
        refine (p_read m c t _ k).trans (OddOutRef.padded_in _ _ _ _ _ ?_).symm
        show (grid0.coords t 1).val * 512 + r.val = (grid0.coords t 1).val * 512 + (r.val - 1) + 1
        omega
  · refine congrArg₂ (· * ·) ((p_read m c t _ k).trans (OddOutRef.padded_in _ _ _ _ _ ?_).symm) rfl
    show 1 + ((grid0.coords t 1).val * 512 + r.val) = (grid0.coords t 1).val * 512 + r.val + 1
    omega
  · by_cases hs : 512 * (grid0.coords t 1).val + r.val = 4095
    · rw [if_pos hs, OddOutRef.padded_end _ _ _ _ (Or.inr (by show 2 + ((grid0.coords t 1).val * 512 + r.val) = 4097; omega)), zero_mul]
    · rw [if_neg hs]
      refine congrArg₂ (· * ·) ?_ rfl
      by_cases hr : r.val = 511
      · rw [dif_pos hr]
        refine (next_read m c t k (by omega)).trans (OddOutRef.padded_in _ _ _ _ _ ?_).symm
        show 2 + ((grid0.coords t 1).val * 512 + r.val) = (grid0.coords t 1).val * 512 + 512 + 1
        omega
      · rw [dif_neg hr]
        refine (p_read m c t _ k).trans (OddOutRef.padded_in _ _ _ _ _ ?_).symm
        show 2 + ((grid0.coords t 1).val * 512 + r.val) = (grid0.coords t 1).val * 512 + (r.val + 1) + 1
        omega

set_option maxHeartbeats 1600000 in
/-- The result array: the reference's. -/
theorem final10 (c : Dev nD) : (dats m 0 c).arrAt 10 (cfgs 0).N
    = OddOutRef.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  pointwise [k0_pay1, k0_pay9, k0_pay10]
  generalize hj : ((cfg0.win 10).blk t).view.emb y = j
  rw [eq_ix3 j]
  refine Eq.trans ?_ (OddOutRef.out_apply _ _ _ _ _ _ _ _ (j 0) (j 1) (j 2)).symm
  subst hj
  refine congrArg₂ (· + ·) ?_ (congrArg₂ (· * ·) ?_ (congrArg₂ (· + ·) ?_ (Finset.sum_congr rfl fun k _ => congrArg₂ (· * ·) ?_ ?_)))
  · blk_point [iblk, V, idx t]
  · blk_point [iblk, V, idx t]
  · blk_point [iblk, V, idx t]
  · refine (conv_row m c t (y 1) k).trans ?_
    blk_ext [idx t, bat, pos]
  · blk_point [iblk, V, idx t]

end Cert.OddOut
-- ==== Proof.Layer.lean ====
module

public import proofs.«01_k».proof.Proof.Gen.KAtt.Frame
public import proofs.«01_k».proof.Proof.Att
public import proofs.«01_k».proof.Proof.AttPre
public import proofs.«01_k».proof.Defs
public import proofs.«01_k».proof.Proof.OddIn
public import proofs.«01_k».proof.Proof.EvenIn
public import proofs.«01_k».proof.Proof.EvenOut
public import proofs.«01_k».proof.Proof.OddOut
public import proofs.«01_k».proof.Proof.Gen.KOddIn.Frame
public import proofs.«01_k».proof.Proof.Gen.ROddInIdeal.Run
public import proofs.«01_k».proof.Proof.Gen.KEvenIn.Frame
public import proofs.«01_k».proof.Proof.Gen.REvenInIdeal.Run
public import proofs.«01_k».proof.Proof.Gen.KEvenOut.Frame
public import proofs.«01_k».proof.Proof.Gen.REvenOutIdeal.Run
public import proofs.«01_k».proof.Proof.Gen.KOddOut.Frame
public import proofs.«01_k».proof.Proof.Gen.ROddOutIdeal.Run
public import Idealize.ShloMosaic.Lib.Pipeline.ValueKit

@[expose] public section

set_option maxRecDepth 16384

noncomputable section

open Idealize.ShloMosaic Idealize.ShloMosaic.TcCoe Idealize.SL.Sem

namespace Cert.Layer

/-! The OddIn call. -/

theorem frame_KOddIn : @Cert.quiescent_KOddIn Cert.KOddIn.Gen.facts := fun m ρ _ => Cert.KOddIn.Gen.frame m ρ

theorem frameI_KOddIn : @Cert.quiescent_KOddInIdeal Cert.KOddInIdeal.Gen.facts := fun m ρ _ => Cert.KOddInIdeal.Gen.frame m ρ

theorem frame_ROddIn : @Cert.quiescent_ROddInIdeal Cert.ROddInIdeal.Gen.facts := fun m ρ _ =>
  (θ_run Cert.ROddInIdeal.defs _ _).mono (fun r h => ⟨fun c => (h c).2.2.2.2.2, sem_eq_zero_of_no_sems (by decide) r.2⟩)
    (Cert.ROddInIdeal.Value.run (F := Ideal) m ρ)

theorem value_OddIn : @Cert.algebraic_KOddInIdeal_ROddInIdeal Cert.KOddInIdeal.Gen.facts Cert.ROddInIdeal.Gen.facts := by
  intro m ρ m' ρ' _ hagree
  refine ⟨fun c => OddInRef.out0 (m ((c.tc : Thread Cert.KOddInIdeal.nD Cert.KOddInIdeal.τ).loc Cert.KOddInIdeal.main_arg0)) (m ((c.tc : Thread Cert.KOddInIdeal.nD Cert.KOddInIdeal.τ).loc Cert.KOddInIdeal.main_arg1)) (m ((c.tc : Thread Cert.KOddInIdeal.nD Cert.KOddInIdeal.τ).loc Cert.KOddInIdeal.main_arg2)) (m ((c.tc : Thread Cert.KOddInIdeal.nD Cert.KOddInIdeal.τ).loc Cert.KOddInIdeal.main_arg3)), fun c => OddInRef.out1 (m ((c.tc : Thread Cert.KOddInIdeal.nD Cert.KOddInIdeal.τ).loc Cert.KOddInIdeal.main_arg0)) (m ((c.tc : Thread Cert.KOddInIdeal.nD Cert.KOddInIdeal.τ).loc Cert.KOddInIdeal.main_arg1)) (m ((c.tc : Thread Cert.KOddInIdeal.nD Cert.KOddInIdeal.τ).loc Cert.KOddInIdeal.main_arg2)) (m ((c.tc : Thread Cert.KOddInIdeal.nD Cert.KOddInIdeal.τ).loc Cert.KOddInIdeal.main_arg3)), fun c => OddInRef.out2 (m ((c.tc : Thread Cert.KOddInIdeal.nD Cert.KOddInIdeal.τ).loc Cert.KOddInIdeal.main_arg0)) (m ((c.tc : Thread Cert.KOddInIdeal.nD Cert.KOddInIdeal.τ).loc Cert.KOddInIdeal.main_arg1)) (m ((c.tc : Thread Cert.KOddInIdeal.nD Cert.KOddInIdeal.τ).loc Cert.KOddInIdeal.main_arg2)) (m ((c.tc : Thread Cert.KOddInIdeal.nD Cert.KOddInIdeal.τ).loc Cert.KOddInIdeal.main_arg3)), fun c => OddInRef.out3 (m ((c.tc : Thread Cert.KOddInIdeal.nD Cert.KOddInIdeal.τ).loc Cert.KOddInIdeal.main_arg0)) (m ((c.tc : Thread Cert.KOddInIdeal.nD Cert.KOddInIdeal.τ).loc Cert.KOddInIdeal.main_arg1)) (m ((c.tc : Thread Cert.KOddInIdeal.nD Cert.KOddInIdeal.τ).loc Cert.KOddInIdeal.main_arg2)) (m ((c.tc : Thread Cert.KOddInIdeal.nD Cert.KOddInIdeal.τ).loc Cert.KOddInIdeal.main_arg3)), fun c => OddInRef.out4 (m ((c.tc : Thread Cert.KOddInIdeal.nD Cert.KOddInIdeal.τ).loc Cert.KOddInIdeal.main_arg0)) (m ((c.tc : Thread Cert.KOddInIdeal.nD Cert.KOddInIdeal.τ).loc Cert.KOddInIdeal.main_arg1)) (m ((c.tc : Thread Cert.KOddInIdeal.nD Cert.KOddInIdeal.τ).loc Cert.KOddInIdeal.main_arg2)) (m ((c.tc : Thread Cert.KOddInIdeal.nD Cert.KOddInIdeal.τ).loc Cert.KOddInIdeal.main_arg3)), ?_, ?_⟩
  · exact (θ_run Cert.KOddInIdeal.defs _ _).mono (fun _ h c => ⟨(h c).1.trans (Cert.OddIn.final4 m c), (h c).2.1.trans (Cert.OddIn.final5 m c), (h c).2.2.1.trans (Cert.OddIn.final6 m c), (h c).2.2.2.1.trans (Cert.OddIn.final7 m c), (h c).2.2.2.2.1.trans (Cert.OddIn.final8 m c), (h c).2.2.2.2.2⟩) (Cert.KOddInIdeal.Value.run_blocks m ρ)
  · refine (θ_run Cert.ROddInIdeal.defs _ _).mono (fun r h c => ?_) (Cert.ROddInIdeal.Value.run (F := Ideal) m' ρ')
    have e := hagree c
    refine ⟨(h c).1.trans ?_, (h c).2.1.trans ?_, (h c).2.2.1.trans ?_, (h c).2.2.2.1.trans ?_, (h c).2.2.2.2.1.trans ?_, (h c).2.2.2.2.2⟩
    · show OddInRef.out0 (m' ((c.tc : Thread Cert.ROddInIdeal.nD Cert.ROddInIdeal.τ).loc Cert.ROddInIdeal.main_arg0)) (m' ((c.tc : Thread Cert.ROddInIdeal.nD Cert.ROddInIdeal.τ).loc Cert.ROddInIdeal.main_arg1)) (m' ((c.tc : Thread Cert.ROddInIdeal.nD Cert.ROddInIdeal.τ).loc Cert.ROddInIdeal.main_arg2)) (m' ((c.tc : Thread Cert.ROddInIdeal.nD Cert.ROddInIdeal.τ).loc Cert.ROddInIdeal.main_arg3)) = _
      rw [e.1, e.2.1, e.2.2.1, e.2.2.2]
    · show OddInRef.out1 (m' ((c.tc : Thread Cert.ROddInIdeal.nD Cert.ROddInIdeal.τ).loc Cert.ROddInIdeal.main_arg0)) (m' ((c.tc : Thread Cert.ROddInIdeal.nD Cert.ROddInIdeal.τ).loc Cert.ROddInIdeal.main_arg1)) (m' ((c.tc : Thread Cert.ROddInIdeal.nD Cert.ROddInIdeal.τ).loc Cert.ROddInIdeal.main_arg2)) (m' ((c.tc : Thread Cert.ROddInIdeal.nD Cert.ROddInIdeal.τ).loc Cert.ROddInIdeal.main_arg3)) = _
      rw [e.1, e.2.1, e.2.2.1, e.2.2.2]
    · show OddInRef.out2 (m' ((c.tc : Thread Cert.ROddInIdeal.nD Cert.ROddInIdeal.τ).loc Cert.ROddInIdeal.main_arg0)) (m' ((c.tc : Thread Cert.ROddInIdeal.nD Cert.ROddInIdeal.τ).loc Cert.ROddInIdeal.main_arg1)) (m' ((c.tc : Thread Cert.ROddInIdeal.nD Cert.ROddInIdeal.τ).loc Cert.ROddInIdeal.main_arg2)) (m' ((c.tc : Thread Cert.ROddInIdeal.nD Cert.ROddInIdeal.τ).loc Cert.ROddInIdeal.main_arg3)) = _
      rw [e.1, e.2.1, e.2.2.1, e.2.2.2]
    · show OddInRef.out3 (m' ((c.tc : Thread Cert.ROddInIdeal.nD Cert.ROddInIdeal.τ).loc Cert.ROddInIdeal.main_arg0)) (m' ((c.tc : Thread Cert.ROddInIdeal.nD Cert.ROddInIdeal.τ).loc Cert.ROddInIdeal.main_arg1)) (m' ((c.tc : Thread Cert.ROddInIdeal.nD Cert.ROddInIdeal.τ).loc Cert.ROddInIdeal.main_arg2)) (m' ((c.tc : Thread Cert.ROddInIdeal.nD Cert.ROddInIdeal.τ).loc Cert.ROddInIdeal.main_arg3)) = _
      rw [e.1, e.2.1, e.2.2.1, e.2.2.2]
    · show OddInRef.out4 (m' ((c.tc : Thread Cert.ROddInIdeal.nD Cert.ROddInIdeal.τ).loc Cert.ROddInIdeal.main_arg0)) (m' ((c.tc : Thread Cert.ROddInIdeal.nD Cert.ROddInIdeal.τ).loc Cert.ROddInIdeal.main_arg1)) (m' ((c.tc : Thread Cert.ROddInIdeal.nD Cert.ROddInIdeal.τ).loc Cert.ROddInIdeal.main_arg2)) (m' ((c.tc : Thread Cert.ROddInIdeal.nD Cert.ROddInIdeal.τ).loc Cert.ROddInIdeal.main_arg3)) = _
      rw [e.1, e.2.1, e.2.2.1, e.2.2.2]

/-! The EvenIn call. -/

theorem frame_KEvenIn : @Cert.quiescent_KEvenIn Cert.KEvenIn.Gen.facts := fun m ρ _ => Cert.KEvenIn.Gen.frame m ρ

theorem frameI_KEvenIn : @Cert.quiescent_KEvenInIdeal Cert.KEvenInIdeal.Gen.facts := fun m ρ _ => Cert.KEvenInIdeal.Gen.frame m ρ

theorem frame_REvenIn : @Cert.quiescent_REvenInIdeal Cert.REvenInIdeal.Gen.facts := fun m ρ _ =>
  (θ_run Cert.REvenInIdeal.defs _ _).mono (fun r h => ⟨fun c => (h c).2.2.2.2.2.2, sem_eq_zero_of_no_sems (by decide) r.2⟩)
    (Cert.REvenInIdeal.Value.run (F := Ideal) m ρ)

theorem value_EvenIn : @Cert.algebraic_KEvenInIdeal_REvenInIdeal Cert.KEvenInIdeal.Gen.facts Cert.REvenInIdeal.Gen.facts := by
  intro m ρ m' ρ' _ hagree
  refine ⟨fun c => EvenInRef.out0 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), fun c => EvenInRef.out1 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), fun c => EvenInRef.out2 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), fun c => EvenInRef.out3 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), fun c => EvenInRef.out4 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), fun c => EvenInRef.out5 (m ((c.tc : Thread Cert.KEvenInIdeal.nD Cert.KEvenInIdeal.τ).loc Cert.KEvenInIdeal.main_arg0)) (m ((c.tc : Thread Cert.KEvenInIdeal.nD Cert.KEvenInIdeal.τ).loc Cert.KEvenInIdeal.main_arg1)) (m ((c.tc : Thread Cert.KEvenInIdeal.nD Cert.KEvenInIdeal.τ).loc Cert.KEvenInIdeal.main_arg2)) (m ((c.tc : Thread Cert.KEvenInIdeal.nD Cert.KEvenInIdeal.τ).loc Cert.KEvenInIdeal.main_arg3)), ?_, ?_⟩
  · exact (θ_run Cert.KEvenInIdeal.defs _ _).mono (fun _ h c => ⟨(h c).1.trans (Cert.EvenIn.final4 m c), (h c).2.1.trans (Cert.EvenIn.final5 m c), (h c).2.2.1.trans (Cert.EvenIn.final6 m c), (h c).2.2.2.1.trans (Cert.EvenIn.final7 m c), (h c).2.2.2.2.1.trans (Cert.EvenIn.final8 m c), (h c).2.2.2.2.2.1.trans (Cert.EvenIn.final9 m c), (h c).2.2.2.2.2.2⟩) (Cert.KEvenInIdeal.Value.run_blocks m ρ)
  · refine (θ_run Cert.REvenInIdeal.defs _ _).mono (fun r h c => ?_) (Cert.REvenInIdeal.Value.run (F := Ideal) m' ρ')
    have e := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · show EvenInRef.out0 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]
    · show EvenInRef.out1 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]
    · show EvenInRef.out2 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]
    · show EvenInRef.out3 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]
    · show EvenInRef.out4 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]
    · show EvenInRef.out5 (m' ((c.tc : Thread Cert.REvenInIdeal.nD Cert.REvenInIdeal.τ).loc Cert.REvenInIdeal.main_arg0)) (m' ((c.tc : Thread Cert.REvenInIdeal.nD Cert.REvenInIdeal.τ).loc Cert.REvenInIdeal.main_arg1)) (m' ((c.tc : Thread Cert.REvenInIdeal.nD Cert.REvenInIdeal.τ).loc Cert.REvenInIdeal.main_arg2)) (m' ((c.tc : Thread Cert.REvenInIdeal.nD Cert.REvenInIdeal.τ).loc Cert.REvenInIdeal.main_arg3)) = _
      rw [e.1, e.2.1, e.2.2.1, e.2.2.2]

/-! The EvenOut call. -/

theorem frame_KEvenOut : @Cert.quiescent_KEvenOut Cert.KEvenOut.Gen.facts := fun m ρ _ => Cert.KEvenOut.Gen.frame m ρ

theorem frameI_KEvenOut : @Cert.quiescent_KEvenOutIdeal Cert.KEvenOutIdeal.Gen.facts := fun m ρ _ => Cert.KEvenOutIdeal.Gen.frame m ρ

theorem frame_REvenOut : @Cert.quiescent_REvenOutIdeal Cert.REvenOutIdeal.Gen.facts := fun m ρ _ =>
  (θ_run Cert.REvenOutIdeal.defs _ _).mono (fun r h => ⟨fun c => (h c).2, sem_eq_zero_of_no_sems (by decide) r.2⟩)
    (Cert.REvenOutIdeal.Value.run (F := Ideal) m ρ)

theorem value_EvenOut : @Cert.algebraic_KEvenOutIdeal_REvenOutIdeal Cert.KEvenOutIdeal.Gen.facts Cert.REvenOutIdeal.Gen.facts := by
  intro m ρ m' ρ' _ hagree
  refine ⟨fun c => EvenOutRef.out (m ((c.tc : Thread Cert.KEvenOutIdeal.nD Cert.KEvenOutIdeal.τ).loc Cert.KEvenOutIdeal.main_arg0)) (m ((c.tc : Thread Cert.KEvenOutIdeal.nD Cert.KEvenOutIdeal.τ).loc Cert.KEvenOutIdeal.main_arg1)) (m ((c.tc : Thread Cert.KEvenOutIdeal.nD Cert.KEvenOutIdeal.τ).loc Cert.KEvenOutIdeal.main_arg2)) (m ((c.tc : Thread Cert.KEvenOutIdeal.nD Cert.KEvenOutIdeal.τ).loc Cert.KEvenOutIdeal.main_arg3)) (m ((c.tc : Thread Cert.KEvenOutIdeal.nD Cert.KEvenOutIdeal.τ).loc Cert.KEvenOutIdeal.main_arg4)) (m ((c.tc : Thread Cert.KEvenOutIdeal.nD Cert.KEvenOutIdeal.τ).loc Cert.KEvenOutIdeal.main_arg5)) (m ((c.tc : Thread Cert.KEvenOutIdeal.nD Cert.KEvenOutIdeal.τ).loc Cert.KEvenOutIdeal.main_arg6)) (m ((c.tc : Thread Cert.KEvenOutIdeal.nD Cert.KEvenOutIdeal.τ).loc Cert.KEvenOutIdeal.main_arg7)), ?_, ?_⟩
  · exact (θ_run Cert.KEvenOutIdeal.defs _ _).mono (fun _ h c => ⟨(h c).1.trans (Cert.EvenOut.final8 m c), (h c).2⟩) (Cert.KEvenOutIdeal.Value.run_blocks m ρ)
  · refine (θ_run Cert.REvenOutIdeal.defs _ _).mono (fun r h c => ?_) (Cert.REvenOutIdeal.Value.run (F := Ideal) m' ρ')
    have e := hagree c
    refine ⟨(h c).1.trans ?_, (h c).2⟩
    · show EvenOutRef.out (m' ((c.tc : Thread Cert.REvenOutIdeal.nD Cert.REvenOutIdeal.τ).loc Cert.REvenOutIdeal.main_arg0)) (m' ((c.tc : Thread Cert.REvenOutIdeal.nD Cert.REvenOutIdeal.τ).loc Cert.REvenOutIdeal.main_arg1)) (m' ((c.tc : Thread Cert.REvenOutIdeal.nD Cert.REvenOutIdeal.τ).loc Cert.REvenOutIdeal.main_arg2)) (m' ((c.tc : Thread Cert.REvenOutIdeal.nD Cert.REvenOutIdeal.τ).loc Cert.REvenOutIdeal.main_arg3)) (m' ((c.tc : Thread Cert.REvenOutIdeal.nD Cert.REvenOutIdeal.τ).loc Cert.REvenOutIdeal.main_arg4)) (m' ((c.tc : Thread Cert.REvenOutIdeal.nD Cert.REvenOutIdeal.τ).loc Cert.REvenOutIdeal.main_arg5)) (m' ((c.tc : Thread Cert.REvenOutIdeal.nD Cert.REvenOutIdeal.τ).loc Cert.REvenOutIdeal.main_arg6)) (m' ((c.tc : Thread Cert.REvenOutIdeal.nD Cert.REvenOutIdeal.τ).loc Cert.REvenOutIdeal.main_arg7)) = _
      rw [e.1, e.2.1, e.2.2.1, e.2.2.2.1, e.2.2.2.2.1, e.2.2.2.2.2.1, e.2.2.2.2.2.2.1, e.2.2.2.2.2.2.2]

/-! The OddOut call. -/

theorem frame_KOddOut : @Cert.quiescent_KOddOut Cert.KOddOut.Gen.facts := fun m ρ _ => Cert.KOddOut.Gen.frame m ρ

theorem frameI_KOddOut : @Cert.quiescent_KOddOutIdeal Cert.KOddOutIdeal.Gen.facts := fun m ρ _ => Cert.KOddOutIdeal.Gen.frame m ρ

theorem frame_ROddOut : @Cert.quiescent_ROddOutIdeal Cert.ROddOutIdeal.Gen.facts := fun m ρ _ =>
  (θ_run Cert.ROddOutIdeal.defs _ _).mono (fun r h => ⟨fun c => (h c).2, sem_eq_zero_of_no_sems (by decide) r.2⟩)
    (Cert.ROddOutIdeal.Value.run (F := Ideal) m ρ)

theorem value_OddOut : @Cert.algebraic_KOddOutIdeal_ROddOutIdeal Cert.KOddOutIdeal.Gen.facts Cert.ROddOutIdeal.Gen.facts := by
  intro m ρ m' ρ' _ hagree
  refine ⟨fun c => OddOutRef.out (m ((c.tc : Thread Cert.KOddOutIdeal.nD Cert.KOddOutIdeal.τ).loc Cert.KOddOutIdeal.main_arg0)) (m ((c.tc : Thread Cert.KOddOutIdeal.nD Cert.KOddOutIdeal.τ).loc Cert.KOddOutIdeal.main_arg1)) (m ((c.tc : Thread Cert.KOddOutIdeal.nD Cert.KOddOutIdeal.τ).loc Cert.KOddOutIdeal.main_arg2)) (m ((c.tc : Thread Cert.KOddOutIdeal.nD Cert.KOddOutIdeal.τ).loc Cert.KOddOutIdeal.main_arg3)) (m ((c.tc : Thread Cert.KOddOutIdeal.nD Cert.KOddOutIdeal.τ).loc Cert.KOddOutIdeal.main_arg4)) (m ((c.tc : Thread Cert.KOddOutIdeal.nD Cert.KOddOutIdeal.τ).loc Cert.KOddOutIdeal.main_arg5)) (m ((c.tc : Thread Cert.KOddOutIdeal.nD Cert.KOddOutIdeal.τ).loc Cert.KOddOutIdeal.main_arg6)) (m ((c.tc : Thread Cert.KOddOutIdeal.nD Cert.KOddOutIdeal.τ).loc Cert.KOddOutIdeal.main_arg7)), ?_, ?_⟩
  · exact (θ_run Cert.KOddOutIdeal.defs _ _).mono (fun _ h c => ⟨(h c).1.trans (Cert.OddOut.final10 m c), (h c).2⟩) (Cert.KOddOutIdeal.Value.run_blocks m ρ)
  · refine (θ_run Cert.ROddOutIdeal.defs _ _).mono (fun r h c => ?_) (Cert.ROddOutIdeal.Value.run (F := Ideal) m' ρ')
    have e := hagree c
    refine ⟨(h c).1.trans ?_, (h c).2⟩
    · show OddOutRef.out (m' ((c.tc : Thread Cert.ROddOutIdeal.nD Cert.ROddOutIdeal.τ).loc Cert.ROddOutIdeal.main_arg0)) (m' ((c.tc : Thread Cert.ROddOutIdeal.nD Cert.ROddOutIdeal.τ).loc Cert.ROddOutIdeal.main_arg1)) (m' ((c.tc : Thread Cert.ROddOutIdeal.nD Cert.ROddOutIdeal.τ).loc Cert.ROddOutIdeal.main_arg2)) (m' ((c.tc : Thread Cert.ROddOutIdeal.nD Cert.ROddOutIdeal.τ).loc Cert.ROddOutIdeal.main_arg3)) (m' ((c.tc : Thread Cert.ROddOutIdeal.nD Cert.ROddOutIdeal.τ).loc Cert.ROddOutIdeal.main_arg4)) (m' ((c.tc : Thread Cert.ROddOutIdeal.nD Cert.ROddOutIdeal.τ).loc Cert.ROddOutIdeal.main_arg5)) (m' ((c.tc : Thread Cert.ROddOutIdeal.nD Cert.ROddOutIdeal.τ).loc Cert.ROddOutIdeal.main_arg6)) (m' ((c.tc : Thread Cert.ROddOutIdeal.nD Cert.ROddOutIdeal.τ).loc Cert.ROddOutIdeal.main_arg7)) = _
      rw [e.1, e.2.1, e.2.2.1, e.2.2.2.1, e.2.2.2.2.1, e.2.2.2.2.2.1, e.2.2.2.2.2.2.1, e.2.2.2.2.2.2.2]

/-! The Att call. -/

theorem frame_KAtt : @Cert.quiescent_KAtt Cert.KAtt.Gen.facts := fun m ρ _ => Cert.KAtt.Gen.frame m ρ

theorem frameI_KAtt : @Cert.quiescent_KAttIdeal Cert.KAttIdeal.Gen.facts := fun m ρ _ => Cert.KAttIdeal.Gen.frame m ρ

theorem frameIp_KAtt : @Cert.quiescent_KAttIdeal_pre_att_finite Cert.KAttIdeal.Gen.facts Cert.Pre_att_finite.Gen.facts :=
  fun m ρ _ => Cert.KAttIdeal.Gen.frame m ρ

theorem frame_RAtt : @Cert.quiescent_RAttIdeal Cert.RAttIdeal.Gen.facts := fun m ρ _ =>
  (θ_run Cert.RAttIdeal.defs _ _).mono (fun r h => ⟨fun c => (h c).2.2.2, sem_eq_zero_of_no_sems (by decide) r.2⟩)
    (Cert.RAttIdeal.Value.run (F := Ideal) m ρ)

theorem framep_RAtt : @Cert.quiescent_RAttIdeal_pre_att_finite Cert.RAttIdeal.Gen.facts Cert.Pre_att_finite.Gen.facts :=
  fun m ρ _ => frame_RAtt m ρ trivial

theorem value_Att : @Cert.algebraic_KAttIdeal_RAttIdeal_pre_att_finite Cert.KAttIdeal.Gen.facts Cert.RAttIdeal.Gen.facts
    Cert.Pre_att_finite.Gen.facts := by
  intro m ρ m' ρ' hpre hagree
  refine ⟨fun c => AttRef.out (m ((c.tc : Thread Cert.KAttIdeal.nD Cert.KAttIdeal.τ).loc Cert.KAttIdeal.main_arg0)) (m ((c.tc : Thread Cert.KAttIdeal.nD Cert.KAttIdeal.τ).loc Cert.KAttIdeal.main_arg2)) (m ((c.tc : Thread Cert.KAttIdeal.nD Cert.KAttIdeal.τ).loc Cert.KAttIdeal.main_arg1)) (m ((c.tc : Thread Cert.KAttIdeal.nD Cert.KAttIdeal.τ).loc Cert.KAttIdeal.main_arg3)) (m ((c.tc : Thread Cert.KAttIdeal.nD Cert.KAttIdeal.τ).loc Cert.KAttIdeal.main_arg4)) (m ((c.tc : Thread Cert.KAttIdeal.nD Cert.KAttIdeal.τ).loc Cert.KAttIdeal.main_arg5)),
    fun c => AttRef.kn (m ((c.tc : Thread Cert.KAttIdeal.nD Cert.KAttIdeal.τ).loc Cert.KAttIdeal.main_arg1)) (m ((c.tc : Thread Cert.KAttIdeal.nD Cert.KAttIdeal.τ).loc Cert.KAttIdeal.main_arg4)), fun c => AttRef.vv (m ((c.tc : Thread Cert.KAttIdeal.nD Cert.KAttIdeal.τ).loc Cert.KAttIdeal.main_arg1)), ?_, ?_⟩
  · refine (θ_run Cert.KAttIdeal.defs _ _).mono (fun _ h c => ?_) (Cert.KAttIdeal.Value.run_blocks m ρ)
    obtain ⟨hQ, hK, hQW, hKW, hSK⟩ := AttPre.pre _ _ _ _ _ _ (hpre c)
    exact ⟨(h c).1.trans (Cert.Att.final6 m c hQ hK hQW hKW hSK), (h c).2.1.trans (Cert.Att.final7 m c),
      (h c).2.2.1.trans (Cert.Att.final8 m c), (h c).2.2.2⟩
  · refine (θ_run Cert.RAttIdeal.defs _ _).mono (fun r h c => ?_) (Cert.RAttIdeal.Value.run (F := Ideal) m' ρ')
    have e := hagree c
    refine ⟨(h c).1.trans ?_, (h c).2.1.trans ?_, (h c).2.2.1.trans ?_, (h c).2.2.2⟩
    · show AttRef.out (m' ((c.tc : Thread Cert.RAttIdeal.nD Cert.RAttIdeal.τ).loc Cert.RAttIdeal.main_arg0)) (m' ((c.tc : Thread Cert.RAttIdeal.nD Cert.RAttIdeal.τ).loc Cert.RAttIdeal.main_arg2)) (m' ((c.tc : Thread Cert.RAttIdeal.nD Cert.RAttIdeal.τ).loc Cert.RAttIdeal.main_arg1)) (m' ((c.tc : Thread Cert.RAttIdeal.nD Cert.RAttIdeal.τ).loc Cert.RAttIdeal.main_arg3)) (m' ((c.tc : Thread Cert.RAttIdeal.nD Cert.RAttIdeal.τ).loc Cert.RAttIdeal.main_arg4)) (m' ((c.tc : Thread Cert.RAttIdeal.nD Cert.RAttIdeal.τ).loc Cert.RAttIdeal.main_arg5)) = _
      rw [e.1, e.2.1, e.2.2.1, e.2.2.2.1, e.2.2.2.2.1, e.2.2.2.2.2]
    · show AttRef.kn (m' ((c.tc : Thread Cert.RAttIdeal.nD Cert.RAttIdeal.τ).loc Cert.RAttIdeal.main_arg1)) (m' ((c.tc : Thread Cert.RAttIdeal.nD Cert.RAttIdeal.τ).loc Cert.RAttIdeal.main_arg4)) = _
      rw [e.2.1, e.2.2.2.2.1]
    · show AttRef.vv (m' ((c.tc : Thread Cert.RAttIdeal.nD Cert.RAttIdeal.τ).loc Cert.RAttIdeal.main_arg1)) = _
      rw [e.2.1]

end Cert.Layer
-- ==== Proof.GlaRunI.lean ====
module

public import proofs.«01_k».proof.Proof.Gen.KGlaIdeal.Frame.Runs
public import Idealize.ShloMosaic.Lib.Claim

@[expose] public section

set_option maxRecDepth 16384

noncomputable section

namespace Cert.KGlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section pieces

variable (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32)

/-- The gates' scratch after the first loop: the four trips' pieces over nothing. -/
def gateL : List (View.Piece (Elt F) S256x128 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 (harg4.unread x2) (harg5.unread x3) (harg6.unread x4) (Scf.trips k0_t1_loop.lb k0_t1_loop.ub k0_t1_loop.st)

/-- What the second loop carries and has stored after its four trips. -/
def walk :=
  st_k0_t2 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
    (harg11.unread (View.canon (gateL c i arg2 harg2 arg3 harg3 arg4 harg4 arg5 harg5 arg6 harg6 arg7 harg7 arg8 harg8 arg9 harg9 arg10 harg10 arg11 harg11 arg12 harg12 arg13 harg13 x2 x3 x4))) (k0_pay4, k0_pay5) (Scf.trips k0_t2_loop.lb k0_t2_loop.ub k0_t2_loop.st)

/-- The pieces of the result after the third loop. -/
def finL : List (View.Piece (Elt F) S1x256x128 .f32) :=
  pb_k0_t3 (F := F) Variants.none c none i arg2 harg2 arg3 harg3 arg4 harg4 arg5 harg5 arg6 harg6 arg7 harg7 arg8 harg8 arg9 harg9 arg10 harg10 arg11 harg11 arg12 harg12 arg13 harg13 (harg7.unread x5) (harg8.unread x6)
    (harg12.unread (View.canon (walk c i arg2 harg2 arg3 harg3 arg4 harg4 arg5 harg5 arg6 harg6 arg7 harg7 arg8 harg8 arg9 harg9 arg10 harg10 arg11 harg11 arg12 harg12 arg13 harg13 x0 x1 x2 x3 x4).2.1))
    (harg13.unread (View.canon (walk c i arg2 harg2 arg3 harg3 arg4 harg4 arg5 harg5 arg6 harg6 arg7 harg7 arg8 harg8 arg9 harg9 arg10 harg10 arg11 harg11 arg12 harg12 arg13 harg13 x0 x1 x2 x3 x4).2.2))
    (Scf.trips k0_t3_loop.lb k0_t3_loop.ub k0_t3_loop.st)

/-- The pieces of the states after the second loop. -/
def stL : List (View.Piece (Elt F) S1x2x1x64x128 .f32) :=
  [⟨Rect.unit ![0, 1, 0, 0, 0] S1x1x1x64x128.size inb_S1x2x1x64x128_S1x1x1x64x128_0_1_0_0_0,
      k0_pay9 (walk c i arg2 harg2 arg3 harg3 arg4 harg4 arg5 harg5 arg6 harg6 arg7 harg7 arg8 harg8 arg9 harg9 arg10 harg10 arg11 harg11 arg12 harg12 arg13 harg13 x0 x1 x2 x3 x4).1.2⟩,
    ⟨Rect.unit ![0, 0, 0, 0, 0] S1x1x1x64x128.size inb_S1x2x1x64x128_S1x1x1x64x128_0_0_0_0_0,
      k0_pay8 (walk c i arg2 harg2 arg3 harg3 arg4 harg4 arg5 harg5 arg6 harg6 arg7 harg7 arg8 harg8 arg9 harg9 arg10 harg10 arg11 harg11 arg12 harg12 arg13 harg13 x0 x1 x2 x3 x4).1.1⟩]

theorem gate_cover (y : S256x128.Idx) : ∃ pc ∈ gateL c i arg2 harg2 arg3 harg3 arg4 harg4 arg5 harg5 arg6 harg6 arg7 harg7 arg8 harg8 arg9 harg9 arg10 harg10 arg11 harg11 arg12 harg12 arg13 harg13 x2 x3 x4, y ∈ pc.1.set :=
  View.cover_of_tiledL (s := S256x128) _ S64x128.size (by sl_kernel_rfl) y

theorem fwd_cover (y : S256x128.Idx) : ∃ pc ∈ (walk c i arg2 harg2 arg3 harg3 arg4 harg4 arg5 harg5 arg6 harg6 arg7 harg7 arg8 harg8 arg9 harg9 arg10 harg10 arg11 harg11 arg12 harg12 arg13 harg13 x0 x1 x2 x3 x4).2.1, y ∈ pc.1.set :=
  View.cover_of_tiledL (s := S256x128) _ S64x128.size (by sl_kernel_rfl) y

theorem bwd_cover (y : S256x128.Idx) : ∃ pc ∈ (walk c i arg2 harg2 arg3 harg3 arg4 harg4 arg5 harg5 arg6 harg6 arg7 harg7 arg8 harg8 arg9 harg9 arg10 harg10 arg11 harg11 arg12 harg12 arg13 harg13 x0 x1 x2 x3 x4).2.2, y ∈ pc.1.set :=
  View.cover_of_tiledL (s := S256x128) _ S64x128.size (by sl_kernel_rfl) y

/-- Pieces that cover a whole buffer determine what it holds, whatever it held before. -/
theorem writes_whole {a : Memref sig .tc .vmem S256x128 .f32} (h : a.IsWhole) (f : BufTy.Contents (Elt F) a.view.ty)
    (L : List (View.Piece (Elt F) S256x128 .f32)) (hc : ∀ y, ∃ pc ∈ L, y ∈ pc.1.set) :
    a.view.writes (Elt F) f L = h.unread (View.canon L) :=
  h.eq_unread (View.read_writes_eq_canon _ _ _ hc)

theorem gate_writes (f : BufTy.Contents (Elt F) arg11.view.ty) :
    arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 (harg4.unread x2) (harg5.unread x3) (harg6.unread x4) (Scf.trips k0_t1_loop.lb k0_t1_loop.ub k0_t1_loop.st))
      = harg11.unread (View.canon (gateL c i arg2 harg2 arg3 harg3 arg4 harg4 arg5 harg5 arg6 harg6 arg7 harg7 arg8 harg8 arg9 harg9 arg10 harg10 arg11 harg11 arg12 harg12 arg13 harg13 x2 x3 x4)) :=
  writes_whole harg11 f _ (gate_cover c i arg2 harg2 arg3 harg3 arg4 harg4 arg5 harg5 arg6 harg6 arg7 harg7 arg8 harg8 arg9 harg9 arg10 harg10 arg11 harg11 arg12 harg12 arg13 harg13 x2 x3 x4)

theorem fwd_writes (f : BufTy.Contents (Elt F) arg12.view.ty) :
    arg12.view.writes (Elt F) f (walk c i arg2 harg2 arg3 harg3 arg4 harg4 arg5 harg5 arg6 harg6 arg7 harg7 arg8 harg8 arg9 harg9 arg10 harg10 arg11 harg11 arg12 harg12 arg13 harg13 x0 x1 x2 x3 x4).2.1
      = harg12.unread (View.canon (walk c i arg2 harg2 arg3 harg3 arg4 harg4 arg5 harg5 arg6 harg6 arg7 harg7 arg8 harg8 arg9 harg9 arg10 harg10 arg11 harg11 arg12 harg12 arg13 harg13 x0 x1 x2 x3 x4).2.1) :=
  writes_whole harg12 f _ (fwd_cover c i arg2 harg2 arg3 harg3 arg4 harg4 arg5 harg5 arg6 harg6 arg7 harg7 arg8 harg8 arg9 harg9 arg10 harg10 arg11 harg11 arg12 harg12 arg13 harg13 x0 x1 x2 x3 x4)

theorem bwd_writes (f : BufTy.Contents (Elt F) arg13.view.ty) :
    arg13.view.writes (Elt F) f (walk c i arg2 harg2 arg3 harg3 arg4 harg4 arg5 harg5 arg6 harg6 arg7 harg7 arg8 harg8 arg9 harg9 arg10 harg10 arg11 harg11 arg12 harg12 arg13 harg13 x0 x1 x2 x3 x4).2.2
      = harg13.unread (View.canon (walk c i arg2 harg2 arg3 harg3 arg4 harg4 arg5 harg5 arg6 harg6 arg7 harg7 arg8 harg8 arg9 harg9 arg10 harg10 arg11 harg11 arg12 harg12 arg13 harg13 x0 x1 x2 x3 x4).2.2) :=
  writes_whole harg13 f _ (bwd_cover c i arg2 harg2 arg3 harg3 arg4 harg4 arg5 harg5 arg6 harg6 arg7 harg7 arg8 harg8 arg9 harg9 arg10 harg10 arg11 harg11 arg12 harg12 arg13 harg13 x0 x1 x2 x3 x4)

end pieces

set_option maxHeartbeats 1000000 in
/-- The body's run: its pieces for the two results, with the scratch buffers named by what the loops store in them. -/
noncomputable def kernelRun0_A (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32) :
    Σ' (L7 : List (View.Piece (Elt F) S1x256x128 .f32)), { L8 : List (View.Piece (Elt F) S1x2x1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13) K } := by
  refine ⟨finL c i arg2 harg2 arg3 harg3 arg4 harg4 arg5 harg5 arg6 harg6 arg7 harg7 arg8 harg8 arg9 harg9 arg10 harg10 arg11 harg11 arg12 harg12 arg13 harg13 x0 x1 x2 x3 x4 x5 x6, ⟨stL c i arg2 harg2 arg3 harg3 arg4 harg4 arg5 harg5 arg6 harg6 arg7 harg7 arg8 harg8 arg9 harg9 arg10 harg10 arg11 harg11 arg12 harg12 arg13 harg13 x0 x1 x2 x3 x4, fun E K => ?run⟩⟩
  case run =>
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    unfold kernelRun0_A.sl.H8_2
    rw [gate_writes c i arg2 harg2 arg3 harg3 arg4 harg4 arg5 harg5 arg6 harg6 arg7 harg7 arg8 harg8 arg9 harg9 arg10 harg10 arg11 harg11 arg12 harg12 arg13 harg13 x2 x3 x4]
    rw [show st_k0_t2 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
      (harg11.unread (View.canon (gateL c i arg2 harg2 arg3 harg3 arg4 harg4 arg5 harg5 arg6 harg6 arg7 harg7 arg8 harg8 arg9 harg9 arg10 harg10 arg11 harg11 arg12 harg12 arg13 harg13 x2 x3 x4))) (k0_pay4, k0_pay5) (Scf.trips k0_t2_loop.lb k0_t2_loop.ub k0_t2_loop.st)
      = walk c i arg2 harg2 arg3 harg3 arg4 harg4 arg5 harg5 arg6 harg6 arg7 harg7 arg8 harg8 arg9 harg9 arg10 harg10 arg11 harg11 arg12 harg12 arg13 harg13 x0 x1 x2 x3 x4 from rfl]
    rw [fwd_writes c i arg2 harg2 arg3 harg3 arg4 harg4 arg5 harg5 arg6 harg6 arg7 harg7 arg8 harg8 arg9 harg9 arg10 harg10 arg11 harg11 arg12 harg12 arg13 harg13 x0 x1 x2 x3 x4, bwd_writes c i arg2 harg2 arg3 harg3 arg4 harg4 arg5 harg5 arg6 harg6 arg7 harg7 arg8 harg8 arg9 harg9 arg10 harg10 arg11 harg11 arg12 harg12 arg13 harg13 x0 x1 x2 x3 x4]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for output 7 tile its block (4 stores of `S1x64x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32) (y : S1x256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1 S1x64x128.size (by sl_kernel_rfl) y

/-- What the run leaves in output 7's staging buffer: its pieces read back over junk. -/
def out0_A_7 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32) : Vec F S1x256x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1)

/-- The run's pieces for output 8 tile its block (2 stores of `S1x1x1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32) (y : S1x2x1x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.1 S1x1x1x64x128.size (by sl_kernel_rfl) y

/-- What the run leaves in output 8's staging buffer: its pieces read back over junk. -/
def out0_A_8 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (x0 : Vec F S1x256x128 .f32) (x1 : Vec F S1x256x128 .f32) (x2 : Vec F S1x256x128 .f32) (x3 : Vec F S1x128x128 .f32) (x4 : Vec F S1x1x128 .f32) (x5 : Vec F S1x256x128 .f32) (x6 : Vec F S1x128 .f32) : Vec F S1x2x1x64x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.1)

/-! ## What the outputs hold after each point -/

/-- What the outputs' staging buffers hold after the body at point `t` (as a tuple, in window order): the run's contents at
    the point's memrefs and input blocks. -/
def outsAt0 (c : Dev nD) (t : Fin cfg0.N) : Vec F S1x256x128 .f32 × Vec F S1x2x1x64x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_7 out0_A_8; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, ⟨%e7, H7⟩, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program runs, leaves its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KGlaIdeal.Gen

end
-- ==== Proof.GlaMath.lean ====
module

public import proofs.«01_k».proof.Proof.Soft
public import Idealize.ShloMosaic.Lib.Pointwise

@[expose] public section

set_option maxRecDepth 16384

noncomputable section

namespace Cert.Gla

open Idealize.ShloMosaic

/-- A chunk of 64 rows of 64 lanes (queries, keys, log decays), one of 128 lanes (values), and a head's state. -/
abbrev M64 := Fin 64 → Fin 64 → EReal
abbrev M128 := Fin 64 → Fin 128 → EReal

/-- The log decays of a chunk's rows up to a row. -/
def cum (g : M64) (i d : Fin 64) : EReal := ∑ j : Fin 64, if j ≤ i then g j d else 0

/-- The state after a chunk: the old one decayed, and the rows' outer products decayed to the chunk's end. -/
def sStep (k : M64) (v : M128) (g : M64) (s : M128) : M128 := fun d e =>
  Ideal.exp (cum g 63 d) * s d e + ∑ j, k j d * Ideal.exp (cum g 63 d - cum g j d) * v j e

/-- The weight of a row for a later row of the same chunk. -/
def att (q k g : M64) (i j : Fin 64) : EReal :=
  ∑ d, q i d * k j d * if j ≤ i then Ideal.exp (cum g i d - cum g j d) else 0

/-- A chunk's output rows: what the state gives and what the chunk's own earlier rows give. -/
def oStep (q k : M64) (v : M128) (g : M64) (s : M128) : M128 := fun i e =>
  (∑ d, q i d * Ideal.exp (cum g i d) * s d e) + ∑ j, att q k g i j * v j e

/-- The state after the first `n` of four chunks, from nothing. -/
def st (k : Fin 4 → M64) (v : Fin 4 → M128) (g : Fin 4 → M64) : ℕ → M128
  | 0 => fun _ _ => 0
  | n + 1 => if h : n < 4 then sStep (k ⟨n, h⟩) (v ⟨n, h⟩) (g ⟨n, h⟩) (st k v g n) else st k v g n

theorem st_succ (k : Fin 4 → M64) (v : Fin 4 → M128) (g : Fin 4 → M64) (n : Fin 4) :
    st k v g (n.val + 1) = sStep (k n) (v n) (g n) (st k v g n.val) := by
  rw [st, dif_pos n.isLt]

/-- The outputs of chunk `n`. -/
def out (q k : Fin 4 → M64) (v : Fin 4 → M128) (g : Fin 4 → M64) (n : Fin 4) : M128 :=
  oStep (q n) (k n) (v n) (g n) (st k v g n.val)

/-- The chunks read from the last row to the first. -/
def rv {w : ℕ} (x : Fin 4 → Fin 64 → Fin w → EReal) : Fin 4 → Fin 64 → Fin w → EReal :=
  fun n j d => x n.rev j.rev d

/-- The log decay of a gate's input: its log-sigmoid over sixteen. -/
def gate (x : EReal) : EReal :=
  Ideal.div (min x 0 - Ideal.log (1 + Ideal.exp (0 - max x (-x)))) (Ideal.ofBits .f32 0x41800000#32)

theorem w16 : Ideal.ofBits .f32 0x41800000#32 = ((16 : ℝ) : EReal) := by
  simp [Ideal.ofBits, Ideal.ieee, -EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem log_one_exp (r : ℝ) : Ideal.log (1 + Ideal.exp (r : EReal)) = ((Real.log (1 + Real.exp r) : ℝ) : EReal) := by
  have h : (0 : ℝ) < 1 + Real.exp r := by positivity
  rw [Ideal.exp_coe, ← EReal.coe_one, ← EReal.coe_add, Ideal.log_coe, if_neg (not_le.mpr h)]

/-- The same from the other side: minus the softplus of minus the input. -/
theorem gate_eq {x : EReal} (h : Soft.Fine x) :
    Ideal.div (-(max (-x) 0 + Ideal.log (1 + Ideal.exp (-max (-x - 0) (-(-x - 0)))))) (Ideal.ofBits .f32 0x41800000#32) = gate x := by
  obtain ⟨r, rfl⟩ := h
  rw [gate]
  have e1 : ∀ y : EReal, y - 0 = y := fun y => by simp
  have e2 : max (-(r : EReal)) (- -(r : EReal)) = max (r : EReal) (-(r : EReal)) := by rw [neg_neg, max_comm]
  have e3 : max (r : EReal) (-(r : EReal)) = ((|r| : ℝ) : EReal) := by
    rw [← EReal.coe_neg, ← coe_max]; rfl
  rw [e1, e2, e3, ← EReal.coe_neg, ← EReal.coe_neg, log_one_exp, ← EReal.coe_zero, ← coe_max, ← EReal.coe_sub, zero_sub, log_one_exp,
    ← EReal.coe_add, ← EReal.coe_neg, ← coe_min, ← EReal.coe_sub]
  refine congrArg (fun y : ℝ => Ideal.div (y : EReal) _) ?_
  have : max (-r) 0 = - min r 0 := by rw [← neg_zero, max_neg_neg]; simp
  rw [this]; ring

theorem gate_fine {x : EReal} (h : Soft.Fine x) : Soft.Fine (gate x) := by
  obtain ⟨r, rfl⟩ := h
  have e3 : max (r : EReal) (-(r : EReal)) = ((|r| : ℝ) : EReal) := by
    rw [← EReal.coe_neg, ← coe_max]; rfl
  rw [gate, e3, ← EReal.coe_zero, ← EReal.coe_sub, log_one_exp, ← coe_min, ← EReal.coe_sub, w16,
    Ideal.div_coe (by norm_num), ← EReal.coe_mul]
  exact ⟨_, rfl⟩

theorem fine_add {x y : EReal} (hx : Soft.Fine x) (hy : Soft.Fine y) : Soft.Fine (x + y) := by
  obtain ⟨a, rfl⟩ := hx
  obtain ⟨b, rfl⟩ := hy
  exact ⟨a + b, (EReal.coe_add a b).symm⟩

theorem cum_fine {g : M64} (h : ∀ j d, Soft.Fine (g j d)) (i d : Fin 64) : Soft.Fine (cum g i d) :=
  Soft.fine_sum _ fun j => by
    by_cases hj : j ≤ i
    · simpa only [if_pos hj] using h j d
    · simpa only [if_neg hj] using ⟨0, EReal.coe_zero.symm⟩

/-- The decay between two rows, split at a third. -/
theorem exp_split {a b c : EReal} (ha : Soft.Fine a) (hb : Soft.Fine b) (hc : Soft.Fine c) :
    Ideal.exp (a - b) * Ideal.exp (b - c) = Ideal.exp (a - c) := by
  obtain ⟨a, rfl⟩ := ha
  obtain ⟨b, rfl⟩ := hb
  obtain ⟨c, rfl⟩ := hc
  simp only [← EReal.coe_sub, Ideal.exp_coe, ← EReal.coe_mul, ← Real.exp_add]
  congr 2; ring

/-- The weights as the product of the decayed queries and keys, both decays taken to the row `z`, masked after the sum. -/
theorem att_split {q k g : M64} (h : ∀ j d, Soft.Fine (g j d)) (z i j : Fin 64) :
    (if j ≤ i then ∑ d, (q i d * Ideal.exp (cum g i d - cum g z d)) * (k j d * Ideal.exp (cum g z d - cum g j d)) else 0)
      = att q k g i j := by
  rw [att]
  by_cases hj : j ≤ i
  · simp only [if_pos hj]
    refine Finset.sum_congr rfl fun d _ => ?_
    rw [← exp_split (cum_fine h i d) (cum_fine h z d) (cum_fine h j d)]
    ac_rfl
  · simp only [if_neg hj, mul_zero, Finset.sum_const_zero]

theorem sum_rev {n : ℕ} (f : Fin n → EReal) : ∑ j : Fin n, f (Fin.rev j) = ∑ j, f j :=
  Equiv.sum_comp Fin.revPerm f

/-- The decays of a chunk's rows from a row on are the reversed chunk's up to the mirrored row. -/
theorem cum_rev (g : M64) (i d : Fin 64) :
    (∑ j : Fin 64, if i ≤ j then g j d else 0) = cum (fun j d => g j.rev d) i.rev d := by
  rw [cum, ← sum_rev]
  refine Finset.sum_congr rfl fun j _ => if_congr ?_ rfl rfl
  rw [Fin.le_def, Fin.le_def, Fin.val_rev, Fin.val_rev]; omega

end Cert.Gla
-- ==== Proof.GlaPay.lean ====
module

public import proofs.«01_k».proof.Proof.Gen.KGlaIdeal.Skeleton
public import proofs.«01_k».proof.Proof.GlaMath

@[expose] public section

set_option maxRecDepth 16384

noncomputable section

namespace Cert.GlaPay

open Cert.KGlaIdeal Cert.KGlaIdeal.Gen Idealize.ShloMosaic Idealize.ShloMosaic.TcCoe Idealize.SL.Sem

/-- The two masks: at or below the diagonal, at or above it. -/
theorem pay1_apply (i j : Fin 64) : k0_pay1 (ix2 i j) = if j ≤ i then 1#1 else 0#1 := by
  have key : ∀ i j : Fin 64, IntOp.cmpi .sge (BitVec.ofNat 32 i.val) (BitVec.ofNat 32 j.val) = if j ≤ i then 1#1 else 0#1 := by decide +kernel
  rw [← key]
  pointwise [k0_pay1]

theorem pay2_apply (i j : Fin 64) : k0_pay2 (ix2 i j) = if i ≤ j then 1#1 else 0#1 := by
  have key : ∀ i j : Fin 64, IntOp.cmpi .sle (BitVec.ofNat 32 i.val) (BitVec.ofNat 32 j.val) = if i ≤ j then 1#1 else 0#1 := by decide +kernel
  rw [← key]
  pointwise [k0_pay2]

theorem sel {p : Prop} [Decidable p] (x y : EReal) : Scalar.select (if p then 1#1 else 0#1) x y = if p then x else y := by
  by_cases h : p
  · simp only [if_pos h]; rfl
  · simp only [if_neg h]; rfl

section
variable (M : S64x64.Idx → BitVec 1) (A : FVec Ideal S128x64 .f32) (X Y : FVec Ideal S1x64x128 .f32) (Z : FVec Ideal S64x128 .f32)

theorem pay16_raw (i : Fin 64) (e : Fin 128) : k0_pay16 M A X Y Z (ix2 i e)
    = (∑ d : Fin 64, X (ix3 0 i ⟨d.val, by omega⟩) * Ideal.ofBits .f32 0x3E000000#32 * Ideal.exp (Z (ix2 i ⟨d.val, by omega⟩)) * A (ix2 e d))
      + ∑ j : Fin 64, Scalar.select (M (ix2 i j)) (∑ d : Fin 64, (X (ix3 0 i ⟨d.val, by omega⟩) * Ideal.ofBits .f32 0x3E000000#32
          * Ideal.exp (Z (ix2 i ⟨d.val, by omega⟩) - Z (ix2 32 ⟨d.val, by omega⟩)))
          * (X (ix3 0 j ⟨64 + d.val, by omega⟩) * Ideal.exp (Z (ix2 32 ⟨d.val, by omega⟩) - Z (ix2 j ⟨d.val, by omega⟩)))) 0 * Y (ix3 0 j e) := by
  pointwise [k0_pay16, k0_pay11, k0_pay12, k0_pay13, k0_pay14]

theorem pay20_raw (e : Fin 128) (d : Fin 64) : k0_pay20 (k0_pay17 X Z) (k0_pay18 A Z) (k0_pay19 Y) (ix2 e d)
    = A (ix2 e d) * Ideal.exp (Z (ix2 63 ⟨d.val, by omega⟩))
      + ∑ j : Fin 64, Y (ix3 0 j e) * (X (ix3 0 j ⟨64 + d.val, by omega⟩) * Ideal.exp (Z (ix2 63 ⟨d.val, by omega⟩) - Z (ix2 j ⟨d.val, by omega⟩))) := by
  pointwise [k0_pay20, k0_pay17, k0_pay18, k0_pay19, k0_pay11, k0_pay12, k0_pay13, k0_pay14, k0_pay15]

theorem pay7_raw (i : Fin 64) (e : Fin 128) : k0_pay7 (k0_pay28 X Z) (k0_pay29 M X Z) (k0_pay30 Y) (k0_pay31 A) (ix2 i e)
    = (∑ d : Fin 64, X (ix3 0 i ⟨d.val, by omega⟩) * Ideal.ofBits .f32 0x3E000000#32 * Ideal.exp (Z (ix2 i ⟨64 + d.val, by omega⟩)) * A (ix2 e d))
      + ∑ j : Fin 64, Scalar.select (M (ix2 i j)) (∑ d : Fin 64, (X (ix3 0 i ⟨d.val, by omega⟩) * Ideal.ofBits .f32 0x3E000000#32
          * Ideal.exp (Z (ix2 i ⟨64 + d.val, by omega⟩) - Z (ix2 32 ⟨64 + d.val, by omega⟩)))
          * (X (ix3 0 j ⟨64 + d.val, by omega⟩) * Ideal.exp (Z (ix2 32 ⟨64 + d.val, by omega⟩) - Z (ix2 j ⟨64 + d.val, by omega⟩)))) 0 * Y (ix3 0 j e) := by
  pointwise [k0_pay7, k0_pay28, k0_pay29, k0_pay30, k0_pay31, k0_pay22, k0_pay23, k0_pay24, k0_pay25, k0_pay26]

theorem pay6_raw (e : Fin 128) (d : Fin 64) : k0_pay6 A (k0_pay24 X) (k0_pay25 Y) (k0_pay26 Z) (k0_pay27 Z) (ix2 e d)
    = A (ix2 e d) * Ideal.exp (Z (ix2 0 ⟨64 + d.val, by omega⟩))
      + ∑ j : Fin 64, Y (ix3 0 j e) * (X (ix3 0 j ⟨64 + d.val, by omega⟩) * Ideal.exp (Z (ix2 0 ⟨64 + d.val, by omega⟩) - Z (ix2 j ⟨64 + d.val, by omega⟩))) := by
  pointwise [k0_pay6, k0_pay22, k0_pay24, k0_pay25, k0_pay26, k0_pay27]

theorem pay21_raw (i : Fin 64) (e : Fin 128) : k0_pay21 Z (ix2 i e) = Z (ix2 i e) := by
  pointwise [k0_pay21]

theorem pay8_raw (d : Fin 64) (e : Fin 128) : k0_pay8 A (ix5 0 0 0 d e) = A (ix2 e d) := by
  pointwise [k0_pay8]

theorem pay9_raw (d : Fin 64) (e : Fin 128) : k0_pay9 A (ix5 0 0 0 d e) = A (ix2 e d) := by
  pointwise [k0_pay9]

theorem pay10_raw (F G : FVec Ideal S64x128 .f32) (N : FVec Ideal S1x128 .f32) (i : Fin 64) (e : Fin 128) :
    k0_pay10 F G N X (ix3 0 i e) = (F (ix2 i e) + G (ix2 i e)) * Ideal.rsqrt (Ideal.div (∑ k : Fin 128, (F (ix2 i k) + G (ix2 i k)) * (F (ix2 i k) + G (ix2 i k)))
      (Ideal.ofBits .f32 0x43000000#32) + Ideal.ofBits .f32 0x358637BD#32) * N (ix2 0 e) * X (ix3 0 i e) := by
  pointwise [k0_pay10]
end

section
variable (X : FVec Ideal S1x64x128 .f32) (W : FVec Ideal S1x128x128 .f32) (B : FVec Ideal S1x1x128 .f32)

/-- A gate's input. -/
def pre (j : Fin 64) (n : Fin 128) : EReal := (∑ k : Fin 128, X (ix3 0 j k) * W (ix3 0 k n)) + B (ix3 0 0 n)

theorem sit {p : Prop} [Decidable p] :
    FloatOps.sitofp (F := Ideal) .f32 (BitVec.setWidth 32 (if p then 1#1 else 0#1)) = (if p then 1 else 0 : EReal) := by
  by_cases h : p
  · simp only [if_pos h]
    show ((((BitVec.setWidth 32 1#1).toInt : ℝ)) : EReal) = 1
    rw [show (BitVec.setWidth 32 1#1).toInt = 1 from by decide]
    norm_num
  · simp only [if_neg h]
    show ((((BitVec.setWidth 32 0#1).toInt : ℝ)) : EReal) = 0
    rw [show (BitVec.setWidth 32 0#1).toInt = 0 from by decide]
    norm_num

theorem pay3_raw (i : Fin 64) (n : Fin 128) : k0_pay3 (F := Ideal) X W B (ix2 i n)
    = Scalar.select (IntOp.cmpi .slt (BitVec.ofNat 32 n.val) 64#32)
      (∑ j : Fin 64, (if j ≤ i then 1 else 0) * Gla.gate (pre X W B j n)) (∑ j : Fin 64, (if i ≤ j then 1 else 0) * Gla.gate (pre X W B j n)) := by
  pointwise [k0_pay3, Gla.gate, pre]
  simp only [pay1_apply, pay2_apply, sit]
  rfl

theorem pay3_fwd (i d : Fin 64) : k0_pay3 (F := Ideal) X W B (ix2 i ⟨d.val, by omega⟩)
    = Gla.cum (fun j d => Gla.gate (pre X W B j ⟨d.val, by omega⟩)) i d := by
  have key : ∀ d : Fin 64, IntOp.cmpi .slt (BitVec.ofNat 32 d.val) 64#32 = 1#1 := by decide +kernel
  refine (pay3_raw X W B i ⟨d.val, by omega⟩).trans ?_
  show Scalar.select (IntOp.cmpi .slt (BitVec.ofNat 32 d.val) 64#32) _ _ = _
  rw [key]
  refine Eq.trans (b := ∑ j : Fin 64, (if j ≤ i then 1 else 0) * Gla.gate (pre X W B j ⟨d.val, by omega⟩)) rfl ?_
  simp only [ite_mul, one_mul, zero_mul]
  rfl

theorem pay3_bwd (i d : Fin 64) : k0_pay3 (F := Ideal) X W B (ix2 i ⟨64 + d.val, by omega⟩)
    = Gla.cum (fun j d => Gla.gate (pre X W B j.rev ⟨64 + d.val, by omega⟩)) i.rev d := by
  have key : ∀ d : Fin 64, IntOp.cmpi .slt (BitVec.ofNat 32 (64 + d.val)) 64#32 = 0#1 := by decide +kernel
  refine (pay3_raw X W B i ⟨64 + d.val, by omega⟩).trans ?_
  show Scalar.select (IntOp.cmpi .slt (BitVec.ofNat 32 (64 + d.val)) 64#32) _ _ = _
  rw [key]
  refine Eq.trans (b := ∑ j : Fin 64, (if i ≤ j then 1 else 0) * Gla.gate (pre X W B j ⟨64 + d.val, by omega⟩)) rfl ?_
  simp only [ite_mul, one_mul, zero_mul]
  exact Gla.cum_rev (fun j d => Gla.gate (pre X W B j ⟨64 + d.val, by omega⟩)) i d
end

/-! The payloads of one step, from what the rows of the chunk are. -/
section
variable {A : FVec Ideal S128x64 .f32} {X Y : FVec Ideal S1x64x128 .f32} {Z : FVec Ideal S64x128 .f32}
  {q k g : Gla.M64} {v s : Gla.M128} (hg : ∀ j d, Soft.Fine (g j d)) (hs : ∀ (e : Fin 128) (d : Fin 64), A (ix2 e d) = s d e)

section
variable (hq : ∀ i d : Fin 64, X (ix3 0 i ⟨d.val, by omega⟩) * Ideal.ofBits .f32 0x3E000000#32 = q i d)
  (hk : ∀ i d : Fin 64, X (ix3 0 i ⟨64 + d.val, by omega⟩) = k i d) (hv : ∀ (i : Fin 64) (e : Fin 128), Y (ix3 0 i e) = v i e)
  (hb : ∀ i d : Fin 64, Z (ix2 i ⟨d.val, by omega⟩) = Gla.cum g i d)
include hk hv hb hs

theorem step_fwd (e : Fin 128) (d : Fin 64) : k0_pay20 (k0_pay17 X Z) (k0_pay18 A Z) (k0_pay19 Y) (ix2 e d) = Gla.sStep k v g s d e := by
  rw [pay20_raw, Gla.sStep, hs, hb, mul_comm (s d e)]
  refine congrArg (_ + ·) (Finset.sum_congr rfl fun j _ => ?_)
  rw [hv, hk, hb, mul_comm]

include hq hg in
theorem out_fwd (i : Fin 64) (e : Fin 128) : k0_pay16 k0_pay1 A X Y Z (ix2 i e) = Gla.oStep q k v g s i e := by
  rw [pay16_raw, Gla.oStep]
  refine congrArg₂ (fun x y : EReal => x + y) (Finset.sum_congr rfl fun d _ => ?_) (Finset.sum_congr rfl fun j _ => ?_)
  · rw [hq, hb, hs]
  · rw [pay1_apply, sel, hv, ← Gla.att_split hg 32 i j]
    simp only [hq, hk, hb]
end

section
variable (hq : ∀ i d : Fin 64, X (ix3 0 i ⟨d.val, by omega⟩) * Ideal.ofBits .f32 0x3E000000#32 = q i.rev d)
  (hk : ∀ i d : Fin 64, X (ix3 0 i ⟨64 + d.val, by omega⟩) = k i.rev d) (hv : ∀ (i : Fin 64) (e : Fin 128), Y (ix3 0 i e) = v i.rev e)
  (hb : ∀ i d : Fin 64, Z (ix2 i ⟨64 + d.val, by omega⟩) = Gla.cum g i.rev d)
include hk hv hb hs

theorem step_bwd (e : Fin 128) (d : Fin 64) : k0_pay6 A (k0_pay24 X) (k0_pay25 Y) (k0_pay26 Z) (k0_pay27 Z) (ix2 e d) = Gla.sStep k v g s d e := by
  have h0 : (0 : Fin 64).rev = 63 := rfl
  rw [pay6_raw, Gla.sStep, hs, hb, mul_comm (s d e), h0, ← Gla.sum_rev fun j => k j d * Ideal.exp (Gla.cum g 63 d - Gla.cum g j d) * v j e]
  refine congrArg (_ + ·) (Finset.sum_congr rfl fun j _ => ?_)
  rw [hv, hk, hb, mul_comm]

include hq hg in
theorem out_bwd (i : Fin 64) (e : Fin 128) :
    k0_pay7 (k0_pay28 X Z) (k0_pay29 k0_pay2 X Z) (k0_pay30 Y) (k0_pay31 A) (ix2 i e) = Gla.oStep q k v g s i.rev e := by
  rw [pay7_raw, Gla.oStep, ← Gla.sum_rev fun j => Gla.att q k g i.rev j * v j e]
  refine congrArg₂ (fun x y : EReal => x + y) (Finset.sum_congr rfl fun d _ => ?_) (Finset.sum_congr rfl fun j _ => ?_)
  · rw [hq, hb, hs]
  · rw [pay2_apply, sel, hv, ← Gla.att_split hg (32 : Fin 64).rev i.rev j.rev]
    simp only [hq, hk, hb, Fin.rev_le_rev]
end
end

end Cert.GlaPay
-- ==== Proof.GlaHost.lean ====
module

public import proofs.«01_k».proof.Proof.GlaRunI
public import proofs.«01_k».proof.Proof.GlaPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaHost

open Cert.KGlaIdeal Cert.KGlaIdeal.Gen

/-- Writing a list of places of an array, one after the other, at a place that none of them is. -/
theorem fold_miss {ι κ : Type} [DecidableEq ι] {α : Type} (ρ : κ → ι) (f : κ → α) (i : ι) : ∀ (l : List κ) (x : ι → α), (∀ n ∈ l, ρ n ≠ i) →
    (l.foldl (fun r n => fun i' => if i' = ρ n then f n else r i') x) i = x i
  | [], x, _ => rfl
  | n :: l, x, h => by
      rw [List.foldl_cons, fold_miss ρ f i l _ fun k hk => h k (List.mem_cons_of_mem _ hk)]
      exact if_neg fun e => h n List.mem_cons_self e.symm

/-- … and at one that is just one of them. -/
theorem fold_hit {ι κ : Type} [DecidableEq ι] [DecidableEq κ] {α : Type} (ρ : κ → ι) (f : κ → α) (k : κ) (hk : ∀ n, ρ n = ρ k → n = k) :
    ∀ (l : List κ) (x : ι → α), k ∈ l → (l.foldl (fun r n => fun i' => if i' = ρ n then f n else r i') x) (ρ k) = f k
  | [], x, h => absurd h List.not_mem_nil
  | n :: l, x, h => by
      rw [List.foldl_cons]
      by_cases hl : k ∈ l
      · exact fold_hit ρ f k hk l _ hl
      · have hn : k = n := (List.mem_cons.mp h).resolve_right hl
        subst hn
        rw [fold_miss ρ f (ρ k) l _ fun n hn e => hl (hk n e ▸ hn)]
        exact if_pos rfl

/-- A block of 16 by 64 written into the square at a row and a lane. -/
def put (x : FVec Ideal S128x128 .f32) (r c : BitVec 32) (u : FVec Ideal S16x64 .f32) : FVec Ideal S128x128 .f32 :=
  Host.scatter scatter_S128x128_S2_S16x64_01_n_01_0 (fun _ b => b) x (concatenate S2 0 [⟨S1, broadcastInDim S1 ![] bcast_S_S1 (constantI S_ 32 r)⟩,
    ⟨S1, broadcastInDim S1 ![] bcast_S_S1 (constantI S_ 32 c)⟩] concatenates_S1_S1_S2_d0) u

/-- Where the block's entries land. -/
def land (r c : ℕ) (hr : r ≤ 112) (hc : c ≤ 64) (j : S16x64.Idx) : S128x128.Idx :=
  ix2 ⟨r + (j 0).val, by have : (j 0).val < 16 := (j 0).isLt; omega⟩ ⟨c + (j 1).val, by have : (j 1).val < 64 := (j 1).isLt; omega⟩

theorem idx_at (r c : ℕ) (hr : r ≤ 112) (hc : c ≤ 64) (j : S16x64.Idx) (idx : IVec S2 32) (h0 : (idx (ix1 0)).toInt = r) (h1 : (idx (ix1 1)).toInt = c) :
    scatter_S128x128_S2_S16x64_01_n_01_0.resultIdx? j idx = some (land r c hr hc j) := by
  have j0 : (j 0).val < 16 := (j 0).isLt
  have j1 : (j 1).val < 64 := (j 1).isLt
  have s0 : scatter_S128x128_S2_S16x64_01_n_01_0.start j idx 0 = r := by
    refine Eq.trans (congrArg (fun k => (idx k).toInt) ?_) h0
    funext a; fin_cases a; rfl
  have s1 : scatter_S128x128_S2_S16x64_01_n_01_0.start j idx 1 = c := by
    refine Eq.trans (congrArg (fun k => (idx k).toInt) ?_) h1
    funext a; fin_cases a; rfl
  have w0 : scatter_S128x128_S2_S16x64_01_n_01_0.window j 0 = (j 0).val := rfl
  have w1 : scatter_S128x128_S2_S16x64_01_n_01_0.window j 1 = (j 1).val := rfl
  unfold ScatterDims.resultIdx?
  rw [dif_pos]
  · refine congrArg some (funext fun a => ?_)
    fin_cases a
    · refine Fin.ext ?_
      show (scatter_S128x128_S2_S16x64_01_n_01_0.start j idx 0 + scatter_S128x128_S2_S16x64_01_n_01_0.window j 0).toNat = r + (j 0).val
      rw [s0, w0]; omega
    · refine Fin.ext ?_
      show (scatter_S128x128_S2_S16x64_01_n_01_0.start j idx 1 + scatter_S128x128_S2_S16x64_01_n_01_0.window j 1).toNat = c + (j 1).val
      rw [s1, w1]; omega
  · intro a
    fin_cases a
    · show 0 ≤ scatter_S128x128_S2_S16x64_01_n_01_0.start j idx 0 + scatter_S128x128_S2_S16x64_01_n_01_0.window j 0
        ∧ scatter_S128x128_S2_S16x64_01_n_01_0.start j idx 0 + scatter_S128x128_S2_S16x64_01_n_01_0.window j 0 < (128 : ℤ)
      rw [s0, w0]; omega
    · show 0 ≤ scatter_S128x128_S2_S16x64_01_n_01_0.start j idx 1 + scatter_S128x128_S2_S16x64_01_n_01_0.window j 1
        ∧ scatter_S128x128_S2_S16x64_01_n_01_0.start j idx 1 + scatter_S128x128_S2_S16x64_01_n_01_0.window j 1 < (128 : ℤ)
      rw [s1, w1]; omega

theorem land_inj (r c : ℕ) (hr : r ≤ 112) (hc : c ≤ 64) (j j' : S16x64.Idx) (h : land r c hr hc j = land r c hr hc j') : j = j' := by
  have h0 := congrArg (fun i : S128x128.Idx => (i 0).val) h
  have h1 := congrArg (fun i : S128x128.Idx => (i 1).val) h
  have h0' : r + (j 0).val = r + (j' 0).val := h0
  have h1' : c + (j 1).val = c + (j' 1).val := h1
  funext a
  fin_cases a
  · exact Fin.ext (Nat.add_left_cancel h0')
  · exact Fin.ext (Nat.add_left_cancel h1')

theorem put_fold (x : FVec Ideal S128x128 .f32) (r c : ℕ) (hr : r ≤ 112) (hc : c ≤ 64) (u : FVec Ideal S16x64 .f32)
    (h0 : (BitVec.ofNat 32 r).toInt = r) (h1 : (BitVec.ofNat 32 c).toInt = c) :
    put x (BitVec.ofNat 32 r) (BitVec.ofNat 32 c) u = (List.finRange S16x64.numel).foldl
      (fun s n => fun i' => if i' = land r c hr hc (S16x64.rowMajor.symm n) then u (S16x64.rowMajor.symm n) else s i') x := by
  unfold put Host.scatter
  refine congrArg (fun f => List.foldl f x (List.finRange S16x64.numel)) (funext fun s => funext fun n => ?_)
  rw [idx_at r c hr hc (S16x64.rowMajor.symm n) _ ?_ ?_]
  · pointwise []
    exact h0
  · pointwise []
    exact h1

theorem put_hit (x : FVec Ideal S128x128 .f32) (r c : ℕ) (hr : r ≤ 112) (hc : c ≤ 64) (u : FVec Ideal S16x64 .f32)
    (h0 : (BitVec.ofNat 32 r).toInt = r) (h1 : (BitVec.ofNat 32 c).toInt = c) (j : S16x64.Idx) :
    put x (BitVec.ofNat 32 r) (BitVec.ofNat 32 c) u (land r c hr hc j) = u j := by
  rw [put_fold x r c hr hc u h0 h1]
  have h := fold_hit (fun n => land r c hr hc (S16x64.rowMajor.symm n)) (fun n => u (S16x64.rowMajor.symm n)) (S16x64.rowMajor j)
    (fun n e => by
      have := land_inj r c hr hc _ _ e
      exact S16x64.rowMajor.symm.injective this) (List.finRange S16x64.numel) x (List.mem_finRange _)
  simp only [Equiv.symm_apply_apply] at h
  exact h

theorem put_miss (x : FVec Ideal S128x128 .f32) (r c : ℕ) (hr : r ≤ 112) (hc : c ≤ 64) (u : FVec Ideal S16x64 .f32)
    (h0 : (BitVec.ofNat 32 r).toInt = r) (h1 : (BitVec.ofNat 32 c).toInt = c) (i : S128x128.Idx)
    (hi : ¬ (r ≤ (i 0).val ∧ (i 0).val < r + 16 ∧ c ≤ (i 1).val ∧ (i 1).val < c + 64)) :
    put x (BitVec.ofNat 32 r) (BitVec.ofNat 32 c) u i = x i := by
  rw [put_fold x r c hr hc u h0 h1]
  refine fold_miss (fun n => land r c hr hc (S16x64.rowMajor.symm n)) (fun n => u (S16x64.rowMajor.symm n)) i _ _ fun n _ e => hi ?_
  generalize S16x64.rowMajor.symm n = j at e
  subst e
  have j0 : (j 0).val < 16 := (j 0).isLt
  have j1 : (j 1).val < 64 := (j 1).isLt
  show r ≤ r + (j 0).val ∧ r + (j 0).val < r + 16 ∧ c ≤ c + (j 1).val ∧ c + (j 1).val < c + 64
  omega

/-- The two gates' weights of one head in one square. -/
def sq (a b : FVec Ideal S16x64 .f32) : FVec Ideal S128x128 .f32 :=
  put (put (broadcastInDim S128x128 ![] bcast_S_S128x128 (constant S_ .f32 0x00000000#32)) 0#32 0#32 a) 16#32 64#32 b

theorem sq_apply (a b : FVec Ideal S16x64 .f32) (k n : Fin 128) : sq a b (ix2 k n)
    = if h : k.val < 16 ∧ n.val < 64 then a (ix2 ⟨k.val, h.1⟩ ⟨n.val, h.2⟩)
      else if h : (16 ≤ k.val ∧ k.val < 32) ∧ 64 ≤ n.val then b (ix2 ⟨k.val - 16, by omega⟩ ⟨n.val - 64, by omega⟩) else (0 : EReal) := by
  have i0 : ((0 : ℕ) : ℤ) = 0 := rfl
  unfold sq
  by_cases h2 : (16 ≤ k.val ∧ k.val < 32) ∧ 64 ≤ n.val
  · rw [dif_neg (by omega), dif_pos h2]
    refine Eq.trans (congrArg _ ?_) (put_hit _ 16 64 (by decide) (by decide) b (by decide) (by decide) (ix2 ⟨k.val - 16, by omega⟩ ⟨n.val - 64, by omega⟩))
    refine congrArg₂ ix2 (Fin.ext ?_) (Fin.ext ?_)
    · show k.val = 16 + (k.val - 16); omega
    · show n.val = 64 + (n.val - 64); omega
  · refine (put_miss _ 16 64 (by decide) (by decide) b (by decide) (by decide) (ix2 k n) ?_).trans ?_
    · show ¬ (16 ≤ k.val ∧ k.val < 16 + 16 ∧ 64 ≤ n.val ∧ n.val < 64 + 64)
      omega
    · by_cases h1 : k.val < 16 ∧ n.val < 64
      · rw [dif_pos h1]
        refine Eq.trans (congrArg _ ?_) (put_hit _ 0 0 (by decide) (by decide) a (by decide) (by decide) (ix2 ⟨k.val, h1.1⟩ ⟨n.val, h1.2⟩))
        refine congrArg₂ ix2 (Fin.ext ?_) (Fin.ext ?_)
        · show k.val = 0 + k.val; omega
        · show n.val = 0 + n.val; omega
      · rw [dif_neg h1, dif_neg h2]
        refine (put_miss _ 0 0 (by decide) (by decide) a (by decide) (by decide) (ix2 k n) ?_).trans ?_
        · show ¬ (0 ≤ k.val ∧ k.val < 0 + 16 ∧ 0 ≤ n.val ∧ n.val < 0 + 64)
          omega
        · show Ideal.ofBits .f32 0x00000000#32 = 0
          simp [Ideal.ofBits, Ideal.ieee]

/-- The four heads' squares, as the host lays them out. -/
def wLay (W : FVec Ideal S2x16x256 .f32) : FVec Ideal S4x128x128 .f32 :=
  concatenate S4x128x128 0 [⟨S1x128x128, broadcastInDim S1x128x128 ![1, 2] bcast_S128x128_S1x128x128_1_2 (sq (extractStridedSlice S16x64 ![0, 0] (shapeCast S16x256 (extractStridedSlice S1x16x256 ![0, 0, 0] W slices_S2x16x256_S1x16x256_0_0_0) shapeCasts_S1x16x256_S16x256) slices_S16x256_S16x64_0_0)
      (extractStridedSlice S16x64 ![0, 0] (shapeCast S16x256 (extractStridedSlice S1x16x256 ![1, 0, 0] W slices_S2x16x256_S1x16x256_1_0_0) shapeCasts_S1x16x256_S16x256) slices_S16x256_S16x64_0_0))⟩,
    ⟨S1x128x128, broadcastInDim S1x128x128 ![1, 2] bcast_S128x128_S1x128x128_1_2 (sq (extractStridedSlice S16x64 ![0, 64] (shapeCast S16x256 (extractStridedSlice S1x16x256 ![0, 0, 0] W slices_S2x16x256_S1x16x256_0_0_0) shapeCasts_S1x16x256_S16x256) slices_S16x256_S16x64_0_64)
      (extractStridedSlice S16x64 ![0, 64] (shapeCast S16x256 (extractStridedSlice S1x16x256 ![1, 0, 0] W slices_S2x16x256_S1x16x256_1_0_0) shapeCasts_S1x16x256_S16x256) slices_S16x256_S16x64_0_64))⟩,
    ⟨S1x128x128, broadcastInDim S1x128x128 ![1, 2] bcast_S128x128_S1x128x128_1_2 (sq (extractStridedSlice S16x64 ![0, 128] (shapeCast S16x256 (extractStridedSlice S1x16x256 ![0, 0, 0] W slices_S2x16x256_S1x16x256_0_0_0) shapeCasts_S1x16x256_S16x256) slices_S16x256_S16x64_0_128)
      (extractStridedSlice S16x64 ![0, 128] (shapeCast S16x256 (extractStridedSlice S1x16x256 ![1, 0, 0] W slices_S2x16x256_S1x16x256_1_0_0) shapeCasts_S1x16x256_S16x256) slices_S16x256_S16x64_0_128))⟩,
    ⟨S1x128x128, broadcastInDim S1x128x128 ![1, 2] bcast_S128x128_S1x128x128_1_2 (sq (extractStridedSlice S16x64 ![0, 192] (shapeCast S16x256 (extractStridedSlice S1x16x256 ![0, 0, 0] W slices_S2x16x256_S1x16x256_0_0_0) shapeCasts_S1x16x256_S16x256) slices_S16x256_S16x64_0_192)
      (extractStridedSlice S16x64 ![0, 192] (shapeCast S16x256 (extractStridedSlice S1x16x256 ![1, 0, 0] W slices_S2x16x256_S1x16x256_1_0_0) shapeCasts_S1x16x256_S16x256) slices_S16x256_S16x64_0_192))⟩]
    concatenates_S1x128x128_S1x128x128_S1x128x128_S1x128x128_S4x128x128_d0

/-- The four heads' offsets, as the host lays them out. -/
def bLay (B : FVec Ideal S2x256 .f32) : FVec Ideal S4x1x128 .f32 :=
  concatenate S4x1x128 0 [⟨S1x1x128, broadcastInDim S1x1x128 ![1, 2] bcast_S1x128_S1x1x128_1_2 (broadcastInDim S1x128 ![1] bcast_S128_S1x128_1 (concatenate S128 0 [⟨S64, extractStridedSlice S64 ![0] (shapeCast S256 (extractStridedSlice S1x256 ![0, 0] B slices_S2x256_S1x256_0_0) shapeCasts_S1x256_S256) slices_S256_S64_0⟩,
      ⟨S64, extractStridedSlice S64 ![0] (shapeCast S256 (extractStridedSlice S1x256 ![1, 0] B slices_S2x256_S1x256_1_0) shapeCasts_S1x256_S256) slices_S256_S64_0⟩] concatenates_S64_S64_S128_d0))⟩,
    ⟨S1x1x128, broadcastInDim S1x1x128 ![1, 2] bcast_S1x128_S1x1x128_1_2 (broadcastInDim S1x128 ![1] bcast_S128_S1x128_1 (concatenate S128 0 [⟨S64, extractStridedSlice S64 ![64] (shapeCast S256 (extractStridedSlice S1x256 ![0, 0] B slices_S2x256_S1x256_0_0) shapeCasts_S1x256_S256) slices_S256_S64_64⟩,
      ⟨S64, extractStridedSlice S64 ![64] (shapeCast S256 (extractStridedSlice S1x256 ![1, 0] B slices_S2x256_S1x256_1_0) shapeCasts_S1x256_S256) slices_S256_S64_64⟩] concatenates_S64_S64_S128_d0))⟩,
    ⟨S1x1x128, broadcastInDim S1x1x128 ![1, 2] bcast_S1x128_S1x1x128_1_2 (broadcastInDim S1x128 ![1] bcast_S128_S1x128_1 (concatenate S128 0 [⟨S64, extractStridedSlice S64 ![128] (shapeCast S256 (extractStridedSlice S1x256 ![0, 0] B slices_S2x256_S1x256_0_0) shapeCasts_S1x256_S256) slices_S256_S64_128⟩,
      ⟨S64, extractStridedSlice S64 ![128] (shapeCast S256 (extractStridedSlice S1x256 ![1, 0] B slices_S2x256_S1x256_1_0) shapeCasts_S1x256_S256) slices_S256_S64_128⟩] concatenates_S64_S64_S128_d0))⟩,
    ⟨S1x1x128, broadcastInDim S1x1x128 ![1, 2] bcast_S1x128_S1x1x128_1_2 (broadcastInDim S1x128 ![1] bcast_S128_S1x128_1 (concatenate S128 0 [⟨S64, extractStridedSlice S64 ![192] (shapeCast S256 (extractStridedSlice S1x256 ![0, 0] B slices_S2x256_S1x256_0_0) shapeCasts_S1x256_S256) slices_S256_S64_192⟩,
      ⟨S64, extractStridedSlice S64 ![192] (shapeCast S256 (extractStridedSlice S1x256 ![1, 0] B slices_S2x256_S1x256_1_0) shapeCasts_S1x256_S256) slices_S256_S64_192⟩] concatenates_S64_S64_S128_d0))⟩]
    concatenates_S1x1x128_S1x1x128_S1x1x128_S1x1x128_S4x1x128_d0

theorem wLay_fwd (W : FVec Ideal S2x16x256 .f32) (h : Fin 4) (k : Fin 128) (d : Fin 64) : wLay W (ix3 h k ⟨d.val, by omega⟩)
    = if hk : k.val < 16 then W (ix3 0 ⟨k.val, hk⟩ ⟨h.val * 64 + d.val, by omega⟩) else (0 : EReal) := by
  have key : ∀ a b : FVec Ideal S16x64 .f32, sq a b (ix2 k ⟨d.val, by omega⟩) = if hk : k.val < 16 then a (ix2 ⟨k.val, hk⟩ d) else (0 : EReal) := fun a b => by
    rw [sq_apply]
    by_cases hk : k.val < 16
    · rw [dif_pos hk, dif_pos ⟨hk, d.isLt⟩]
    · rw [dif_neg hk, dif_neg (fun e => hk e.1), dif_neg (fun e => absurd e.2 (by show ¬ 64 ≤ d.val; omega))]
  fin_cases h
  · pointwise [wLay, key]
  · pointwise [wLay, key]
  · pointwise [wLay, key]
  · pointwise [wLay, key]

theorem wLay_bwd (W : FVec Ideal S2x16x256 .f32) (h : Fin 4) (k : Fin 128) (d : Fin 64) : wLay W (ix3 h k ⟨64 + d.val, by omega⟩)
    = if hk : 16 ≤ k.val ∧ k.val < 32 then W (ix3 1 ⟨k.val - 16, by omega⟩ ⟨h.val * 64 + d.val, by omega⟩) else (0 : EReal) := by
  have key : ∀ a b : FVec Ideal S16x64 .f32, sq a b (ix2 k ⟨64 + d.val, by omega⟩)
      = if hk : 16 ≤ k.val ∧ k.val < 32 then b (ix2 ⟨k.val - 16, by omega⟩ d) else (0 : EReal) := fun a b => by
    rw [sq_apply, dif_neg (fun e => absurd e.2 (by show ¬ 64 + d.val < 64; omega))]
    by_cases hk : 16 ≤ k.val ∧ k.val < 32
    · rw [dif_pos hk, dif_pos ⟨hk, by show 64 ≤ 64 + d.val; omega⟩]
      exact congrArg b (congrArg (ix2 _) (Fin.ext (by show 64 + d.val - 64 = d.val; omega)))
    · rw [dif_neg hk, dif_neg (fun e => hk e.1)]
  fin_cases h
  · pointwise [wLay, key]
  · pointwise [wLay, key]
  · pointwise [wLay, key]
  · pointwise [wLay, key]

theorem bLay_fwd (B : FVec Ideal S2x256 .f32) (h : Fin 4) (d : Fin 64) : bLay B (ix3 h 0 ⟨d.val, by omega⟩) = B (ix2 0 ⟨h.val * 64 + d.val, by omega⟩) := by
  fin_cases h
  · pointwise [bLay]
  · pointwise [bLay]
  · pointwise [bLay]
  · pointwise [bLay]

theorem bLay_bwd (B : FVec Ideal S2x256 .f32) (h : Fin 4) (d : Fin 64) : bLay B (ix3 h 0 ⟨64 + d.val, by omega⟩) = B (ix2 1 ⟨h.val * 64 + d.val, by omega⟩) := by
  fin_cases h
  · pointwise [bLay]
  · pointwise [bLay]
  · pointwise [bLay]
  · pointwise [bLay]

variable (m : (ℓ : Loc nD τ sig) → Buf (Elt Ideal) ℓ)

section
attribute [local irreducible] Host.scatter

set_option maxHeartbeats 3200000 in
theorem V_w (c : Dev nD) : V m c main_v96 = wLay (m ((c : Thread nD τ).loc main_arg4)) := by
  unfold wLay sq put
  rfl

end

set_option maxHeartbeats 1600000 in
theorem V_b (c : Dev nD) : V m c main_v101 = bLay (m ((c : Thread nD τ).loc main_arg5)) := by
  rfl

end Cert.GlaHost
-- ==== Proof.GlaLoop.lean ====
module

public import proofs.«01_k».proof.Proof.GlaHost
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.GlaLoop

open Cert.KGlaIdeal Cert.KGlaIdeal.Gen

/-- A chunk of 64 rows of a block, and of a scratch buffer. -/
def chunk (X : FVec Ideal S1x256x128 .f32) (n : Fin 4) : FVec Ideal S1x64x128 .f32 :=
  fun y => X (ix3 0 ⟨n.val * 64 + (y 1).val, by have : (y 1).val < 64 := (y 1).isLt; omega⟩ (y 2))
def rows (Z : FVec Ideal S256x128 .f32) (n : Fin 4) : FVec Ideal S64x128 .f32 :=
  fun y => Z (ix2 ⟨n.val * 64 + (y 0).val, by have : (y 0).val < 64 := (y 0).isLt; omega⟩ (y 1))

/-- A buffer read whole. -/
theorem rd_whole {S : Shape} {m : Memref sig .tc .vmem S .f32} (h : m.IsWhole) (X : Vec Ideal S .f32) (off : Fin S.rank → ℕ) (inb) (h0 : ∀ a, off a = 0) :
    View.readAt (Elt Ideal) m.view (Rect.unit off S.size inb).toLoadRect (h.unread X) = X :=
  funext fun x => (Memref.IsWhole.readAt_unread h X _ x).trans (congrArg X (funext fun a => Fin.ext ((Rect.idx_unit_val off S.size inb x a).trans (by rw [h0 a, Nat.zero_add]))))

theorem rd_chunk {m : Memref sig .tc .vmem S1x256x128 .f32} (h : m.IsWhole) (X : FVec Ideal S1x256x128 .f32) (off : Fin 3 → ℕ) (inb) (n : Fin 4)
    (h0 : off = ![0, n.val * 64, 0]) :
    View.readAt (Elt Ideal) m.view (Rect.unit (s := S1x256x128) off S1x64x128.size inb).toLoadRect (h.unread X) = chunk X n := by
  subst h0
  funext x
  have x1 : (x 1).val < 64 := (x 1).isLt
  show _ = X (ix3 0 ⟨n.val * 64 + (x 1).val, by omega⟩ (x 2))
  refine Eq.trans (b := X ((Rect.unit (s := S1x256x128) ![0, n.val * 64, 0] S1x64x128.size inb).toLoadRect.idx x)) (Memref.IsWhole.readAt_unread (Val := Elt Ideal) h X _ x) (congrArg X (funext fun a => Fin.ext ((Rect.idx_unit_val _ _ inb x a).trans ?_)))
  have x0 : (x 0).val < 1 := (x 0).isLt
  fin_cases a
  · show 0 + (x 0).val = 0
    omega
  · show n.val * 64 + (x 1).val = n.val * 64 + (x 1).val
    rfl
  · show 0 + (x 2).val = (x 2).val
    omega

theorem rd_rows {m : Memref sig .tc .vmem S256x128 .f32} (h : m.IsWhole) (X : FVec Ideal S256x128 .f32) (off : Fin 2 → ℕ) (inb) (n : Fin 4)
    (h0 : off = ![n.val * 64, 0]) :
    View.readAt (Elt Ideal) m.view (Rect.unit (s := S256x128) off S64x128.size inb).toLoadRect (h.unread X) = rows X n := by
  subst h0
  funext x
  have x0 : (x 0).val < 64 := (x 0).isLt
  show _ = X (ix2 ⟨n.val * 64 + (x 0).val, by omega⟩ (x 1))
  refine Eq.trans (b := X ((Rect.unit (s := S256x128) ![n.val * 64, 0] S64x128.size inb).toLoadRect.idx x)) (Memref.IsWhole.readAt_unread (Val := Elt Ideal) h X _ x) (congrArg X (funext fun a => Fin.ext ((Rect.idx_unit_val _ _ inb x a).trans ?_)))
  fin_cases a
  · show n.val * 64 + (x 0).val = n.val * 64 + (x 0).val
    rfl
  · show 0 + (x 1).val = (x 1).val
    omega

/-- A piece is the chunk `n` of a scratch buffer, with the given entries. -/
def Row (p : View.Piece (Elt Ideal) S256x128 .f32) (n : Fin 4) (H : Fin 64 → Fin 128 → EReal) : Prop :=
  ∃ (off : Fin 2 → ℕ) (inb : _) (P : FVec Ideal S64x128 .f32), p = ⟨Rect.unit (s := S256x128) off S64x128.size inb, P⟩ ∧ off = ![n.val * 64, 0] ∧ ∀ i l, P (ix2 i l) = H i l

/-- A scratch buffer filled chunk by chunk. -/
theorem canon_rows (L : List (View.Piece (Elt Ideal) S256x128 .f32)) (H : Fin 4 → Fin 64 → Fin 128 → EReal) (hL : ∀ p ∈ L, ∃ n, Row p n (H n))
    (cov : ∀ y, ∃ p ∈ L, y ∈ p.1.set) (n : Fin 4) (i : Fin 64) (l : Fin 128) : View.canon L (ix2 ⟨n.val * 64 + i.val, by omega⟩ l) = H n i l := by
  refine (View.canon_apply_of_pieces (fun y : S256x128.Idx => H ⟨(y 0).val / 64, by have : (y 0).val < 256 := (y 0).isLt; omega⟩ ⟨(y 0).val % 64, by omega⟩ (y 1)) L ?_ _ (cov _)).trans ?_
  · intro p hp x
    obtain ⟨k, off, inb, P, rfl, rfl, h⟩ := hL p hp
    have x0 : (x 0).val < 64 := (x 0).isLt
    have e0 := Rect.idx_unit_val (s := S256x128) ![k.val * 64, 0] S64x128.size inb x 0
    have e1 := Rect.idx_unit_val (s := S256x128) ![k.val * 64, 0] S64x128.size inb x 1
    have e0' : ((Rect.unit (s := S256x128) ![k.val * 64, 0] S64x128.size inb).emb x 0).val = k.val * 64 + (x 0).val := e0
    have e1' : ((Rect.unit (s := S256x128) ![k.val * 64, 0] S64x128.size inb).emb x 1).val = 0 + (x 1).val := e1
    refine Eq.trans (congrArg P (eq_ix2 x)) ((h (x 0) (x 1)).trans ?_)
    have a0 : k = ⟨((Rect.unit (s := S256x128) ![k.val * 64, 0] S64x128.size inb).emb x 0).val / 64, by omega⟩ := Fin.ext (by show k.val = ((Rect.unit (s := S256x128) ![k.val * 64, 0] S64x128.size inb).emb x 0).val / 64; omega)
    have a1 : (x 0 : Fin 64) = (⟨((Rect.unit (s := S256x128) ![k.val * 64, 0] S64x128.size inb).emb x 0).val % 64, by omega⟩ : Fin 64) := Fin.ext (by show (x 0).val = ((Rect.unit (s := S256x128) ![k.val * 64, 0] S64x128.size inb).emb x 0).val % 64; omega)
    have a2 : x 1 = ((Rect.unit (s := S256x128) ![k.val * 64, 0] S64x128.size inb).emb x 1 : Fin 128) := Fin.ext (by rw [e1', Nat.zero_add])
    exact congr (congr (congrArg H a0) a1) a2
  · have a0 : (⟨(n.val * 64 + i.val) / 64, by omega⟩ : Fin 4) = n := Fin.ext (by show (n.val * 64 + i.val) / 64 = n.val; omega)
    have a1 : (⟨(n.val * 64 + i.val) % 64, by omega⟩ : Fin 64) = i := Fin.ext (by show (n.val * 64 + i.val) % 64 = i.val; omega)
    exact congrFun (congr (congrArg H a0) a1) l

theorem one_elt (a : Fin 1) : a = 0 := Subsingleton.elim a 0

/-- The same of a block. -/
def Row3 (p : View.Piece (Elt Ideal) S1x256x128 .f32) (n : Fin 4) (H : Fin 64 → Fin 128 → EReal) : Prop :=
  ∃ (off : Fin 3 → ℕ) (inb : _) (P : FVec Ideal S1x64x128 .f32), p = ⟨Rect.unit (s := S1x256x128) off S1x64x128.size inb, P⟩ ∧ off = ![0, n.val * 64, 0] ∧ ∀ i l, P (ix3 0 i l) = H i l

theorem canon_rows3 (L : List (View.Piece (Elt Ideal) S1x256x128 .f32)) (H : Fin 4 → Fin 64 → Fin 128 → EReal) (hL : ∀ p ∈ L, ∃ n, Row3 p n (H n))
    (cov : ∀ y, ∃ p ∈ L, y ∈ p.1.set) (n : Fin 4) (i : Fin 64) (l : Fin 128) : View.canon L (ix3 0 ⟨n.val * 64 + i.val, by omega⟩ l) = H n i l := by
  refine (View.canon_apply_of_pieces (fun y : S1x256x128.Idx => H ⟨(y 1).val / 64, by have : (y 1).val < 256 := (y 1).isLt; omega⟩ ⟨(y 1).val % 64, by omega⟩ (y 2)) L ?_ _ (cov _)).trans ?_
  · intro p hp x
    obtain ⟨k, off, inb, P, rfl, rfl, h⟩ := hL p hp
    have x0 : (x 1).val < 64 := (x 1).isLt
    have z0 : x 0 = (0 : Fin 1) := one_elt (x 0)
    have e0 := Rect.idx_unit_val (s := S1x256x128) ![0, k.val * 64, 0] S1x64x128.size inb x 1
    have e1 := Rect.idx_unit_val (s := S1x256x128) ![0, k.val * 64, 0] S1x64x128.size inb x 2
    have e0' : ((Rect.unit (s := S1x256x128) ![0, k.val * 64, 0] S1x64x128.size inb).emb x 1).val = k.val * 64 + (x 1).val := e0
    have e1' : ((Rect.unit (s := S1x256x128) ![0, k.val * 64, 0] S1x64x128.size inb).emb x 2).val = 0 + (x 2).val := e1
    refine Eq.trans (congrArg P ((eq_ix3 x).trans (congrArg (fun a => ix3 a (x 1) (x 2)) z0))) ((h (x 1) (x 2)).trans ?_)
    have a0 : k = ⟨((Rect.unit (s := S1x256x128) ![0, k.val * 64, 0] S1x64x128.size inb).emb x 1).val / 64, by omega⟩ := Fin.ext (by show k.val = ((Rect.unit (s := S1x256x128) ![0, k.val * 64, 0] S1x64x128.size inb).emb x 1).val / 64; omega)
    have a1 : (x 1 : Fin 64) = (⟨((Rect.unit (s := S1x256x128) ![0, k.val * 64, 0] S1x64x128.size inb).emb x 1).val % 64, by omega⟩ : Fin 64) := Fin.ext (by show (x 1).val = ((Rect.unit (s := S1x256x128) ![0, k.val * 64, 0] S1x64x128.size inb).emb x 1).val % 64; omega)
    have a2 : x 2 = ((Rect.unit (s := S1x256x128) ![0, k.val * 64, 0] S1x64x128.size inb).emb x 2 : Fin 128) := Fin.ext (by rw [e1', Nat.zero_add])
    exact congr (congr (congrArg H a0) a1) a2
  · have a0 : (⟨(n.val * 64 + i.val) / 64, by omega⟩ : Fin 4) = n := Fin.ext (by show (n.val * 64 + i.val) / 64 = n.val; omega)
    have a1 : (⟨(n.val * 64 + i.val) % 64, by omega⟩ : Fin 64) = i := Fin.ext (by show (n.val * 64 + i.val) % 64 = i.val; omega)
    exact congrFun (congr (congrArg H a0) a1) l

/-- Where the trips load and store. -/
theorem t1 : k0_t1_loop.trips = 4 := by decide
theorem t2 : k0_t2_loop.trips = 4 := by decide
theorem t3 : k0_t3_loop.trips = 4 := by decide
theorem off1 : ∀ k : Fin k0_t1_loop.trips, k0_off1 k = ![0, k.val * 64, 0] := by decide +kernel
theorem off2 : ∀ k : Fin k0_t1_loop.trips, k0_off2 k = ![k.val * 64, 0] := by decide +kernel
theorem off3 : ∀ k : Fin k0_t2_loop.trips, k0_off3 k = ![0, k.val * 64, 0] := by decide +kernel
theorem off4 : ∀ k : Fin k0_t2_loop.trips, k0_off4 k = ![k.val * 64, 0] := by decide +kernel
theorem off5 : ∀ k : Fin k0_t2_loop.trips, k0_off5 k = ![0, (3 - k.val) * 64, 0] := by decide +kernel
theorem off6 : ∀ k : Fin k0_t2_loop.trips, k0_off6 k = ![(3 - k.val) * 64, 0] := by decide +kernel
theorem off7 : ∀ k : Fin k0_t3_loop.trips, k0_off7 k = ![k.val * 64, 0] := by decide +kernel
theorem off8 : ∀ k : Fin k0_t3_loop.trips, k0_off8 k = ![0, k.val * 64, 0] := by decide +kernel
theorem rev_val (n : Fin 4) : n.rev.val = 3 - n.val := by revert n; decide

section
variable (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
  (x0 x1 x2 : FVec Ideal S1x256x128 .f32) (x3 : FVec Ideal S1x128x128 .f32) (x4 : FVec Ideal S1x1x128 .f32) (x5 : FVec Ideal S1x256x128 .f32) (x6 : FVec Ideal S1x128 .f32)
  (z u w : FVec Ideal S256x128 .f32)

theorem trip1 (k : Fin k0_t1_loop.trips) (n : Fin 4) (hn : k.val = n.val) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 (harg4.unread x2) (harg5.unread x3) (harg6.unread x4) k,
      Row p n fun i l => k0_pay3 (F := Ideal) (chunk x2 n) x3 x4 (ix2 i l) := by
  intro p hp
  unfold tripL_k0_t1 trip_k0_t1 at hp
  dsimp only at hp
  obtain rfl := List.mem_singleton.mp hp
  refine ⟨_, _, _, rfl, by rw [off2 k, hn], fun i l => ?_⟩
  rw [rd_chunk harg4 x2 _ _ n (by rw [off1 k, hn])]
  rw [rd_whole harg5 x3 _ _ (by decide)]
  rw [rd_whole harg6 x4 _ _ (by decide)]

theorem trip3 (k : Fin k0_t3_loop.trips) (n : Fin 4) (hn : k.val = n.val) :
    ∀ p ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 (harg7.unread x5) (harg8.unread x6) (harg12.unread u) (harg13.unread w) k,
      Row3 p n fun i l => k0_pay10 (F := Ideal) (rows u n) (rows w n) x6 (chunk x5 n) (ix3 0 i l) := by
  intro p hp
  unfold tripL_k0_t3 trip_k0_t3 at hp
  dsimp only at hp
  obtain rfl := List.mem_singleton.mp hp
  refine ⟨_, _, _, rfl, by rw [off8 k, hn], fun i l => ?_⟩
  rw [rd_rows harg12 u _ _ n (by rw [off7 k, hn])]
  rw [rd_rows harg13 w _ _ n (by rw [off7 k, hn])]
  rw [rd_whole harg8 x6 _ _ (by decide)]
  rw [rd_chunk harg7 x5 _ _ n (by rw [off8 k, hn])]

variable (acc : FVec Ideal S128x64 .f32 × FVec Ideal S128x64 .f32)

theorem trip2R (k : Fin k0_t2_loop.trips) (n : Fin 4) (hn : k.val = n.val) :
    tripR_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg11.unread z) k acc
      = (k0_pay20 (F := Ideal) (k0_pay17 (chunk x0 n) (rows z n)) (k0_pay18 acc.1 (rows z n)) (k0_pay19 (chunk x1 n)),
        k0_pay6 (F := Ideal) acc.2 (k0_pay24 (chunk x0 n.rev)) (k0_pay25 (chunk x1 n.rev)) (k0_pay26 (rows z n.rev)) (k0_pay27 (rows z n.rev))) := by
  have f0 := rd_chunk harg2 x0 (k0_off3 k) (k0_off3_inb k) n (by rw [off3 k, hn])
  have f1 := rd_chunk harg3 x1 (k0_off3 k) (k0_off3_inb k) n (by rw [off3 k, hn])
  have fz := rd_rows harg11 z (k0_off4 k) (k0_off4_inb k) n (by rw [off4 k, hn])
  have g0 := rd_chunk harg2 x0 (k0_off5 k) (k0_off5_inb k) n.rev (by rw [off5 k, hn, rev_val])
  have g1 := rd_chunk harg3 x1 (k0_off5 k) (k0_off5_inb k) n.rev (by rw [off5 k, hn, rev_val])
  have gz := rd_rows harg11 z (k0_off6 k) (k0_off6_inb k) n.rev (by rw [off6 k, hn, rev_val])
  unfold tripR_k0_t2 trip_k0_t2
  dsimp only
  rw [← f0, ← f1, ← fz, ← g0, ← g1, ← gz]
  rfl

theorem trip2f (k : Fin k0_t2_loop.trips) (n : Fin 4) (hn : k.val = n.val) :
    ∀ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg11.unread z) k acc).1,
      Row p n fun i l => k0_pay21 (F := Ideal) (k0_pay16 (F := Ideal) k0_pay1 acc.1 (chunk x0 n) (chunk x1 n) (rows z n)) (ix2 i l) := by
  have f0 := rd_chunk harg2 x0 (k0_off3 k) (k0_off3_inb k) n (by rw [off3 k, hn])
  have f1 := rd_chunk harg3 x1 (k0_off3 k) (k0_off3_inb k) n (by rw [off3 k, hn])
  have fz := rd_rows harg11 z (k0_off4 k) (k0_off4_inb k) n (by rw [off4 k, hn])
  intro p hp
  unfold tripL_k0_t2 trip_k0_t2 at hp
  dsimp only at hp
  obtain rfl := List.mem_singleton.mp hp
  refine ⟨_, _, _, rfl, by rw [off4 k, hn], fun i l => ?_⟩
  rw [← f0, ← f1, ← fz]
  rfl

theorem trip2b (k : Fin k0_t2_loop.trips) (n : Fin 4) (hn : k.val = n.val) :
    ∀ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg11.unread z) k acc).2,
      Row p n.rev fun i l => k0_pay7 (F := Ideal) (k0_pay28 (chunk x0 n.rev) (rows z n.rev)) (k0_pay29 k0_pay2 (chunk x0 n.rev) (rows z n.rev))
        (k0_pay30 (chunk x1 n.rev)) (k0_pay31 acc.2) (ix2 i l) := by
  have g0 := rd_chunk harg2 x0 (k0_off5 k) (k0_off5_inb k) n.rev (by rw [off5 k, hn, rev_val])
  have g1 := rd_chunk harg3 x1 (k0_off5 k) (k0_off5_inb k) n.rev (by rw [off5 k, hn, rev_val])
  have gz := rd_rows harg11 z (k0_off6 k) (k0_off6_inb k) n.rev (by rw [off6 k, hn, rev_val])
  intro p hp
  unfold tripL_k0_t2 trip_k0_t2 at hp
  dsimp only at hp
  obtain rfl := List.mem_singleton.mp hp
  refine ⟨_, _, _, rfl, by rw [off6 k, hn, rev_val], fun i l => ?_⟩
  rw [← g0, ← g1, ← gz]
  rfl
end

end Cert.GlaLoop
-- ==== Proof.GlaWalk.lean ====
module

public import proofs.«01_k».proof.Proof.GlaLoop

@[expose] public section

set_option maxRecDepth 16384

noncomputable section

open Idealize.ShloMosaic Idealize.ShloMosaic.TcCoe Idealize.SL.Sem
open Idealize.ShloMosaic.Pipeline (Dat)

namespace Cert.GlaLoop

open Cert.KGlaIdeal Cert.KGlaIdeal.Gen

theorem n1 : Scf.trips k0_t1_loop.lb k0_t1_loop.ub k0_t1_loop.st = 4 := by decide
theorem n2 : Scf.trips k0_t2_loop.lb k0_t2_loop.ub k0_t2_loop.st = 4 := by decide
theorem n3 : Scf.trips k0_t3_loop.lb k0_t3_loop.ub k0_t3_loop.st = 4 := by decide

theorem lt_row (n : Fin 4) (j : Fin 64) : n.val * 64 + j.val < 256 := by omega
theorem lt_lo (d : Fin 64) : d.val < 128 := by omega
theorem lt_hi (d : Fin 64) : 64 + d.val < 128 := by omega

theorem zero_bits : Ideal.ofBits .f32 0x00000000#32 = 0 := by simp [Ideal.ofBits, Ideal.ieee]

theorem pay4_apply (e : Fin 128) (d : Fin 64) : k0_pay4 (F := Ideal) (ix2 e d) = 0 := zero_bits
theorem pay5_apply (e : Fin 128) (d : Fin 64) : k0_pay5 (F := Ideal) (ix2 e d) = 0 := zero_bits

theorem pt5 (x : S1x1x1x64x128.Idx) : x = ix5 (0 : Fin 1) (0 : Fin 1) (0 : Fin 1) (x 3) (x 4) :=
  (eq_ix5 x).trans ((congrArg (fun a : Fin 1 => ix5 a (x 1) (x 2) (x 3) (x 4)) (one_elt (x 0))).trans
    ((congrArg (fun a : Fin 1 => ix5 (0 : Fin 1) a (x 2) (x 3) (x 4)) (one_elt (x 1))).trans
      (congrArg (fun a : Fin 1 => ix5 (0 : Fin 1) (0 : Fin 1) a (x 3) (x 4)) (one_elt (x 2)))))

/-- The two states, stored one after the other. -/
theorem st_canon (A B : FVec Ideal S128x64 .f32) (s t : Gla.M128) (hA : ∀ (e : Fin 128) (d : Fin 64), A (ix2 e d) = s d e)
    (hB : ∀ (e : Fin 128) (d : Fin 64), B (ix2 e d) = t d e)
    (cov : ∀ y, ∃ p ∈ ([⟨Rect.unit ![0, 1, 0, 0, 0] S1x1x1x64x128.size inb_S1x2x1x64x128_S1x1x1x64x128_0_1_0_0_0, k0_pay9 B⟩,
      ⟨Rect.unit ![0, 0, 0, 0, 0] S1x1x1x64x128.size inb_S1x2x1x64x128_S1x1x1x64x128_0_0_0_0_0, k0_pay8 A⟩] : List (View.Piece (Elt Ideal) S1x2x1x64x128 .f32)), y ∈ p.1.set)
    (d : Fin 64) (e : Fin 128) :
    View.canon ([⟨Rect.unit ![0, 1, 0, 0, 0] S1x1x1x64x128.size inb_S1x2x1x64x128_S1x1x1x64x128_0_1_0_0_0, k0_pay9 B⟩,
      ⟨Rect.unit ![0, 0, 0, 0, 0] S1x1x1x64x128.size inb_S1x2x1x64x128_S1x1x1x64x128_0_0_0_0_0, k0_pay8 A⟩] : List (View.Piece (Elt Ideal) S1x2x1x64x128 .f32)) (ix5 0 0 0 d e) = s d e
    ∧ View.canon ([⟨Rect.unit ![0, 1, 0, 0, 0] S1x1x1x64x128.size inb_S1x2x1x64x128_S1x1x1x64x128_0_1_0_0_0, k0_pay9 B⟩,
      ⟨Rect.unit ![0, 0, 0, 0, 0] S1x1x1x64x128.size inb_S1x2x1x64x128_S1x1x1x64x128_0_0_0_0_0, k0_pay8 A⟩] : List (View.Piece (Elt Ideal) S1x2x1x64x128 .f32)) (ix5 0 1 0 d e) = t d e := by
  have all : ∀ y, View.canon ([⟨Rect.unit ![0, 1, 0, 0, 0] S1x1x1x64x128.size inb_S1x2x1x64x128_S1x1x1x64x128_0_1_0_0_0, k0_pay9 B⟩,
      ⟨Rect.unit ![0, 0, 0, 0, 0] S1x1x1x64x128.size inb_S1x2x1x64x128_S1x1x1x64x128_0_0_0_0_0, k0_pay8 A⟩] : List (View.Piece (Elt Ideal) S1x2x1x64x128 .f32)) y
      = if (y 1).val = 0 then s (y 3) (y 4) else t (y 3) (y 4) := fun y => by
    refine View.canon_apply_of_pieces (fun y : S1x2x1x64x128.Idx => if (y 1).val = 0 then s (y 3) (y 4) else t (y 3) (y 4)) _ ?_ _
      (cov y)
    intro p hp
    rcases List.mem_cons.mp hp with hp | hp
    · subst hp
      intro (x : S1x1x1x64x128.Idx)
      have e1 := Rect.idx_unit_val (s := S1x2x1x64x128) ![0, 1, 0, 0, 0] S1x1x1x64x128.size inb_S1x2x1x64x128_S1x1x1x64x128_0_1_0_0_0 x 1
      have e3 := Rect.idx_unit_val (s := S1x2x1x64x128) ![0, 1, 0, 0, 0] S1x1x1x64x128.size inb_S1x2x1x64x128_S1x1x1x64x128_0_1_0_0_0 x 3
      have e4 := Rect.idx_unit_val (s := S1x2x1x64x128) ![0, 1, 0, 0, 0] S1x1x1x64x128.size inb_S1x2x1x64x128_S1x1x1x64x128_0_1_0_0_0 x 4
      have ex : x = ix5 0 0 0 (x 3) (x 4) := pt5 x
      refine Eq.trans (Eq.trans (congrArg (k0_pay9 (F := Ideal) _) ex) (GlaPay.pay9_raw _ (x 3) (x 4))) ((hB _ _).trans ?_)
      refine Eq.trans ?_ (if_neg ?_).symm
      · exact congrArg₂ t (Fin.ext (e3.trans (Nat.zero_add _)).symm) (Fin.ext (e4.trans (Nat.zero_add _)).symm)
      · exact fun h => absurd (e1.symm.trans h) (by show ¬ (1 + (x 1).val = 0); omega)
    · obtain rfl := List.mem_singleton.mp hp
      intro (x : S1x1x1x64x128.Idx)
      have e1 := Rect.idx_unit_val (s := S1x2x1x64x128) ![0, 0, 0, 0, 0] S1x1x1x64x128.size inb_S1x2x1x64x128_S1x1x1x64x128_0_0_0_0_0 x 1
      have e3 := Rect.idx_unit_val (s := S1x2x1x64x128) ![0, 0, 0, 0, 0] S1x1x1x64x128.size inb_S1x2x1x64x128_S1x1x1x64x128_0_0_0_0_0 x 3
      have e4 := Rect.idx_unit_val (s := S1x2x1x64x128) ![0, 0, 0, 0, 0] S1x1x1x64x128.size inb_S1x2x1x64x128_S1x1x1x64x128_0_0_0_0_0 x 4
      have ex : x = ix5 0 0 0 (x 3) (x 4) := pt5 x
      have x1 : (x 1).val < 1 := (x 1).isLt
      refine Eq.trans (Eq.trans (congrArg (k0_pay8 (F := Ideal) _) ex) (GlaPay.pay8_raw _ (x 3) (x 4))) ((hA _ _).trans ?_)
      refine Eq.trans ?_ (if_pos ?_).symm
      · exact congrArg₂ s (Fin.ext (e3.trans (Nat.zero_add _)).symm) (Fin.ext (e4.trans (Nat.zero_add _)).symm)
      · exact e1.trans (by show 0 + (x 1).val = 0; omega)
  exact ⟨(all _).trans (if_pos rfl), (all _).trans (if_neg (by show ¬ (1 : ℕ) = 0; decide))⟩

section
variable (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S1x256x128 .f32) (harg7 : arg7.IsWhole) (arg8 : Memref sig .tc .vmem S1x128 .f32) (harg8 : arg8.IsWhole) (arg9 : Memref sig .tc .vmem S1x256x128 .f32) (harg9 : arg9.IsWhole) (arg10 : Memref sig .tc .vmem S1x2x1x64x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
  (x0 x1 x2 : FVec Ideal S1x256x128 .f32) (x3 : FVec Ideal S1x128x128 .f32) (x4 : FVec Ideal S1x1x128 .f32) (x5 : FVec Ideal S1x256x128 .f32) (x6 : FVec Ideal S1x128 .f32)
  (z u w : FVec Ideal S256x128 .f32)

theorem mem1 : ∀ n : ℕ, n ≤ 4 → ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 (harg4.unread x2) (harg5.unread x3) (harg6.unread x4) n,
    ∃ m : Fin 4, Row p m fun i l => k0_pay3 (F := Ideal) (chunk x2 m) x3 x4 (ix2 i l)
  | 0, _, p, hp => absurd hp List.not_mem_nil
  | n + 1, hn, p, hp => by
      have h := pb_k0_t1_succ (F := Ideal) Variants.none c none i arg2 harg2 arg3 harg3 arg4 harg4 arg5 harg5 arg6 harg6 arg7 harg7 arg8 harg8 arg9 harg9 arg10 harg10 arg11 harg11 arg12 harg12 arg13 harg13 (harg4.unread x2) (harg5.unread x3) (harg6.unread x4) ⟨n, by rw [t1]; omega⟩
      rcases List.mem_append.mp ((congrArg (p ∈ ·) h).mp hp) with hp | hp
      · exact ⟨⟨n, hn⟩, trip1 c i arg2 harg2 arg3 harg3 arg4 harg4 arg5 harg5 arg6 harg6 arg7 harg7 arg8 harg8 arg9 harg9 arg10 harg10 arg11 harg11 arg12 harg12 arg13 harg13 x2 x3 x4 _ ⟨n, hn⟩ rfl p hp⟩
      · exact mem1 n (by omega) p hp

/-- The gates' scratch. -/
theorem gate_rows (n : Fin 4) (j : Fin 64) (l : Fin 128) :
    rows (View.canon (gateL (F := Ideal) c i arg2 harg2 arg3 harg3 arg4 harg4 arg5 harg5 arg6 harg6 arg7 harg7 arg8 harg8 arg9 harg9 arg10 harg10 arg11 harg11 arg12 harg12 arg13 harg13 x2 x3 x4)) n (ix2 j l) = k0_pay3 (F := Ideal) (chunk x2 n) x3 x4 (ix2 j l) := by
  refine canon_rows _ (fun m i l => k0_pay3 (F := Ideal) (chunk x2 m) x3 x4 (ix2 i l)) ?_ (gate_cover c i arg2 harg2 arg3 harg3 arg4 harg4 arg5 harg5 arg6 harg6 arg7 harg7 arg8 harg8 arg9 harg9 arg10 harg10 arg11 harg11 arg12 harg12 arg13 harg13 x2 x3 x4) n j l
  unfold gateL
  rw [n1]
  exact mem1 c i arg2 harg2 arg3 harg3 arg4 harg4 arg5 harg5 arg6 harg6 arg7 harg7 arg8 harg8 arg9 harg9 arg10 harg10 arg11 harg11 arg12 harg12 arg13 harg13 x2 x3 x4 4 le_rfl

theorem mem3 : ∀ n : ℕ, n ≤ 4 → ∀ p ∈ pb_k0_t3 (F := Ideal) Variants.none c none i arg2 harg2 arg3 harg3 arg4 harg4 arg5 harg5 arg6 harg6 arg7 harg7 arg8 harg8 arg9 harg9 arg10 harg10 arg11 harg11 arg12 harg12 arg13 harg13 (harg7.unread x5) (harg8.unread x6) (harg12.unread u) (harg13.unread w) n,
    ∃ m : Fin 4, Row3 p m fun i l => k0_pay10 (F := Ideal) (rows u m) (rows w m) x6 (chunk x5 m) (ix3 0 i l)
  | 0, _, p, hp => absurd hp List.not_mem_nil
  | n + 1, hn, p, hp => by
      have h := pb_k0_t3_succ (F := Ideal) Variants.none c none i arg2 harg2 arg3 harg3 arg4 harg4 arg5 harg5 arg6 harg6 arg7 harg7 arg8 harg8 arg9 harg9 arg10 harg10 arg11 harg11 arg12 harg12 arg13 harg13 (harg7.unread x5) (harg8.unread x6) (harg12.unread u) (harg13.unread w) ⟨n, by rw [t3]; omega⟩
      rcases List.mem_append.mp ((congrArg (p ∈ ·) h).mp hp) with hp | hp
      · exact ⟨⟨n, hn⟩, trip3 c i arg2 harg2 arg3 harg3 arg4 harg4 arg5 harg5 arg6 harg6 arg7 harg7 arg8 harg8 arg9 harg9 arg10 harg10 arg11 harg11 arg12 harg12 arg13 harg13 x5 x6 u w _ ⟨n, hn⟩ rfl p hp⟩
      · exact mem3 n (by omega) p hp

variable {q k gf gb : Fin 4 → Gla.M64} {v : Fin 4 → Gla.M128}
  (hgf : ∀ n j d, Soft.Fine (gf n j d)) (hgb : ∀ n j d, Soft.Fine (gb n j d))
  (hq : ∀ (n : Fin 4) (j d : Fin 64), chunk x0 n (ix3 0 j ⟨d.val, lt_lo d⟩) * Ideal.ofBits .f32 0x3E000000#32 = q n j d)
  (hk : ∀ (n : Fin 4) (j d : Fin 64), chunk x0 n (ix3 0 j ⟨64 + d.val, lt_hi d⟩) = k n j d)
  (hv : ∀ (n : Fin 4) (j : Fin 64) (e : Fin 128), chunk x1 n (ix3 0 j e) = v n j e)
  (hf : ∀ (n : Fin 4) (j d : Fin 64), Gla.gate (GlaPay.pre (chunk x2 n) x3 x4 j ⟨d.val, lt_lo d⟩) = gf n j d)
  (hb : ∀ (n : Fin 4) (j d : Fin 64), Gla.gate (GlaPay.pre (chunk x2 n) x3 x4 j ⟨64 + d.val, lt_hi d⟩) = gb n j d)

include hf in
theorem sum_f (n : Fin 4) (j d : Fin 64) :
    rows (View.canon (gateL (F := Ideal) c i arg2 harg2 arg3 harg3 arg4 harg4 arg5 harg5 arg6 harg6 arg7 harg7 arg8 harg8 arg9 harg9 arg10 harg10 arg11 harg11 arg12 harg12 arg13 harg13 x2 x3 x4)) n (ix2 j ⟨d.val, lt_lo d⟩) = Gla.cum (gf n) j d := by
  refine (gate_rows c i arg2 harg2 arg3 harg3 arg4 harg4 arg5 harg5 arg6 harg6 arg7 harg7 arg8 harg8 arg9 harg9 arg10 harg10 arg11 harg11 arg12 harg12 arg13 harg13 x2 x3 x4 n j _).trans ((GlaPay.pay3_fwd _ _ _ j d).trans ?_)
  exact congrArg (fun g : Gla.M64 => Gla.cum g j d) (funext fun j => funext fun d => hf n j d)

include hb in
theorem sum_b (n : Fin 4) (j d : Fin 64) :
    rows (View.canon (gateL (F := Ideal) c i arg2 harg2 arg3 harg3 arg4 harg4 arg5 harg5 arg6 harg6 arg7 harg7 arg8 harg8 arg9 harg9 arg10 harg10 arg11 harg11 arg12 harg12 arg13 harg13 x2 x3 x4)) n.rev (ix2 j ⟨64 + d.val, lt_hi d⟩) = Gla.cum (Gla.rv gb n) j.rev d := by
  refine (gate_rows c i arg2 harg2 arg3 harg3 arg4 harg4 arg5 harg5 arg6 harg6 arg7 harg7 arg8 harg8 arg9 harg9 arg10 harg10 arg11 harg11 arg12 harg12 arg13 harg13 x2 x3 x4 n.rev j _).trans ((GlaPay.pay3_bwd _ _ _ j d).trans ?_)
  exact congrArg (fun g : Gla.M64 => Gla.cum g j.rev d) (funext fun j => funext fun d => hb n.rev j.rev d)

include hgf hgb hq hk hv hf hb in
/-- The second loop: the two states before each trip, and the outputs of the trips before. -/
theorem walk_inv : ∀ n : ℕ, n ≤ 4 →
    (∀ (e : Fin 128) (d : Fin 64), (st_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
      (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) n).1.1 (ix2 e d) = Gla.st k v gf n d e)
    ∧ (∀ (e : Fin 128) (d : Fin 64), (st_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
      (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) n).1.2 (ix2 e d) = Gla.st (Gla.rv k) (Gla.rv v) (Gla.rv gb) n d e)
    ∧ (∀ p ∈ (st_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
      (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) n).2.1, ∃ m : Fin 4, Row p m (Gla.out q k v gf m))
    ∧ (∀ p ∈ (st_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
      (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) n).2.2,
        ∃ m : Fin 4, Row p m fun j e => Gla.out (Gla.rv q) (Gla.rv k) (Gla.rv v) (Gla.rv gb) m.rev j.rev e)
  | 0, _ => ⟨fun e d => pay4_apply e d, fun e d => pay5_apply e d, fun p hp => absurd hp List.not_mem_nil, fun p hp => absurd hp List.not_mem_nil⟩
  | n + 1, hn => by
      obtain ⟨i1, i2, i3, i4⟩ := walk_inv n (by omega)
      have h := st_k0_t2_succ (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
        (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) ⟨n, by rw [t2]; omega⟩
      have h' := fun a b => (congrFun (congrFun (Gla.st_succ k v gf ⟨n, hn⟩) a) b).symm
      have h'' := fun a b => (congrFun (congrFun (Gla.st_succ (Gla.rv k) (Gla.rv v) (Gla.rv gb) ⟨n, hn⟩) a) b).symm
      have hR := trip2R c i arg2 harg2 arg3 harg3 arg4 harg4 arg5 harg5 arg6 harg6 arg7 harg7 arg8 harg8 arg9 harg9 arg10 harg10 arg11 harg11 arg12 harg12 arg13 harg13 x0 x1 (View.canon (gateL (F := Ideal) c i arg2 harg2 arg3 harg3 arg4 harg4 arg5 harg5 arg6 harg6 arg7 harg7 arg8 harg8 arg9 harg9 arg10 harg10 arg11 harg11 arg12 harg12 arg13 harg13 x2 x3 x4)) (st_k0_t2 (F := Ideal) Variants.none c none i arg2 harg2 arg3 harg3 arg4 harg4 arg5 harg5 arg6 harg6 arg7 harg7 arg8 harg8 arg9 harg9 arg10 harg10 arg11 harg11 arg12 harg12 arg13 harg13 (harg2.unread x0) (harg3.unread x1)
        (harg11.unread (View.canon (gateL (F := Ideal) c i arg2 harg2 arg3 harg3 arg4 harg4 arg5 harg5 arg6 harg6 arg7 harg7 arg8 harg8 arg9 harg9 arg10 harg10 arg11 harg11 arg12 harg12 arg13 harg13 x2 x3 x4))) (k0_pay4, k0_pay5) n).1 ⟨n, by rw [t2]; omega⟩ ⟨n, hn⟩ rfl
      have bq : ∀ i d : Fin 64, chunk x0 (⟨n, hn⟩ : Fin 4).rev (ix3 0 i ⟨d.val, lt_lo d⟩) * Ideal.ofBits .f32 0x3E000000#32 = Gla.rv q ⟨n, hn⟩ i.rev d := fun i d => by
        rw [hq, Gla.rv, Fin.rev_rev]
      have bk : ∀ i d : Fin 64, chunk x0 (⟨n, hn⟩ : Fin 4).rev (ix3 0 i ⟨64 + d.val, lt_hi d⟩) = Gla.rv k ⟨n, hn⟩ i.rev d := fun i d => by
        rw [hk, Gla.rv, Fin.rev_rev]
      have bv : ∀ (i : Fin 64) (e : Fin 128), chunk x1 (⟨n, hn⟩ : Fin 4).rev (ix3 0 i e) = Gla.rv v ⟨n, hn⟩ i.rev e := fun i e => by
        rw [hv, Gla.rv, Fin.rev_rev]
      refine ⟨fun e d => ?_, fun e d => ?_, fun p hp => ?_, fun p hp => ?_⟩
      · refine (congrFun (congrArg (fun s => s.1.1) h) (ix2 e d)).trans ((congrFun (congrArg Prod.fst hR) (ix2 e d)).trans ?_)
        exact (GlaPay.step_fwd i1 (hk ⟨n, hn⟩) (hv ⟨n, hn⟩) (sum_f c i arg2 harg2 arg3 harg3 arg4 harg4 arg5 harg5 arg6 harg6 arg7 harg7 arg8 harg8 arg9 harg9 arg10 harg10 arg11 harg11 arg12 harg12 arg13 harg13 x2 x3 x4 hf ⟨n, hn⟩) e d).trans (h' d e)
      · refine (congrFun (congrArg (fun s => s.1.2) h) (ix2 e d)).trans ((congrFun (congrArg Prod.snd hR) (ix2 e d)).trans ?_)
        exact (GlaPay.step_bwd i2 bk bv (sum_b c i arg2 harg2 arg3 harg3 arg4 harg4 arg5 harg5 arg6 harg6 arg7 harg7 arg8 harg8 arg9 harg9 arg10 harg10 arg11 harg11 arg12 harg12 arg13 harg13 x2 x3 x4 hb ⟨n, hn⟩) e d).trans (h'' d e)
      · rcases List.mem_append.mp ((congrArg (fun s => p ∈ s.2.1) h).mp hp) with hp | hp
        · obtain ⟨off, inb, P, e1, e2, e3⟩ := trip2f c i arg2 harg2 arg3 harg3 arg4 harg4 arg5 harg5 arg6 harg6 arg7 harg7 arg8 harg8 arg9 harg9 arg10 harg10 arg11 harg11 arg12 harg12 arg13 harg13 x0 x1 _ _ _ ⟨n, hn⟩ rfl p hp
          refine ⟨⟨n, hn⟩, off, inb, P, e1, e2, fun a l => (e3 a l).trans ((GlaPay.pay21_raw _ a l).trans ?_)⟩
          exact GlaPay.out_fwd (hgf ⟨n, hn⟩) i1 (hq ⟨n, hn⟩) (hk ⟨n, hn⟩) (hv ⟨n, hn⟩) (sum_f c i arg2 harg2 arg3 harg3 arg4 harg4 arg5 harg5 arg6 harg6 arg7 harg7 arg8 harg8 arg9 harg9 arg10 harg10 arg11 harg11 arg12 harg12 arg13 harg13 x2 x3 x4 hf ⟨n, hn⟩) a l
        · exact i3 p hp
      · rcases List.mem_append.mp ((congrArg (fun s => p ∈ s.2.2) h).mp hp) with hp | hp
        · obtain ⟨off, inb, P, e1, e2, e3⟩ := trip2b c i arg2 harg2 arg3 harg3 arg4 harg4 arg5 harg5 arg6 harg6 arg7 harg7 arg8 harg8 arg9 harg9 arg10 harg10 arg11 harg11 arg12 harg12 arg13 harg13 x0 x1 _ _ _ ⟨n, hn⟩ rfl p hp
          refine ⟨(⟨n, hn⟩ : Fin 4).rev, off, inb, P, e1, e2, fun a l => (e3 a l).trans ?_⟩
          refine (GlaPay.out_bwd (fun j d => hgb _ _ _) i2 bq bk bv (sum_b c i arg2 harg2 arg3 harg3 arg4 harg4 arg5 harg5 arg6 harg6 arg7 harg7 arg8 harg8 arg9 harg9 arg10 harg10 arg11 harg11 arg12 harg12 arg13 harg13 x2 x3 x4 hb ⟨n, hn⟩) a l).trans ?_
          rw [Fin.rev_rev]
          rfl
        · exact i4 p hp

include hgf hgb hq hk hv hf hb in
theorem walk_end :
    (∀ (e : Fin 128) (d : Fin 64), (walk (F := Ideal) c i arg2 harg2 arg3 harg3 arg4 harg4 arg5 harg5 arg6 harg6 arg7 harg7 arg8 harg8 arg9 harg9 arg10 harg10 arg11 harg11 arg12 harg12 arg13 harg13 x0 x1 x2 x3 x4).1.1 (ix2 e d) = Gla.st k v gf 4 d e)
    ∧ (∀ (e : Fin 128) (d : Fin 64), (walk (F := Ideal) c i arg2 harg2 arg3 harg3 arg4 harg4 arg5 harg5 arg6 harg6 arg7 harg7 arg8 harg8 arg9 harg9 arg10 harg10 arg11 harg11 arg12 harg12 arg13 harg13 x0 x1 x2 x3 x4).1.2 (ix2 e d) = Gla.st (Gla.rv k) (Gla.rv v) (Gla.rv gb) 4 d e)
    ∧ (∀ p ∈ (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.1, ∃ m : Fin 4, Row p m (Gla.out q k v gf m))
    ∧ (∀ p ∈ (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.2,
        ∃ m : Fin 4, Row p m fun j e => Gla.out (Gla.rv q) (Gla.rv k) (Gla.rv v) (Gla.rv gb) m.rev j.rev e) := by
  unfold walk
  rw [n2]
  exact walk_inv c i arg2 harg2 arg3 harg3 arg4 harg4 arg5 harg5 arg6 harg6 arg7 harg7 arg8 harg8 arg9 harg9 arg10 harg10 arg11 harg11 arg12 harg12 arg13 harg13 x0 x1 x2 x3 x4 hgf hgb hq hk hv hf hb 4 le_rfl

/-- The two directions' outputs of one row, added. -/
def two (q k gf gb : Fin 4 → Gla.M64) (v : Fin 4 → Gla.M128) (n : Fin 4) (j : Fin 64) (e : Fin 128) : EReal :=
  Gla.out q k v gf n j e + Gla.out (Gla.rv q) (Gla.rv k) (Gla.rv v) (Gla.rv gb) n.rev j.rev e

include hgf hgb hq hk hv hf hb in
/-- The block of the result. -/
theorem fin_block (n : Fin 4) (j : Fin 64) (e : Fin 128) : View.canon (finL (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (ix3 0 ⟨n.val * 64 + j.val, lt_row n j⟩ e)
    = two q k gf gb v n j e * Ideal.rsqrt (Ideal.div (∑ l : Fin 128, two q k gf gb v n j l * two q k gf gb v n j l) (Ideal.ofBits .f32 0x43000000#32)
      + Ideal.ofBits .f32 0x358637BD#32) * x6 (ix2 0 e) * x5 (ix3 0 ⟨n.val * 64 + j.val, lt_row n j⟩ e) := by
  obtain ⟨_, _, w3, w4⟩ := walk_end c i arg2 harg2 arg3 harg3 arg4 harg4 arg5 harg5 arg6 harg6 arg7 harg7 arg8 harg8 arg9 harg9 arg10 harg10 arg11 harg11 arg12 harg12 arg13 harg13 x0 x1 x2 x3 x4 hgf hgb hq hk hv hf hb
  have f3 : ∀ l, rows (View.canon (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.1) n (ix2 j l) = Gla.out q k v gf n j l := fun l =>
    canon_rows _ _ w3 (fwd_cover (F := Ideal) c i arg2 harg2 arg3 harg3 arg4 harg4 arg5 harg5 arg6 harg6 arg7 harg7 arg8 harg8 arg9 harg9 arg10 harg10 arg11 harg11 arg12 harg12 arg13 harg13 x0 x1 x2 x3 x4) n j l
  have f4 : ∀ l, rows (View.canon (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.2) n (ix2 j l) = Gla.out (Gla.rv q) (Gla.rv k) (Gla.rv v) (Gla.rv gb) n.rev j.rev l := fun l =>
    canon_rows _ (fun m j e => Gla.out (Gla.rv q) (Gla.rv k) (Gla.rv v) (Gla.rv gb) m.rev j.rev e) w4 (bwd_cover (F := Ideal) c i arg2 harg2 arg3 harg3 arg4 harg4 arg5 harg5 arg6 harg6 arg7 harg7 arg8 harg8 arg9 harg9 arg10 harg10 arg11 harg11 arg12 harg12 arg13 harg13 x0 x1 x2 x3 x4) n j l
  refine (canon_rows3 (finL (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (fun m a l => k0_pay10 (F := Ideal) (rows (View.canon (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.1) m) (rows (View.canon (walk (F := Ideal) c i arg2 harg2 arg3 harg3 arg4 harg4 arg5 harg5 arg6 harg6 arg7 harg7 arg8 harg8 arg9 harg9 arg10 harg10 arg11 harg11 arg12 harg12 arg13 harg13 x0 x1 x2 x3 x4).2.2) m) x6 (chunk x5 m) (ix3 0 a l)) ?_
    (cover0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) n j e).trans ?_
  · unfold finL
    rw [n3]
    exact mem3 c i arg2 harg2 arg3 harg3 arg4 harg4 arg5 harg5 arg6 harg6 arg7 harg7 arg8 harg8 arg9 harg9 arg10 harg10 arg11 harg11 arg12 harg12 arg13 harg13 x5 x6 _ _ 4 le_rfl
  · refine (GlaPay.pay10_raw _ _ _ _ j e).trans ?_
    simp only [f3, f4]
    rfl

include hgf hgb hq hk hv hf hb in
/-- The block of the states. -/
theorem st_block (d : Fin 64) (e : Fin 128) : View.canon (stL (F := Ideal) c i arg2 harg2 arg3 harg3 arg4 harg4 arg5 harg5 arg6 harg6 arg7 harg7 arg8 harg8 arg9 harg9 arg10 harg10 arg11 harg11 arg12 harg12 arg13 harg13 x0 x1 x2 x3 x4) (ix5 0 0 0 d e) = Gla.st k v gf 4 d e
    ∧ View.canon (stL (F := Ideal) c i arg2 harg2 arg3 harg3 arg4 harg4 arg5 harg5 arg6 harg6 arg7 harg7 arg8 harg8 arg9 harg9 arg10 harg10 arg11 harg11 arg12 harg12 arg13 harg13 x0 x1 x2 x3 x4) (ix5 0 1 0 d e) = Gla.st (Gla.rv k) (Gla.rv v) (Gla.rv gb) 4 d e := by
  obtain ⟨w1, w2, _, _⟩ := walk_end c i arg2 harg2 arg3 harg3 arg4 harg4 arg5 harg5 arg6 harg6 arg7 harg7 arg8 harg8 arg9 harg9 arg10 harg10 arg11 harg11 arg12 harg12 arg13 harg13 x0 x1 x2 x3 x4 hgf hgb hq hk hv hf hb
  exact st_canon _ _ _ _ w1 w2 (fun y => cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x0 (fun _ => 0) y) d e

/-- The body's two results are what their pieces spell. -/
theorem out7_eq : out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = View.canon (finL (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
  View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6)

theorem out8_eq : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = View.canon (stL (F := Ideal) c i arg2 harg2 arg3 harg3 arg4 harg4 arg5 harg5 arg6 harg6 arg7 harg7 arg8 harg8 arg9 harg9 arg10 harg10 arg11 harg11 arg12 harg12 arg13 harg13 x0 x1 x2 x3 x4) :=
  View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6)

include hgf hgb hq hk hv hf hb in
theorem out8_lo (d : Fin 64) (e : Fin 128) : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 (ix5 0 0 0 d e) = Gla.st k v gf 4 d e := by
  rw [out8_eq]
  exact (st_block c i arg2 harg2 arg3 harg3 arg4 harg4 arg5 harg5 arg6 harg6 arg7 harg7 arg8 harg8 arg9 harg9 arg10 harg10 arg11 harg11 arg12 harg12 arg13 harg13 x0 x1 x2 x3 x4 hgf hgb hq hk hv hf hb d e).1

include hgf hgb hq hk hv hf hb in
theorem out8_hi (d : Fin 64) (e : Fin 128) : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 (ix5 0 1 0 d e) = Gla.st (Gla.rv k) (Gla.rv v) (Gla.rv gb) 4 d e := by
  rw [out8_eq]
  exact (st_block c i arg2 harg2 arg3 harg3 arg4 harg4 arg5 harg5 arg6 harg6 arg7 harg7 arg8 harg8 arg9 harg9 arg10 harg10 arg11 harg11 arg12 harg12 arg13 harg13 x0 x1 x2 x3 x4 hgf hgb hq hk hv hf hb d e).2
end

end Cert.GlaLoop
-- ==== Proof.GlaRef.lean ====
module

public import proofs.«01_k».proof.Proof.Gen.RGlaIdeal
public import proofs.«01_k».proof.Proof.GlaMath

@[expose] public section

set_option maxRecDepth 16384

noncomputable section

namespace Cert.GlaRef

open Cert.RGlaIdeal Cert.RGlaIdeal.Gen Idealize.ShloMosaic Idealize.ShloMosaic.TcCoe Idealize.SL.Sem

/-- The lanes split into queries and keys, by heads. -/
def qk (QK : FVec Ideal S32x256x512 .f32) : FVec Ideal S2x32x4x256x64 .f32 :=
  transpose S2x32x4x256x64 [3, 0, 2, 1, 4] (shapeCast _ QK shapeCasts_S32x256x512_S32x256x4x2x64) transposes_S32x256x4x2x64_S2x32x4x256x64_3_0_2_1_4

def qq (QK : FVec Ideal S32x256x512 .f32) : FVec Ideal S32x4x256x64 .f32 :=
  mulf (shapeCast _ (extractStridedSlice S1x32x4x256x64 ![0, 0, 0, 0, 0] (qk QK) slices_S2x32x4x256x64_S1x32x4x256x64_0_0_0_0_0) shapeCasts_S1x32x4x256x64_S32x4x256x64) (broadcastInDim S32x4x256x64 ![] bcast_S_S32x4x256x64 (constant S_ .f32 0x3E000000#32))

def kk (QK : FVec Ideal S32x256x512 .f32) : FVec Ideal S32x4x256x64 .f32 :=
  shapeCast _ (extractStridedSlice S1x32x4x256x64 ![1, 0, 0, 0, 0] (qk QK) slices_S2x32x4x256x64_S1x32x4x256x64_1_0_0_0_0) shapeCasts_S1x32x4x256x64_S32x4x256x64

def vv (V : FVec Ideal S32x256x512 .f32) : FVec Ideal S32x4x256x128 .f32 :=
  transpose S32x4x256x128 [0, 2, 1, 3] (shapeCast _ V shapeCasts_S32x256x512_S32x256x4x128) transposes_S32x256x4x128_S32x4x256x128_0_2_1_3

def s0 : FVec Ideal S32x4x64x128 .f32 :=
  broadcastInDim S32x4x64x128 ![] bcast_S_S32x4x64x128 (constant S_ .f32 0x00000000#32)

/-- Minus the gates' inputs of the two directions. -/
def ngf (LR : FVec Ideal S32x256x128 .f32) (W : FVec Ideal S2x16x256 .f32) (B : FVec Ideal S2x256 .f32) : FVec Ideal S32x256x256 .f32 :=
  Host.negf (addf (Host.dotGeneral dot_S32x256x16_S16x256_S32x256x256_2_0_01_1_n_n none (extractStridedSlice S32x256x16 ![0, 0, 0] LR slices_S32x256x128_S32x256x16_0_0_0) (shapeCast _ (extractStridedSlice S1x16x256 ![0, 0, 0] W slices_S2x16x256_S1x16x256_0_0_0) shapeCasts_S1x16x256_S16x256)) (broadcastInDim S32x256x256 ![0, 1, 2] bcast_S1x1x256_S32x256x256_0_1_2 (broadcastInDim S1x1x256 ![2] bcast_S256_S1x1x256_2 (shapeCast _ (extractStridedSlice S1x256 ![0, 0] B slices_S2x256_S1x256_0_0) shapeCasts_S1x256_S256))))

def ngb (LR : FVec Ideal S32x256x128 .f32) (W : FVec Ideal S2x16x256 .f32) (B : FVec Ideal S2x256 .f32) : FVec Ideal S32x256x256 .f32 :=
  Host.negf (addf (Host.dotGeneral dot_S32x256x16_S16x256_S32x256x256_2_0_01_1_n_n none (extractStridedSlice S32x256x16 ![0, 0, 16] LR slices_S32x256x128_S32x256x16_0_0_16) (shapeCast _ (extractStridedSlice S1x16x256 ![1, 0, 0] W slices_S2x16x256_S1x16x256_1_0_0) shapeCasts_S1x16x256_S16x256)) (broadcastInDim S32x256x256 ![0, 1, 2] bcast_S1x1x256_S32x256x256_0_1_2 (broadcastInDim S1x1x256 ![2] bcast_S256_S1x1x256_2 (shapeCast _ (extractStridedSlice S1x256 ![1, 0] B slices_S2x256_S1x256_1_0) shapeCasts_S1x256_S256))))

def zsub (N : FVec Ideal S32x256x256 .f32) : FVec Ideal S32x256x256 .f32 :=
  subf N (broadcastInDim S32x256x256 ![] bcast_S_S32x256x256 (constant S_ .f32 0x00000000#32))

/-- The log decays, flat and by heads. -/
def ls (N : FVec Ideal S32x256x256 .f32) : FVec Ideal S32x256x256 .f32 :=
  (Host.divf (Host.negf (select (cmpf .une (zsub N) (zsub N)) (addf N (broadcastInDim S32x256x256 ![] bcast_S_S32x256x256 (constant S_ .f32 0x00000000#32))) (addf (maximumf N (broadcastInDim S32x256x256 ![] bcast_S_S32x256x256 (constant S_ .f32 0x00000000#32))) (Host.log1p (Host.exp (Host.negf (Host.absf (zsub N)))))))) (broadcastInDim S32x256x256 ![] bcast_S_S32x256x256 (constant S_ .f32 0x41800000#32)))

def gg (N : FVec Ideal S32x256x256 .f32) : FVec Ideal S32x4x256x64 .f32 :=
  (transpose S32x4x256x64 [0, 2, 1, 3] (shapeCast _ (ls N) shapeCasts_S32x256x256_S32x256x4x64) transposes_S32x256x4x64_S32x4x256x64_0_2_1_3)

/-- The rows cut into chunks. -/
def ch (X : FVec Ideal S32x4x256x64 .f32) : FVec Ideal S4x32x4x64x64 .f32 :=
  transpose S4x32x4x64x64 [2, 0, 1, 3, 4] (shapeCast _ X shapeCasts_S32x4x256x64_S32x4x4x64x64) transposes_S32x4x4x64x64_S4x32x4x64x64_2_0_1_3_4

def chv (X : FVec Ideal S32x4x256x128 .f32) : FVec Ideal S4x32x4x64x128 .f32 :=
  transpose S4x32x4x64x128 [2, 0, 1, 3, 4] (shapeCast _ X shapeCasts_S32x4x256x128_S32x4x4x64x128) transposes_S32x4x4x64x128_S4x32x4x64x128_2_0_1_3_4

def cut (X : FVec Ideal S4x32x4x64x64 .f32) : ℕ → FVec Ideal S32x4x64x64 .f32

  | 0 => shapeCast _ (extractStridedSlice S1x32x4x64x64 ![0, 0, 0, 0, 0] X slices_S4x32x4x64x64_S1x32x4x64x64_0_0_0_0_0) shapeCasts_S1x32x4x64x64_S32x4x64x64

  | 1 => shapeCast _ (extractStridedSlice S1x32x4x64x64 ![1, 0, 0, 0, 0] X slices_S4x32x4x64x64_S1x32x4x64x64_1_0_0_0_0) shapeCasts_S1x32x4x64x64_S32x4x64x64

  | 2 => shapeCast _ (extractStridedSlice S1x32x4x64x64 ![2, 0, 0, 0, 0] X slices_S4x32x4x64x64_S1x32x4x64x64_2_0_0_0_0) shapeCasts_S1x32x4x64x64_S32x4x64x64

  | _ => shapeCast _ (extractStridedSlice S1x32x4x64x64 ![3, 0, 0, 0, 0] X slices_S4x32x4x64x64_S1x32x4x64x64_3_0_0_0_0) shapeCasts_S1x32x4x64x64_S32x4x64x64

def cutv (X : FVec Ideal S4x32x4x64x128 .f32) : ℕ → FVec Ideal S32x4x64x128 .f32

  | 0 => shapeCast _ (extractStridedSlice S1x32x4x64x128 ![0, 0, 0, 0, 0] X slices_S4x32x4x64x128_S1x32x4x64x128_0_0_0_0_0) shapeCasts_S1x32x4x64x128_S32x4x64x128

  | 1 => shapeCast _ (extractStridedSlice S1x32x4x64x128 ![1, 0, 0, 0, 0] X slices_S4x32x4x64x128_S1x32x4x64x128_1_0_0_0_0) shapeCasts_S1x32x4x64x128_S32x4x64x128

  | 2 => shapeCast _ (extractStridedSlice S1x32x4x64x128 ![2, 0, 0, 0, 0] X slices_S4x32x4x64x128_S1x32x4x64x128_2_0_0_0_0) shapeCasts_S1x32x4x64x128_S32x4x64x128

  | _ => shapeCast _ (extractStridedSlice S1x32x4x64x128 ![3, 0, 0, 0, 0] X slices_S4x32x4x64x128_S1x32x4x64x128_3_0_0_0_0) shapeCasts_S1x32x4x64x128_S32x4x64x128

/-- The sums of the decays along a chunk. -/
def cu (G : FVec Ideal S32x4x64x64 .f32) : FVec Ideal S32x4x64x64 .f32 :=
  Host.reduceWindowAdd ![1, 1, 64, 1] ![1, 1, 1, 1] ![0, 0, 63, 0] ![0, 0, 0, 0] G (broadcastInDim S_ ![] bcast_S_S_ (constant S_ .f32 0x00000000#32)) reduceWindows_S32x4x64x64_S32x4x64x64_w1s1p0_0_w1s1p0_0_w64s1p63_0_w1s1p0_0 h_S_

def mask : S64x64x1.Idx → BitVec 1 :=
  broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))

def last (B : FVec Ideal S32x4x64x64 .f32) : FVec Ideal S32x4x1x64 .f32 :=
  extractStridedSlice S32x4x1x64 ![0, 0, 63, 0] B slices_S32x4x64x64_S32x4x1x64_0_0_63_0

/-- A chunk's step of the state. -/
def sS (K : FVec Ideal S32x4x64x64 .f32) (V : FVec Ideal S32x4x64x128 .f32) (B : FVec Ideal S32x4x64x64 .f32) (S : FVec Ideal S32x4x64x128 .f32) :
    FVec Ideal S32x4x64x128 .f32 :=
  addf (mulf (broadcastInDim S32x4x64x128 ![0, 1, 2, 3] bcast_S32x4x64x1_S32x4x64x128_0_1_2_3 (broadcastInDim S32x4x64x1 ![0, 1, 2] bcast_S32x4x64_S32x4x64x1_0_1_2 (shapeCast _ (Host.exp (last B)) shapeCasts_S32x4x1x64_S32x4x64))) S) (Host.dotGeneral dot_S32x4x64x64_S32x4x64x128_S32x4x64x128_2_2_3_3_01_01 none (mulf K (Host.exp (subf (broadcastInDim S32x4x64x64 ![0, 1, 2, 3] bcast_S32x4x1x64_S32x4x64x64_0_1_2_3 (last B)) B))) V)

/-- The decays between the rows of a chunk. -/
def dcy (B : FVec Ideal S32x4x64x64 .f32) : FVec Ideal S32x4x64x64x64 .f32 :=
  (select (broadcastInDim S32x4x64x64x64 ![2, 3, 4] bcast_S64x64x1_S32x4x64x64x64_2_3_4 mask) (Host.exp (select (broadcastInDim S32x4x64x64x64 ![2, 3, 4] bcast_S64x64x1_S32x4x64x64x64_2_3_4 mask) (subf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 B)) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 B))) (broadcastInDim S32x4x64x64x64 ![] bcast_S_S32x4x64x64x64 (id (constant S_ .f32 0x00000000#32))))) (broadcastInDim S32x4x64x64x64 ![] bcast_S_S32x4x64x64x64 (id (constant S_ .f32 0x00000000#32))))

/-- The weights of the earlier rows. -/
def wt (Q K B : FVec Ideal S32x4x64x64 .f32) : FVec Ideal S32x4x64x64 .f32 :=
  (Host.reduceAdd (mulf (mulf (broadcastInDim S32x4x64x64x64 ![0, 1, 2, 3, 4] bcast_S32x4x64x1x64_S32x4x64x64x64_0_1_2_3_4 (broadcastInDim S32x4x64x1x64 ![0, 1, 2, 4] bcast_S32x4x64x64_S32x4x64x1x64_0_1_2_4 Q)) (broadcastInDim S32x4x64x64x64 ![0, 1, 2, 3, 4] bcast_S32x4x1x64x64_S32x4x64x64x64_0_1_2_3_4 (broadcastInDim S32x4x1x64x64 ![0, 1, 3, 4] bcast_S32x4x64x64_S32x4x1x64x64_0_1_3_4 K))) (dcy B)) (constant S_ .f32 0x00000000#32) reducesTo_S32x4x64x64x64_S32x4x64x64_d4 h_S_)

/-- A chunk's output. -/
def oS (Q K : FVec Ideal S32x4x64x64 .f32) (V : FVec Ideal S32x4x64x128 .f32) (B : FVec Ideal S32x4x64x64 .f32) (S : FVec Ideal S32x4x64x128 .f32) :
    FVec Ideal S32x4x64x128 .f32 :=
  (addf (Host.dotGeneral dot_S32x4x64x64_S32x4x64x128_S32x4x64x128_3_2_2_3_01_01 none (mulf Q (Host.exp B)) S) (Host.dotGeneral dot_S32x4x64x64_S32x4x64x128_S32x4x64x128_3_2_2_3_01_01 none (wt Q K B) V))

/-- The state after the first chunks. -/
def stt (K : FVec Ideal S32x4x256x64 .f32) (V : FVec Ideal S32x4x256x128 .f32) (G : FVec Ideal S32x4x256x64 .f32) : ℕ → FVec Ideal S32x4x64x128 .f32
  | 0 => s0
  | n + 1 => sS (cut (ch K) n) (cutv (chv V) n) (cu (cut (ch G) n)) (stt K V G n)

/-- The outputs of all chunks. -/
def oo (Q K : FVec Ideal S32x4x256x64 .f32) (V : FVec Ideal S32x4x256x128 .f32) (G : FVec Ideal S32x4x256x64 .f32) : FVec Ideal S32x4x256x128 .f32 :=
  concatenate S32x4x256x128 2 [⟨S32x4x64x128, oS (cut (ch Q) 0) (cut (ch K) 0) (cutv (chv V) 0) (cu (cut (ch G) 0)) (stt K V G 0)⟩, ⟨S32x4x64x128, oS (cut (ch Q) 1) (cut (ch K) 1) (cutv (chv V) 1) (cu (cut (ch G) 1)) (stt K V G 1)⟩, ⟨S32x4x64x128, oS (cut (ch Q) 2) (cut (ch K) 2) (cutv (chv V) 2) (cu (cut (ch G) 2)) (stt K V G 2)⟩, ⟨S32x4x64x128, oS (cut (ch Q) 3) (cut (ch K) 3) (cutv (chv V) 3) (cu (cut (ch G) 3)) (stt K V G 3)⟩] concatenates_S32x4x64x128_S32x4x64x128_S32x4x64x128_S32x4x64x128_S32x4x256x128_d2

/-- The two directions' sum. -/
def both (Q K : FVec Ideal S32x4x256x64 .f32) (V : FVec Ideal S32x4x256x128 .f32) (GF GB : FVec Ideal S32x4x256x64 .f32) : FVec Ideal S32x4x256x128 .f32 :=
  addf (oo Q K V GF) (Host.reverse [2] (oo (Host.reverse [2] Q) (Host.reverse [2] K) (Host.reverse [2] V) (Host.reverse [2] GB)))

def nrm (O : FVec Ideal S32x4x256x128 .f32) (N : FVec Ideal S128 .f32) : FVec Ideal S32x4x256x128 .f32 :=
  (mulf (mulf O (broadcastInDim S32x4x256x128 ![0, 1, 2, 3] bcast_S32x4x256x1_S32x4x256x128_0_1_2_3 (Host.rsqrt (addf (Host.divf (broadcastInDim S32x4x256x1 ![0, 1, 2] bcast_S32x4x256_S32x4x256x1_0_1_2 (Host.reduceAdd (mulf O O) (constant S_ .f32 0x00000000#32) reducesTo_S32x4x256x128_S32x4x256_d3 h_S_)) (broadcastInDim S32x4x256x1 ![] bcast_S_S32x4x256x1 (constant S_ .f32 0x43000000#32))) (broadcastInDim S32x4x256x1 ![] bcast_S_S32x4x256x1 (constant S_ .f32 0x358637BD#32)))))) (broadcastInDim S32x4x256x128 ![0, 1, 2, 3] bcast_S1x1x1x128_S32x4x256x128_0_1_2_3 (broadcastInDim S1x1x1x128 ![3] bcast_S128_S1x1x1x128_3 N)))

def fin (O : FVec Ideal S32x4x256x128 .f32) (N : FVec Ideal S128 .f32) (SG : FVec Ideal S32x256x512 .f32) : FVec Ideal S32x256x512 .f32 :=
  mulf (shapeCast _ (transpose S32x256x4x128 [0, 2, 1, 3] (nrm O N) transposes_S32x4x256x128_S32x256x4x128_0_2_1_3) shapeCasts_S32x256x4x128_S32x256x512) SG

def states (X Y : FVec Ideal S32x4x64x128 .f32) : FVec Ideal S32x2x4x64x128 .f32 :=
  concatenate S32x2x4x64x128 1 [⟨S32x1x4x64x128, (broadcastInDim S32x1x4x64x128 ![0, 2, 3, 4] bcast_S32x4x64x128_S32x1x4x64x128_0_2_3_4 X)⟩, ⟨S32x1x4x64x128, (broadcastInDim S32x1x4x64x128 ![0, 2, 3, 4] bcast_S32x4x64x128_S32x1x4x64x128_0_2_3_4 Y)⟩] concatenates_S32x1x4x64x128_S32x1x4x64x128_S32x2x4x64x128_d1

/-- The two results. -/
def outY (QK V : FVec Ideal S32x256x512 .f32) (LR : FVec Ideal S32x256x128 .f32) (SG : FVec Ideal S32x256x512 .f32) (W : FVec Ideal S2x16x256 .f32)
    (B : FVec Ideal S2x256 .f32) (N : FVec Ideal S128 .f32) : FVec Ideal S32x256x512 .f32 :=
  fin (both (qq QK) (kk QK) (vv V) (gg (ngf LR W B)) (gg (ngb LR W B))) N SG

def outS (QK V : FVec Ideal S32x256x512 .f32) (LR : FVec Ideal S32x256x128 .f32) (W : FVec Ideal S2x16x256 .f32)
    (B : FVec Ideal S2x256 .f32) : FVec Ideal S32x2x4x64x128 .f32 :=
  states (stt (kk QK) (vv V) (gg (ngf LR W B)) 4)
    (stt (Host.reverse [2] (kk QK)) (Host.reverse [2] (vv V)) (Host.reverse [2] (gg (ngb LR W B))) 4)

theorem qq_apply (QK : FVec Ideal S32x256x512 .f32) (b : Fin 32) (h : Fin 4) (r : Fin 256) (d : Fin 64) :
    qq QK (ix4 b h r d) = QK (ix3 b r ⟨h.val * 128 + d.val, by omega⟩) * Ideal.ofBits .f32 0x3E000000#32 := by
  pointwise [qq, qk]

theorem kk_apply (QK : FVec Ideal S32x256x512 .f32) (b : Fin 32) (h : Fin 4) (r : Fin 256) (d : Fin 64) :
    kk QK (ix4 b h r d) = QK (ix3 b r ⟨h.val * 128 + 64 + d.val, by omega⟩) := by
  pointwise [kk, qk]

theorem vv_apply (V : FVec Ideal S32x256x512 .f32) (b : Fin 32) (h : Fin 4) (r : Fin 256) (e : Fin 128) :
    vv V (ix4 b h r e) = V (ix3 b r ⟨h.val * 128 + e.val, by omega⟩) := by
  pointwise [vv]

theorem ngf_apply (LR : FVec Ideal S32x256x128 .f32) (W : FVec Ideal S2x16x256 .f32) (B : FVec Ideal S2x256 .f32) (b : Fin 32) (r n : Fin 256) :
    ngf LR W B (ix3 b r n) = -((∑ k : Fin 16, LR (ix3 b r ⟨k.val, by omega⟩) * W (ix3 0 k n)) + B (ix2 0 n)) := by
  pointwise [ngf]

theorem ngb_apply (LR : FVec Ideal S32x256x128 .f32) (W : FVec Ideal S2x16x256 .f32) (B : FVec Ideal S2x256 .f32) (b : Fin 32) (r n : Fin 256) :
    ngb LR W B (ix3 b r n) = -((∑ k : Fin 16, LR (ix3 b r ⟨16 + k.val, by omega⟩) * W (ix3 1 k n)) + B (ix2 1 n)) := by
  pointwise [ngb]

theorem ls_apply (N : FVec Ideal S32x256x256 .f32) (b : Fin 32) (r n : Fin 256) (x : EReal) (hx : Soft.Fine x) (hN : N (ix3 b r n) = -x) :
    ls N (ix3 b r n) = Gla.gate x := by
  refine Eq.trans ?_ (Gla.gate_eq hx)
  rw [← hN]
  pointwise [ls, zsub]
  rw [if_neg (fun h => h rfl)]
  rfl

theorem gg_apply (N : FVec Ideal S32x256x256 .f32) (b : Fin 32) (h : Fin 4) (r : Fin 256) (d : Fin 64) :
    gg N (ix4 b h r d) = ls N (ix3 b r ⟨h.val * 64 + d.val, by omega⟩) := by
  pointwise [gg]

theorem ch_apply (X : FVec Ideal S32x4x256x64 .f32) (n : Fin 4) (b : Fin 32) (h : Fin 4) (j d : Fin 64) :
    ch X (ix5 n b h j d) = X (ix4 b h ⟨n.val * 64 + j.val, by omega⟩ d) := by
  pointwise [ch]

theorem chv_apply (X : FVec Ideal S32x4x256x128 .f32) (n : Fin 4) (b : Fin 32) (h : Fin 4) (j : Fin 64) (e : Fin 128) :
    chv X (ix5 n b h j e) = X (ix4 b h ⟨n.val * 64 + j.val, by omega⟩ e) := by
  pointwise [chv]

theorem cut_apply (X : FVec Ideal S4x32x4x64x64 .f32) (n : Fin 4) (b : Fin 32) (h : Fin 4) (j d : Fin 64) :
    cut X n.val (ix4 b h j d) = X (ix5 n b h j d) := by
  fin_cases n
  · show cut X 0 _ = _; pointwise [cut]
  · show cut X 1 _ = _; pointwise [cut]
  · show cut X 2 _ = _; pointwise [cut]
  · show cut X 3 _ = _; pointwise [cut]

theorem cutv_apply (X : FVec Ideal S4x32x4x64x128 .f32) (n : Fin 4) (b : Fin 32) (h : Fin 4) (j : Fin 64) (e : Fin 128) :
    cutv X n.val (ix4 b h j e) = X (ix5 n b h j e) := by
  fin_cases n
  · show cutv X 0 _ = _; pointwise [cutv]
  · show cutv X 1 _ = _; pointwise [cutv]
  · show cutv X 2 _ = _; pointwise [cutv]
  · show cutv X 3 _ = _; pointwise [cutv]

theorem foldl_sum {n : ℕ} (f : Fin n → EReal) : (List.finRange n).foldl (fun r k => r + f k) 0 = ∑ k, f k := by
  rw [← List.foldl_map (g := fun r x => r + x), ← List.sum_eq_foldl, Fin.sum_univ_def]

/-- The row of a chunk at a place of the window that ends there. -/
def at63 (f : Fin 64 → EReal) (n : ℕ) : EReal := if hn : 63 ≤ n ∧ n - 63 < 64 then f ⟨n - 63, hn.2⟩ else 0

theorem at63_sum (f : Fin 64 → EReal) (i : Fin 64) : ∑ k : Fin 64, at63 f (i.val + k.val) = ∑ j : Fin 64, if j ≤ i then f j else 0 := by
  rw [← Finset.sum_filter, ← Finset.sum_filter_add_sum_filter_not Finset.univ (fun k : Fin 64 => 63 ≤ i.val + k.val)]
  have h0 : ∑ k ∈ Finset.univ.filter (fun k : Fin 64 => ¬ 63 ≤ i.val + k.val), at63 f (i.val + k.val) = 0 :=
    Finset.sum_eq_zero fun k hk => dif_neg fun h => (Finset.mem_filter.mp hk).2 h.1
  rw [h0, add_zero]
  refine Finset.sum_bij' (fun k hk => (⟨i.val + k.val - 63, by have := i.isLt; have := k.isLt; omega⟩ : Fin 64))
    (fun j hj => (⟨63 + j.val - i.val, by have := (Finset.mem_filter.mp hj).2; have := Fin.le_def.mp this; have := i.isLt; omega⟩ : Fin 64)) ?_ ?_ ?_ ?_ ?_
  · intro k hk
    refine Finset.mem_filter.mpr ⟨Finset.mem_univ _, Fin.le_def.mpr ?_⟩
    have := k.isLt
    show i.val + k.val - 63 ≤ i.val
    omega
  · intro j hj
    refine Finset.mem_filter.mpr ⟨Finset.mem_univ _, ?_⟩
    have := Fin.le_def.mp (Finset.mem_filter.mp hj).2
    show 63 ≤ i.val + (63 + j.val - i.val)
    omega
  · intro k hk
    have := (Finset.mem_filter.mp hk).2
    refine Fin.ext ?_
    show 63 + (i.val + k.val - 63) - i.val = k.val
    omega
  · intro j hj
    have := Fin.le_def.mp (Finset.mem_filter.mp hj).2
    have := i.isLt
    refine Fin.ext ?_
    show i.val + (63 + j.val - i.val) - 63 = j.val
    omega
  · intro k hk
    have := (Finset.mem_filter.mp hk).2
    have := k.isLt
    have := i.isLt
    exact dif_pos ⟨by omega, by omega⟩

theorem win_at (G : FVec Ideal S32x4x64x64 .f32) (b : Fin 32) (h : Fin 4) (i d : Fin 64) (w : (⟨4, ![1, 1, 64, 1]⟩ : Shape).Idx)
    (inst : Decidable (∀ a : Fin 4, (![0, 0, 63, 0] : Fin 4 → ℕ) a ≤ ((ix4 b h i d : S32x4x64x64.Idx) a).val * (![1, 1, 1, 1] : Fin 4 → ℕ) a + (w a).val
        ∧ ((ix4 b h i d : S32x4x64x64.Idx) a).val * (![1, 1, 1, 1] : Fin 4 → ℕ) a + (w a).val - (![0, 0, 63, 0] : Fin 4 → ℕ) a < S32x4x64x64.size a)) :
    @dite EReal _ inst (fun hin => G (fun a => ⟨((ix4 b h i d : S32x4x64x64.Idx) a).val * (![1, 1, 1, 1] : Fin 4 → ℕ) a + (w a).val - (![0, 0, 63, 0] : Fin 4 → ℕ) a, (hin a).2⟩)) (fun _ => (0 : EReal)) = at63 (fun j => G (ix4 b h j d)) (i.val + (w 2).val) := by
  have w0 : (w 0).val = 0 := Nat.lt_one_iff.mp (w 0).isLt
  have w1 : (w 1).val = 0 := Nat.lt_one_iff.mp (w 1).isLt
  have w3 : (w 3).val = 0 := Nat.lt_one_iff.mp (w 3).isLt
  have w2 : (w 2).val < 64 := (w 2).isLt
  unfold at63
  by_cases hn : 63 ≤ i.val + (w 2).val ∧ i.val + (w 2).val - 63 < 64
  · rw [dif_pos hn, dif_pos]
    · refine congrArg G (funext fun a => Fin.ext ?_)
      fin_cases a
      · show b.val * 1 + (w 0).val - 0 = b.val; omega
      · show h.val * 1 + (w 1).val - 0 = h.val; omega
      · show i.val * 1 + (w 2).val - 63 = i.val + (w 2).val - 63; omega
      · show d.val * 1 + (w 3).val - 0 = d.val; omega
    · intro a
      fin_cases a
      · show 0 ≤ b.val * 1 + (w 0).val ∧ b.val * 1 + (w 0).val - 0 < 32; omega
      · show 0 ≤ h.val * 1 + (w 1).val ∧ h.val * 1 + (w 1).val - 0 < 4; omega
      · show 63 ≤ i.val * 1 + (w 2).val ∧ i.val * 1 + (w 2).val - 63 < 64; omega
      · show 0 ≤ d.val * 1 + (w 3).val ∧ d.val * 1 + (w 3).val - 0 < 64; omega
  · rw [dif_neg hn, dif_neg]
    intro hin
    have h2 : 63 ≤ i.val * 1 + (w 2).val ∧ i.val * 1 + (w 2).val - 63 < 64 := hin 2
    exact hn (by omega)

theorem win_fold (f : ℕ → EReal) : (List.finRange (⟨4, ![1, 1, 64, 1]⟩ : Shape).numel).foldl
      (fun (r : EReal) n => r + f ((⟨4, ![1, 1, 64, 1]⟩ : Shape).rowMajor.symm n 2).val) 0 = ∑ k : Fin 64, f k.val := by
  rw [foldl_sum (fun n => f ((⟨4, ![1, 1, 64, 1]⟩ : Shape).rowMajor.symm n 2).val)]
  generalize hs : (⟨4, ![1, 1, 64, 1]⟩ : Shape).rowMajor = e
  rw [Equiv.sum_comp e.symm (fun w : (⟨4, ![1, 1, 64, 1]⟩ : Shape).Idx => f (w 2).val), sum_idx4]
  simp only [Fin.sum_univ_one]
  rfl

theorem cu_apply (G : FVec Ideal S32x4x64x64 .f32) (b : Fin 32) (h : Fin 4) (i d : Fin 64) :
    cu G (ix4 b h i d) = ∑ j : Fin 64, if j ≤ i then G (ix4 b h j d) else 0 := by
  have hz : (broadcastInDim S_ ![] bcast_S_S_ (constant (F := Ideal) S_ .f32 0x00000000#32) : S_.Idx → EReal) (Shape.Idx.first h_S_) = 0 := by
    show Ideal.ofBits .f32 0x00000000#32 = 0
    simp [Ideal.ofBits, Ideal.ieee]
  rw [← at63_sum (fun j => G (ix4 b h j d)) i]
  refine Eq.trans ?_ (win_fold fun n => at63 (fun j => G (ix4 b h j d)) (i.val + n))
  unfold cu Host.reduceWindowAdd
  rw [hz]
  show Ideal.hostReduceWindowAdd (s := S32x4x64x64) (t := S32x4x64x64) ![1, 1, 64, 1] ![1, 1, 1, 1] ![0, 0, 63, 0] ![0, 0, 0, 0] _ G 0 (ix4 b h i d) = _
  unfold Ideal.hostReduceWindowAdd Host.reduceWindow
  refine congrArg (fun f : EReal → Fin (⟨4, ![1, 1, 64, 1]⟩ : Shape).numel → EReal => List.foldl f (0 : EReal) (List.finRange (⟨4, ![1, 1, 64, 1]⟩ : Shape).numel))
    (funext fun r => funext fun n => congrArg (r + ·) (win_at G b h i d ((⟨4, ![1, 1, 64, 1]⟩ : Shape).rowMajor.symm n) _))

theorem mask_apply (i j : Fin 64) : mask (ix3 i j 0) = if j ≤ i then 1#1 else 0#1 := by
  have key : ∀ i j : Fin 64, Scalar.select (IntOp.cmpi .sge (IntOp.addi (BitVec.ofNat 32 i.val) 0#32) (BitVec.ofNat 32 j.val)) 1#1 0#1
      = if j ≤ i then 1#1 else 0#1 := by decide +kernel
  rw [← key]
  pointwise [mask]

theorem last_apply (B : FVec Ideal S32x4x64x64 .f32) (b : Fin 32) (h : Fin 4) (d : Fin 64) :
    last B (ix4 b h 0 d) = B (ix4 b h 63 d) := by
  pointwise [last]

theorem sS_apply (K : FVec Ideal S32x4x64x64 .f32) (V : FVec Ideal S32x4x64x128 .f32) (B : FVec Ideal S32x4x64x64 .f32) (S : FVec Ideal S32x4x64x128 .f32)
    (b : Fin 32) (h : Fin 4) (d : Fin 64) (e : Fin 128) :
    sS K V B S (ix4 b h d e) = Ideal.exp (B (ix4 b h 63 d)) * S (ix4 b h d e)
      + ∑ j : Fin 64, K (ix4 b h j d) * Ideal.exp (B (ix4 b h 63 d) - B (ix4 b h j d)) * V (ix4 b h j e) := by
  simp only [← last_apply]
  pointwise [sS]

theorem dcy_apply (B : FVec Ideal S32x4x64x64 .f32) (b : Fin 32) (h : Fin 4) (i j d : Fin 64) :
    dcy B (ix5 b h i j d) = if j ≤ i then Ideal.exp (B (ix4 b h i d) - B (ix4 b h j d)) else 0 := by
  refine Eq.trans (b := Scalar.select (mask (ix3 i j 0)) (Ideal.exp (Scalar.select (mask (ix3 i j 0)) (B (ix4 b h i d) - B (ix4 b h j d)) 0)) 0) ?_ ?_
  · have hz : (id (constant (F := Ideal) S_ .f32 0x00000000#32) : S_.Idx → EReal) ix0 = 0 := by
      show Ideal.ofBits .f32 0x00000000#32 = 0
      simp [Ideal.ofBits, Ideal.ieee]
    rw [← hz]
    pointwise [dcy]
  · rw [mask_apply]
    by_cases hj : j ≤ i
    · simp only [if_pos hj]; rfl
    · simp only [if_neg hj]; rfl

theorem wt_apply (Q K B : FVec Ideal S32x4x64x64 .f32) (b : Fin 32) (h : Fin 4) (i j : Fin 64) :
    wt Q K B (ix4 b h i j) = ∑ d : Fin 64, Q (ix4 b h i d) * K (ix4 b h j d) * dcy B (ix5 b h i j d) := by
  pointwise [wt]

theorem oS_apply (Q K : FVec Ideal S32x4x64x64 .f32) (V : FVec Ideal S32x4x64x128 .f32) (B : FVec Ideal S32x4x64x64 .f32) (S : FVec Ideal S32x4x64x128 .f32)
    (b : Fin 32) (h : Fin 4) (i : Fin 64) (e : Fin 128) :
    oS Q K V B S (ix4 b h i e) = (∑ d : Fin 64, Q (ix4 b h i d) * Ideal.exp (B (ix4 b h i d)) * S (ix4 b h d e))
      + ∑ j : Fin 64, wt Q K B (ix4 b h i j) * V (ix4 b h j e) := by
  pointwise [oS]

theorem nrm_apply (O : FVec Ideal S32x4x256x128 .f32) (N : FVec Ideal S128 .f32) (b : Fin 32) (h : Fin 4) (r : Fin 256) (e : Fin 128) :
    nrm O N (ix4 b h r e) = O (ix4 b h r e) * Ideal.rsqrt (Ideal.div (∑ k : Fin 128, O (ix4 b h r k) * O (ix4 b h r k)) (Ideal.ofBits .f32 0x43000000#32)
      + Ideal.ofBits .f32 0x358637BD#32) * N (ix1 e) := by
  pointwise [nrm]

theorem fin_apply (O : FVec Ideal S32x4x256x128 .f32) (N : FVec Ideal S128 .f32) (SG : FVec Ideal S32x256x512 .f32) (b : Fin 32) (h : Fin 4) (r : Fin 256) (e : Fin 128) :
    fin O N SG (ix3 b r ⟨h.val * 128 + e.val, by omega⟩) = nrm O N (ix4 b h r e) * SG (ix3 b r ⟨h.val * 128 + e.val, by omega⟩) := by
  pointwise [fin]

theorem states_apply (X Y : FVec Ideal S32x4x64x128 .f32) (b : Fin 32) (h : Fin 4) (d : Fin 64) (e : Fin 128) :
    states X Y (ix5 b 0 h d e) = X (ix4 b h d e) ∧ states X Y (ix5 b 1 h d e) = Y (ix4 b h d e) := by
  constructor
  · pointwise [states]
  · pointwise [states]

theorem rev64_apply (X : FVec Ideal S32x4x256x64 .f32) (b : Fin 32) (h : Fin 4) (r : Fin 256) (d : Fin 64) :
    Host.reverse [2] X (ix4 b h r d) = X (ix4 b h r.rev d) := by
  pointwise []
  rfl

theorem rev128_apply (X : FVec Ideal S32x4x256x128 .f32) (b : Fin 32) (h : Fin 4) (r : Fin 256) (d : Fin 128) :
    Host.reverse [2] X (ix4 b h r d) = X (ix4 b h r.rev d) := by
  pointwise []
  rfl

theorem s0_apply (b : Fin 32) (h : Fin 4) (d : Fin 64) (e : Fin 128) : s0 (ix4 b h d e) = 0 := by
  pointwise [s0]

theorem oo_apply (Q K : FVec Ideal S32x4x256x64 .f32) (V : FVec Ideal S32x4x256x128 .f32) (G : FVec Ideal S32x4x256x64 .f32)
    (b : Fin 32) (h : Fin 4) (n : Fin 4) (j : Fin 64) (e : Fin 128) :
    oo Q K V G (ix4 b h ⟨n.val * 64 + j.val, by omega⟩ e)
      = oS (cut (ch Q) n.val) (cut (ch K) n.val) (cutv (chv V) n.val) (cu (cut (ch G) n.val)) (stt K V G n.val) (ix4 b h j e) := by
  fin_cases n
  · pointwise [oo]
  · pointwise [oo]
  · pointwise [oo]
    exact (dif_neg (by omega)).trans ((dif_neg (by omega)).trans ((dif_pos (by omega)).trans
      (congrArg (oS _ _ _ _ _) (congrArg (fun x => ix4 b h x e) (Fin.ext (by show 128 + j.val - 64 - 64 = j.val; omega))))))
  · pointwise [oo]
    exact (dif_neg (by omega)).trans ((dif_neg (by omega)).trans ((dif_neg (by omega)).trans
      (congrArg (oS _ _ _ _ _) (congrArg (fun x => ix4 b h x e) (Fin.ext (by show 192 + j.val - 64 - 64 - 64 = j.val; omega))))))

section
variable (b : Fin 32) (h : Fin 4)

/-- One head's chunks of an array. -/
def rows {w : ℕ} (X : FVec Ideal (⟨4, ![32, 4, 256, w]⟩ : Shape) .f32) : Fin 4 → Fin 64 → Fin w → EReal :=
  fun n j d => X (ix4 b h ⟨n.val * 64 + j.val, by omega⟩ d)

theorem cut_rows (X : FVec Ideal S32x4x256x64 .f32) (n : Fin 4) (j d : Fin 64) : cut (ch X) n.val (ix4 b h j d) = rows b h X n j d := by
  rw [cut_apply, ch_apply]; rfl

theorem cutv_rows (X : FVec Ideal S32x4x256x128 .f32) (n : Fin 4) (j : Fin 64) (e : Fin 128) :
    cutv (chv X) n.val (ix4 b h j e) = rows b h X n j e := by
  rw [cutv_apply, chv_apply]; rfl

theorem cu_rows (X : FVec Ideal S32x4x256x64 .f32) (n : Fin 4) (i d : Fin 64) :
    cu (cut (ch X) n.val) (ix4 b h i d) = Gla.cum (rows b h X n) i d := by
  rw [cu_apply, Gla.cum]
  exact Finset.sum_congr rfl fun j _ => if_congr Iff.rfl (cut_rows b h X n j d) rfl

theorem sS_rows (K : FVec Ideal S32x4x256x64 .f32) (V : FVec Ideal S32x4x256x128 .f32) (G : FVec Ideal S32x4x256x64 .f32) (n : Fin 4)
    (S : FVec Ideal S32x4x64x128 .f32) (s : Gla.M128) (hs : ∀ d e, S (ix4 b h d e) = s d e) (d : Fin 64) (e : Fin 128) :
    sS (cut (ch K) n.val) (cutv (chv V) n.val) (cu (cut (ch G) n.val)) S (ix4 b h d e)
      = Gla.sStep (rows b h K n) (rows b h V n) (rows b h G n) s d e := by
  rw [sS_apply, Gla.sStep]
  simp only [cut_rows, cutv_rows, cu_rows, hs]

theorem stt_rows (K : FVec Ideal S32x4x256x64 .f32) (V : FVec Ideal S32x4x256x128 .f32) (G : FVec Ideal S32x4x256x64 .f32) :
    ∀ n : ℕ, n ≤ 4 → ∀ (d : Fin 64) (e : Fin 128),
      stt K V G n (ix4 b h d e) = Gla.st (rows b h K) (rows b h V) (rows b h G) n d e
  | 0, _, d, e => s0_apply b h d e
  | n + 1, hn, d, e => by
      rw [Gla.st_succ _ _ _ (⟨n, hn⟩ : Fin 4)]
      exact sS_rows b h K V G (⟨n, hn⟩ : Fin 4) _ _ (stt_rows K V G n (by omega)) d e

theorem oo_rows (Q K : FVec Ideal S32x4x256x64 .f32) (V : FVec Ideal S32x4x256x128 .f32) (G : FVec Ideal S32x4x256x64 .f32)
    (n : Fin 4) (j : Fin 64) (e : Fin 128) :
    oo Q K V G (ix4 b h ⟨n.val * 64 + j.val, by omega⟩ e) = Gla.out (rows b h Q) (rows b h K) (rows b h V) (rows b h G) n j e := by
  rw [oo_apply, oS_apply, Gla.out, Gla.oStep]
  refine congrArg₂ (fun x y : EReal => x + y) (Finset.sum_congr rfl fun d _ => ?_) (Finset.sum_congr rfl fun k _ => ?_)
  · rw [cut_rows, cu_rows, stt_rows b h K V G n.val (by omega)]
  · rw [cutv_rows, wt_apply, Gla.att]
    refine congrArg (· * _) (Finset.sum_congr rfl fun d _ => ?_)
    rw [cut_rows, cut_rows, dcy_apply, cu_rows, cu_rows]

theorem rows_rev64 (X : FVec Ideal S32x4x256x64 .f32) : rows b h (Host.reverse [2] X) = Gla.rv (rows b h X) := by
  funext n j d
  refine (rev64_apply X b h _ d).trans (congrArg X (congrArg (fun r => ix4 b h r d) (Fin.ext ?_)))
  rw [Fin.val_rev]
  show 256 - (n.val * 64 + j.val + 1) = n.rev.val * 64 + j.rev.val
  rw [Fin.val_rev, Fin.val_rev]; omega

theorem rows_rev128 (X : FVec Ideal S32x4x256x128 .f32) : rows b h (Host.reverse [2] X) = Gla.rv (rows b h X) := by
  funext n j d
  refine (rev128_apply X b h _ d).trans (congrArg X (congrArg (fun r => ix4 b h r d) (Fin.ext ?_)))
  rw [Fin.val_rev]
  show 256 - (n.val * 64 + j.val + 1) = n.rev.val * 64 + j.rev.val
  rw [Fin.val_rev, Fin.val_rev]; omega

theorem both_rows (Q K : FVec Ideal S32x4x256x64 .f32) (V : FVec Ideal S32x4x256x128 .f32) (GF GB : FVec Ideal S32x4x256x64 .f32)
    (n : Fin 4) (j : Fin 64) (e : Fin 128) :
    both Q K V GF GB (ix4 b h ⟨n.val * 64 + j.val, by omega⟩ e)
      = Gla.out (rows b h Q) (rows b h K) (rows b h V) (rows b h GF) n j e
        + Gla.out (Gla.rv (rows b h Q)) (Gla.rv (rows b h K)) (Gla.rv (rows b h V)) (Gla.rv (rows b h GB)) n.rev j.rev e := by
  refine Eq.trans (b := oo Q K V GF (ix4 b h ⟨n.val * 64 + j.val, by omega⟩ e)
    + Host.reverse [2] (oo (Host.reverse [2] Q) (Host.reverse [2] K) (Host.reverse [2] V) (Host.reverse [2] GB)) (ix4 b h ⟨n.val * 64 + j.val, by omega⟩ e)) rfl ?_
  rw [oo_rows, rev128_apply, ← rows_rev64, ← rows_rev64, ← rows_rev128, ← rows_rev64]
  refine congrArg (fun x : EReal => Gla.out (rows b h Q) (rows b h K) (rows b h V) (rows b h GF) n j e + x) (Eq.trans ?_ (oo_rows b h _ _ _ _ n.rev j.rev e))
  refine congrArg (oo _ _ _ _) ((congrArg (fun r => ix4 b h r e) (Fin.ext ?_)))
  rw [Fin.val_rev]
  show 256 - (n.val * 64 + j.val + 1) = n.rev.val * 64 + j.rev.val
  rw [Fin.val_rev, Fin.val_rev]; omega

end

end Cert.GlaRef
-- ==== Proof.GlaFin.lean ====
module

public import proofs.«01_k».proof.Proof.GlaWalk
public import proofs.«01_k».proof.Proof.GlaRef

@[expose] public section

set_option maxRecDepth 16384

noncomputable section

open Idealize.ShloMosaic Idealize.ShloMosaic.TcCoe Idealize.SL.Sem
open Idealize.ShloMosaic.Pipeline (Dat)

namespace Cert.GlaFin

open Cert.KGlaIdeal Cert.KGlaIdeal.Gen Cert.GlaLoop Cert.GlaHost

variable (m : (ℓ : Loc nD τ sig) → Buf (Elt Ideal) ℓ) (ρ : Dev nD → PrngReg)

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run, with the two result arrays named and the arguments as launched. -/
theorem run : θ_run defs (onTc (τ := τ) (main (F := Ideal))) ⟨m, fun _ => 0, ρ⟩ fun r => ∀ c : Dev nD,
      r.2.mem ((c : Thread nD τ).loc main_v103_0) = (dats m 0 c).arrAt 7 cfg0.N
      ∧ r.2.mem ((c : Thread nD τ).loc main_v103_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8, kept0 m r h c, kept1 m r h c, kept2 m r h c, kept3 m r h c, kept4 m r h c, kept5 m r h c, kept6 m r h c⟩) (run_main m ρ)

/-- The windows' index maps at every grid point. -/
theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, 0]
    ∧ win0_3.index t = ![(grid0.coords t 1).val, 0, 0] ∧ win0_4.index t = ![(grid0.coords t 1).val, 0, 0]
    ∧ win0_5.index t = ![(grid0.coords t 0).val, 0, (grid0.coords t 1).val]
    ∧ win0_6.index t = ![0, 0]
    ∧ win0_7.index t = ![(grid0.coords t 0).val, 0, (grid0.coords t 1).val]
    ∧ win0_8.index t = ![(grid0.coords t 0).val, 0, (grid0.coords t 1).val, 0, 0] :=
  (by decide +kernel : ∀ t : Fin grid0.N, _)

/-- The batch row of a grid point, and its head. -/
def bat (t : Fin cfg0.N) : Fin 32 := grid0.coords t 0
def hd (t : Fin cfg0.N) : Fin 4 := grid0.coords t 1

def a0 (c : Dev nD) : FVec Ideal S32x256x512 .f32 := m ((c : Thread nD τ).loc main_arg0)
def a1 (c : Dev nD) : FVec Ideal S32x256x512 .f32 := m ((c : Thread nD τ).loc main_arg1)
def a2 (c : Dev nD) : FVec Ideal S32x256x128 .f32 := m ((c : Thread nD τ).loc main_arg2)
def a3 (c : Dev nD) : FVec Ideal S32x256x512 .f32 := m ((c : Thread nD τ).loc main_arg3)
def a4 (c : Dev nD) : FVec Ideal S2x16x256 .f32 := m ((c : Thread nD τ).loc main_arg4)
def a5 (c : Dev nD) : FVec Ideal S2x256 .f32 := m ((c : Thread nD τ).loc main_arg5)
def a6 (c : Dev nD) : FVec Ideal S128 .f32 := m ((c : Thread nD τ).loc main_arg6)

theorem b0 (c : Dev nD) (t : Fin cfg0.N) (r : Fin 256) (l : Fin 128) : iblk m c 0 t (ix3 0 r l) = a0 m c (ix3 (bat t) r ⟨(hd t).val * 128 + l.val, by omega⟩) := by
  rw [a0, ← V_main_arg0 m c]
  blk_point [iblk, idx t, bat, hd]

theorem b1 (c : Dev nD) (t : Fin cfg0.N) (r : Fin 256) (l : Fin 128) : iblk m c 1 t (ix3 0 r l) = a1 m c (ix3 (bat t) r ⟨(hd t).val * 128 + l.val, by omega⟩) := by
  rw [a1, ← V_main_arg1 m c]
  blk_point [iblk, idx t, bat, hd]

theorem b2 (c : Dev nD) (t : Fin cfg0.N) (r : Fin 256) (l : Fin 128) : iblk m c 2 t (ix3 0 r l) = a2 m c (ix3 (bat t) r l) := by
  rw [a2, ← V_main_arg2 m c]
  blk_point [iblk, idx t, bat, hd]

theorem b3 (c : Dev nD) (t : Fin cfg0.N) (k l : Fin 128) : iblk m c 3 t (ix3 0 k l) = wLay (a4 m c) (ix3 (hd t) k l) := by
  rw [a4, ← V_w m c]
  blk_point [iblk, idx t, bat, hd]

theorem b4 (c : Dev nD) (t : Fin cfg0.N) (l : Fin 128) : iblk m c 4 t (ix3 0 0 l) = bLay (a5 m c) (ix3 (hd t) 0 l) := by
  rw [a5, ← V_b m c]
  blk_point [iblk, idx t, bat, hd]

theorem b5 (c : Dev nD) (t : Fin cfg0.N) (r : Fin 256) (l : Fin 128) : iblk m c 5 t (ix3 0 r l) = a3 m c (ix3 (bat t) r ⟨(hd t).val * 128 + l.val, by omega⟩) := by
  rw [a3, ← V_main_arg3 m c]
  blk_point [iblk, idx t, bat, hd]

/-- The norm's weight, as the host lays it out. -/
def nLay (w : FVec Ideal S128 .f32) : FVec Ideal S1x128 .f32 := broadcastInDim S1x128 ![1] bcast_S128_S1x128_1 w

set_option maxHeartbeats 1600000 in
theorem V_n (c : Dev nD) : V m c main_v102 = nLay (a6 m c) := by
  rfl

theorem nLay_apply (w : FVec Ideal S128 .f32) (l : Fin 128) : nLay w (ix2 0 l) = w (ix1 l) := by
  pointwise [nLay]

theorem b6 (c : Dev nD) (t : Fin cfg0.N) (l : Fin 128) : iblk m c 6 t (ix2 0 l) = a6 m c (ix1 l) := by
  refine Eq.trans ?_ (nLay_apply (a6 m c) l)
  rw [← V_n m c]
  blk_point [iblk, idx t]

theorem e7 (A : S32x256x512.Idx → EReal) (t : Fin cfg0.N) (r : Fin 256) (l : Fin 128) :
    A (((cfg0.win 7).blk t).view.emb (ix3 0 r l)) = A (ix3 (bat t) r ⟨(hd t).val * 128 + l.val, by omega⟩) := by
  blk_point [idx t, bat, hd]

theorem e8 (A : S32x2x4x64x128.Idx → EReal) (t : Fin cfg0.N) (a : Fin 2) (d : Fin 64) (e : Fin 128) :
    A (((cfg0.win 8).blk t).view.emb (ix5 0 a 0 d e)) = A (ix5 (bat t) a (hd t) d e) := by
  blk_point [idx t, bat, hd]

theorem lt_lane (k : Fin 32) : k.val < 128 := by omega

/-- A sum over 128 terms of which only the first sixteen, or only the next sixteen, are not zero. -/
theorem sum_lo (F : Fin 128 → EReal) (G : Fin 16 → EReal) (h1 : ∀ k : Fin 16, F ⟨k.val, by omega⟩ = G k) (h0 : ∀ k : Fin 128, 16 ≤ k.val → F k = 0) :
    ∑ k, F k = ∑ k, G k := by
  refine (Fin.sum_univ_add (a := 16) (b := 112) F).trans ?_
  rw [Finset.sum_eq_zero (s := Finset.univ (α := Fin 112)) (fun k _ => h0 _ (by show 16 ≤ 16 + k.val; omega)), add_zero]
  exact Finset.sum_congr rfl fun k _ => h1 k

theorem sum_hi (F : Fin 128 → EReal) (G : Fin 16 → EReal) (h1 : ∀ k : Fin 16, F ⟨16 + k.val, by omega⟩ = G k)
    (h0 : ∀ k : Fin 128, ¬ (16 ≤ k.val ∧ k.val < 32) → F k = 0) : ∑ k, F k = ∑ k, G k := by
  refine (Fin.sum_univ_add (a := 16) (b := 112) F).trans ?_
  rw [Finset.sum_eq_zero (s := Finset.univ (α := Fin 16)) (fun k _ => h0 _ (by show ¬ (16 ≤ k.val ∧ k.val < 32); omega)), zero_add]
  refine (Fin.sum_univ_add (a := 16) (b := 96) fun k : Fin 112 => F (Fin.natAdd 16 k)).trans ?_
  rw [Finset.sum_eq_zero (s := Finset.univ (α := Fin 96)) (fun k _ => h0 _ (by show ¬ (16 ≤ 16 + (16 + k.val) ∧ 16 + (16 + k.val) < 32); omega)), add_zero]
  exact Finset.sum_congr rfl fun k _ => h1 k

/-- The forward and the backward gate's input. -/
def gi (c : Dev nD) (s : Fin 2) (b : Fin 32) (r n : Fin 256) : EReal :=
  (∑ k : Fin 16, a2 m c (ix3 b r ⟨s.val * 16 + k.val, by omega⟩) * a4 m c (ix3 s k n)) + a5 m c (ix2 s n)

theorem pre_f (c : Dev nD) (t : Fin cfg0.N) (n : Fin 4) (j d : Fin 64) :
    GlaPay.pre (chunk (iblk m c 2 t) n) (iblk m c 3 t) (iblk m c 4 t) j ⟨d.val, by omega⟩
      = gi m c 0 (bat t) ⟨n.val * 64 + j.val, by omega⟩ ⟨(hd t).val * 64 + d.val, by omega⟩ := by
  refine congrArg₂ (fun x y : EReal => x + y) (sum_lo _ _ (fun k => ?_) fun k hk => ?_) ((b4 m c t _).trans (bLay_fwd _ _ d))
  · refine congrArg₂ (fun x y : EReal => x * y) ((b2 m c t _ _).trans ?_) ((b3 m c t _ _).trans ((wLay_fwd _ _ _ d).trans (dif_pos k.isLt)))
    exact congrArg (a2 m c) (congrArg (ix3 _ _) (Fin.ext (by show k.val = 0 * 16 + k.val; omega)))
  · refine (congrArg (fun x : EReal => chunk (iblk m c 2 t) n (ix3 0 j k) * x) ((b3 m c t _ _).trans ((wLay_fwd _ _ _ d).trans (dif_neg (by omega))))).trans ?_
    exact mul_zero _

theorem pre_b (c : Dev nD) (t : Fin cfg0.N) (n : Fin 4) (j d : Fin 64) :
    GlaPay.pre (chunk (iblk m c 2 t) n) (iblk m c 3 t) (iblk m c 4 t) j ⟨64 + d.val, by omega⟩
      = gi m c 1 (bat t) ⟨n.val * 64 + j.val, by omega⟩ ⟨(hd t).val * 64 + d.val, by omega⟩ := by
  refine congrArg₂ (fun x y : EReal => x + y) (sum_hi _ _ (fun k => ?_) fun k hk => ?_) ((b4 m c t _).trans (bLay_bwd _ _ d))
  · refine congrArg₂ (fun x y : EReal => x * y) ((b2 m c t _ _).trans ?_) ((b3 m c t _ _).trans ((wLay_bwd _ _ _ d).trans ((dif_pos ⟨by show 16 ≤ 16 + k.val; omega, by show 16 + k.val < 32; omega⟩).trans ?_)))
    · exact congrArg (a2 m c) (congrArg (ix3 _ _) (Fin.ext (by show 16 + k.val = 1 * 16 + k.val; omega)))
    · exact congrArg (fun x => a4 m c (ix3 1 x _)) (Fin.ext (by show 16 + k.val - 16 = k.val; omega))
  · refine (congrArg (fun x : EReal => chunk (iblk m c 2 t) n (ix3 0 j k) * x) ((b3 m c t _ _).trans ((wLay_bwd _ _ _ d).trans (dif_neg hk)))).trans ?_
    exact mul_zero _

section
variable (c : Dev nD) (h2 : ∀ b r (k : Fin 32), Soft.Fine (a2 m c (ix3 b r ⟨k.val, lt_lane k⟩))) (h4 : ∀ i, Soft.Fine (a4 m c i)) (h5 : ∀ i, Soft.Fine (a5 m c i))

include h2 h4 h5 in
theorem gi_fine (s : Fin 2) (b : Fin 32) (r n : Fin 256) : Soft.Fine (gi m c s b r n) :=
  Gla.fine_add (Soft.fine_sum _ fun k => Soft.fine_mul (h2 b r ⟨s.val * 16 + k.val, by omega⟩) (h4 _)) (h5 _)

include h2 h4 h5 in
theorem gf_eq (b : Fin 32) (h : Fin 4) (n : Fin 4) (j d : Fin 64) :
    GlaRef.rows b h (GlaRef.gg (GlaRef.ngf (a2 m c) (a4 m c) (a5 m c))) n j d
      = Gla.gate (gi m c 0 b ⟨n.val * 64 + j.val, by omega⟩ ⟨h.val * 64 + d.val, by omega⟩) := by
  refine (GlaRef.gg_apply _ b h _ d).trans (GlaRef.ls_apply _ b _ _ _ (gi_fine m c h2 h4 h5 0 b _ _) ((GlaRef.ngf_apply _ _ _ b _ _).trans ?_))
  refine congrArg (fun x : EReal => -(x + _)) (Finset.sum_congr rfl fun k _ => congrArg (fun x => a2 m c x * _) (congrArg (ix3 _ _) (Fin.ext ?_)))
  show k.val = 0 * 16 + k.val
  omega

include h2 h4 h5 in
theorem gb_eq (b : Fin 32) (h : Fin 4) (n : Fin 4) (j d : Fin 64) :
    GlaRef.rows b h (GlaRef.gg (GlaRef.ngb (a2 m c) (a4 m c) (a5 m c))) n j d
      = Gla.gate (gi m c 1 b ⟨n.val * 64 + j.val, by omega⟩ ⟨h.val * 64 + d.val, by omega⟩) := by
  refine (GlaRef.gg_apply _ b h _ d).trans (GlaRef.ls_apply _ b _ _ _ (gi_fine m c h2 h4 h5 1 b _ _) ((GlaRef.ngb_apply _ _ _ b _ _).trans ?_))
  refine congrArg (fun x : EReal => -(x + _)) (Finset.sum_congr rfl fun k _ => congrArg (fun x => a2 m c x * _) (congrArg (ix3 _ _) (Fin.ext ?_)))
  show 16 + k.val = 1 * 16 + k.val
  omega

variable (t : Fin cfg0.N)

theorem q_eq (n : Fin 4) (j d : Fin 64) : chunk (iblk m c 0 t) n (ix3 0 j ⟨d.val, by omega⟩) * Ideal.ofBits .f32 0x3E000000#32
    = GlaRef.rows (bat t) (hd t) (GlaRef.qq (a0 m c)) n j d :=
  (congrArg (fun x : EReal => x * Ideal.ofBits .f32 0x3E000000#32) (b0 m c t _ _)).trans (GlaRef.qq_apply _ _ _ _ d).symm

theorem k_eq (n : Fin 4) (j d : Fin 64) : chunk (iblk m c 0 t) n (ix3 0 j ⟨64 + d.val, by omega⟩)
    = GlaRef.rows (bat t) (hd t) (GlaRef.kk (a0 m c)) n j d := by
  refine (b0 m c t _ _).trans (Eq.trans ?_ (GlaRef.kk_apply _ _ _ _ d).symm)
  exact congrArg (a0 m c) (congrArg (ix3 _ _) (Fin.ext (Nat.add_assoc _ _ _).symm))

theorem v_eq (n : Fin 4) (j : Fin 64) (e : Fin 128) : chunk (iblk m c 1 t) n (ix3 0 j e)
    = GlaRef.rows (bat t) (hd t) (GlaRef.vv (a1 m c)) n j e :=
  (b1 m c t _ _).trans (GlaRef.vv_apply _ _ _ _ e).symm

include h2 h4 h5 in
theorem f_eq (n : Fin 4) (j d : Fin 64) : Gla.gate (GlaPay.pre (chunk (iblk m c 2 t) n) (iblk m c 3 t) (iblk m c 4 t) j ⟨d.val, by omega⟩)
    = GlaRef.rows (bat t) (hd t) (GlaRef.gg (GlaRef.ngf (a2 m c) (a4 m c) (a5 m c))) n j d :=
  (congrArg Gla.gate (pre_f m c t n j d)).trans (gf_eq m c h2 h4 h5 _ _ n j d).symm

include h2 h4 h5 in
theorem b_eq (n : Fin 4) (j d : Fin 64) : Gla.gate (GlaPay.pre (chunk (iblk m c 2 t) n) (iblk m c 3 t) (iblk m c 4 t) j ⟨64 + d.val, by omega⟩)
    = GlaRef.rows (bat t) (hd t) (GlaRef.gg (GlaRef.ngb (a2 m c) (a4 m c) (a5 m c))) n j d :=
  (congrArg Gla.gate (pre_b m c t n j d)).trans (gb_eq m c h2 h4 h5 _ _ n j d).symm

include h2 h4 h5 in
theorem gf_fine (b : Fin 32) (h : Fin 4) (n : Fin 4) (j d : Fin 64) : Soft.Fine (GlaRef.rows b h (GlaRef.gg (GlaRef.ngf (a2 m c) (a4 m c) (a5 m c))) n j d) := by
  rw [gf_eq m c h2 h4 h5]
  exact Gla.gate_fine (gi_fine m c h2 h4 h5 _ _ _ _)

include h2 h4 h5 in
theorem gb_fine (b : Fin 32) (h : Fin 4) (n : Fin 4) (j d : Fin 64) : Soft.Fine (GlaRef.rows b h (GlaRef.gg (GlaRef.ngb (a2 m c) (a4 m c) (a5 m c))) n j d) := by
  rw [gb_eq m c h2 h4 h5]
  exact Gla.gate_fine (gi_fine m c h2 h4 h5 _ _ _ _)

theorem pt_y (y : S1x256x128.Idx) : ∃ (n : Fin 4) (j : Fin 64) (e : Fin 128), y = ix3 (0 : Fin 1) ⟨n.val * 64 + j.val, by omega⟩ e := by
  have h1 : (y 1).val < 256 := (y 1).isLt
  refine ⟨⟨(y 1).val / 64, by omega⟩, ⟨(y 1).val % 64, by omega⟩, y 2, (eq_ix3 y).trans
    (congrArg₂ (fun a b => ix3 a b (y 2)) (one_elt (y 0)) (Fin.ext ?_))⟩
  show (y 1).val = (y 1).val / 64 * 64 + (y 1).val % 64
  omega

theorem pt_s (y : S1x2x1x64x128.Idx) : ∃ (a : Fin 2) (d : Fin 64) (e : Fin 128), y = ix5 (0 : Fin 1) a (0 : Fin 1) d e :=
  ⟨y 1, y 3, y 4, (eq_ix5 y).trans (congrArg₂ (fun a b : Fin 1 => ix5 a (y 1) b (y 3) (y 4)) (one_elt (y 0)) (one_elt (y 2)))⟩

include h2 h4 h5 in
/-- The result's array: the reference's. -/
theorem final7 : (dats m 0 c).arrAt 7 (cfgs 0).N = GlaRef.outY (a0 m c) (a1 m c) (a2 m c) (a3 m c) (a4 m c) (a5 m c) (a6 m c) := by
  refine (dats m 0 c).arrAt_eq_of_covers 7 _ (by decide +kernel) fun t _ y => ?_
  blk_simp
  rw [after0_7]
  obtain ⟨n, j, e, rfl⟩ := pt_y y
  refine (congrFun (out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t)) _).trans ?_
  refine (fin_block c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (gf_fine m c h2 h4 h5 (bat t) (hd t)) (gb_fine m c h2 h4 h5 (bat t) (hd t)) (q_eq m c t) (k_eq m c t) (v_eq m c t) (f_eq m c h2 h4 h5 t) (b_eq m c h2 h4 h5 t) n j e).trans ?_
  refine Eq.trans ?_ (e7 (GlaRef.outY (a0 m c) (a1 m c) (a2 m c) (a3 m c) (a4 m c) (a5 m c) (a6 m c)) t _ e).symm
  refine Eq.trans ?_ ((GlaRef.fin_apply _ _ _ _ _ _ e).trans (congrArg (fun x : EReal => x * _) (GlaRef.nrm_apply _ _ _ _ _ e))).symm
  simp only [GlaRef.both_rows]
  exact congrArg₂ (fun x y : EReal => _ * x * y) (b6 m c t e) (b5 m c t _ e)

theorem outS_lo (b : Fin 32) (h : Fin 4) (d : Fin 64) (e : Fin 128) : GlaRef.outS (a0 m c) (a1 m c) (a2 m c) (a4 m c) (a5 m c) (ix5 b 0 h d e)
    = Gla.st (GlaRef.rows b h (GlaRef.kk (a0 m c))) (GlaRef.rows b h (GlaRef.vv (a1 m c))) (GlaRef.rows b h (GlaRef.gg (GlaRef.ngf (a2 m c) (a4 m c) (a5 m c)))) 4 d e :=
  (GlaRef.states_apply _ _ b h d e).1.trans (GlaRef.stt_rows b h _ _ _ 4 le_rfl d e)

theorem outS_hi (b : Fin 32) (h : Fin 4) (d : Fin 64) (e : Fin 128) : GlaRef.outS (a0 m c) (a1 m c) (a2 m c) (a4 m c) (a5 m c) (ix5 b 1 h d e)
    = Gla.st (Gla.rv (GlaRef.rows b h (GlaRef.kk (a0 m c)))) (Gla.rv (GlaRef.rows b h (GlaRef.vv (a1 m c)))) (Gla.rv (GlaRef.rows b h (GlaRef.gg (GlaRef.ngb (a2 m c) (a4 m c) (a5 m c))))) 4 d e := by
  rw [← GlaRef.rows_rev64, ← GlaRef.rows_rev64, ← GlaRef.rows_rev128]
  exact (GlaRef.states_apply _ _ b h d e).2.trans (GlaRef.stt_rows b h _ _ _ 4 le_rfl d e)

theorem outs_two : (outsAt0 m c t).2 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) := by
  rw [outsAt0]

include h2 h4 h5 in
theorem pt_lo (d : Fin 64) (e : Fin 128) : (outsAt0 m c t).2 (ix5 0 0 0 d e) = GlaRef.outS (a0 m c) (a1 m c) (a2 m c) (a4 m c) (a5 m c) (ix5 (bat t) 0 (hd t) d e) := by
  rw [outS_lo, outs_two]
  exact out8_lo c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (gf_fine m c h2 h4 h5 (bat t) (hd t)) (gb_fine m c h2 h4 h5 (bat t) (hd t)) (q_eq m c t) (k_eq m c t) (v_eq m c t) (f_eq m c h2 h4 h5 t) (b_eq m c h2 h4 h5 t) d e

include h2 h4 h5 in
theorem pt_hi (d : Fin 64) (e : Fin 128) : (outsAt0 m c t).2 (ix5 0 1 0 d e) = GlaRef.outS (a0 m c) (a1 m c) (a2 m c) (a4 m c) (a5 m c) (ix5 (bat t) 1 (hd t) d e) := by
  rw [outS_hi, outs_two]
  exact out8_hi c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (gf_fine m c h2 h4 h5 (bat t) (hd t)) (gb_fine m c h2 h4 h5 (bat t) (hd t)) (q_eq m c t) (k_eq m c t) (v_eq m c t) (f_eq m c h2 h4 h5 t) (b_eq m c h2 h4 h5 t) d e

theorem two_elts (a : Fin 2) : a = 0 ∨ a = 1 := by
  revert a; decide

include h2 h4 h5 in
/-- The states' array: the reference's. -/
theorem final8 : (dats m 0 c).arrAt 8 (cfgs 0).N = GlaRef.outS (a0 m c) (a1 m c) (a2 m c) (a4 m c) (a5 m c) := by
  refine (dats m 0 c).arrAt_eq_of_covers 8 _ (by decide +kernel) fun t _ y => ?_
  blk_simp
  rw [after0_8]
  obtain ⟨a, d, e, rfl⟩ := pt_s y
  refine Eq.trans ?_ (e8 (GlaRef.outS (a0 m c) (a1 m c) (a2 m c) (a4 m c) (a5 m c)) t a d e).symm
  rcases two_elts a with rfl | rfl
  · exact pt_lo m c h2 h4 h5 t d e
  · exact pt_hi m c h2 h4 h5 t d e
end

end Cert.GlaFin
-- ==== Proof.GlaPre.lean ====
module

public import proofs.«01_k».proof.Proof.Gen.Pre_gla_finite
public import proofs.«01_k».proof.Proof.AttPre

@[expose] public section

set_option maxRecDepth 16384

/-! What the precondition of the gated linear attention says of its arguments. -/

noncomputable section

open Idealize.ShloMosaic Idealize.SL.Sem

namespace Cert.GlaPre

open Cert.Pre_gla_finite Cert.Pre_gla_finite.Gen

theorem lt_lane (k : Fin 32) : k.val < 128 := by omega

/-- What the precondition says: the 32 lanes of the gates' low-rank input, their weights and their offsets are finite. -/
theorem pre (A0 A1 : FVec Ideal S32x256x512 .f32) (A2 : FVec Ideal S32x256x128 .f32) (A3 : FVec Ideal S32x256x512 .f32)
    (A4 : FVec Ideal S2x16x256 .f32) (A5 : FVec Ideal S2x256 .f32) (A6 : FVec Ideal S128 .f32)
    (h : fn (F := Ideal) A0 A1 A2 A3 A4 A5 A6 = fun _ => 1#1) :
    (∀ b r (k : Fin 32), Soft.Fine (A2 (ix3 b r ⟨k.val, lt_lane k⟩))) ∧ (∀ i, Soft.Fine (A4 i)) ∧ ∀ i, Soft.Fine (A5 i) := by
  have e := congrFun h (fun a => a.elim0)
  simp only [fn] at e
  obtain ⟨e, e3⟩ := (AttPre.andi_one _ _).mp e
  obtain ⟨e1, e2⟩ := (AttPre.andi_one _ _).mp e
  refine ⟨fun b r k => ?_, AttPre.all_fine _ _ (fun i => rfl) _ _ _ _ e2, AttPre.all_fine _ _ (fun i => rfl) _ _ _ _ e3⟩
  have f := AttPre.all_fine _ _ (fun i => rfl) _ _ _ _ e1 (ix3 b r k)
  refine Eq.subst (motive := Soft.Fine) ?_ f
  pointwise []

end Cert.GlaPre
-- ==== Proof.GlaLayer.lean ====
module

public import proofs.«01_k».proof.Proof.GlaRun
public import proofs.«01_k».proof.Proof.GlaFin
public import proofs.«01_k».proof.Proof.GlaPre
public import proofs.«01_k».proof.Proof.Gen.RGlaIdeal.Run
public import proofs.«01_k».proof.Defs

@[expose] public section

set_option maxRecDepth 16384

noncomputable section

open Idealize.ShloMosaic Idealize.ShloMosaic.TcCoe Idealize.SL.Sem

namespace Cert.Layer
/-! The Gla call. -/

theorem frame_KGla : @Cert.quiescent_KGla Cert.KGla.Gen.facts := fun m ρ _ => Cert.KGla.Gen.frame m ρ

theorem frameI_KGla : @Cert.quiescent_KGlaIdeal Cert.KGlaIdeal.Gen.facts := fun m ρ _ => Cert.KGlaIdeal.Gen.frame m ρ

theorem frameIp_KGla : @Cert.quiescent_KGlaIdeal_pre_gla_finite Cert.KGlaIdeal.Gen.facts Cert.Pre_gla_finite.Gen.facts :=
  fun m ρ _ => Cert.KGlaIdeal.Gen.frame m ρ

theorem frame_RGla : @Cert.quiescent_RGlaIdeal Cert.RGlaIdeal.Gen.facts := fun m ρ _ =>
  (θ_run Cert.RGlaIdeal.defs _ _).mono (fun r h => ⟨fun c => (h c).2.2, sem_eq_zero_of_no_sems (by decide) r.2⟩)
    (Cert.RGlaIdeal.Value.run (F := Ideal) m ρ)

theorem framep_RGla : @Cert.quiescent_RGlaIdeal_pre_gla_finite Cert.RGlaIdeal.Gen.facts Cert.Pre_gla_finite.Gen.facts :=
  fun m ρ _ => frame_RGla m ρ trivial

theorem value_Gla : @Cert.algebraic_KGlaIdeal_RGlaIdeal_pre_gla_finite Cert.KGlaIdeal.Gen.facts Cert.RGlaIdeal.Gen.facts
    Cert.Pre_gla_finite.Gen.facts := by
  intro m ρ m' ρ' hpre hagree
  refine ⟨fun c => GlaRef.outY (m ((c.tc : Thread Cert.KGlaIdeal.nD Cert.KGlaIdeal.τ).loc Cert.KGlaIdeal.main_arg0)) (m ((c.tc : Thread Cert.KGlaIdeal.nD Cert.KGlaIdeal.τ).loc Cert.KGlaIdeal.main_arg1)) (m ((c.tc : Thread Cert.KGlaIdeal.nD Cert.KGlaIdeal.τ).loc Cert.KGlaIdeal.main_arg2)) (m ((c.tc : Thread Cert.KGlaIdeal.nD Cert.KGlaIdeal.τ).loc Cert.KGlaIdeal.main_arg3)) (m ((c.tc : Thread Cert.KGlaIdeal.nD Cert.KGlaIdeal.τ).loc Cert.KGlaIdeal.main_arg4)) (m ((c.tc : Thread Cert.KGlaIdeal.nD Cert.KGlaIdeal.τ).loc Cert.KGlaIdeal.main_arg5)) (m ((c.tc : Thread Cert.KGlaIdeal.nD Cert.KGlaIdeal.τ).loc Cert.KGlaIdeal.main_arg6)),
    fun c => GlaRef.outS (m ((c.tc : Thread Cert.KGlaIdeal.nD Cert.KGlaIdeal.τ).loc Cert.KGlaIdeal.main_arg0)) (m ((c.tc : Thread Cert.KGlaIdeal.nD Cert.KGlaIdeal.τ).loc Cert.KGlaIdeal.main_arg1)) (m ((c.tc : Thread Cert.KGlaIdeal.nD Cert.KGlaIdeal.τ).loc Cert.KGlaIdeal.main_arg2)) (m ((c.tc : Thread Cert.KGlaIdeal.nD Cert.KGlaIdeal.τ).loc Cert.KGlaIdeal.main_arg4)) (m ((c.tc : Thread Cert.KGlaIdeal.nD Cert.KGlaIdeal.τ).loc Cert.KGlaIdeal.main_arg5)), ?_, ?_⟩
  · refine (θ_run Cert.KGlaIdeal.defs _ _).mono (fun _ h c => ?_) (Cert.GlaFin.run m ρ)
    obtain ⟨h2, h4, h5⟩ := GlaPre.pre _ _ _ _ _ _ _ (hpre c)
    exact ⟨(h c).1.trans (Cert.GlaFin.final7 m c h2 h4 h5), (h c).2.1.trans (Cert.GlaFin.final8 m c h2 h4 h5), (h c).2.2⟩
  · refine (θ_run Cert.RGlaIdeal.defs _ _).mono (fun r h c => ?_) (Cert.RGlaIdeal.Value.run (F := Ideal) m' ρ')
    have e := hagree c
    refine ⟨(h c).1.trans ?_, (h c).2.1.trans ?_, (h c).2.2⟩
    · show GlaRef.outY (m' ((c.tc : Thread Cert.RGlaIdeal.nD Cert.RGlaIdeal.τ).loc Cert.RGlaIdeal.main_arg0)) (m' ((c.tc : Thread Cert.RGlaIdeal.nD Cert.RGlaIdeal.τ).loc Cert.RGlaIdeal.main_arg1)) (m' ((c.tc : Thread Cert.RGlaIdeal.nD Cert.RGlaIdeal.τ).loc Cert.RGlaIdeal.main_arg2)) (m' ((c.tc : Thread Cert.RGlaIdeal.nD Cert.RGlaIdeal.τ).loc Cert.RGlaIdeal.main_arg3)) (m' ((c.tc : Thread Cert.RGlaIdeal.nD Cert.RGlaIdeal.τ).loc Cert.RGlaIdeal.main_arg4)) (m' ((c.tc : Thread Cert.RGlaIdeal.nD Cert.RGlaIdeal.τ).loc Cert.RGlaIdeal.main_arg5)) (m' ((c.tc : Thread Cert.RGlaIdeal.nD Cert.RGlaIdeal.τ).loc Cert.RGlaIdeal.main_arg6)) = _
      rw [e.1, e.2.1, e.2.2.1, e.2.2.2.1, e.2.2.2.2.1, e.2.2.2.2.2.1, e.2.2.2.2.2.2]
    · show GlaRef.outS (m' ((c.tc : Thread Cert.RGlaIdeal.nD Cert.RGlaIdeal.τ).loc Cert.RGlaIdeal.main_arg0)) (m' ((c.tc : Thread Cert.RGlaIdeal.nD Cert.RGlaIdeal.τ).loc Cert.RGlaIdeal.main_arg1)) (m' ((c.tc : Thread Cert.RGlaIdeal.nD Cert.RGlaIdeal.τ).loc Cert.RGlaIdeal.main_arg2)) (m' ((c.tc : Thread Cert.RGlaIdeal.nD Cert.RGlaIdeal.τ).loc Cert.RGlaIdeal.main_arg4)) (m' ((c.tc : Thread Cert.RGlaIdeal.nD Cert.RGlaIdeal.τ).loc Cert.RGlaIdeal.main_arg5)) = _
      rw [e.1, e.2.1, e.2.2.1, e.2.2.2.2.1, e.2.2.2.2.2.1]

end Cert.Layer
-- ==== Proof.lean ====
module

public import proofs.«01_k».proof.Defs
public import proofs.«01_k».proof.Proof.Layer
public import proofs.«01_k».proof.Proof.GlaLayer
public import Idealize.ShloMosaic.Adequacy
public import Idealize.ShloMosaic.Init

@[expose] public section

noncomputable section

namespace Cert.Proof

open Idealize.ShloMosaic Idealize.SL.Sem

theorem claim : Cert.Claim := ⟨Cert.KAtt.Gen.facts, Cert.KAttIdeal.Gen.facts, Cert.RAttIdeal.Gen.facts,
  Cert.KGla.Gen.facts, Cert.KGlaIdeal.Gen.facts, Cert.RGlaIdeal.Gen.facts,
  Cert.KOddIn.Gen.facts, Cert.KOddInIdeal.Gen.facts, Cert.ROddInIdeal.Gen.facts,
  Cert.KEvenIn.Gen.facts, Cert.KEvenInIdeal.Gen.facts, Cert.REvenInIdeal.Gen.facts,
  Cert.KEvenOut.Gen.facts, Cert.KEvenOutIdeal.Gen.facts, Cert.REvenOutIdeal.Gen.facts,
  Cert.KOddOut.Gen.facts, Cert.KOddOutIdeal.Gen.facts, Cert.ROddOutIdeal.Gen.facts, Cert.Pre_att_finite.Gen.facts, Cert.Pre_gla_finite.Gen.facts,
  Layer.frame_KAtt, Layer.frameI_KAtt, Layer.frameIp_KAtt, Layer.frame_RAtt, Layer.framep_RAtt,
  Layer.frame_KGla, Layer.frameI_KGla, Layer.frameIp_KGla, Layer.frame_RGla, Layer.framep_RGla,
  Layer.frame_KOddIn, Layer.frameI_KOddIn, Layer.frame_ROddIn,
  Layer.frame_KEvenIn, Layer.frameI_KEvenIn, Layer.frame_REvenIn,
  Layer.frame_KEvenOut, Layer.frameI_KEvenOut, Layer.frame_REvenOut,
  Layer.frame_KOddOut, Layer.frameI_KOddOut, Layer.frame_ROddOut,
  trivial, Layer.value_Att,
  trivial, Layer.value_Gla,
  trivial, Layer.value_OddIn,
  trivial, Layer.value_EvenIn,
  trivial, Layer.value_EvenOut,
  trivial, Layer.value_OddOut⟩

end Cert.Proof

end
